-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v23_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  IdealRules.named_const.Statement Cert.Kernel2Ideal.κ "k_three" .f32 0xBDD2D3E8#32 ((((-2) * ((6693141 / 8388608) * (Real.log 2)⁻¹)) * (12003091 / 268435456) : ℝ) : EReal)
  ∧ IdealRules.named_const.Statement Cert.Kernel2Ideal.κ "k_one" .f32 0xC0135761#32 (((-2) * ((6693141 / 8388608) * (Real.log 2)⁻¹) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_v56) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  IdealRules.named_const.Statement Cert.Kernel3Ideal.κ "k_scale" .f32 0x3E38AA3B#32 (((1 / 8) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)) (v4 : (c : Dev Cert.Kernel3Ideal.nD) → Buf (Elt Ideal) ((c.tc : Thread Cert.Kernel3Ideal.nD Cert.Kernel3Ideal.τ).loc Cert.Kernel3Ideal.main_v2_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_v2_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_v37) = v2 c
          ∧ r.2.mem ((c.tc : Thread Cert.Reference3Ideal.nD Cert.Reference3Ideal.τ).loc Cert.Reference3Ideal.main_v38) = v3 c
          ∧ r.2.mem ((c.tc : Thread Cert.Reference3Ideal.nD Cert.Reference3Ideal.τ).loc Cert.Reference3Ideal.main_v39) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v19_1)) (v2 : (c : Dev Cert.Kernel4Ideal.nD) → Buf (Elt Ideal) ((c.tc : Thread Cert.Kernel4Ideal.nD Cert.Kernel4Ideal.τ).loc Cert.Kernel4Ideal.main_v19_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v19_1) = v1 c
          ∧ r.2.mem ((c.tc : Thread Cert.Kernel4Ideal.nD Cert.Kernel4Ideal.τ).loc Cert.Kernel4Ideal.main_v19_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v103) = v0 c
          ∧ r.2.mem ((c.tc : Thread Cert.Reference4Ideal.nD Cert.Reference4Ideal.τ).loc Cert.Reference4Ideal.main_v104) = v1 c
          ∧ r.2.mem ((c.tc : Thread Cert.Reference4Ideal.nD Cert.Reference4Ideal.τ).loc Cert.Reference4Ideal.main_v105) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qkv : Cert.Pre_finite_qkv.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_qkv.lean ====
abbrev S16x2048x3584 : Shape := ⟨3, ![16, 2048, 3584]⟩
abbrev S1x512 : Shape := ⟨2, ![1, 512]⟩
abbrev S16x2048x1536 : Shape := ⟨3, ![16, 2048, 1536]⟩
abbrev S_ : Shape := ⟨0, ![]⟩

class Facts : Prop where
  slices_S16x2048x3584_S16x2048x1536_0_0_0 : S16x2048x3584.Slices ![0, 0, 0] S16x2048x1536
  bitsLt_bf16_f32 : FTy.bits .bf16 < FTy.bits .f32
  bcast_S_S16x2048x1536 : S_.BroadcastsInDim S16x2048x1536 (![] : Fin 0 → Fin S16x2048x1536.rank)
  reducesTo_S16x2048x1536_S_d0_1_2 : S16x2048x1536.ReducesTo [0, 1, 2] S_
  h_S_ : 0 < S_.numel

variable [Facts]

def fn {F : FTy → Type} [FloatOps F] (main_arg0 : FVec F S16x2048x3584 .bf16) (main_arg1 : FVec F S1x512 .f32) : IVec S_ 1 :=
  let main_v0 : FVec F S16x2048x1536 .bf16 := (extractStridedSlice S16x2048x1536 ![0, 0, 0] · slices_S16x2048x3584_S16x2048x1536_0_0_0) main_arg0
  let main_v1 : FVec F S16x2048x1536 .f32 := (extf .f32 · bitsLt_bf16_f32) main_v0
  let main_v2 : FVec F S16x2048x1536 .f32 := Host.absf main_v1
  let main_cst : FVec F S_ .f32 := constant S_ .f32 0x7F800000#32
  let main_v3 : FVec F S16x2048x1536 .f32 := broadcastInDim S16x2048x1536 ![] bcast_S_S16x2048x1536 main_cst
  let main_v4 : IVec S16x2048x1536 1 := cmpf .olt main_v2 main_v3
  let main_c : IVec S_ 1 := constantI S_ 1 1#1
  let main_v5 : IVec S_ 1 := (fun x v => Host.reduce IntOp.andi x v reducesTo_S16x2048x1536_S_d0_1_2 h_S_) main_v4 main_c
  main_v5
-- ==== Kernel.lean ====
abbrev S16x2048x3584 : Shape := ⟨3, ![16, 2048, 3584]⟩
abbrev S1x512 : Shape := ⟨2, ![1, 512]⟩
abbrev S_ : Shape := ⟨0, ![]⟩
abbrev S16x4x128x128 : Shape := ⟨4, ![16, 4, 128, 128]⟩
abbrev S512 : Shape := ⟨1, ![512]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x256x128 : Shape := ⟨3, ![4, 256, 128]⟩
abbrev S4x1x128 : Shape := ⟨3, ![4, 1, 128]⟩
abbrev S16x2048x512 : Shape := ⟨3, ![16, 2048, 512]⟩
abbrev S1x2048x512 : Shape := ⟨3, ![1, 2048, 512]⟩
abbrev S1x4x128x128 : Shape := ⟨4, ![1, 4, 128, 128]⟩
abbrev S1x1x128x128 : Shape := ⟨4, ![1, 1, 128, 128]⟩
abbrev S128x128 : Shape := ⟨2, ![128, 128]⟩
abbrev S1x256x128 : Shape := ⟨3, ![1, 256, 128]⟩
abbrev S256x128 : Shape := ⟨2, ![256, 128]⟩
abbrev S1x1x128 : Shape := ⟨3, ![1, 1, 128]⟩
abbrev S1x128 : Shape := ⟨2, ![1, 128]⟩

abbrev nBuf : Space → Nat
  | .hbm => 71
  | .vmem => 19
  | .smem => 0
  | _ => 0

abbrev bufTy : (tb : Table) → Fin (tcTables nBuf tb) → BufTy
  | .hbm, ⟨0, _⟩ => ⟨S16x2048x3584, .bf16⟩
  | .hbm, ⟨1, _⟩ => ⟨S1x512, .f32⟩
  | .hbm, ⟨2, _⟩ => ⟨S_, .f32⟩
  | .hbm, ⟨3, _⟩ => ⟨S16x4x128x128, .f32⟩
  | .hbm, ⟨4, _⟩ => ⟨S512, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S256, .f32⟩
  | .hbm, ⟨16, _⟩ => ⟨S256x1, .f32⟩
  | .hbm, ⟨17, _⟩ => ⟨S1x256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S1x256x256, .f32⟩
  | .hbm, ⟨22, _⟩ => ⟨S_, .f32⟩
  | .hbm, ⟨23, _⟩ => ⟨S1x256x256, .f32⟩
  | .hbm, ⟨24, _⟩ => ⟨S1x256x256, .i1⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S1x256x256, .f32⟩
  | .hbm, ⟨29, _⟩ => ⟨S4x1x1, .f32⟩
  | .hbm, ⟨30, _⟩ => ⟨S4x256x256, .f32⟩
  | .hbm, ⟨31, _⟩ => ⟨S4x256x256, .f32⟩
  | .hbm, ⟨32, _⟩ => ⟨S4x256x256, .f32⟩
  | .hbm, ⟨33, _⟩ => ⟨S4x256x256, .f32⟩
  | .hbm, ⟨34, _⟩ => ⟨S_, .f32⟩
  | .hbm, ⟨35, _⟩ => ⟨S_, .f32⟩
  | .hbm, ⟨36, _⟩ => ⟨S4x256x256, .i1⟩
  | .hbm, ⟨37, _⟩ => ⟨S4x256x256, .f32⟩
  | .hbm, ⟨38, _⟩ => ⟨S4x256x256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S1x256, .f32⟩
  | .hbm, ⟨43, _⟩ => ⟨S4x1, .f32⟩
  | .hbm, ⟨44, _⟩ => ⟨S4x256, .f32⟩
  | .hbm, ⟨45, _⟩ => ⟨S4x256, .f32⟩
  | .hbm, ⟨46, _⟩ => ⟨S4x256, .f32⟩
  | .hbm, ⟨47, _⟩ => ⟨S4x256, .f32⟩
  | .hbm, ⟨48, _⟩ => ⟨S_, .f32⟩
  | .hbm, ⟨49, _⟩ => ⟨S256, .f32⟩
  | .hbm, ⟨50, _⟩ => ⟨S256, .f32⟩
  | .hbm, ⟨51, _⟩ => ⟨S1x256, .f32⟩
  | .hbm, ⟨52, _⟩ => ⟨S4x1, .f32⟩
  | .hbm, ⟨53, _⟩ => ⟨S4x256, .f32⟩
  | .hbm, ⟨54, _⟩ => ⟨S4x256, .f32⟩
  | .hbm, ⟨55, _⟩ => ⟨S4x256, .f32⟩
  | .hbm, ⟨56, _⟩ => ⟨S4x256, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S4, .f32⟩
  | .hbm, ⟨61, _⟩ => ⟨S4x256x1, .f32⟩
  | .hbm, ⟨62, _⟩ => ⟨S4x256x128, .f32⟩
  | .hbm, ⟨63, _⟩ => ⟨S4x256x1, .f32⟩
  | .hbm, ⟨64, _⟩ => ⟨S4x256x128, .f32⟩
  | .hbm, ⟨65, _⟩ => ⟨S4x1, .f32⟩
  | .hbm, ⟨66, _⟩ => ⟨S4x1x1, .f32⟩
  | .hbm, ⟨67, _⟩ => ⟨S4x1x128, .f32⟩
  | .hbm, ⟨68, _⟩ => ⟨S1x512, .f32⟩
  | .hbm, ⟨69, _⟩ => ⟨S16x2048x512, .bf16⟩
  | .hbm, ⟨70, _⟩ => ⟨S16x4x128x128, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x4x128x128, .f32⟩
  | .local _ .vmem, ⟨9, _⟩ => ⟨S1x4x128x128, .f32⟩
  | .local _ .vmem, ⟨10, _⟩ => ⟨S4x256x256, .f32⟩
  | .local _ .vmem, ⟨11, _⟩ => ⟨S4x256x128, .f32⟩
  | .local _ .vmem, ⟨12, _⟩ => ⟨S4x256x128, .f32⟩
  | .local _ .vmem, ⟨13, _⟩ => ⟨S4x1x128, .f32⟩
  | .local _ .vmem, ⟨14, _⟩ => ⟨S1x512, .f32⟩
  | .local _ .vmem, ⟨15, _⟩ => ⟨S1x2048x512, .bf16⟩
  | .local _ .vmem, ⟨16, _⟩ => ⟨S1x2048x512, .bf16⟩
  | .local _ .vmem, ⟨17, _⟩ => ⟨S1x4x128x128, .f32⟩
  | .local _ .vmem, ⟨18, _⟩ => ⟨S1x4x128x128, .f32⟩
  | _, _ => ⟨S16x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55_0 : Ref sig .tc := ⟨.hbm, 69, rfl⟩
abbrev main_v55_1 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S16x2048x3584 : Shape := ⟨3, ![16, 2048, 3584]⟩
abbrev S1x512 : Shape := ⟨2, ![1, 512]⟩
abbrev S16x2048x512 : Shape := ⟨3, ![16, 2048, 512]⟩
abbrev S16x2048x4x128 : Shape := ⟨4, ![16, 2048, 4, 128]⟩
abbrev S4 : Shape := ⟨1, ![4]⟩
abbrev S_ : Shape := ⟨0, ![]⟩
abbrev S16x4x128x128 : Shape := ⟨4, ![16, 4, 128, 128]⟩
abbrev S16x32x64x4x128 : Shape := ⟨5, ![16, 32, 64, 4, 128]⟩
abbrev S32x16x64x4x128 : Shape := ⟨5, ![32, 16, 64, 4, 128]⟩
abbrev S1x16x64x4x128 : Shape := ⟨5, ![1, 16, 64, 4, 128]⟩
abbrev S16x64x4x128 : Shape := ⟨4, ![16, 64, 4, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x1x1 : Shape := ⟨3, ![4, 1, 1]⟩
abbrev S4x64x64 : Shape := ⟨3, ![4, 64, 64]⟩
abbrev S16x4x64x64 : Shape := ⟨4, ![16, 4, 64, 64]⟩
abbrev S1x4x64x64 : Shape := ⟨4, ![1, 4, 64, 64]⟩
abbrev S16x4x128x64 : Shape := ⟨4, ![16, 4, 128, 64]⟩
abbrev S1x4 : Shape := ⟨2, ![1, 4]⟩
abbrev S64x4 : Shape := ⟨2, ![64, 4]⟩
abbrev S1x64x4x1 : Shape := ⟨4, ![1, 64, 4, 1]⟩
abbrev S1x4x1x1 : Shape := ⟨4, ![1, 4, 1, 1]⟩
abbrev S512 : Shape := ⟨1, ![512]⟩
abbrev S16x2048x4 : Shape := ⟨3, ![16, 2048, 4]⟩
abbrev S16x2048x4x1 : Shape := ⟨4, ![16, 2048, 4, 1]⟩
abbrev S1x1x512 : Shape := ⟨3, ![1, 1, 512]⟩

abbrev nBuf : Space → Nat
  | .hbm => 174
  | .vmem => 0
  | .smem => 0
  | _ => 0

abbrev hbmTy0_0 (i : Nat) : BufTy := match i % 128 with
  | 0 => ⟨S16x2048x3584, .bf16⟩
  | 1 => ⟨S1x512, .f32⟩
  | 2 => ⟨S16x2048x3584, .f32⟩
  | 3 => ⟨S16x2048x512, .f32⟩
  | 4 => ⟨S16x2048x4x128, .f32⟩
  | 5 => ⟨S16x2048x512, .f32⟩
  | 6 => ⟨S16x2048x4x128, .f32⟩
  | 7 => ⟨S16x2048x512, .f32⟩
  | 8 => ⟨S16x2048x4x128, .f32⟩
  | 9 => ⟨S4, .f32⟩
  | 10 => ⟨S_, .f32⟩
  | 11 => ⟨S4, .f32⟩
  | 12 => ⟨S4, .f32⟩
  | 13 => ⟨S_, .f32⟩
  | 14 => ⟨S4, .f32⟩
  | 15 => ⟨S4, .f32⟩
  | 16 => ⟨S4, .f32⟩
  | 17 => ⟨S4, .f32⟩
  | 18 => ⟨S4, .f32⟩
  | 19 => ⟨S_, .f32⟩
  | 20 => ⟨S16x4x128x128, .f32⟩
  | 21 => ⟨S16x32x64x4x128, .f32⟩
  | 22 => ⟨S32x16x64x4x128, .f32⟩
  | 23 => ⟨S16x32x64x4x128, .f32⟩
  | 24 => ⟨S32x16x64x4x128, .f32⟩
  | 25 => ⟨S16x32x64x4x128, .f32⟩
  | 26 => ⟨S32x16x64x4x128, .f32⟩
  | 27 => ⟨S_, .f32⟩
  | 28 => ⟨S32x16x64x4x128, .f32⟩
  | 29 => ⟨S_, .i32⟩
  | 30 => ⟨S32x16x64x4x128, .f32⟩
  | 31 => ⟨S32x16x64x4x128, .f32⟩
  | 32 => ⟨S32x16x64x4x128, .f32⟩
  | 33 => ⟨S4, .f32⟩
  | 34 => ⟨S_, .i32⟩
  | 35 => ⟨S16x4x128x128, .f32⟩
  | 36 => ⟨S32x16x64x4x128, .f32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S1x16x64x4x128, .f32⟩
  | 44 => ⟨S16x64x4x128, .f32⟩
  | 45 => ⟨S_, .i32⟩
  | 46 => ⟨S_, .i32⟩
  | 47 => ⟨S_, .i32⟩
  | 48 => ⟨S_, .i32⟩
  | 49 => ⟨S1x16x64x4x128, .f32⟩
  | 50 => ⟨S16x64x4x128, .f32⟩
  | 51 => ⟨S_, .i32⟩
  | 52 => ⟨S_, .i32⟩
  | 53 => ⟨S_, .i32⟩
  | 54 => ⟨S_, .i32⟩
  | 55 => ⟨S1x16x64x4x128, .f32⟩
  | 56 => ⟨S16x64x4x128, .f32⟩
  | 57 => ⟨S64, .f32⟩
  | 58 => ⟨S64x1, .f32⟩
  | 59 => ⟨S1x64, .f32⟩
  | 60 => ⟨S64x64, .f32⟩
  | 61 => ⟨S64x64, .f32⟩
  | 62 => ⟨S64x64, .f32⟩
  | 63 => ⟨S1x64x64, .f32⟩
  | 64 => ⟨S_, .f32⟩
  | 65 => ⟨S1x64x64, .f32⟩
  | 66 => ⟨S1x64x64, .i1⟩
  | 67 => ⟨S_, .f32⟩
  | 68 => ⟨S64x64, .f32⟩
  | 69 => ⟨S64x64, .f32⟩
  | 70 => ⟨S1x64x64, .f32⟩
  | 71 => ⟨S4x1x1, .f32⟩
  | 72 => ⟨S4x64x64, .f32⟩
  | 73 => ⟨S4x64x64, .f32⟩
  | 74 => ⟨S4x64x64, .f32⟩
  | 75 => ⟨S4x64x64, .f32⟩
  | 76 => ⟨S_, .f32⟩
  | 77 => ⟨S_, .f32⟩
  | 78 => ⟨S4x64x64, .i1⟩
  | 79 => ⟨S4x64x64, .f32⟩
  | 80 => ⟨S4x64x64, .f32⟩
  | 81 => ⟨S16x4x64x64, .f32⟩
  | 82 => ⟨S1x4x64x64, .f32⟩
  | 83 => ⟨S16x4x64x64, .f32⟩
  | 84 => ⟨S16x4x64x64, .f32⟩
  | 85 => ⟨S16x4x128x64, .f32⟩
  | 86 => ⟨S16x64x4x128, .f32⟩
  | 87 => ⟨S_, .f32⟩
  | 88 => ⟨S64, .f32⟩
  | 89 => ⟨S64, .f32⟩
  | 90 => ⟨S64x1, .f32⟩
  | 91 => ⟨S1x4, .f32⟩
  | 92 => ⟨S64x4, .f32⟩
  | 93 => ⟨S64x4, .f32⟩
  | 94 => ⟨S64x4, .f32⟩
  | 95 => ⟨S64x4, .f32⟩
  | 96 => ⟨S1x64x4x1, .f32⟩
  | 97 => ⟨S16x64x4x128, .f32⟩
  | 98 => ⟨S16x64x4x128, .f32⟩
  | 99 => ⟨S16x4x128x64, .f32⟩
  | 100 => ⟨S16x64x4x128, .f32⟩
  | 101 => ⟨S_, .f32⟩
  | 102 => ⟨S64, .f32⟩
  | 103 => ⟨S64, .f32⟩
  | 104 => ⟨S64x1, .f32⟩
  | 105 => ⟨S1x4, .f32⟩
  | 106 => ⟨S64x4, .f32⟩
  | 107 => ⟨S64x4, .f32⟩
  | 108 => ⟨S64x4, .f32⟩
  | 109 => ⟨S64x4, .f32⟩
  | 110 => ⟨S_, .f32⟩
  | 111 => ⟨S4, .f32⟩
  | 112 => ⟨S4, .f32⟩
  | 113 => ⟨S4, .f32⟩
  | 114 => ⟨S1x4x1x1, .f32⟩
  | 115 => ⟨S16x4x128x128, .f32⟩
  | 116 => ⟨S16x4x128x128, .f32⟩
  | 117 => ⟨S1x64x4x1, .f32⟩
  | 118 => ⟨S16x64x4x128, .f32⟩
  | 119 => ⟨S16x64x4x128, .f32⟩
  | 120 => ⟨S16x4x128x128, .f32⟩
  | 121 => ⟨S16x4x128x128, .f32⟩
  | 122 => ⟨S16x64x4x128, .f32⟩
  | 123 => ⟨S1x16x64x4x128, .f32⟩
  | 124 => ⟨S_, .i32⟩
  | 125 => ⟨S_, .i32⟩
  | 126 => ⟨S_, .i32⟩
  | 127 => ⟨S_, .i32⟩
  | _ => ⟨S16x2048x3584, .bf16⟩

abbrev hbmTy0_1 (i : Nat) : BufTy := match i % 128 with
  | 0 => ⟨S32x16x64x4x128, .f32⟩
  | 1 => ⟨S_, .i32⟩
  | 2 => ⟨S_, .i32⟩
  | 3 => ⟨S16x32x64x4x128, .f32⟩
  | 4 => ⟨S16x2048x4x128, .f32⟩
  | 5 => ⟨S16x2048x512, .bf16⟩
  | 6 => ⟨S16x2048x512, .f32⟩
  | 7 => ⟨S512, .f32⟩
  | 8 => ⟨S_, .f32⟩
  | 9 => ⟨S16x2048x4, .f32⟩
  | 10 => ⟨S16x2048x4x1, .f32⟩
  | 11 => ⟨S_, .f32⟩
  | 12 => ⟨S16x2048x4x1, .f32⟩
  | 13 => ⟨S16x2048x4x1, .f32⟩
  | 14 => ⟨S16x2048x4x128, .f32⟩
  | 15 => ⟨S16x2048x4x128, .f32⟩
  | 16 => ⟨S16x2048x4x128, .f32⟩
  | 17 => ⟨S_, .f32⟩
  | 18 => ⟨S16x2048x4, .f32⟩
  | 19 => ⟨S16x2048x4x1, .f32⟩
  | 20 => ⟨S_, .f32⟩
  | 21 => ⟨S16x2048x4x1, .f32⟩
  | 22 => ⟨S16x2048x4x1, .f32⟩
  | 23 => ⟨S16x2048x4x128, .f32⟩
  | 24 => ⟨S16x2048x4x128, .f32⟩
  | 25 => ⟨S_, .f32⟩
  | 26 => ⟨S16x2048x4x1, .f32⟩
  | 27 => ⟨S16x2048x4x1, .f32⟩
  | 28 => ⟨S16x2048x4x1, .f32⟩
  | 29 => ⟨S16x2048x4x128, .f32⟩
  | 30 => ⟨S16x2048x4x128, .f32⟩
  | 31 => ⟨S16x2048x512, .f32⟩
  | 32 => ⟨S1x1x512, .f32⟩
  | 33 => ⟨S16x2048x512, .f32⟩
  | 34 => ⟨S16x2048x512, .f32⟩
  | 35 => ⟨S16x2048x512, .f32⟩
  | 36 => ⟨S16x2048x512, .f32⟩
  | 37 => ⟨S_, .f32⟩
  | 38 => ⟨S16x2048x512, .f32⟩
  | 39 => ⟨S16x2048x512, .f32⟩
  | 40 => ⟨S_, .f32⟩
  | 41 => ⟨S16x2048x512, .f32⟩
  | 42 => ⟨S16x2048x512, .f32⟩
  | 43 => ⟨S16x2048x512, .f32⟩
  | 44 => ⟨S16x2048x512, .f32⟩
  | 45 => ⟨S16x2048x512, .bf16⟩
  | _ => ⟨S16x2048x3584, .bf16⟩

abbrev hbmTy (i : Nat) : BufTy := match i / 128 with
  | 0 => hbmTy0_0 i
  | 1 => hbmTy0_1 i
  | _ => ⟨S16x2048x3584, .bf16⟩

abbrev bufTy : (tb : Table) → Fin (tcTables nBuf tb) → BufTy
  | .hbm, ⟨i, _⟩ => hbmTy i
  | _, _ => ⟨S16x2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_c : Ref sig .tc := ⟨.hbm, 29, rfl⟩
abbrev main_v23_0 : Ref sig .tc := ⟨.hbm, 30, rfl⟩
abbrev main_v23_1 : Ref sig .tc := ⟨.hbm, 31, rfl⟩
abbrev main_v23_2 : Ref sig .tc := ⟨.hbm, 32, rfl⟩
abbrev main_v23_3 : Ref sig .tc := ⟨.hbm, 33, rfl⟩
abbrev main_v23_4 : Ref sig .tc := ⟨.hbm, 34, rfl⟩
abbrev main_v23_5 : Ref sig .tc := ⟨.hbm, 35, rfl⟩
abbrev main_v23_6 : Ref sig .tc := ⟨.hbm, 36, rfl⟩
abbrev main_while0c_c_14 : Ref sig .tc := ⟨.hbm, 37, rfl⟩
abbrev main_while0c_v54 : Ref sig .tc := ⟨.hbm, 38, rfl⟩
abbrev main_while0b_call0_c : Ref sig .tc := ⟨.hbm, 39, rfl⟩
abbrev main_while0b_call0_c_0 : Ref sig .tc := ⟨.hbm, 40, rfl⟩
abbrev main_while0b_call0_c_1 : Ref sig .tc := ⟨.hbm, 41, rfl⟩
abbrev main_while0b_call0_c_2 : Ref sig .tc := ⟨.hbm, 42, rfl⟩
abbrev main_while0b_call0_v0 : Ref sig .tc := ⟨.hbm, 43, rfl⟩
abbrev main_while0b_v54 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_c_1 : Ref sig .tc := ⟨.hbm, 47, rfl⟩
abbrev main_while0b_call1_c_2 : Ref sig .tc := ⟨.hbm, 48, rfl⟩
abbrev main_while0b_call1_v0 : Ref sig .tc := ⟨.hbm, 49, rfl⟩
abbrev main_while0b_v55 : Ref sig .tc := ⟨.hbm, 50, rfl⟩
abbrev main_while0b_call2_c : Ref sig .tc := ⟨.hbm, 51, rfl⟩
abbrev main_while0b_call2_c_0 : Ref sig .tc := ⟨.hbm, 52, rfl⟩
abbrev main_while0b_call2_c_1 : Ref sig .tc := ⟨.hbm, 53, rfl⟩
abbrev main_while0b_call2_c_2 : Ref sig .tc := ⟨.hbm, 54, rfl⟩
abbrev main_while0b_call2_v0 : Ref sig .tc := ⟨.hbm, 55, rfl⟩
abbrev main_while0b_v56 : Ref sig .tc := ⟨.hbm, 56, rfl⟩
abbrev main_while0b_v57 : Ref sig .tc := ⟨.hbm, 57, rfl⟩
abbrev main_while0b_v58 : Ref sig .tc := ⟨.hbm, 58, rfl⟩
abbrev main_while0b_v59 : Ref sig .tc := ⟨.hbm, 59, rfl⟩
abbrev main_while0b_v60 : Ref sig .tc := ⟨.hbm, 60, rfl⟩
abbrev main_while0b_v61 : Ref sig .tc := ⟨.hbm, 61, rfl⟩
abbrev main_while0b_v62 : Ref sig .tc := ⟨.hbm, 62, rfl⟩
abbrev main_while0b_v63 : Ref sig .tc := ⟨.hbm, 63, rfl⟩
abbrev main_while0b_cst_14 : Ref sig .tc := ⟨.hbm, 64, rfl⟩
abbrev main_while0b_v64 : Ref sig .tc := ⟨.hbm, 65, rfl⟩
abbrev main_while0b_v65 : Ref sig .tc := ⟨.hbm, 66, rfl⟩
abbrev main_while0b_cst_15 : Ref sig .tc := ⟨.hbm, 67, rfl⟩
abbrev main_while0b_v66 : Ref sig .tc := ⟨.hbm, 68, rfl⟩
abbrev main_while0b_v67 : Ref sig .tc := ⟨.hbm, 69, rfl⟩
abbrev main_while0b_v68 : Ref sig .tc := ⟨.hbm, 70, rfl⟩
abbrev main_while0b_v69 : Ref sig .tc := ⟨.hbm, 71, rfl⟩
abbrev main_while0b_v70 : Ref sig .tc := ⟨.hbm, 72, rfl⟩
abbrev main_while0b_v71 : Ref sig .tc := ⟨.hbm, 73, rfl⟩
abbrev main_while0b_v72 : Ref sig .tc := ⟨.hbm, 74, rfl⟩
abbrev main_while0b_v73 : Ref sig .tc := ⟨.hbm, 75, rfl⟩
abbrev main_while0b_cst_16 : Ref sig .tc := ⟨.hbm, 76, rfl⟩
abbrev main_while0b_call3_v0 : Ref sig .tc := ⟨.hbm, 77, rfl⟩
abbrev main_while0b_call3_v1 : Ref sig .tc := ⟨.hbm, 78, rfl⟩
abbrev main_while0b_call3_v2 : Ref sig .tc := ⟨.hbm, 79, rfl⟩
abbrev main_while0b_v74 : Ref sig .tc := ⟨.hbm, 80, rfl⟩
abbrev main_while0b_v75 : Ref sig .tc := ⟨.hbm, 81, rfl⟩
abbrev main_while0b_v76 : Ref sig .tc := ⟨.hbm, 82, rfl⟩
abbrev main_while0b_v77 : Ref sig .tc := ⟨.hbm, 83, rfl⟩
abbrev main_while0b_v78 : Ref sig .tc := ⟨.hbm, 84, rfl⟩
abbrev main_while0b_v79 : Ref sig .tc := ⟨.hbm, 85, rfl⟩
abbrev main_while0b_v80 : Ref sig .tc := ⟨.hbm, 86, rfl⟩
abbrev main_while0b_cst_17 : Ref sig .tc := ⟨.hbm, 87, rfl⟩
abbrev main_while0b_v81 : Ref sig .tc := ⟨.hbm, 88, rfl⟩
abbrev main_while0b_v82 : Ref sig .tc := ⟨.hbm, 89, rfl⟩
abbrev main_while0b_v83 : Ref sig .tc := ⟨.hbm, 90, rfl⟩
abbrev main_while0b_v84 : Ref sig .tc := ⟨.hbm, 91, rfl⟩
abbrev main_while0b_v85 : Ref sig .tc := ⟨.hbm, 92, rfl⟩
abbrev main_while0b_v86 : Ref sig .tc := ⟨.hbm, 93, rfl⟩
abbrev main_while0b_v87 : Ref sig .tc := ⟨.hbm, 94, rfl⟩
abbrev main_while0b_v88 : Ref sig .tc := ⟨.hbm, 95, rfl⟩
abbrev main_while0b_v89 : Ref sig .tc := ⟨.hbm, 96, rfl⟩
abbrev main_while0b_v90 : Ref sig .tc := ⟨.hbm, 97, rfl⟩
abbrev main_while0b_v91 : Ref sig .tc := ⟨.hbm, 98, rfl⟩
abbrev main_while0b_v92 : Ref sig .tc := ⟨.hbm, 99, rfl⟩
abbrev main_while0b_v93 : Ref sig .tc := ⟨.hbm, 100, rfl⟩
abbrev main_while0b_cst_18 : Ref sig .tc := ⟨.hbm, 101, rfl⟩
abbrev main_while0b_v94 : Ref sig .tc := ⟨.hbm, 102, rfl⟩
abbrev main_while0b_v95 : Ref sig .tc := ⟨.hbm, 103, rfl⟩
abbrev main_while0b_v96 : Ref sig .tc := ⟨.hbm, 104, rfl⟩
abbrev main_while0b_v97 : Ref sig .tc := ⟨.hbm, 105, rfl⟩
abbrev main_while0b_v98 : Ref sig .tc := ⟨.hbm, 106, rfl⟩
abbrev main_while0b_v99 : Ref sig .tc := ⟨.hbm, 107, rfl⟩
abbrev main_while0b_v100 : Ref sig .tc := ⟨.hbm, 108, rfl⟩
abbrev main_while0b_v101 : Ref sig .tc := ⟨.hbm, 109, rfl⟩
abbrev main_while0b_cst_19 : Ref sig .tc := ⟨.hbm, 110, rfl⟩
abbrev main_while0b_v102 : Ref sig .tc := ⟨.hbm, 111, rfl⟩
abbrev main_while0b_v103 : Ref sig .tc := ⟨.hbm, 112, rfl⟩
abbrev main_while0b_v104 : Ref sig .tc := ⟨.hbm, 113, rfl⟩
abbrev main_while0b_v105 : Ref sig .tc := ⟨.hbm, 114, rfl⟩
abbrev main_while0b_v106 : Ref sig .tc := ⟨.hbm, 115, rfl⟩
abbrev main_while0b_v107 : Ref sig .tc := ⟨.hbm, 116, rfl⟩
abbrev main_while0b_v108 : Ref sig .tc := ⟨.hbm, 117, rfl⟩
abbrev main_while0b_v109 : Ref sig .tc := ⟨.hbm, 118, rfl⟩
abbrev main_while0b_v110 : Ref sig .tc := ⟨.hbm, 119, rfl⟩
abbrev main_while0b_v111 : Ref sig .tc := ⟨.hbm, 120, rfl⟩
abbrev main_while0b_v112 : Ref sig .tc := ⟨.hbm, 121, rfl⟩
abbrev main_while0b_v113 : Ref sig .tc := ⟨.hbm, 122, rfl⟩
abbrev main_while0b_call4_v0 : Ref sig .tc := ⟨.hbm, 123, rfl⟩
abbrev main_while0b_call4_c : Ref sig .tc := ⟨.hbm, 124, rfl⟩
abbrev main_while0b_call4_c_0 : Ref sig .tc := ⟨.hbm, 125, rfl⟩
abbrev main_while0b_call4_c_1 : Ref sig .tc := ⟨.hbm, 126, rfl⟩
abbrev main_while0b_call4_c_2 : Ref sig .tc := ⟨.hbm, 127, rfl⟩
abbrev main_while0b_v114 : Ref sig .tc := ⟨.hbm, 128, rfl⟩
abbrev main_while0b_c_20 : Ref sig .tc := ⟨.hbm, 129, rfl⟩
abbrev main_while0b_v115 : Ref sig .tc := ⟨.hbm, 130, rfl⟩
abbrev main_v24 : Ref sig .tc := ⟨.hbm, 131, rfl⟩
abbrev main_v25 : Ref sig .tc := ⟨.hbm, 132, rfl⟩
abbrev main_v26 : Ref sig .tc := ⟨.hbm, 133, rfl⟩
abbrev main_v27 : Ref sig .tc := ⟨.hbm, 134, rfl⟩
abbrev main_v28 : Ref sig .tc := ⟨.hbm, 135, rfl⟩
abbrev main_cst_3 : Ref sig .tc := ⟨.hbm, 136, rfl⟩
abbrev main_v29 : Ref sig .tc := ⟨.hbm, 137, rfl⟩
abbrev main_v30 : Ref sig .tc := ⟨.hbm, 138, rfl⟩
abbrev main_cst_4 : Ref sig .tc := ⟨.hbm, 139, rfl⟩
abbrev main_v31 : Ref sig .tc := ⟨.hbm, 140, rfl⟩
abbrev main_v32 : Ref sig .tc := ⟨.hbm, 141, rfl⟩
abbrev main_v33 : Ref sig .tc := ⟨.hbm, 142, rfl⟩
abbrev main_v34 : Ref sig .tc := ⟨.hbm, 143, rfl⟩
abbrev main_v35 : Ref sig .tc := ⟨.hbm, 144, rfl⟩
abbrev main_cst_5 : Ref sig .tc := ⟨.hbm, 145, rfl⟩
abbrev main_v36 : Ref sig .tc := ⟨.hbm, 146, rfl⟩
abbrev main_v37 : Ref sig .tc := ⟨.hbm, 147, rfl⟩
abbrev main_cst_6 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_cst_7 : Ref sig .tc := ⟨.hbm, 153, rfl⟩
abbrev main_v42 : Ref sig .tc := ⟨.hbm, 154, rfl⟩
abbrev main_v43 : Ref sig .tc := ⟨.hbm, 155, rfl⟩
abbrev main_v44 : Ref sig .tc := ⟨.hbm, 156, rfl⟩
abbrev main_v45 : Ref sig .tc := ⟨.hbm, 157, rfl⟩
abbrev main_v46 : Ref sig .tc := ⟨.hbm, 158, rfl⟩
abbrev main_v47 : Ref sig .tc := ⟨.hbm, 159, rfl⟩
abbrev main_v48 : Ref sig .tc := ⟨.hbm, 160, rfl⟩
abbrev main_v49 : Ref sig .tc := ⟨.hbm, 161, rfl⟩
abbrev main_v50 : Ref sig .tc := ⟨.hbm, 162, rfl⟩
abbrev main_call5_v0 : Ref sig .tc := ⟨.hbm, 163, rfl⟩
abbrev main_call5_v1 : Ref sig .tc := ⟨.hbm, 164, rfl⟩
abbrev main_call5_cst : Ref sig .tc := ⟨.hbm, 165, rfl⟩
abbrev main_call5_v2 : Ref sig .tc := ⟨.hbm, 166, rfl⟩
abbrev main_call5_v3 : Ref sig .tc := ⟨.hbm, 167, rfl⟩
abbrev main_call5_cst_0 : Ref sig .tc := ⟨.hbm, 168, rfl⟩
abbrev main_call5_v4 : Ref sig .tc := ⟨.hbm, 169, rfl⟩
abbrev main_call5_v5 : Ref sig .tc := ⟨.hbm, 170, rfl⟩
abbrev main_v51 : Ref sig .tc := ⟨.hbm, 171, rfl⟩
abbrev main_v52 : Ref sig .tc := ⟨.hbm, 172, rfl⟩
abbrev main_v53 : Ref sig .tc := ⟨.hbm, 173, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16x2048x1024 : Shape := ⟨3, ![16, 2048, 1024]⟩
abbrev S16x2048x512 : Shape := ⟨3, ![16, 2048, 512]⟩
abbrev S1024x1024 : Shape := ⟨2, ![1024, 1024]⟩
abbrev S16x1x1024 : Shape := ⟨3, ![16, 1, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S_ : Shape := ⟨0, ![]⟩
abbrev S16x8x2816 : Shape := ⟨3, ![16, 8, 2816]⟩
abbrev S1x512x1024 : Shape := ⟨3, ![1, 512, 1024]⟩
abbrev S1x512x512 : Shape := ⟨3, ![1, 512, 512]⟩
abbrev S1x1x1024 : Shape := ⟨3, ![1, 1, 1024]⟩
abbrev S1x8x2816 : Shape := ⟨3, ![1, 8, 2816]⟩
abbrev S512x2816 : Shape := ⟨2, ![512, 2816]⟩
abbrev S520x256 : Shape := ⟨2, ![520, 256]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x8x256 : Shape := ⟨3, ![1, 8, 256]⟩
abbrev S8x256 : Shape := ⟨2, ![8, 256]⟩
abbrev S1x256 : Shape := ⟨2, ![1, 256]⟩
abbrev S512x1536 : Shape := ⟨2, ![512, 1536]⟩
abbrev S1536x1024 : Shape := ⟨2, ![1536, 1024]⟩
abbrev S512x1280 : Shape := ⟨2, ![512, 1280]⟩
abbrev S1280x1024 : Shape := ⟨2, ![1280, 1024]⟩

abbrev nBuf : Space → Nat
  | .hbm => 21
  | .vmem => 31
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S1024x1024, .f32⟩
  | .hbm, ⟨4, _⟩ => ⟨S16x1x1024, .f32⟩
  | .hbm, ⟨5, _⟩ => ⟨S16x1x1024, .f32⟩
  | .hbm, ⟨6, _⟩ => ⟨S16x1x1024, .f32⟩
  | .hbm, ⟨7, _⟩ => ⟨S16x1x1024, .f32⟩
  | .hbm, ⟨8, _⟩ => ⟨S1x1024, .f32⟩
  | .hbm, ⟨9, _⟩ => ⟨S1024x5632, .f32⟩
  | .hbm, ⟨10, _⟩ => ⟨S3x2816, .f32⟩
  | .hbm, ⟨11, _⟩ => ⟨S1x2816, .f32⟩
  | .hbm, ⟨12, _⟩ => ⟨S2816x1024, .f32⟩
  | .hbm, ⟨13, _⟩ => ⟨S1x1024, .f32⟩
  | .hbm, ⟨14, _⟩ => ⟨S_, .f32⟩
  | .hbm, ⟨15, _⟩ => ⟨S16x8x2816, .f32⟩
  | .hbm, ⟨16, _⟩ => ⟨S1024x1024, .bf16⟩
  | .hbm, ⟨17, _⟩ => ⟨S1024x5632, .bf16⟩
  | .hbm, ⟨18, _⟩ => ⟨S2816x1024, .bf16⟩
  | .hbm, ⟨19, _⟩ => ⟨S16x2048x1024, .f32⟩
  | .hbm, ⟨20, _⟩ => ⟨S16x8x2816, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x5632, .bf16⟩
  | .local _ .vmem, ⟨17, _⟩ => ⟨S3x2816, .f32⟩
  | .local _ .vmem, ⟨18, _⟩ => ⟨S1x2816, .f32⟩
  | .local _ .vmem, ⟨19, _⟩ => ⟨S2816x1024, .bf16⟩
  | .local _ .vmem, ⟨20, _⟩ => ⟨S1x8x2816, .f32⟩
  | .local _ .vmem, ⟨21, _⟩ => ⟨S1x8x2816, .f32⟩
  | .local _ .vmem, ⟨22, _⟩ => ⟨S1x1024, .f32⟩
  | .local _ .vmem, ⟨23, _⟩ => ⟨S1x512x1024, .f32⟩
  | .local _ .vmem, ⟨24, _⟩ => ⟨S1x512x1024, .f32⟩
  | .local _ .vmem, ⟨25, _⟩ => ⟨S1x8x2816, .f32⟩
  | .local _ .vmem, ⟨26, _⟩ => ⟨S1x8x2816, .f32⟩
  | .local _ .vmem, ⟨27, _⟩ => ⟨S512x2816, .bf16⟩
  | .local _ .vmem, ⟨28, _⟩ => ⟨S520x256, .f32⟩
  | .local _ .vmem, ⟨29, _⟩ => ⟨S1x8x2816, .f32⟩
  | .local _ .vmem, ⟨30, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x8x2816 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x2816 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Kernel2Ideal.lean ====
variable {F : FTy → Type} [FloatOps F] [Named F]
def κ : String → Option EReal := fun
  | "k_one" => some (((-2) * ((6693141 / 8388608) * (Real.log 2)⁻¹) : ℝ) : EReal)
  | "k_three" => some ((((-2) * ((6693141 / 8388608) * (Real.log 2)⁻¹)) * (12003091 / 268435456) : ℝ) : EReal)
  | _ => none
-- ==== Reference2Ideal.lean ====
abbrev S16x2048x1024 : Shape := ⟨3, ![16, 2048, 1024]⟩
abbrev S16x2048x512 : Shape := ⟨3, ![16, 2048, 512]⟩
abbrev S1024x1024 : Shape := ⟨2, ![1024, 1024]⟩
abbrev S16x1x1024 : Shape := ⟨3, ![16, 1, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S2816 : Shape := ⟨1, ![2816]⟩
abbrev S16x2048x5632 : Shape := ⟨3, ![16, 2048, 5632]⟩
abbrev S16x2048x2816 : Shape := ⟨3, ![16, 2048, 2816]⟩
abbrev S16x2x2816 : Shape := ⟨3, ![16, 2, 2816]⟩
abbrev S16x2050x2816 : Shape := ⟨3, ![16, 2050, 2816]⟩
abbrev S1x1x2816 : Shape := ⟨3, ![1, 1, 2816]⟩
abbrev S16x8x2816 : Shape := ⟨3, ![16, 8, 2816]⟩

abbrev nBuf : Space → Nat
  | .hbm => 98
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S1024x1024, .f32⟩
  | .hbm, ⟨4, _⟩ => ⟨S16x1x1024, .f32⟩
  | .hbm, ⟨5, _⟩ => ⟨S16x1x1024, .f32⟩
  | .hbm, ⟨6, _⟩ => ⟨S16x1x1024, .f32⟩
  | .hbm, ⟨7, _⟩ => ⟨S16x1x1024, .f32⟩
  | .hbm, ⟨8, _⟩ => ⟨S1x1024, .f32⟩
  | .hbm, ⟨9, _⟩ => ⟨S1024x5632, .f32⟩
  | .hbm, ⟨10, _⟩ => ⟨S3x2816, .f32⟩
  | .hbm, ⟨11, _⟩ => ⟨S1x2816, .f32⟩
  | .hbm, ⟨12, _⟩ => ⟨S2816x1024, .f32⟩
  | .hbm, ⟨13, _⟩ => ⟨S1x1024, .f32⟩
  | .hbm, ⟨14, _⟩ => ⟨S16x2048x512, .f32⟩
  | .hbm, ⟨15, _⟩ => ⟨S16x2048x512, .f32⟩
  | .hbm, ⟨16, _⟩ => ⟨S16x2048x1024, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S1024, .f32⟩
  | .hbm, ⟨22, _⟩ => ⟨S16x2048x1024, .f32⟩
  | .hbm, ⟨23, _⟩ => ⟨S_, .f32⟩
  | .hbm, ⟨24, _⟩ => ⟨S16x2048, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S_, .f32⟩
  | .hbm, ⟨30, _⟩ => ⟨S16x2048x1, .f32⟩
  | .hbm, ⟨31, _⟩ => ⟨S16x2048x1, .f32⟩
  | .hbm, ⟨32, _⟩ => ⟨S16x2048x1, .f32⟩
  | .hbm, ⟨33, _⟩ => ⟨S16x2048x1024, .f32⟩
  | .hbm, ⟨34, _⟩ => ⟨S16x2048x1024, .f32⟩
  | .hbm, ⟨35, _⟩ => ⟨S1x1x1024, .f32⟩
  | .hbm, ⟨36, _⟩ => ⟨S16x2048x1024, .f32⟩
  | .hbm, ⟨37, _⟩ => ⟨S16x2048x1024, .f32⟩
  | .hbm, ⟨38, _⟩ => ⟨S_, .f32⟩
  | .hbm, ⟨39, _⟩ => ⟨S16x1x1024, .f32⟩
  | .hbm, ⟨40, _⟩ => ⟨S16x1x1024, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S2816, .f32⟩
  | .hbm, ⟨46, _⟩ => ⟨S16x2048x5632, .f32⟩
  | .hbm, ⟨47, _⟩ => ⟨S16x2048x2816, .f32⟩
  | .hbm, ⟨48, _⟩ => ⟨S16x2048x2816, .f32⟩
  | .hbm, ⟨49, _⟩ => ⟨S_, .f32⟩
  | .hbm, ⟨50, _⟩ => ⟨S16x2x2816, .f32⟩
  | .hbm, ⟨51, _⟩ => ⟨S16x2050x2816, .f32⟩
  | .hbm, ⟨52, _⟩ => ⟨S16x2048x2816, .f32⟩
  | .hbm, ⟨53, _⟩ => ⟨S1x2816, .f32⟩
  | .hbm, ⟨54, _⟩ => ⟨S2816, .f32⟩
  | .hbm, ⟨55, _⟩ => ⟨S1x1x2816, .f32⟩
  | .hbm, ⟨56, _⟩ => ⟨S16x2048x2816, .f32⟩
  | .hbm, ⟨57, _⟩ => ⟨S16x2048x2816, .f32⟩
  | .hbm, ⟨58, _⟩ => ⟨S16x2048x2816, .f32⟩
  | .hbm, ⟨59, _⟩ => ⟨S1x2816, .f32⟩
  | .hbm, ⟨60, _⟩ => ⟨S2816, .f32⟩
  | .hbm, ⟨61, _⟩ => ⟨S1x1x2816, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S16x2048x2816, .f32⟩
  | .hbm, ⟨66, _⟩ => ⟨S1x2816, .f32⟩
  | .hbm, ⟨67, _⟩ => ⟨S2816, .f32⟩
  | .hbm, ⟨68, _⟩ => ⟨S1x1x2816, .f32⟩
  | .hbm, ⟨69, _⟩ => ⟨S16x2048x2816, .f32⟩
  | .hbm, ⟨70, _⟩ => ⟨S16x2048x2816, .f32⟩
  | .hbm, ⟨71, _⟩ => ⟨S16x2048x2816, .f32⟩
  | .hbm, ⟨72, _⟩ => ⟨S1x1x2816, .f32⟩
  | .hbm, ⟨73, _⟩ => ⟨S16x2048x2816, .f32⟩
  | .hbm, ⟨74, _⟩ => ⟨S16x2048x2816, .f32⟩
  | .hbm, ⟨75, _⟩ => ⟨S16x8x2816, .f32⟩
  | .hbm, ⟨76, _⟩ => ⟨S16x2048x2816, .f32⟩
  | .hbm, ⟨77, _⟩ => ⟨S16x2048x2816, .f32⟩
  | .hbm, ⟨78, _⟩ => ⟨S_, .f32⟩
  | .hbm, ⟨79, _⟩ => ⟨S16x2048x2816, .f32⟩
  | .hbm, ⟨80, _⟩ => ⟨S16x2048x2816, .f32⟩
  | .hbm, ⟨81, _⟩ => ⟨S16x2048x2816, .f32⟩
  | .hbm, ⟨82, _⟩ => ⟨S_, .f32⟩
  | .hbm, ⟨83, _⟩ => ⟨S16x2048x2816, .f32⟩
  | .hbm, ⟨84, _⟩ => ⟨S16x2048x2816, .f32⟩
  | .hbm, ⟨85, _⟩ => ⟨S16x2048x2816, .f32⟩
  | .hbm, ⟨86, _⟩ => ⟨S_, .f32⟩
  | .hbm, ⟨87, _⟩ => ⟨S16x2048x2816, .f32⟩
  | .hbm, ⟨88, _⟩ => ⟨S16x2048x2816, .f32⟩
  | .hbm, ⟨89, _⟩ => ⟨S_, .f32⟩
  | .hbm, ⟨90, _⟩ => ⟨S16x2048x2816, .f32⟩
  | .hbm, ⟨91, _⟩ => ⟨S16x2048x2816, .f32⟩
  | .hbm, ⟨92, _⟩ => ⟨S16x2048x2816, .f32⟩
  | .hbm, ⟨93, _⟩ => ⟨S16x2048x2816, .f32⟩
  | .hbm, ⟨94, _⟩ => ⟨S16x2048x1024, .f32⟩
  | .hbm, ⟨95, _⟩ => ⟨S16x2048x1024, .f32⟩
  | .hbm, ⟨96, _⟩ => ⟨S16x2048x1024, .f32⟩
  | .hbm, ⟨97, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_4 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_5 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_6 : Ref sig .tc := ⟨.hbm, 86, rfl⟩
abbrev main_v65 : Ref sig .tc := ⟨.hbm, 87, rfl⟩
abbrev main_v66 : Ref sig .tc := ⟨.hbm, 88, rfl⟩
abbrev main_cst_7 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x1x1024 : Shape := ⟨3, ![16, 1, 1024]⟩
abbrev S1x1024 : Shape := ⟨2, ![1, 1024]⟩
abbrev S1024x3080 : Shape := ⟨2, ![1024, 3080]⟩
abbrev S_ : Shape := ⟨0, ![]⟩
abbrev S1024x3200 : Shape := ⟨2, ![1024, 3200]⟩
abbrev S16x2048x3072 : Shape := ⟨3, ![16, 2048, 3072]⟩
abbrev S16x2048x128 : Shape := ⟨3, ![16, 2048, 128]⟩
abbrev S16x512x512 : Shape := ⟨3, ![16, 512, 512]⟩
abbrev S16x8x1024 : Shape := ⟨3, ![16, 8, 1024]⟩
abbrev S1x1024x1024 : Shape := ⟨3, ![1, 1024, 1024]⟩
abbrev S1x1x1024 : Shape := ⟨3, ![1, 1, 1024]⟩
abbrev S1x1024x3072 : Shape := ⟨3, ![1, 1024, 3072]⟩
abbrev S1x1024x128 : Shape := ⟨3, ![1, 1024, 128]⟩
abbrev S1x512x512 : Shape := ⟨3, ![1, 512, 512]⟩
abbrev S1x8x1024 : Shape := ⟨3, ![1, 8, 1024]⟩
abbrev S1024x1024 : Shape := ⟨2, ![1024, 1024]⟩
abbrev S1024 : Shape := ⟨1, ![1024]⟩
abbrev S1024x1 : Shape := ⟨2, ![1024, 1]⟩
abbrev S1024x512 : Shape := ⟨2, ![1024, 512]⟩
abbrev S1x1024x512 : Shape := ⟨3, ![1, 1024, 512]⟩
abbrev S512x512 : Shape := ⟨2, ![512, 512]⟩
abbrev S8x512 : Shape := ⟨2, ![8, 512]⟩
abbrev S1x8x512 : Shape := ⟨3, ![1, 8, 512]⟩
abbrev S1024x128 : Shape := ⟨2, ![1024, 128]⟩

abbrev nBuf : Space → Nat
  | .hbm => 14
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1x1024, .f32⟩
  | .hbm, ⟨4, _⟩ => ⟨S1024x3080, .f32⟩
  | .hbm, ⟨5, _⟩ => ⟨S_, .i32⟩
  | .hbm, ⟨6, _⟩ => ⟨S_, .f32⟩
  | .hbm, ⟨7, _⟩ => ⟨S1024x3200, .f32⟩
  | .hbm, ⟨8, _⟩ => ⟨S1024x3200, .bf16⟩
  | .hbm, ⟨9, _⟩ => ⟨S16x2048x3072, .bf16⟩
  | .hbm, ⟨10, _⟩ => ⟨S16x2048x128, .f32⟩
  | .hbm, ⟨11, _⟩ => ⟨S16x512x512, .f32⟩
  | .hbm, ⟨12, _⟩ => ⟨S16x512x512, .f32⟩
  | .hbm, ⟨13, _⟩ => ⟨S16x8x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3200, .bf16⟩
  | .local _ .vmem, ⟨8, _⟩ => ⟨S1x1024x3072, .bf16⟩
  | .local _ .vmem, ⟨9, _⟩ => ⟨S1x1024x3072, .bf16⟩
  | .local _ .vmem, ⟨10, _⟩ => ⟨S1x1024x128, .f32⟩
  | .local _ .vmem, ⟨11, _⟩ => ⟨S1x1024x128, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x8x1024, .f32⟩
  | .local _ .vmem, ⟨17, _⟩ => ⟨S1x8x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel3Ideal.lean ====
variable {F : FTy → Type} [FloatOps F] [Named F]
def κ : String → Option EReal := fun
  | "k_scale" => some (((1 / 8) * (Real.log 2)⁻¹ : ℝ) : EReal)
  | _ => none
-- ==== Reference3Ideal.lean ====
abbrev S16x2048x1024 : Shape := ⟨3, ![16, 2048, 1024]⟩
abbrev S16x1x1024 : Shape := ⟨3, ![16, 1, 1024]⟩
abbrev S1x1024 : Shape := ⟨2, ![1, 1024]⟩
abbrev S1024x3080 : Shape := ⟨2, ![1024, 3080]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3080 : Shape := ⟨3, ![16, 2048, 3080]⟩
abbrev S16x2048x512 : Shape := ⟨3, ![16, 2048, 512]⟩
abbrev S16x2048x8 : Shape := ⟨3, ![16, 2048, 8]⟩
abbrev S16x2048x3072 : Shape := ⟨3, ![16, 2048, 3072]⟩
abbrev S16x2048x120 : Shape := ⟨3, ![16, 2048, 120]⟩
abbrev S16x2048x128 : Shape := ⟨3, ![16, 2048, 128]⟩
abbrev S16x512x512 : Shape := ⟨3, ![16, 512, 512]⟩
abbrev S16x8x1024 : Shape := ⟨3, ![16, 8, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1x1024, .f32⟩
  | .hbm, ⟨4, _⟩ => ⟨S1024x3080, .f32⟩
  | .hbm, ⟨5, _⟩ => ⟨S1024, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S_, .f32⟩
  | .hbm, ⟨23, _⟩ => ⟨S16x1x1024, .f32⟩
  | .hbm, ⟨24, _⟩ => ⟨S16x1x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x3080, .f32⟩
  | .hbm, ⟨30, _⟩ => ⟨S16x2048x512, .f32⟩
  | .hbm, ⟨31, _⟩ => ⟨S16x2048x512, .f32⟩
  | .hbm, ⟨32, _⟩ => ⟨S16x2048x512, .f32⟩
  | .hbm, ⟨33, _⟩ => ⟨S16x2048x512, .f32⟩
  | .hbm, ⟨34, _⟩ => ⟨S16x2048x1024, .f32⟩
  | .hbm, ⟨35, _⟩ => ⟨S16x2048x8, .f32⟩
  | .hbm, ⟨36, _⟩ => ⟨S_, .f32⟩
  | .hbm, ⟨37, _⟩ => ⟨S16x2048x512, .f32⟩
  | .hbm, ⟨38, _⟩ => ⟨S16x2048x512, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S16x2048x512, .f32⟩
  | .hbm, ⟨43, _⟩ => ⟨S16x2048x512, .f32⟩
  | .hbm, ⟨44, _⟩ => ⟨S16x2048x3072, .f32⟩
  | .hbm, ⟨45, _⟩ => ⟨S16x2048x3072, .bf16⟩
  | .hbm, ⟨46, _⟩ => ⟨S_, .f32⟩
  | .hbm, ⟨47, _⟩ => ⟨S16x2048x120, .f32⟩
  | .hbm, ⟨48, _⟩ => ⟨S16x2048x128, .f32⟩
  | .hbm, ⟨49, _⟩ => ⟨S16x512x512, .f32⟩
  | .hbm, ⟨50, _⟩ => ⟨S16x512x512, .f32⟩
  | .hbm, ⟨51, _⟩ => ⟨S16x8x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Kernel4.lean ====
abbrev S16x2048x1024 : Shape := ⟨3, ![16, 2048, 1024]⟩
abbrev S16x1x1024 : Shape := ⟨3, ![16, 1, 1024]⟩
abbrev S1x1024 : Shape := ⟨2, ![1, 1024]⟩
abbrev S1024x3584 : Shape := ⟨2, ![1024, 3584]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S16x2048x3584 : Shape := ⟨3, ![16, 2048, 3584]⟩
abbrev S16x8192x128 : Shape := ⟨3, ![16, 8192, 128]⟩
abbrev S1x1024x1024 : Shape := ⟨3, ![1, 1024, 1024]⟩
abbrev S1x1x1024 : Shape := ⟨3, ![1, 1, 1024]⟩
abbrev S1024x128 : Shape := ⟨2, ![1024, 128]⟩
abbrev S1x1024x3584 : Shape := ⟨3, ![1, 1024, 3584]⟩
abbrev S1x4096x128 : Shape := ⟨3, ![1, 4096, 128]⟩
abbrev S1024x1024 : Shape := ⟨2, ![1024, 1024]⟩
abbrev S1024 : Shape := ⟨1, ![1024]⟩
abbrev S1024x1 : Shape := ⟨2, ![1024, 1]⟩
abbrev S1024x512 : Shape := ⟨2, ![1024, 512]⟩
abbrev S1x1024x128 : Shape := ⟨3, ![1, 1024, 128]⟩
abbrev S1x1024x512 : Shape := ⟨3, ![1, 1024, 512]⟩

abbrev nBuf : Space → Nat
  | .hbm => 29
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1x1024, .f32⟩
  | .hbm, ⟨4, _⟩ => ⟨S1024x3584, .f32⟩
  | .hbm, ⟨5, _⟩ => ⟨S2048, .i32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S2048, .f32⟩
  | .hbm, ⟨15, _⟩ => ⟨S2048x1, .f32⟩
  | .hbm, ⟨16, _⟩ => ⟨S1x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S2048x128, .f32⟩
  | .hbm, ⟨23, _⟩ => ⟨S2048x64, .f32⟩
  | .hbm, ⟨24, _⟩ => ⟨S2048x128, .f32⟩
  | .hbm, ⟨25, _⟩ => ⟨S1024x3584, .bf16⟩
  | .hbm, ⟨26, _⟩ => ⟨S16x2048x3584, .bf16⟩
  | .hbm, ⟨27, _⟩ => ⟨S16x8192x128, .f32⟩
  | .hbm, ⟨28, _⟩ => ⟨S16x8192x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3584, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x1024x3584, .bf16⟩
  | .local _ .vmem, ⟨13, _⟩ => ⟨S1x1024x3584, .bf16⟩
  | .local _ .vmem, ⟨14, _⟩ => ⟨S1x4096x128, .f32⟩
  | .local _ .vmem, ⟨15, _⟩ => ⟨S1x4096x128, .f32⟩
  | .local _ .vmem, ⟨16, _⟩ => ⟨S1x4096x128, .f32⟩
  | .local _ .vmem, ⟨17, _⟩ => ⟨S1x4096x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v19_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x3584 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S16x2048x1024 : Shape := ⟨3, ![16, 2048, 1024]⟩
abbrev S16x1x1024 : Shape := ⟨3, ![16, 1, 1024]⟩
abbrev S1x1024 : Shape := ⟨2, ![1, 1024]⟩
abbrev S1024x3584 : Shape := ⟨2, ![1024, 3584]⟩
abbrev S2048 : Shape := ⟨1, ![2048]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3584 : Shape := ⟨3, ![16, 2048, 3584]⟩
abbrev S16x2048x512 : Shape := ⟨3, ![16, 2048, 512]⟩
abbrev S16x2048x4x128 : Shape := ⟨4, ![16, 2048, 4, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S16x2048x4x64 : Shape := ⟨4, ![16, 2048, 4, 64]⟩
abbrev S1x2048x1x64 : Shape := ⟨4, ![1, 2048, 1, 64]⟩
abbrev S16x8192x128 : Shape := ⟨3, ![16, 8192, 128]⟩

abbrev nBuf : Space → Nat
  | .hbm => 121
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1x1024, .f32⟩
  | .hbm, ⟨4, _⟩ => ⟨S1024x3584, .f32⟩
  | .hbm, ⟨5, _⟩ => ⟨S2048, .i32⟩
  | .hbm, ⟨6, _⟩ => ⟨S1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x1x1024, .f32⟩
  | .hbm, ⟨25, _⟩ => ⟨S16x1x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x3584, .f32⟩
  | .hbm, ⟨31, _⟩ => ⟨S16x2048x512, .f32⟩
  | .hbm, ⟨32, _⟩ => ⟨S16x2048x512, .f32⟩
  | .hbm, ⟨33, _⟩ => ⟨S16x2048x1024, .f32⟩
  | .hbm, ⟨34, _⟩ => ⟨S16x2048x512, .f32⟩
  | .hbm, ⟨35, _⟩ => ⟨S16x2048x512, .f32⟩
  | .hbm, ⟨36, _⟩ => ⟨S16x2048x512, .f32⟩
  | .hbm, ⟨37, _⟩ => ⟨S16x2048x4x128, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S2048, .f32⟩
  | .hbm, ⟨47, _⟩ => ⟨S2048x1, .f32⟩
  | .hbm, ⟨48, _⟩ => ⟨S1x64, .f32⟩
  | .hbm, ⟨49, _⟩ => ⟨S2048x64, .f32⟩
  | .hbm, ⟨50, _⟩ => ⟨S2048x64, .f32⟩
  | .hbm, ⟨51, _⟩ => ⟨S2048x64, .f32⟩
  | .hbm, ⟨52, _⟩ => ⟨S2048x64, .f32⟩
  | .hbm, ⟨53, _⟩ => ⟨S2048x1x64, .f32⟩
  | .hbm, ⟨54, _⟩ => ⟨S2048x64, .f32⟩
  | .hbm, ⟨55, _⟩ => ⟨S2048x1x64, .f32⟩
  | .hbm, ⟨56, _⟩ => ⟨S16x2048x4x64, .f32⟩
  | .hbm, ⟨57, _⟩ => ⟨S16x2048x4x64, .f32⟩
  | .hbm, ⟨58, _⟩ => ⟨S1x2048x1x64, .f32⟩
  | .hbm, ⟨59, _⟩ => ⟨S16x2048x4x64, .f32⟩
  | .hbm, ⟨60, _⟩ => ⟨S16x2048x4x64, .f32⟩
  | .hbm, ⟨61, _⟩ => ⟨S1x2048x1x64, .f32⟩
  | .hbm, ⟨62, _⟩ => ⟨S16x2048x4x64, .f32⟩
  | .hbm, ⟨63, _⟩ => ⟨S16x2048x4x64, .f32⟩
  | .hbm, ⟨64, _⟩ => ⟨S16x2048x4x64, .f32⟩
  | .hbm, ⟨65, _⟩ => ⟨S1x2048x1x64, .f32⟩
  | .hbm, ⟨66, _⟩ => ⟨S16x2048x4x64, .f32⟩
  | .hbm, ⟨67, _⟩ => ⟨S16x2048x4x64, .f32⟩
  | .hbm, ⟨68, _⟩ => ⟨S1x2048x1x64, .f32⟩
  | .hbm, ⟨69, _⟩ => ⟨S16x2048x4x64, .f32⟩
  | .hbm, ⟨70, _⟩ => ⟨S16x2048x4x64, .f32⟩
  | .hbm, ⟨71, _⟩ => ⟨S16x2048x4x64, .f32⟩
  | .hbm, ⟨72, _⟩ => ⟨S16x2048x4x128, .f32⟩
  | .hbm, ⟨73, _⟩ => ⟨S16x2048x512, .f32⟩
  | .hbm, ⟨74, _⟩ => ⟨S16x2048x4x128, .f32⟩
  | .hbm, ⟨75, _⟩ => ⟨S64, .f32⟩
  | .hbm, ⟨76, _⟩ => ⟨S64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S_, .f32⟩
  | .hbm, ⟨81, _⟩ => ⟨S64, .f32⟩
  | .hbm, ⟨82, _⟩ => ⟨S64, .f32⟩
  | .hbm, ⟨83, _⟩ => ⟨S2048, .f32⟩
  | .hbm, ⟨84, _⟩ => ⟨S2048x1, .f32⟩
  | .hbm, ⟨85, _⟩ => ⟨S1x64, .f32⟩
  | .hbm, ⟨86, _⟩ => ⟨S2048x64, .f32⟩
  | .hbm, ⟨87, _⟩ => ⟨S2048x64, .f32⟩
  | .hbm, ⟨88, _⟩ => ⟨S2048x64, .f32⟩
  | .hbm, ⟨89, _⟩ => ⟨S2048x64, .f32⟩
  | .hbm, ⟨90, _⟩ => ⟨S2048x1x64, .f32⟩
  | .hbm, ⟨91, _⟩ => ⟨S2048x64, .f32⟩
  | .hbm, ⟨92, _⟩ => ⟨S2048x1x64, .f32⟩
  | .hbm, ⟨93, _⟩ => ⟨S16x2048x4x64, .f32⟩
  | .hbm, ⟨94, _⟩ => ⟨S16x2048x4x64, .f32⟩
  | .hbm, ⟨95, _⟩ => ⟨S1x2048x1x64, .f32⟩
  | .hbm, ⟨96, _⟩ => ⟨S16x2048x4x64, .f32⟩
  | .hbm, ⟨97, _⟩ => ⟨S16x2048x4x64, .f32⟩
  | .hbm, ⟨98, _⟩ => ⟨S1x2048x1x64, .f32⟩
  | .hbm, ⟨99, _⟩ => ⟨S16x2048x4x64, .f32⟩
  | .hbm, ⟨100, _⟩ => ⟨S16x2048x4x64, .f32⟩
  | .hbm, ⟨101, _⟩ => ⟨S16x2048x4x64, .f32⟩
  | .hbm, ⟨102, _⟩ => ⟨S1x2048x1x64, .f32⟩
  | .hbm, ⟨103, _⟩ => ⟨S16x2048x4x64, .f32⟩
  | .hbm, ⟨104, _⟩ => ⟨S16x2048x4x64, .f32⟩
  | .hbm, ⟨105, _⟩ => ⟨S1x2048x1x64, .f32⟩
  | .hbm, ⟨106, _⟩ => ⟨S16x2048x4x64, .f32⟩
  | .hbm, ⟨107, _⟩ => ⟨S16x2048x4x64, .f32⟩
  | .hbm, ⟨108, _⟩ => ⟨S16x2048x4x64, .f32⟩
  | .hbm, ⟨109, _⟩ => ⟨S16x2048x4x128, .f32⟩
  | .hbm, ⟨110, _⟩ => ⟨S_, .f32⟩
  | .hbm, ⟨111, _⟩ => ⟨S16x2048x4x128, .f32⟩
  | .hbm, ⟨112, _⟩ => ⟨S16x2048x4x128, .f32⟩
  | .hbm, ⟨113, _⟩ => ⟨S16x2048x512, .f32⟩
  | .hbm, ⟨114, _⟩ => ⟨S_, .f32⟩
  | .hbm, ⟨115, _⟩ => ⟨S16x2048x512, .f32⟩
  | .hbm, ⟨116, _⟩ => ⟨S16x2048x512, .f32⟩
  | .hbm, ⟨117, _⟩ => ⟨S16x2048x3584, .f32⟩
  | .hbm, ⟨118, _⟩ => ⟨S16x2048x3584, .bf16⟩
  | .hbm, ⟨119, _⟩ => ⟨S16x8192x128, .f32⟩
  | .hbm, ⟨120, _⟩ => ⟨S16x8192x128, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_5 : Ref sig .tc := ⟨.hbm, 77, rfl⟩
abbrev main_v66 : Ref sig .tc := ⟨.hbm, 78, rfl⟩
abbrev main_v67 : Ref sig .tc := ⟨.hbm, 79, rfl⟩
abbrev main_cst_6 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_cst_7 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_cst_8 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩

abbrev nD : Nat := 1
abbrev τ : Topo := Topo.v7x

variable {F : FTy → Type} [FloatOps F]
-- ==== Proof.RetReal.lean ====
/- Retention over the real numbers: the state after `t` rows and the output of row `t` as sums over the rows
   before, and the two identities that let them be computed chunk by chunk, whatever the chunk's length. -/
module

public import Idealize.ShloMosaic.Lib.Pipeline.ValueKit

@[expose] public section

noncomputable section

namespace Cert.Ret

/-- A finite sum of reals, read in the extended reals. -/
theorem coe_sum {ι : Type*} (s : Finset ι) (f : ι → ℝ) :
    ((∑ i ∈ s, f i : ℝ) : EReal) = ∑ i ∈ s, (f i : EReal) := by
  classical
  induction s using Finset.induction with
  | empty => simp
  | insert a s ha ih => rw [Finset.sum_insert ha, Finset.sum_insert ha, EReal.coe_add, ih]

variable (γ : ℝ) (q k v : ℕ → Fin 128 → ℝ)

/-- The state after the first `t` rows: each row's key against its value, decayed once per row since. -/
def stR (t : ℕ) (d e : Fin 128) : ℝ := ∑ m ∈ Finset.range t, γ ^ (t - 1 - m) * (k m d * v m e)

/-- Row `t` of the output: the query against every key up to its own row, decayed by the rows between. -/
def oR (t : ℕ) (e : Fin 128) : ℝ := ∑ m ∈ Finset.range (t + 1), γ ^ (t - m) * ((∑ d, q t d * k m d) * v m e)

/-- No rows, no state. -/
theorem stR_zero (d e : Fin 128) : stR γ k v 0 d e = 0 := by simp [stR]

/-- The state after `c` more rows: the old one decayed by `c` rows, and the new rows' part. -/
theorem stR_add (t c : ℕ) (d e : Fin 128) :
    stR γ k v (t + c) d e
      = γ ^ c * stR γ k v t d e + ∑ j : Fin c, k (t + j) d * γ ^ (c - 1 - (j : ℕ)) * v (t + j) e := by
  unfold stR
  rw [Finset.sum_range_add, Finset.mul_sum, Finset.sum_range (fun x => γ ^ (t + c - 1 - (t + x)) * (k (t + x) d * v (t + x) e))]
  congr 1
  · refine Finset.sum_congr rfl fun m hm => ?_
    have hm := Finset.mem_range.1 hm
    have h : t + c - 1 - m = c + (t - 1 - m) := by omega
    rw [h, pow_add]; ring
  · refine Finset.sum_congr rfl fun j _ => ?_
    have h : t + c - 1 - (t + (j : ℕ)) = c - 1 - j := by omega
    rw [h]
    ring

/-- Row `t + l` of the output, `l` inside the chunk of `c` rows starting at `t`: the decayed scores of the
    chunk, masked to the rows not after its own, and the decayed query against the state before the chunk. -/
theorem oR_add (t c l : ℕ) (hl : l < c) (e : Fin 128) :
    oR γ q k v (t + l) e
      = (∑ m : Fin c, (∑ d, q (t + l) d * k (t + m) d) * (if (m : ℕ) ≤ l then γ ^ (l - (m : ℕ)) else 0) * v (t + m) e)
        + ∑ d, q (t + l) d * γ ^ (l + 1) * stR γ k v t d e := by
  unfold oR stR
  rw [add_assoc t l 1, Finset.sum_range_add, add_comm]
  congr 1
  · rw [← Finset.sum_range (fun m => (∑ d, q (t + l) d * k (t + m) d) * (if m ≤ l then γ ^ (l - m) else 0) * v (t + m) e)]
    refine Finset.sum_subset_zero_on_sdiff (fun x hx => ?_) (fun x hx => ?_) (fun x hx => ?_)
    · simp only [Finset.mem_range] at *; omega
    · simp only [Finset.mem_sdiff, Finset.mem_range] at hx
      rw [if_neg (by omega)]; ring
    · simp only [Finset.mem_range] at hx
      have h : t + l - (t + x) = l - x := by omega
      rw [if_pos (by omega), h]; ring
  · have h : ∀ d : Fin 128, q (t + l) d * γ ^ (l + 1) * ∑ m ∈ Finset.range t, γ ^ (t - 1 - m) * (k m d * v m e)
        = ∑ m ∈ Finset.range t, γ ^ (t + l - m) * (q (t + l) d * k m d * v m e) := fun d => by
      rw [Finset.mul_sum]
      refine Finset.sum_congr rfl fun m hm => ?_
      have hm := Finset.mem_range.1 hm
      have h : t + l - m = (l + 1) + (t - 1 - m) := by omega
      rw [h, pow_add]; ring
    simp only [h]
    rw [Finset.sum_comm]
    refine Finset.sum_congr rfl fun m _ => ?_
    rw [Finset.sum_mul, Finset.mul_sum]

end Cert.Ret

end
-- ==== Proof.RetRate.lean ====
/- The decay rates both programs compute, as real numbers, and the literals they and the tables are made of. -/
module

public import Idealize.ShloMosaic.Lib.WordCmp
public import proofs.«01_k».proof.Proof.RetReal

@[expose] public section

noncomputable section

namespace Cert.Ret

open Idealize.ShloMosaic

theorem lit_ln2 : Ideal.ofBits .f32 0x3F317218#32 = ((11629080 / 16777216 : ℝ) : EReal) := by
  simp [Ideal.ofBits, Ideal.ieee, -EReal.coe_mul]; norm_num
theorem lit_m5 : Ideal.ofBits .f32 0xC0A00000#32 = ((-5 : ℝ) : EReal) := by
  simp [Ideal.ofBits, Ideal.ieee, -EReal.coe_mul, -EReal.coe_neg]; norm_num
theorem lit_63 : Ideal.ofBits .f32 0x427C0000#32 = ((63 : ℝ) : EReal) := by
  simp [Ideal.ofBits, Ideal.ieee, -EReal.coe_mul]; norm_num
theorem lit_64 : Ideal.ofBits .f32 0x42800000#32 = ((64 : ℝ) : EReal) := by
  simp [Ideal.ofBits, Ideal.ieee, -EReal.coe_mul]; norm_num
theorem lit_255 : Ideal.ofBits .f32 0x437F0000#32 = ((255 : ℝ) : EReal) := by
  simp [Ideal.ofBits, Ideal.ieee, -EReal.coe_mul]; norm_num
theorem lit_256 : Ideal.ofBits .f32 0x43800000#32 = ((256 : ℝ) : EReal) := by
  simp [Ideal.ofBits, Ideal.ieee, -EReal.coe_mul]; norm_num
theorem lit_inf : Ideal.ofBits .f32 0x7F800000#32 = ⊤ := by
  simp [Ideal.ofBits, Ideal.ieee]

/-- A head's rate: the logarithm of one less `2^(-5-h)`, the power taken with the programs' own literal for `ln 2`. -/
def rate (h : ℕ) : ℝ := Real.log (1 + -Real.exp (11629080 / 16777216 * (-5 - h)))

/-- A head's decay per row. -/
def gam (h : ℕ) : ℝ := Real.exp (rate h)

/-- The rate as the programs compute it is that real number. -/
theorem rate_eq (h : ℕ) :
    Ideal.log1p (-(Ideal.exp (((11629080 / 16777216 : ℝ) : EReal) * (((-5 : ℝ) : EReal) - ((h : ℝ) : EReal))))) = ((rate h : ℝ) : EReal) := by
  have hneg : (11629080 / 16777216 : ℝ) * (-5 - h) < 0 := by
    have : (0 : ℝ) ≤ h := Nat.cast_nonneg h
    nlinarith
  have hexp : Real.exp (11629080 / 16777216 * (-5 - h)) < 1 := by rw [← Real.exp_zero]; exact Real.exp_lt_exp.2 hneg
  rw [← EReal.coe_sub, ← EReal.coe_mul, Ideal.exp_coe, ← EReal.coe_neg]
  unfold Ideal.log1p rate
  rw [← EReal.coe_one, ← EReal.coe_add, Ideal.log_coe, if_neg (by linarith)]

/-- A small index word as a float is the index. -/
theorem word_real (n : ℕ) (hn : n < 2 ^ 31) :
    (FloatOps.sitofp .f32 (BitVec.ofNat 32 n) : Ideal .f32) = ((n : ℝ) : EReal) := by
  show (((BitVec.ofNat 32 n).toInt : ℝ) : EReal) = _
  rw [WordCmp.toInt_ofNat_of_lt hn]; norm_cast

/-- The rate as printed, literals and index word in place. -/
theorem rate_printed (h : ℕ) (hh : h < 2 ^ 31) :
    Ideal.log1p (-(Ideal.exp (Ideal.ofBits .f32 0x3F317218#32
      * (Ideal.ofBits .f32 0xC0A00000#32 - (FloatOps.sitofp .f32 (BitVec.ofNat 32 h) : Ideal .f32))))) = ((rate h : ℝ) : EReal) := by
  rw [lit_ln2, lit_m5, word_real h hh, rate_eq]

/-- The exponential of `n` rates is the decay over `n` rows. -/
theorem exp_rows (h n : ℕ) {r : ℝ} (hr : r = n) : Ideal.exp (((r * rate h : ℝ)) : EReal) = ((gam h ^ n : ℝ) : EReal) := by
  rw [Ideal.exp_coe, gam, ← Real.exp_nat_mul, hr]

/-- The decay between rows `j` and `l`, as the programs select it: zero unless `j` is not after `l`. -/
theorem decay_printed (h l j : ℕ) :
    (if (0 : EReal) ≤ ((l : ℝ) : EReal) - ((j : ℝ) : EReal)
      then Ideal.exp (max (((l : ℝ) : EReal) - ((j : ℝ) : EReal)) 0 * ((rate h : ℝ) : EReal)) else 0)
      = (((if j ≤ l then gam h ^ (l - j) else 0) : ℝ) : EReal) := by
  rw [← EReal.coe_sub]
  by_cases hjl : j ≤ l
  · have h0 : (0 : ℝ) ≤ l - j := sub_nonneg.2 (Nat.cast_le.2 hjl)
    rw [if_pos (EReal.coe_nonneg.2 h0), if_pos hjl, max_eq_left (EReal.coe_nonneg.2 h0), ← EReal.coe_mul,
      exp_rows h (l - j) (by rw [Nat.cast_sub hjl])]
  · have h0 : ¬ (0 : ℝ) ≤ l - j := by
      rw [sub_nonneg, Nat.cast_le]; exact hjl
    rw [if_neg (fun h => h0 (EReal.coe_nonneg.1 h)), if_neg hjl, EReal.coe_zero]

/-- One row of 128 features normalised, one feature of it scaled by `gn` and gated by the swish of `g`. -/
def normGate (o : Fin 128 → EReal) (gn g : EReal) (e : Fin 128) : EReal :=
  (o e - Ideal.div (∑ x, o x) (Ideal.ofBits .f32 0x43000000#32))
      * Ideal.rsqrt (Ideal.div (∑ x, (o x - Ideal.div (∑ x, o x) (Ideal.ofBits .f32 0x43000000#32))
          * (o x - Ideal.div (∑ x, o x) (Ideal.ofBits .f32 0x43000000#32))) (Ideal.ofBits .f32 0x43000000#32)
        + Ideal.ofBits .f32 0x358637BD#32)
      * gn * (g * Ideal.div 1 (1 + Ideal.exp (-g)))

/-- The columns of one head. -/
def head (X : ℕ → ℕ → ℝ) (h : ℕ) : ℕ → Fin 128 → ℝ := fun t d => X t (128 * h + d)

/-- One of the queries, keys and values of a sequence, `off` its first column, as reals by row and column. -/
def part (X : Fin 2048 → Fin 3584 → EReal) (off : ℕ) : ℕ → ℕ → ℝ := fun t k =>
  (X ⟨t % 2048, Nat.mod_lt _ (by norm_num)⟩ ⟨(off + k) % 3584, Nat.mod_lt _ (by norm_num)⟩).toReal

/-- A real entry by its row and column. -/
theorem part_real {X : Fin 2048 → Fin 3584 → EReal}
    (hX : ∀ (t : Fin 2048) (k : Fin 3584), (k : ℕ) < 1536 → ((X t k).toReal : EReal) = X t k)
    (off t k : ℕ) (ht : t < 2048) (hk : off + k < 1536) :
    X ⟨t, ht⟩ ⟨off + k, by omega⟩ = ((part X off t k : ℝ) : EReal) := by
  have h1 : (⟨t % 2048, Nat.mod_lt _ (by norm_num)⟩ : Fin 2048) = ⟨t, ht⟩ := Fin.ext (Nat.mod_eq_of_lt ht)
  have h2 : (⟨(off + k) % 3584, Nat.mod_lt _ (by norm_num)⟩ : Fin 3584) = ⟨off + k, by omega⟩ :=
    Fin.ext (Nat.mod_eq_of_lt (by omega))
  unfold part
  rw [h1, h2]
  exact (hX _ _ hk).symm

/-- The layer's output at row `t`, column `k` of a sequence. -/
def outAt (X : Fin 2048 → Fin 3584 → EReal) (gn : EReal) (t : Fin 2048) (k : Fin 512) : EReal :=
  normGate (fun e => ((oR (gam ((k : ℕ) / 128)) (head (part X 0) ((k : ℕ) / 128)) (head (part X 512) ((k : ℕ) / 128))
      (head (part X 1024) ((k : ℕ) / 128)) t e : ℝ) : EReal))
    gn (X t ⟨1536 + k, by omega⟩) ⟨(k : ℕ) % 128, Nat.mod_lt _ (by norm_num)⟩

/-- The layer's final state of a sequence. -/
def stAt (X : Fin 2048 → Fin 3584 → EReal) (h : Fin 4) (d e : Fin 128) : EReal :=
  ((stR (gam h) (head (part X 512) h) (head (part X 1024) h) 2048 d e : ℝ) : EReal)

end Cert.Ret

end
-- ==== Proof.RetTile.lean ====
/- The retention kernel's body as two repeated steps: what one chunk stores, and what it makes of the
   carried state. Every stored tile and every carried state of the unrolled body is an instance of them. -/
module

public import proofs.«01_k».proof.Proof.Gen.KernelIdeal.Frame

@[expose] public section

set_option maxRecDepth 16384

noncomputable section

namespace Cert.KernelIdeal.Ret

open Cert.KernelIdeal Cert.KernelIdeal.Gen Idealize.ShloMosaic Idealize.SL.Sem

variable {F : FTy → Type} [FloatOps F]

/-- The state a head starts from. -/
def startS (w : Vec F S1x1x128x128 .f32) : FVec F S128x128 .f32 :=
  shapeCast S128x128 w shapeCasts_S1x1x128x128_S128x128

/-- One chunk's update of the state: the old state decayed by the whole chunk, plus the chunk's keys, each
    decayed to the chunk's end, against its values. -/
def stepS (S : FVec F S128x128 .f32) (k v : Vec F S1x256x128 .bf16) (gc : Vec F S1x1x128 .f32)
    (kd : Vec F S1x256x128 .f32) : FVec F S128x128 .f32 :=
  addf (mulf (broadcastTo S128x128 (shapeCast S1x128 gc shapeCasts_S1x1x128_S1x128) broadcasts_S1x128_S128x128) S)
    (matmul dot_S256x128_S256x128_S128x128_0_0_1_1_n_n none
      (truncf .bf16 (mulf (extf .f32 (shapeCast S256x128 k shapeCasts_S1x256x128_S256x128) bitsLt_bf16_f32)
        (shapeCast S256x128 kd shapeCasts_S1x256x128_S256x128)) bitsLt_bf16_f32)
      (shapeCast S256x128 v shapeCasts_S1x256x128_S256x128) (constant S128x128 .f32 0x00000000#32))

/-- One chunk's retention output: the decayed scores inside the chunk against the values, plus the queries,
    decayed from the chunk's start, against the state. -/
def mixO (S : FVec F S128x128 .f32) (q k v : Vec F S1x256x128 .bf16) (dec : Vec F S1x256x256 .f32)
    (qd : Vec F S1x256x128 .f32) : FVec F S256x128 .f32 :=
  addf
    (matmul dot_S256x256_S256x128_S256x128_1_0_0_1_n_n none
      (truncf .bf16 (mulf (matmul dot_S256x128_S256x128_S256x256_1_1_0_0_n_n none
          (shapeCast S256x128 q shapeCasts_S1x256x128_S256x128) (shapeCast S256x128 k shapeCasts_S1x256x128_S256x128)
          (constant S256x256 .f32 0x00000000#32))
        (shapeCast S256x256 dec shapeCasts_S1x256x256_S256x256)) bitsLt_bf16_f32)
      (shapeCast S256x128 v shapeCasts_S1x256x128_S256x128) (constant S256x128 .f32 0x00000000#32))
    (matmul dot_S256x128_S128x128_S256x128_1_0_0_1_n_n none
      (truncf .bf16 (mulf (extf .f32 (shapeCast S256x128 q shapeCasts_S1x256x128_S256x128) bitsLt_bf16_f32)
        (shapeCast S256x128 qd shapeCasts_S1x256x128_S256x128)) bitsLt_bf16_f32)
      (truncf .bf16 S bitsLt_bf16_f32) (constant S256x128 .f32 0x00000000#32))

/-- A chunk's rows less their means. -/
def centred (o : FVec F S256x128 .f32) : FVec F S256x128 .f32 :=
  subf o (broadcastTo S256x128 (divf (shapeCast S256x1
    (multiReduction .add [1] S256 o 0x00000000#32 reduces_S256x128_S256 (.inl rfl) rfl) shapeCasts_S256_S256x1)
    (broadcast S256x1 (Scalar.ofBits .f32 0x43000000#32))) broadcasts_S256x1_S256x128)

/-- The chunk as stored: each row normalised, scaled, and gated by the swish of the gate rows. -/
def normO (o : FVec F S256x128 .f32) (gn : Vec F S1x128 .f32) (g : Vec F S1x256x128 .bf16) :
    Vec F S1x256x128 .bf16 :=
  shapeCast S1x256x128 (truncf .bf16
    (mulf
      (mulf
        (mulf (centred o)
          (broadcastTo S256x128 (rsqrt (addf (divf (shapeCast S256x1
            (multiReduction .add [1] S256 (mulf (centred o) (centred o)) 0x00000000#32 reduces_S256x128_S256 (.inl rfl) rfl)
            shapeCasts_S256_S256x1) (broadcast S256x1 (Scalar.ofBits .f32 0x43000000#32)))
            (broadcast S256x1 (Scalar.ofBits .f32 0x358637BD#32)))) broadcasts_S256x1_S256x128))
        (broadcastTo S256x128 (shapeCast S1x128 gn shapeCasts_S1x128_S1x128) broadcasts_S1x128_S256x128))
      (mulf (extf .f32 (shapeCast S256x128 g shapeCasts_S1x256x128_S256x128) bitsLt_bf16_f32)
        (divf (broadcast S256x128 (Scalar.ofBits .f32 0x3F800000#32))
          (addf (broadcast S256x128 (Scalar.ofBits .f32 0x3F800000#32))
            (exp (subf (broadcast S256x128 (Scalar.ofBits .f32 0x00000000#32))
              (extf .f32 (shapeCast S256x128 g shapeCasts_S1x256x128_S256x128) bitsLt_bf16_f32)))))))
    bitsLt_bf16_f32) shapeCasts_S256x128_S1x256x128

variable (x0 : Vec F S1x2048x512 .bf16) (x1 : Vec F S1x2048x512 .bf16) (x2 : Vec F S1x2048x512 .bf16) (x3 : Vec F S1x2048x512 .bf16) (x4 : Vec F S1x4x128x128 .f32) (x5 : Vec F S4x256x256 .f32) (x6 : Vec F S4x256x128 .f32) (x7 : Vec F S4x256x128 .f32) (x8 : Vec F S4x1x128 .f32) (x9 : Vec F S1x512 .f32)

/-! The states of the body, chunk by chunk and head by head. -/

theorem state_0_1 : k0_pay249 x0 x1 x2 x3 x4 x5 x6 x7 x8 x9 = startS (View.ld x4 r0_1) := rfl
theorem state_0_2 : k0_pay250 x0 x1 x2 x3 x4 x5 x6 x7 x8 x9 = startS (View.ld x4 r0_2) := rfl
theorem state_0_3 : k0_pay251 x0 x1 x2 x3 x4 x5 x6 x7 x8 x9 = startS (View.ld x4 r0_3) := rfl
theorem state_0_0 : k0_pay2 (View.ld x4 r0_0) = startS (View.ld x4 r0_0) := rfl
theorem state_1_0 : k0_pay252 x0 x1 x2 x3 x4 x5 x6 x7 x8 x9 = stepS (k0_pay2 (View.ld x4 r0_0)) (View.ld x1 r0_4) (View.ld x2 r0_4) (View.ld x8 r0_7) (View.ld x7 r0_6) := rfl
theorem state_1_1 : k0_pay253 x0 x1 x2 x3 x4 x5 x6 x7 x8 x9 = stepS (k0_pay249 x0 x1 x2 x3 x4 x5 x6 x7 x8 x9) (View.ld x1 r0_9) (View.ld x2 r0_9) (View.ld x8 r0_12) (View.ld x7 r0_11) := rfl
theorem state_1_2 : k0_pay254 x0 x1 x2 x3 x4 x5 x6 x7 x8 x9 = stepS (k0_pay250 x0 x1 x2 x3 x4 x5 x6 x7 x8 x9) (View.ld x1 r0_14) (View.ld x2 r0_14) (View.ld x8 r0_17) (View.ld x7 r0_16) := rfl
theorem state_1_3 : k0_pay256 x0 x1 x2 x3 x4 x5 x6 x7 x8 x9 = stepS (k0_pay251 x0 x1 x2 x3 x4 x5 x6 x7 x8 x9) (View.ld x1 r0_19) (View.ld x2 r0_19) (View.ld x8 r0_22) (View.ld x7 r0_21) := rfl
theorem state_2_0 : k0_pay258 x0 x1 x2 x3 x4 x5 x6 x7 x8 x9 = stepS (k0_pay252 x0 x1 x2 x3 x4 x5 x6 x7 x8 x9) (View.ld x1 r0_24) (View.ld x2 r0_24) (View.ld x8 r0_7) (View.ld x7 r0_6) := rfl
theorem state_2_1 : k0_pay259 x0 x1 x2 x3 x4 x5 x6 x7 x8 x9 = stepS (k0_pay253 x0 x1 x2 x3 x4 x5 x6 x7 x8 x9) (View.ld x1 r0_25) (View.ld x2 r0_25) (View.ld x8 r0_12) (View.ld x7 r0_11) := rfl
theorem state_2_2 : k0_pay260 x0 x1 x2 x3 x4 x5 x6 x7 x8 x9 = stepS (k0_pay254 x0 x1 x2 x3 x4 x5 x6 x7 x8 x9) (View.ld x1 r0_26) (View.ld x2 r0_26) (View.ld x8 r0_17) (View.ld x7 r0_16) := rfl
theorem state_2_3 : k0_pay261 x0 x1 x2 x3 x4 x5 x6 x7 x8 x9 = stepS (k0_pay256 x0 x1 x2 x3 x4 x5 x6 x7 x8 x9) (View.ld x1 r0_27) (View.ld x2 r0_27) (View.ld x8 r0_22) (View.ld x7 r0_21) := rfl
theorem state_3_0 : k0_pay262 x0 x1 x2 x3 x4 x5 x6 x7 x8 x9 = stepS (k0_pay258 x0 x1 x2 x3 x4 x5 x6 x7 x8 x9) (View.ld x1 r0_28) (View.ld x2 r0_28) (View.ld x8 r0_7) (View.ld x7 r0_6) := rfl
theorem state_3_1 : k0_pay265 x0 x1 x2 x3 x4 x5 x6 x7 x8 x9 = stepS (k0_pay259 x0 x1 x2 x3 x4 x5 x6 x7 x8 x9) (View.ld x1 r0_29) (View.ld x2 r0_29) (View.ld x8 r0_12) (View.ld x7 r0_11) := rfl
theorem state_3_2 : k0_pay267 x0 x1 x2 x3 x4 x5 x6 x7 x8 x9 = stepS (k0_pay260 x0 x1 x2 x3 x4 x5 x6 x7 x8 x9) (View.ld x1 r0_30) (View.ld x2 r0_30) (View.ld x8 r0_17) (View.ld x7 r0_16) := rfl
theorem state_3_3 : k0_pay268 x0 x1 x2 x3 x4 x5 x6 x7 x8 x9 = stepS (k0_pay261 x0 x1 x2 x3 x4 x5 x6 x7 x8 x9) (View.ld x1 r0_31) (View.ld x2 r0_31) (View.ld x8 r0_22) (View.ld x7 r0_21) := rfl
theorem state_4_0 : k0_pay269 x0 x1 x2 x3 x4 x5 x6 x7 x8 x9 = stepS (k0_pay262 x0 x1 x2 x3 x4 x5 x6 x7 x8 x9) (View.ld x1 r0_32) (View.ld x2 r0_32) (View.ld x8 r0_7) (View.ld x7 r0_6) := rfl
theorem state_4_1 : k0_pay270 x0 x1 x2 x3 x4 x5 x6 x7 x8 x9 = stepS (k0_pay265 x0 x1 x2 x3 x4 x5 x6 x7 x8 x9) (View.ld x1 r0_33) (View.ld x2 r0_33) (View.ld x8 r0_12) (View.ld x7 r0_11) := rfl
theorem state_4_2 : k0_pay272 x0 x1 x2 x3 x4 x5 x6 x7 x8 x9 = stepS (k0_pay267 x0 x1 x2 x3 x4 x5 x6 x7 x8 x9) (View.ld x1 r0_34) (View.ld x2 r0_34) (View.ld x8 r0_17) (View.ld x7 r0_16) := rfl
theorem state_4_3 : k0_pay274 x0 x1 x2 x3 x4 x5 x6 x7 x8 x9 = stepS (k0_pay268 x0 x1 x2 x3 x4 x5 x6 x7 x8 x9) (View.ld x1 r0_35) (View.ld x2 r0_35) (View.ld x8 r0_22) (View.ld x7 r0_21) := rfl
theorem state_5_0 : k0_pay275 x0 x1 x2 x3 x4 x5 x6 x7 x8 x9 = stepS (k0_pay269 x0 x1 x2 x3 x4 x5 x6 x7 x8 x9) (View.ld x1 r0_36) (View.ld x2 r0_36) (View.ld x8 r0_7) (View.ld x7 r0_6) := rfl
theorem state_5_1 : k0_pay276 x0 x1 x2 x3 x4 x5 x6 x7 x8 x9 = stepS (k0_pay270 x0 x1 x2 x3 x4 x5 x6 x7 x8 x9) (View.ld x1 r0_37) (View.ld x2 r0_37) (View.ld x8 r0_12) (View.ld x7 r0_11) := rfl
theorem state_5_2 : k0_pay277 x0 x1 x2 x3 x4 x5 x6 x7 x8 x9 = stepS (k0_pay272 x0 x1 x2 x3 x4 x5 x6 x7 x8 x9) (View.ld x1 r0_38) (View.ld x2 r0_38) (View.ld x8 r0_17) (View.ld x7 r0_16) := rfl
theorem state_5_3 : k0_pay278 x0 x1 x2 x3 x4 x5 x6 x7 x8 x9 = stepS (k0_pay274 x0 x1 x2 x3 x4 x5 x6 x7 x8 x9) (View.ld x1 r0_39) (View.ld x2 r0_39) (View.ld x8 r0_22) (View.ld x7 r0_21) := rfl
theorem state_6_0 : k0_pay282 x0 x1 x2 x3 x4 x5 x6 x7 x8 x9 = stepS (k0_pay275 x0 x1 x2 x3 x4 x5 x6 x7 x8 x9) (View.ld x1 r0_40) (View.ld x2 r0_40) (View.ld x8 r0_7) (View.ld x7 r0_6) := rfl
theorem state_6_1 : k0_pay283 x0 x1 x2 x3 x4 x5 x6 x7 x8 x9 = stepS (k0_pay276 x0 x1 x2 x3 x4 x5 x6 x7 x8 x9) (View.ld x1 r0_41) (View.ld x2 r0_41) (View.ld x8 r0_12) (View.ld x7 r0_11) := rfl
theorem state_6_2 : k0_pay284 x0 x1 x2 x3 x4 x5 x6 x7 x8 x9 = stepS (k0_pay277 x0 x1 x2 x3 x4 x5 x6 x7 x8 x9) (View.ld x1 r0_42) (View.ld x2 r0_42) (View.ld x8 r0_17) (View.ld x7 r0_16) := rfl
theorem state_6_3 : k0_pay285 x0 x1 x2 x3 x4 x5 x6 x7 x8 x9 = stepS (k0_pay278 x0 x1 x2 x3 x4 x5 x6 x7 x8 x9) (View.ld x1 r0_43) (View.ld x2 r0_43) (View.ld x8 r0_22) (View.ld x7 r0_21) := rfl
theorem state_7_0 : k0_pay286 x0 x1 x2 x3 x4 x5 x6 x7 x8 x9 = stepS (k0_pay282 x0 x1 x2 x3 x4 x5 x6 x7 x8 x9) (View.ld x1 r0_44) (View.ld x2 r0_44) (View.ld x8 r0_7) (View.ld x7 r0_6) := rfl
theorem state_7_1 : k0_pay289 x0 x1 x2 x3 x4 x5 x6 x7 x8 x9 = stepS (k0_pay283 x0 x1 x2 x3 x4 x5 x6 x7 x8 x9) (View.ld x1 r0_45) (View.ld x2 r0_45) (View.ld x8 r0_12) (View.ld x7 r0_11) := rfl
theorem state_7_2 : k0_pay291 x0 x1 x2 x3 x4 x5 x6 x7 x8 x9 = stepS (k0_pay284 x0 x1 x2 x3 x4 x5 x6 x7 x8 x9) (View.ld x1 r0_46) (View.ld x2 r0_46) (View.ld x8 r0_17) (View.ld x7 r0_16) := rfl
theorem state_7_3 : k0_pay292 x0 x1 x2 x3 x4 x5 x6 x7 x8 x9 = stepS (k0_pay285 x0 x1 x2 x3 x4 x5 x6 x7 x8 x9) (View.ld x1 r0_47) (View.ld x2 r0_47) (View.ld x8 r0_22) (View.ld x7 r0_21) := rfl

/-! The last states, as stored. -/

theorem last_0 : k0_pay246 (k0_pay222 (k0_pay286 x0 x1 x2 x3 x4 x5 x6 x7 x8 x9) (k0_pay218 (View.ld x1 r0_48)) (k0_pay219 (View.ld x2 r0_48)) (k0_pay221 (View.ld x8 r0_7)) (View.ld x7 r0_6)) = shapeCast S1x1x128x128 (stepS (k0_pay286 x0 x1 x2 x3 x4 x5 x6 x7 x8 x9) (View.ld x1 r0_48) (View.ld x2 r0_48) (View.ld x8 r0_7) (View.ld x7 r0_6)) shapeCasts_S128x128_S1x1x128x128 := rfl
theorem last_1 : k0_pay247 (k0_pay230 (k0_pay226 (View.ld x2 r0_49)) (k0_pay228 (k0_pay289 x0 x1 x2 x3 x4 x5 x6 x7 x8 x9) (View.ld x8 r0_12)) (k0_pay229 (View.ld x1 r0_49) (View.ld x7 r0_11)) (constant S128x128 .f32 0x00000000#32)) = shapeCast S1x1x128x128 (stepS (k0_pay289 x0 x1 x2 x3 x4 x5 x6 x7 x8 x9) (View.ld x1 r0_49) (View.ld x2 r0_49) (View.ld x8 r0_12) (View.ld x7 r0_11)) shapeCasts_S128x128_S1x1x128x128 := rfl
theorem last_2 : k0_pay248 (k0_pay235 (k0_pay291 x0 x1 x2 x3 x4 x5 x6 x7 x8 x9) (View.ld x1 r0_50) (View.ld x2 r0_50) (View.ld x8 r0_17) (View.ld x7 r0_16)) = shapeCast S1x1x128x128 (stepS (k0_pay291 x0 x1 x2 x3 x4 x5 x6 x7 x8 x9) (View.ld x1 r0_50) (View.ld x2 r0_50) (View.ld x8 r0_17) (View.ld x7 r0_16)) shapeCasts_S128x128_S1x1x128x128 := rfl
theorem last_3 : k0_pay1 (k0_pay242 (k0_pay292 x0 x1 x2 x3 x4 x5 x6 x7 x8 x9) (k0_pay296 x0 x1 x2 x3 x4 x5 x6 x7 x8 x9) (k0_pay297 x0 x1 x2 x3 x4 x5 x6 x7 x8 x9) (View.ld x8 r0_22) (View.ld x7 r0_21)) = shapeCast S1x1x128x128 (stepS (k0_pay292 x0 x1 x2 x3 x4 x5 x6 x7 x8 x9) (View.ld x1 r0_51) (View.ld x2 r0_51) (View.ld x8 r0_22) (View.ld x7 r0_21)) shapeCasts_S128x128_S1x1x128x128 := rfl

/-! The stored tiles. -/

theorem tile_0_0 : k0_pay17 (k0_pay13 (k0_pay9 (View.ld x0 r0_4) (View.ld x1 r0_4) (View.ld x2 r0_4) (View.ld x5 r0_5)) (k0_pay10 (View.ld x0 r0_4) (View.ld x6 r0_6)) (k0_pay11 (View.ld x4 r0_0)) (View.ld x9 r0_8)) (k0_pay14 (View.ld x3 r0_4)) (k0_pay15 (View.ld x3 r0_4)) (k0_pay16 (F := F)) = normO (mixO (k0_pay2 (View.ld x4 r0_0)) (View.ld x0 r0_4) (View.ld x1 r0_4) (View.ld x2 r0_4) (View.ld x5 r0_5) (View.ld x6 r0_6)) (View.ld x9 r0_8) (View.ld x3 r0_4) := rfl
theorem tile_0_1 : k0_pay25 (k0_pay24 (k0_pay20 (k0_pay249 x0 x1 x2 x3 x4 x5 x6 x7 x8 x9) (View.ld x0 r0_9) (View.ld x1 r0_9) (View.ld x2 r0_9) (View.ld x5 r0_10) (View.ld x6 r0_11)) (View.ld x9 r0_13) (View.ld x3 r0_9)) = normO (mixO (k0_pay249 x0 x1 x2 x3 x4 x5 x6 x7 x8 x9) (View.ld x0 r0_9) (View.ld x1 r0_9) (View.ld x2 r0_9) (View.ld x5 r0_10) (View.ld x6 r0_11)) (View.ld x9 r0_13) (View.ld x3 r0_9) := rfl
theorem tile_0_2 : k0_pay30 (k0_pay28 (k0_pay250 x0 x1 x2 x3 x4 x5 x6 x7 x8 x9) (View.ld x0 r0_14) (View.ld x1 r0_14) (View.ld x2 r0_14) (View.ld x5 r0_15) (View.ld x6 r0_16)) (View.ld x9 r0_18) (View.ld x3 r0_14) = normO (mixO (k0_pay250 x0 x1 x2 x3 x4 x5 x6 x7 x8 x9) (View.ld x0 r0_14) (View.ld x1 r0_14) (View.ld x2 r0_14) (View.ld x5 r0_15) (View.ld x6 r0_16)) (View.ld x9 r0_18) (View.ld x3 r0_14) := rfl
theorem tile_0_3 : k0_pay37 (k0_pay35 (k0_pay251 x0 x1 x2 x3 x4 x5 x6 x7 x8 x9) (k0_pay255 x0 x1 x2 x3 x4 x5 x6 x7 x8 x9) (View.ld x1 r0_19) (View.ld x2 r0_19) (View.ld x5 r0_20) (View.ld x6 r0_21)) (k0_pay36 (k0_pay251 x0 x1 x2 x3 x4 x5 x6 x7 x8 x9) (k0_pay255 x0 x1 x2 x3 x4 x5 x6 x7 x8 x9) (View.ld x1 r0_19) (View.ld x2 r0_19) (View.ld x5 r0_20) (View.ld x6 r0_21)) (View.ld x9 r0_23) (View.ld x3 r0_19) = normO (mixO (k0_pay251 x0 x1 x2 x3 x4 x5 x6 x7 x8 x9) (View.ld x0 r0_19) (View.ld x1 r0_19) (View.ld x2 r0_19) (View.ld x5 r0_20) (View.ld x6 r0_21)) (View.ld x9 r0_23) (View.ld x3 r0_19) := rfl
theorem tile_1_0 : k0_pay44 (k0_pay43 (k0_pay252 x0 x1 x2 x3 x4 x5 x6 x7 x8 x9) (k0_pay38 (View.ld x0 r0_24)) (k0_pay257 x0 x1 x2 x3 x4 x5 x6 x7 x8 x9) (k0_pay41 (View.ld x0 r0_24) (View.ld x1 r0_24)) (View.ld x5 r0_5) (View.ld x6 r0_6)) (View.ld x9 r0_8) (View.ld x3 r0_24) = normO (mixO (k0_pay252 x0 x1 x2 x3 x4 x5 x6 x7 x8 x9) (View.ld x0 r0_24) (View.ld x1 r0_24) (View.ld x2 r0_24) (View.ld x5 r0_5) (View.ld x6 r0_6)) (View.ld x9 r0_8) (View.ld x3 r0_24) := rfl
theorem tile_1_1 : k0_pay53 (k0_pay51 (k0_pay253 x0 x1 x2 x3 x4 x5 x6 x7 x8 x9) (k0_pay48 (View.ld x0 r0_25) (View.ld x1 r0_25) (View.ld x2 r0_25) (View.ld x5 r0_10)) (k0_pay49 (View.ld x0 r0_25)) (View.ld x6 r0_11) (View.ld x9 r0_13)) (k0_pay52 (View.ld x3 r0_25)) (Scalar.ofBits .f32 0x00000000#32) = normO (mixO (k0_pay253 x0 x1 x2 x3 x4 x5 x6 x7 x8 x9) (View.ld x0 r0_25) (View.ld x1 r0_25) (View.ld x2 r0_25) (View.ld x5 r0_10) (View.ld x6 r0_11)) (View.ld x9 r0_13) (View.ld x3 r0_25) := rfl
theorem tile_1_2 : k0_pay59 (k0_pay58 (k0_pay56 (k0_pay254 x0 x1 x2 x3 x4 x5 x6 x7 x8 x9) (View.ld x0 r0_26) (View.ld x1 r0_26) (View.ld x2 r0_26) (View.ld x5 r0_15) (View.ld x6 r0_16)) (View.ld x9 r0_18) (View.ld x3 r0_26)) = normO (mixO (k0_pay254 x0 x1 x2 x3 x4 x5 x6 x7 x8 x9) (View.ld x0 r0_26) (View.ld x1 r0_26) (View.ld x2 r0_26) (View.ld x5 r0_15) (View.ld x6 r0_16)) (View.ld x9 r0_18) (View.ld x3 r0_26) := rfl
theorem tile_1_3 : k0_pay66 (k0_pay62 (k0_pay256 x0 x1 x2 x3 x4 x5 x6 x7 x8 x9) (View.ld x0 r0_27) (View.ld x1 r0_27) (View.ld x2 r0_27) (View.ld x5 r0_20) (View.ld x6 r0_21)) (View.ld x9 r0_23) (View.ld x3 r0_27) = normO (mixO (k0_pay256 x0 x1 x2 x3 x4 x5 x6 x7 x8 x9) (View.ld x0 r0_27) (View.ld x1 r0_27) (View.ld x2 r0_27) (View.ld x5 r0_20) (View.ld x6 r0_21)) (View.ld x9 r0_23) (View.ld x3 r0_27) := rfl
theorem tile_2_0 : k0_pay72 (k0_pay69 (k0_pay258 x0 x1 x2 x3 x4 x5 x6 x7 x8 x9) (View.ld x0 r0_28) (View.ld x1 r0_28) (View.ld x2 r0_28) (View.ld x5 r0_5) (View.ld x6 r0_6)) (k0_pay71 (k0_pay258 x0 x1 x2 x3 x4 x5 x6 x7 x8 x9) (View.ld x0 r0_28) (View.ld x1 r0_28) (View.ld x2 r0_28) (View.ld x5 r0_5) (View.ld x6 r0_6)) (View.ld x9 r0_8) (View.ld x3 r0_28) = normO (mixO (k0_pay258 x0 x1 x2 x3 x4 x5 x6 x7 x8 x9) (View.ld x0 r0_28) (View.ld x1 r0_28) (View.ld x2 r0_28) (View.ld x5 r0_5) (View.ld x6 r0_6)) (View.ld x9 r0_8) (View.ld x3 r0_28) := rfl
theorem tile_2_1 : k0_pay79 (k0_pay77 (k0_pay259 x0 x1 x2 x3 x4 x5 x6 x7 x8 x9) (k0_pay263 x0 x1 x2 x3 x4 x5 x6 x7 x8 x9) (k0_pay264 x0 x1 x2 x3 x4 x5 x6 x7 x8 x9) (View.ld x2 r0_29) (View.ld x5 r0_10) (View.ld x6 r0_11)) (k0_pay78 (k0_pay259 x0 x1 x2 x3 x4 x5 x6 x7 x8 x9) (k0_pay263 x0 x1 x2 x3 x4 x5 x6 x7 x8 x9) (k0_pay264 x0 x1 x2 x3 x4 x5 x6 x7 x8 x9) (View.ld x2 r0_29) (View.ld x5 r0_10) (View.ld x6 r0_11)) (View.ld x9 r0_13) (View.ld x3 r0_29) = normO (mixO (k0_pay259 x0 x1 x2 x3 x4 x5 x6 x7 x8 x9) (View.ld x0 r0_29) (View.ld x1 r0_29) (View.ld x2 r0_29) (View.ld x5 r0_10) (View.ld x6 r0_11)) (View.ld x9 r0_13) (View.ld x3 r0_29) := rfl
theorem tile_2_2 : k0_pay86 (k0_pay85 (k0_pay260 x0 x1 x2 x3 x4 x5 x6 x7 x8 x9) (k0_pay80 (View.ld x0 r0_30)) (k0_pay266 x0 x1 x2 x3 x4 x5 x6 x7 x8 x9) (k0_pay83 (View.ld x0 r0_30) (View.ld x1 r0_30) (View.ld x5 r0_15)) (constant S256x128 .f32 0x00000000#32) (View.ld x6 r0_16) (View.ld x9 r0_18)) (View.ld x3 r0_30) = normO (mixO (k0_pay260 x0 x1 x2 x3 x4 x5 x6 x7 x8 x9) (View.ld x0 r0_30) (View.ld x1 r0_30) (View.ld x2 r0_30) (View.ld x5 r0_15) (View.ld x6 r0_16)) (View.ld x9 r0_18) (View.ld x3 r0_30) := rfl
theorem tile_2_3 : k0_pay97 (k0_pay94 (k0_pay90 (View.ld x0 r0_31) (View.ld x1 r0_31) (View.ld x2 r0_31) (View.ld x5 r0_20)) (k0_pay91 (View.ld x0 r0_31) (View.ld x6 r0_21)) (k0_pay92 (k0_pay261 x0 x1 x2 x3 x4 x5 x6 x7 x8 x9)) (constant S256x128 .f32 0x00000000#32) (View.ld x9 r0_23)) (k0_pay95 (View.ld x3 r0_31)) (k0_pay96 (View.ld x3 r0_31)) = normO (mixO (k0_pay261 x0 x1 x2 x3 x4 x5 x6 x7 x8 x9) (View.ld x0 r0_31) (View.ld x1 r0_31) (View.ld x2 r0_31) (View.ld x5 r0_20) (View.ld x6 r0_21)) (View.ld x9 r0_23) (View.ld x3 r0_31) := rfl
theorem tile_3_0 : k0_pay105 (k0_pay104 (k0_pay100 (k0_pay262 x0 x1 x2 x3 x4 x5 x6 x7 x8 x9) (View.ld x0 r0_32) (View.ld x1 r0_32) (View.ld x2 r0_32) (View.ld x5 r0_5) (View.ld x6 r0_6)) (View.ld x9 r0_8) (View.ld x3 r0_32)) = normO (mixO (k0_pay262 x0 x1 x2 x3 x4 x5 x6 x7 x8 x9) (View.ld x0 r0_32) (View.ld x1 r0_32) (View.ld x2 r0_32) (View.ld x5 r0_5) (View.ld x6 r0_6)) (View.ld x9 r0_8) (View.ld x3 r0_32) := rfl
theorem tile_3_1 : k0_pay111 (k0_pay108 (k0_pay265 x0 x1 x2 x3 x4 x5 x6 x7 x8 x9) (View.ld x0 r0_33) (View.ld x1 r0_33) (View.ld x2 r0_33) (View.ld x5 r0_10) (View.ld x6 r0_11)) (k0_pay110 (k0_pay265 x0 x1 x2 x3 x4 x5 x6 x7 x8 x9) (View.ld x0 r0_33) (View.ld x1 r0_33) (View.ld x2 r0_33) (View.ld x5 r0_10) (View.ld x6 r0_11)) (View.ld x9 r0_13) (View.ld x3 r0_33) = normO (mixO (k0_pay265 x0 x1 x2 x3 x4 x5 x6 x7 x8 x9) (View.ld x0 r0_33) (View.ld x1 r0_33) (View.ld x2 r0_33) (View.ld x5 r0_10) (View.ld x6 r0_11)) (View.ld x9 r0_13) (View.ld x3 r0_33) := rfl
theorem tile_3_2 : k0_pay118 (k0_pay116 (k0_pay267 x0 x1 x2 x3 x4 x5 x6 x7 x8 x9) (k0_pay271 x0 x1 x2 x3 x4 x5 x6 x7 x8 x9) (View.ld x1 r0_34) (View.ld x2 r0_34) (View.ld x5 r0_15) (View.ld x6 r0_16)) (k0_pay117 (k0_pay267 x0 x1 x2 x3 x4 x5 x6 x7 x8 x9) (k0_pay271 x0 x1 x2 x3 x4 x5 x6 x7 x8 x9) (View.ld x1 r0_34) (View.ld x2 r0_34) (View.ld x5 r0_15) (View.ld x6 r0_16)) (Scalar.ofBits .f32 0x43000000#32) (View.ld x9 r0_18) (View.ld x3 r0_34) = normO (mixO (k0_pay267 x0 x1 x2 x3 x4 x5 x6 x7 x8 x9) (View.ld x0 r0_34) (View.ld x1 r0_34) (View.ld x2 r0_34) (View.ld x5 r0_15) (View.ld x6 r0_16)) (View.ld x9 r0_18) (View.ld x3 r0_34) := rfl
theorem tile_3_3 : k0_pay125 (k0_pay124 (k0_pay268 x0 x1 x2 x3 x4 x5 x6 x7 x8 x9) (k0_pay119 (View.ld x0 r0_35)) (k0_pay273 x0 x1 x2 x3 x4 x5 x6 x7 x8 x9) (k0_pay122 (View.ld x0 r0_35) (View.ld x1 r0_35)) (View.ld x5 r0_20) (View.ld x6 r0_21)) (View.ld x9 r0_23) (View.ld x3 r0_35) = normO (mixO (k0_pay268 x0 x1 x2 x3 x4 x5 x6 x7 x8 x9) (View.ld x0 r0_35) (View.ld x1 r0_35) (View.ld x2 r0_35) (View.ld x5 r0_20) (View.ld x6 r0_21)) (View.ld x9 r0_23) (View.ld x3 r0_35) := rfl
theorem tile_4_0 : k0_pay135 (k0_pay132 (k0_pay269 x0 x1 x2 x3 x4 x5 x6 x7 x8 x9) (k0_pay129 (View.ld x0 r0_36) (View.ld x1 r0_36) (View.ld x2 r0_36) (View.ld x5 r0_5)) (k0_pay130 (View.ld x0 r0_36)) (View.ld x6 r0_6) (View.ld x9 r0_8)) (k0_pay133 (View.ld x3 r0_36)) (k0_pay134 (F := F)) = normO (mixO (k0_pay269 x0 x1 x2 x3 x4 x5 x6 x7 x8 x9) (View.ld x0 r0_36) (View.ld x1 r0_36) (View.ld x2 r0_36) (View.ld x5 r0_5) (View.ld x6 r0_6)) (View.ld x9 r0_8) (View.ld x3 r0_36) := rfl
theorem tile_4_1 : k0_pay141 (k0_pay140 (k0_pay138 (k0_pay270 x0 x1 x2 x3 x4 x5 x6 x7 x8 x9) (View.ld x0 r0_37) (View.ld x1 r0_37) (View.ld x2 r0_37) (View.ld x5 r0_10) (View.ld x6 r0_11)) (View.ld x9 r0_13) (View.ld x3 r0_37)) = normO (mixO (k0_pay270 x0 x1 x2 x3 x4 x5 x6 x7 x8 x9) (View.ld x0 r0_37) (View.ld x1 r0_37) (View.ld x2 r0_37) (View.ld x5 r0_10) (View.ld x6 r0_11)) (View.ld x9 r0_13) (View.ld x3 r0_37) := rfl
theorem tile_4_2 : k0_pay148 (k0_pay144 (k0_pay272 x0 x1 x2 x3 x4 x5 x6 x7 x8 x9) (View.ld x0 r0_38) (View.ld x1 r0_38) (View.ld x2 r0_38) (View.ld x5 r0_15) (View.ld x6 r0_16)) (View.ld x9 r0_18) (View.ld x3 r0_38) = normO (mixO (k0_pay272 x0 x1 x2 x3 x4 x5 x6 x7 x8 x9) (View.ld x0 r0_38) (View.ld x1 r0_38) (View.ld x2 r0_38) (View.ld x5 r0_15) (View.ld x6 r0_16)) (View.ld x9 r0_18) (View.ld x3 r0_38) := rfl
theorem tile_4_3 : k0_pay153 (k0_pay152 (k0_pay274 x0 x1 x2 x3 x4 x5 x6 x7 x8 x9) (View.ld x0 r0_39) (View.ld x1 r0_39) (View.ld x2 r0_39) (View.ld x5 r0_20) (View.ld x6 r0_21)) (View.ld x9 r0_23) (View.ld x3 r0_39) = normO (mixO (k0_pay274 x0 x1 x2 x3 x4 x5 x6 x7 x8 x9) (View.ld x0 r0_39) (View.ld x1 r0_39) (View.ld x2 r0_39) (View.ld x5 r0_20) (View.ld x6 r0_21)) (View.ld x9 r0_23) (View.ld x3 r0_39) := rfl
theorem tile_5_0 : k0_pay160 (k0_pay158 (k0_pay275 x0 x1 x2 x3 x4 x5 x6 x7 x8 x9) (k0_pay279 x0 x1 x2 x3 x4 x5 x6 x7 x8 x9) (k0_pay280 x0 x1 x2 x3 x4 x5 x6 x7 x8 x9) (k0_pay281 x0 x1 x2 x3 x4 x5 x6 x7 x8 x9) (View.ld x5 r0_5) (View.ld x6 r0_6)) (k0_pay159 (k0_pay275 x0 x1 x2 x3 x4 x5 x6 x7 x8 x9) (k0_pay279 x0 x1 x2 x3 x4 x5 x6 x7 x8 x9) (k0_pay280 x0 x1 x2 x3 x4 x5 x6 x7 x8 x9) (k0_pay281 x0 x1 x2 x3 x4 x5 x6 x7 x8 x9) (View.ld x5 r0_5) (View.ld x6 r0_6)) (View.ld x9 r0_8) (View.ld x3 r0_40) = normO (mixO (k0_pay275 x0 x1 x2 x3 x4 x5 x6 x7 x8 x9) (View.ld x0 r0_40) (View.ld x1 r0_40) (View.ld x2 r0_40) (View.ld x5 r0_5) (View.ld x6 r0_6)) (View.ld x9 r0_8) (View.ld x3 r0_40) := rfl
theorem tile_5_1 : k0_pay167 (k0_pay166 (k0_pay276 x0 x1 x2 x3 x4 x5 x6 x7 x8 x9) (k0_pay161 (View.ld x0 r0_41)) (k0_pay164 (View.ld x0 r0_41) (View.ld x1 r0_41) (View.ld x2 r0_41) (View.ld x5 r0_10)) (View.ld x6 r0_11) (View.ld x9 r0_13)) (View.ld x3 r0_41) = normO (mixO (k0_pay276 x0 x1 x2 x3 x4 x5 x6 x7 x8 x9) (View.ld x0 r0_41) (View.ld x1 r0_41) (View.ld x2 r0_41) (View.ld x5 r0_10) (View.ld x6 r0_11)) (View.ld x9 r0_13) (View.ld x3 r0_41) := rfl
theorem tile_5_2 : k0_pay177 (k0_pay174 (k0_pay171 (View.ld x0 r0_42) (View.ld x1 r0_42) (View.ld x2 r0_42) (View.ld x5 r0_15)) (k0_pay172 (k0_pay277 x0 x1 x2 x3 x4 x5 x6 x7 x8 x9) (View.ld x0 r0_42) (View.ld x6 r0_16)) (View.ld x9 r0_18)) (k0_pay175 (View.ld x3 r0_42)) (k0_pay176 (View.ld x3 r0_42)) (Scalar.ofBits .f32 0x3F800000#32) = normO (mixO (k0_pay277 x0 x1 x2 x3 x4 x5 x6 x7 x8 x9) (View.ld x0 r0_42) (View.ld x1 r0_42) (View.ld x2 r0_42) (View.ld x5 r0_15) (View.ld x6 r0_16)) (View.ld x9 r0_18) (View.ld x3 r0_42) := rfl
theorem tile_5_3 : k0_pay184 (k0_pay180 (k0_pay278 x0 x1 x2 x3 x4 x5 x6 x7 x8 x9) (View.ld x0 r0_43) (View.ld x1 r0_43) (View.ld x2 r0_43) (View.ld x5 r0_20) (View.ld x6 r0_21)) (View.ld x9 r0_23) (View.ld x3 r0_43) = normO (mixO (k0_pay278 x0 x1 x2 x3 x4 x5 x6 x7 x8 x9) (View.ld x0 r0_43) (View.ld x1 r0_43) (View.ld x2 r0_43) (View.ld x5 r0_20) (View.ld x6 r0_21)) (View.ld x9 r0_23) (View.ld x3 r0_43) := rfl
theorem tile_6_0 : k0_pay190 (k0_pay187 (k0_pay282 x0 x1 x2 x3 x4 x5 x6 x7 x8 x9) (View.ld x0 r0_44) (View.ld x1 r0_44) (View.ld x2 r0_44) (View.ld x5 r0_5) (View.ld x6 r0_6)) (k0_pay189 (k0_pay282 x0 x1 x2 x3 x4 x5 x6 x7 x8 x9) (View.ld x0 r0_44) (View.ld x1 r0_44) (View.ld x2 r0_44) (View.ld x5 r0_5) (View.ld x6 r0_6)) (View.ld x9 r0_8) (View.ld x3 r0_44) = normO (mixO (k0_pay282 x0 x1 x2 x3 x4 x5 x6 x7 x8 x9) (View.ld x0 r0_44) (View.ld x1 r0_44) (View.ld x2 r0_44) (View.ld x5 r0_5) (View.ld x6 r0_6)) (View.ld x9 r0_8) (View.ld x3 r0_44) := rfl
theorem tile_6_1 : k0_pay198 (k0_pay195 (k0_pay283 x0 x1 x2 x3 x4 x5 x6 x7 x8 x9) (k0_pay287 x0 x1 x2 x3 x4 x5 x6 x7 x8 x9) (k0_pay288 x0 x1 x2 x3 x4 x5 x6 x7 x8 x9) (View.ld x2 r0_45) (View.ld x5 r0_10) (View.ld x6 r0_11)) (k0_pay196 (k0_pay283 x0 x1 x2 x3 x4 x5 x6 x7 x8 x9) (k0_pay287 x0 x1 x2 x3 x4 x5 x6 x7 x8 x9) (k0_pay288 x0 x1 x2 x3 x4 x5 x6 x7 x8 x9) (View.ld x2 r0_45) (View.ld x5 r0_10) (View.ld x6 r0_11)) (k0_pay197 (F := F)) (View.ld x9 r0_13) (View.ld x3 r0_45) = normO (mixO (k0_pay283 x0 x1 x2 x3 x4 x5 x6 x7 x8 x9) (View.ld x0 r0_45) (View.ld x1 r0_45) (View.ld x2 r0_45) (View.ld x5 r0_10) (View.ld x6 r0_11)) (View.ld x9 r0_13) (View.ld x3 r0_45) := rfl
theorem tile_6_2 : k0_pay206 (k0_pay204 (k0_pay284 x0 x1 x2 x3 x4 x5 x6 x7 x8 x9) (k0_pay199 (View.ld x0 r0_46)) (k0_pay290 x0 x1 x2 x3 x4 x5 x6 x7 x8 x9) (k0_pay202 (View.ld x0 r0_46) (View.ld x1 r0_46)) (View.ld x5 r0_15) (View.ld x6 r0_16)) (k0_pay205 (View.ld x9 r0_18)) (View.ld x3 r0_46) = normO (mixO (k0_pay284 x0 x1 x2 x3 x4 x5 x6 x7 x8 x9) (View.ld x0 r0_46) (View.ld x1 r0_46) (View.ld x2 r0_46) (View.ld x5 r0_15) (View.ld x6 r0_16)) (View.ld x9 r0_18) (View.ld x3 r0_46) := rfl
theorem tile_6_3 : k0_pay217 (k0_pay214 (k0_pay285 x0 x1 x2 x3 x4 x5 x6 x7 x8 x9) (k0_pay210 (View.ld x0 r0_47) (View.ld x1 r0_47) (View.ld x2 r0_47) (View.ld x5 r0_20)) (k0_pay211 (View.ld x0 r0_47)) (k0_pay212 (View.ld x6 r0_21)) (View.ld x9 r0_23)) (k0_pay215 (View.ld x3 r0_47)) (k0_pay216 (View.ld x3 r0_47)) = normO (mixO (k0_pay285 x0 x1 x2 x3 x4 x5 x6 x7 x8 x9) (View.ld x0 r0_47) (View.ld x1 r0_47) (View.ld x2 r0_47) (View.ld x5 r0_20) (View.ld x6 r0_21)) (View.ld x9 r0_23) (View.ld x3 r0_47) := rfl
theorem tile_7_0 : k0_pay224 (k0_pay223 (k0_pay220 (k0_pay286 x0 x1 x2 x3 x4 x5 x6 x7 x8 x9) (View.ld x0 r0_48) (View.ld x1 r0_48) (View.ld x2 r0_48) (View.ld x5 r0_5) (View.ld x6 r0_6)) (View.ld x9 r0_8) (View.ld x3 r0_48)) = normO (mixO (k0_pay286 x0 x1 x2 x3 x4 x5 x6 x7 x8 x9) (View.ld x0 r0_48) (View.ld x1 r0_48) (View.ld x2 r0_48) (View.ld x5 r0_5) (View.ld x6 r0_6)) (View.ld x9 r0_8) (View.ld x3 r0_48) := rfl
theorem tile_7_1 : k0_pay231 (k0_pay227 (k0_pay289 x0 x1 x2 x3 x4 x5 x6 x7 x8 x9) (View.ld x0 r0_49) (View.ld x1 r0_49) (View.ld x2 r0_49) (View.ld x5 r0_10) (View.ld x6 r0_11)) (View.ld x9 r0_13) (View.ld x3 r0_49) = normO (mixO (k0_pay289 x0 x1 x2 x3 x4 x5 x6 x7 x8 x9) (View.ld x0 r0_49) (View.ld x1 r0_49) (View.ld x2 r0_49) (View.ld x5 r0_10) (View.ld x6 r0_11)) (View.ld x9 r0_13) (View.ld x3 r0_49) := rfl
theorem tile_7_2 : k0_pay238 (k0_pay236 (k0_pay291 x0 x1 x2 x3 x4 x5 x6 x7 x8 x9) (k0_pay293 x0 x1 x2 x3 x4 x5 x6 x7 x8 x9) (View.ld x1 r0_50) (View.ld x2 r0_50) (View.ld x5 r0_15) (View.ld x6 r0_16)) (k0_pay237 (k0_pay291 x0 x1 x2 x3 x4 x5 x6 x7 x8 x9) (k0_pay293 x0 x1 x2 x3 x4 x5 x6 x7 x8 x9) (View.ld x1 r0_50) (View.ld x2 r0_50) (View.ld x5 r0_15) (View.ld x6 r0_16)) (View.ld x9 r0_18) (View.ld x3 r0_50) = normO (mixO (k0_pay291 x0 x1 x2 x3 x4 x5 x6 x7 x8 x9) (View.ld x0 r0_50) (View.ld x1 r0_50) (View.ld x2 r0_50) (View.ld x5 r0_15) (View.ld x6 r0_16)) (View.ld x9 r0_18) (View.ld x3 r0_50) := rfl
theorem tile_7_3 : k0_pay245 (k0_pay243 (k0_pay292 x0 x1 x2 x3 x4 x5 x6 x7 x8 x9) (k0_pay295 x0 x1 x2 x3 x4 x5 x6 x7 x8 x9) (k0_pay296 x0 x1 x2 x3 x4 x5 x6 x7 x8 x9) (k0_pay297 x0 x1 x2 x3 x4 x5 x6 x7 x8 x9) (k0_pay294 x0 x1 x2 x3 x4 x5 x6 x7 x8 x9) (View.ld x5 r0_20) (View.ld x6 r0_21)) (k0_pay244 (k0_pay292 x0 x1 x2 x3 x4 x5 x6 x7 x8 x9) (k0_pay295 x0 x1 x2 x3 x4 x5 x6 x7 x8 x9) (k0_pay296 x0 x1 x2 x3 x4 x5 x6 x7 x8 x9) (k0_pay297 x0 x1 x2 x3 x4 x5 x6 x7 x8 x9) (k0_pay294 x0 x1 x2 x3 x4 x5 x6 x7 x8 x9) (View.ld x5 r0_20) (View.ld x6 r0_21)) (View.ld x9 r0_23) (View.ld x3 r0_51) = normO (mixO (k0_pay292 x0 x1 x2 x3 x4 x5 x6 x7 x8 x9) (View.ld x0 r0_51) (View.ld x1 r0_51) (View.ld x2 r0_51) (View.ld x5 r0_20) (View.ld x6 r0_21)) (View.ld x9 r0_23) (View.ld x3 r0_51) := rfl

end Cert.KernelIdeal.Ret

end
-- ==== Proof.RetChunk.lean ====
/- One chunk of the kernel on real contents: the new state and the output row as sums of reals. -/
module

public import proofs.«01_k».proof.Proof.RetRate
public import proofs.«01_k».proof.Proof.RetTile

@[expose] public section

set_option maxRecDepth 16384

noncomputable section

namespace Cert.KernelIdeal.Ret

open Cert.KernelIdeal Cert.KernelIdeal.Gen Idealize.ShloMosaic Idealize.SL.Sem Cert.Ret

/-- The state a chunk leaves. -/
theorem stepS_real {S : FVec Ideal S128x128 .f32} {k v : Vec Ideal S1x256x128 .bf16} {gc : Vec Ideal S1x1x128 .f32}
    {kd : Vec Ideal S1x256x128 .f32} {Sr : Fin 128 → Fin 128 → ℝ} {kr vr : Fin 256 → Fin 128 → ℝ} {g : ℝ} {kdr : Fin 256 → ℝ}
    (hS : ∀ d e, S (ix2 d e) = ((Sr d e : ℝ) : EReal)) (hk : ∀ j d, k (ix3 0 j d) = ((kr j d : ℝ) : EReal))
    (hv : ∀ j d, v (ix3 0 j d) = ((vr j d : ℝ) : EReal)) (hg : ∀ d, gc (ix3 0 0 d) = ((g : ℝ) : EReal))
    (hkd : ∀ j d, kd (ix3 0 j d) = ((kdr j : ℝ) : EReal)) (d e : Fin 128) :
    stepS S k v gc kd (ix2 d e) = ((g * Sr d e + ∑ j, kr j d * kdr j * vr j e : ℝ) : EReal) := by
  pointwise [stepS]
  simp only [hS, hk, hv, hg, hkd, ← EReal.coe_mul, ← coe_sum, ← EReal.coe_add]

/-- A row of a chunk's output. -/
theorem mixO_real {S : FVec Ideal S128x128 .f32} {q k v : Vec Ideal S1x256x128 .bf16} {dec : Vec Ideal S1x256x256 .f32}
    {qd : Vec Ideal S1x256x128 .f32} {Sr : Fin 128 → Fin 128 → ℝ} {qr kr vr : Fin 256 → Fin 128 → ℝ}
    {decr : Fin 256 → Fin 256 → ℝ} {qdr : Fin 256 → ℝ}
    (hS : ∀ d e, S (ix2 d e) = ((Sr d e : ℝ) : EReal)) (hq : ∀ j d, q (ix3 0 j d) = ((qr j d : ℝ) : EReal))
    (hk : ∀ j d, k (ix3 0 j d) = ((kr j d : ℝ) : EReal)) (hv : ∀ j d, v (ix3 0 j d) = ((vr j d : ℝ) : EReal))
    (hdec : ∀ l j, dec (ix3 0 l j) = ((decr l j : ℝ) : EReal)) (hqd : ∀ j d, qd (ix3 0 j d) = ((qdr j : ℝ) : EReal))
    (l : Fin 256) (e : Fin 128) :
    mixO S q k v dec qd (ix2 l e)
      = (((∑ j, (∑ d, qr l d * kr j d) * decr l j * vr j e) + ∑ d, qr l d * qdr l * Sr d e : ℝ) : EReal) := by
  pointwise [mixO]
  simp only [hS, hq, hk, hv, hdec, hqd, ← EReal.coe_mul, ← coe_sum, ← EReal.coe_add]

/-- A stored row is the normalised row. -/
theorem normO_at {o : FVec Ideal S256x128 .f32} {gn : Vec Ideal S1x128 .f32} {g : Vec Ideal S1x256x128 .bf16}
    (l : Fin 256) (e : Fin 128) :
    normO o gn g (ix3 0 l e) = normGate (fun e => o (ix2 l e)) (gn (ix2 0 e)) (g (ix3 0 l e)) e := by
  pointwise [normO, centred, normGate]
  simp only [zero_sub]

variable {γ : ℝ} {q k v : ℕ → Fin 128 → ℝ} {t : ℕ} {S : FVec Ideal S128x128 .f32} {qb kb vb : Vec Ideal S1x256x128 .bf16}
  {dec : Vec Ideal S1x256x256 .f32} {qd kd : Vec Ideal S1x256x128 .f32} {gc : Vec Ideal S1x1x128 .f32}

/-- From the state after `t` rows to the state after `t + 256`. -/
theorem state_next (hS : ∀ d e, S (ix2 d e) = ((stR γ k v t d e : ℝ) : EReal))
    (hk : ∀ j d, kb (ix3 0 j d) = ((k (t + (j : ℕ)) d : ℝ) : EReal)) (hv : ∀ j d, vb (ix3 0 j d) = ((v (t + (j : ℕ)) d : ℝ) : EReal))
    (hg : ∀ d, gc (ix3 0 0 d) = ((γ ^ 256 : ℝ) : EReal)) (hkd : ∀ j d, kd (ix3 0 j d) = ((γ ^ (256 - 1 - (j : ℕ)) : ℝ) : EReal))
    (d e : Fin 128) : stepS S kb vb gc kd (ix2 d e) = ((stR γ k v (t + 256) d e : ℝ) : EReal) := by
  rw [stepS_real hS hk hv hg hkd, stR_add]

/-- The rows of the chunk that starts at row `t`. -/
theorem rows_at (hS : ∀ d e, S (ix2 d e) = ((stR γ k v t d e : ℝ) : EReal))
    (hq : ∀ j d, qb (ix3 0 j d) = ((q (t + (j : ℕ)) d : ℝ) : EReal))
    (hk : ∀ j d, kb (ix3 0 j d) = ((k (t + (j : ℕ)) d : ℝ) : EReal)) (hv : ∀ j d, vb (ix3 0 j d) = ((v (t + (j : ℕ)) d : ℝ) : EReal))
    (hdec : ∀ l j, dec (ix3 0 l j) = (((if (j : ℕ) ≤ (l : ℕ) then γ ^ ((l : ℕ) - (j : ℕ)) else 0) : ℝ) : EReal))
    (hqd : ∀ j d, qd (ix3 0 j d) = ((γ ^ ((j : ℕ) + 1) : ℝ) : EReal)) (l : Fin 256) (e : Fin 128) :
    mixO S qb kb vb dec qd (ix2 l e) = ((oR γ q k v (t + (l : ℕ)) e : ℝ) : EReal) := by
  rw [mixO_real hS hq hk hv hdec hqd, oR_add γ q k v t 256 l l.isLt]

end Cert.KernelIdeal.Ret

end
-- ==== Proof.RetBlock.lean ====
/- The kernel's block of one sequence: every stored row is the layer's output there, every stored state the
   layer's final state. -/
module

public import proofs.«01_k».proof.Proof.RetChunk

@[expose] public section

set_option maxRecDepth 16384

noncomputable section

namespace Cert.KernelIdeal.Ret

open Cert.KernelIdeal Cert.KernelIdeal.Gen Idealize.ShloMosaic Idealize.SL.Sem Cert.Ret

/-- What a sequence's blocks hold: real queries, keys and values, the zero state, and the tables of decays. -/
structure Blk (x0 x1 x2 : Vec Ideal S1x2048x512 .bf16) (x4 : Vec Ideal S1x4x128x128 .f32) (x5 : Vec Ideal S4x256x256 .f32)
    (x6 x7 : Vec Ideal S4x256x128 .f32) (x8 : Vec Ideal S4x1x128 .f32) (Q K W : ℕ → ℕ → ℝ) : Prop where
  q : ∀ (t : Fin 2048) (k : Fin 512), x0 (ix3 0 t k) = ((Q t k : ℝ) : EReal)
  k : ∀ (t : Fin 2048) (k : Fin 512), x1 (ix3 0 t k) = ((K t k : ℝ) : EReal)
  v : ∀ (t : Fin 2048) (k : Fin 512), x2 (ix3 0 t k) = ((W t k : ℝ) : EReal)
  s0 : ∀ (h : Fin 4) (d e : Fin 128), x4 (ix4 0 h d e) = ((0 : ℝ) : EReal)
  dec : ∀ (h : Fin 4) (l j : Fin 256), x5 (ix3 h l j) = (((if (j : ℕ) ≤ l then gam h ^ ((l : ℕ) - j) else 0) : ℝ) : EReal)
  qd : ∀ (h : Fin 4) (l : Fin 256) (d : Fin 128), x6 (ix3 h l d) = ((gam h ^ ((l : ℕ) + 1) : ℝ) : EReal)
  kd : ∀ (h : Fin 4) (l : Fin 256) (d : Fin 128), x7 (ix3 h l d) = ((gam h ^ (256 - 1 - (l : ℕ)) : ℝ) : EReal)
  gc : ∀ (h : Fin 4) (d : Fin 128), x8 (ix3 h 0 d) = ((gam h ^ 256 : ℝ) : EReal)

/-- A tile of a head's columns, 256 rows from row `a`. -/
theorem ld_part {x : Vec Ideal S1x2048x512 .bf16} {X : ℕ → ℕ → ℝ}
    (hx : ∀ (t : Fin 2048) (k : Fin 512), x (ix3 0 t k) = ((X t k : ℝ) : EReal)) (a h : ℕ)
    (inb : ∀ i, (![0, a, 128 * h] : Fin 3 → ℕ) i + S1x256x128.size i ≤ S1x2048x512.size i) (j : Fin 256) (d : Fin 128) :
    View.ld x (Rect.unit (s := S1x2048x512) ![0, a, 128 * h] S1x256x128.size inb) (ix3 0 j d)
      = ((head X h (a + (j : ℕ)) d : ℝ) : EReal) := by
  have h1 : a + 256 ≤ 2048 := inb 1
  have h2 : 128 * h + 128 ≤ 512 := inb 2
  refine Eq.trans (congrArg x ?_) (hx ⟨a + j, by omega⟩ ⟨128 * h + d, by omega⟩)
  funext i
  match i with
  | 0 => exact Fin.ext (by show 0 + 1 * 0 = 0; rfl)
  | 1 => exact Fin.ext (by show a + 1 * (j : ℕ) = a + j; omega)
  | 2 => exact Fin.ext (by show 128 * h + 1 * (d : ℕ) = 128 * h + d; omega)

variable {x0 x1 x2 x3 : Vec Ideal S1x2048x512 .bf16} {x4 : Vec Ideal S1x4x128x128 .f32} {x5 : Vec Ideal S4x256x256 .f32}
  {x6 x7 : Vec Ideal S4x256x128 .f32} {x8 : Vec Ideal S4x1x128 .f32} {x9 : Vec Ideal S1x512 .f32} {Q K W : ℕ → ℕ → ℝ}

/-! The tables of one head. -/

theorem dec_0 (H : Blk x0 x1 x2 x4 x5 x6 x7 x8 Q K W) (l j : Fin 256) :
    View.ld x5 r0_5 (ix3 0 l j) = (((if (j : ℕ) ≤ l then gam 0 ^ ((l : ℕ) - j) else 0) : ℝ) : EReal) := by
  pointwise [H.dec 0 l j]
theorem qd_0 (H : Blk x0 x1 x2 x4 x5 x6 x7 x8 Q K W) (l : Fin 256) (d : Fin 128) :
    View.ld x6 r0_6 (ix3 0 l d) = ((gam 0 ^ ((l : ℕ) + 1) : ℝ) : EReal) := by
  pointwise [H.qd 0 l d]
theorem kd_0 (H : Blk x0 x1 x2 x4 x5 x6 x7 x8 Q K W) (l : Fin 256) (d : Fin 128) :
    View.ld x7 r0_6 (ix3 0 l d) = ((gam 0 ^ (256 - 1 - (l : ℕ)) : ℝ) : EReal) := by
  pointwise [H.kd 0 l d]
theorem gc_0 (H : Blk x0 x1 x2 x4 x5 x6 x7 x8 Q K W) (d : Fin 128) :
    View.ld x8 r0_7 (ix3 0 0 d) = ((gam 0 ^ 256 : ℝ) : EReal) := by
  pointwise [H.gc 0 d]
theorem start_0 (H : Blk x0 x1 x2 x4 x5 x6 x7 x8 Q K W) (d e : Fin 128) :
    startS (View.ld x4 r0_0) (ix2 d e) = ((stR (gam 0) (head K 0) (head W 0) 0 d e : ℝ) : EReal) := by
  rw [stR_zero]
  pointwise [startS, H.s0 0 d e]

theorem dec_1 (H : Blk x0 x1 x2 x4 x5 x6 x7 x8 Q K W) (l j : Fin 256) :
    View.ld x5 r0_10 (ix3 0 l j) = (((if (j : ℕ) ≤ l then gam 1 ^ ((l : ℕ) - j) else 0) : ℝ) : EReal) := by
  pointwise [H.dec 1 l j]
theorem qd_1 (H : Blk x0 x1 x2 x4 x5 x6 x7 x8 Q K W) (l : Fin 256) (d : Fin 128) :
    View.ld x6 r0_11 (ix3 0 l d) = ((gam 1 ^ ((l : ℕ) + 1) : ℝ) : EReal) := by
  pointwise [H.qd 1 l d]
theorem kd_1 (H : Blk x0 x1 x2 x4 x5 x6 x7 x8 Q K W) (l : Fin 256) (d : Fin 128) :
    View.ld x7 r0_11 (ix3 0 l d) = ((gam 1 ^ (256 - 1 - (l : ℕ)) : ℝ) : EReal) := by
  pointwise [H.kd 1 l d]
theorem gc_1 (H : Blk x0 x1 x2 x4 x5 x6 x7 x8 Q K W) (d : Fin 128) :
    View.ld x8 r0_12 (ix3 0 0 d) = ((gam 1 ^ 256 : ℝ) : EReal) := by
  pointwise [H.gc 1 d]
theorem start_1 (H : Blk x0 x1 x2 x4 x5 x6 x7 x8 Q K W) (d e : Fin 128) :
    startS (View.ld x4 r0_1) (ix2 d e) = ((stR (gam 1) (head K 1) (head W 1) 0 d e : ℝ) : EReal) := by
  rw [stR_zero]
  pointwise [startS, H.s0 1 d e]

theorem dec_2 (H : Blk x0 x1 x2 x4 x5 x6 x7 x8 Q K W) (l j : Fin 256) :
    View.ld x5 r0_15 (ix3 0 l j) = (((if (j : ℕ) ≤ l then gam 2 ^ ((l : ℕ) - j) else 0) : ℝ) : EReal) := by
  pointwise [H.dec 2 l j]
theorem qd_2 (H : Blk x0 x1 x2 x4 x5 x6 x7 x8 Q K W) (l : Fin 256) (d : Fin 128) :
    View.ld x6 r0_16 (ix3 0 l d) = ((gam 2 ^ ((l : ℕ) + 1) : ℝ) : EReal) := by
  pointwise [H.qd 2 l d]
theorem kd_2 (H : Blk x0 x1 x2 x4 x5 x6 x7 x8 Q K W) (l : Fin 256) (d : Fin 128) :
    View.ld x7 r0_16 (ix3 0 l d) = ((gam 2 ^ (256 - 1 - (l : ℕ)) : ℝ) : EReal) := by
  pointwise [H.kd 2 l d]
theorem gc_2 (H : Blk x0 x1 x2 x4 x5 x6 x7 x8 Q K W) (d : Fin 128) :
    View.ld x8 r0_17 (ix3 0 0 d) = ((gam 2 ^ 256 : ℝ) : EReal) := by
  pointwise [H.gc 2 d]
theorem start_2 (H : Blk x0 x1 x2 x4 x5 x6 x7 x8 Q K W) (d e : Fin 128) :
    startS (View.ld x4 r0_2) (ix2 d e) = ((stR (gam 2) (head K 2) (head W 2) 0 d e : ℝ) : EReal) := by
  rw [stR_zero]
  pointwise [startS, H.s0 2 d e]

theorem dec_3 (H : Blk x0 x1 x2 x4 x5 x6 x7 x8 Q K W) (l j : Fin 256) :
    View.ld x5 r0_20 (ix3 0 l j) = (((if (j : ℕ) ≤ l then gam 3 ^ ((l : ℕ) - j) else 0) : ℝ) : EReal) := by
  pointwise [H.dec 3 l j]
theorem qd_3 (H : Blk x0 x1 x2 x4 x5 x6 x7 x8 Q K W) (l : Fin 256) (d : Fin 128) :
    View.ld x6 r0_21 (ix3 0 l d) = ((gam 3 ^ ((l : ℕ) + 1) : ℝ) : EReal) := by
  pointwise [H.qd 3 l d]
theorem kd_3 (H : Blk x0 x1 x2 x4 x5 x6 x7 x8 Q K W) (l : Fin 256) (d : Fin 128) :
    View.ld x7 r0_21 (ix3 0 l d) = ((gam 3 ^ (256 - 1 - (l : ℕ)) : ℝ) : EReal) := by
  pointwise [H.kd 3 l d]
theorem gc_3 (H : Blk x0 x1 x2 x4 x5 x6 x7 x8 Q K W) (d : Fin 128) :
    View.ld x8 r0_22 (ix3 0 0 d) = ((gam 3 ^ 256 : ℝ) : EReal) := by
  pointwise [H.gc 3 d]
theorem start_3 (H : Blk x0 x1 x2 x4 x5 x6 x7 x8 Q K W) (d e : Fin 128) :
    startS (View.ld x4 r0_3) (ix2 d e) = ((stR (gam 3) (head K 3) (head W 3) 0 d e : ℝ) : EReal) := by
  rw [stR_zero]
  pointwise [startS, H.s0 3 d e]

/-! The states before each chunk. -/
theorem before_0_0 (H : Blk x0 x1 x2 x4 x5 x6 x7 x8 Q K W) (d e : Fin 128) :
    (k0_pay2 (View.ld x4 r0_0)) (ix2 d e) = ((stR (gam 0) (head K 0) (head W 0) 0 d e : ℝ) : EReal) := by
  rw [state_0_0]; exact start_0 H d e
theorem before_0_1 (H : Blk x0 x1 x2 x4 x5 x6 x7 x8 Q K W) (d e : Fin 128) :
    (k0_pay249 x0 x1 x2 x3 x4 x5 x6 x7 x8 x9) (ix2 d e) = ((stR (gam 1) (head K 1) (head W 1) 0 d e : ℝ) : EReal) := by
  rw [state_0_1]; exact start_1 H d e
theorem before_0_2 (H : Blk x0 x1 x2 x4 x5 x6 x7 x8 Q K W) (d e : Fin 128) :
    (k0_pay250 x0 x1 x2 x3 x4 x5 x6 x7 x8 x9) (ix2 d e) = ((stR (gam 2) (head K 2) (head W 2) 0 d e : ℝ) : EReal) := by
  rw [state_0_2]; exact start_2 H d e
theorem before_0_3 (H : Blk x0 x1 x2 x4 x5 x6 x7 x8 Q K W) (d e : Fin 128) :
    (k0_pay251 x0 x1 x2 x3 x4 x5 x6 x7 x8 x9) (ix2 d e) = ((stR (gam 3) (head K 3) (head W 3) 0 d e : ℝ) : EReal) := by
  rw [state_0_3]; exact start_3 H d e
theorem before_1_0 (H : Blk x0 x1 x2 x4 x5 x6 x7 x8 Q K W) (d e : Fin 128) :
    (k0_pay252 x0 x1 x2 x3 x4 x5 x6 x7 x8 x9) (ix2 d e) = ((stR (gam 0) (head K 0) (head W 0) 256 d e : ℝ) : EReal) := by
  rw [state_1_0]; exact state_next (before_0_0 H) (ld_part H.k 0 0 _) (ld_part H.v 0 0 _) (gc_0 H) (kd_0 H) d e
theorem before_1_1 (H : Blk x0 x1 x2 x4 x5 x6 x7 x8 Q K W) (d e : Fin 128) :
    (k0_pay253 x0 x1 x2 x3 x4 x5 x6 x7 x8 x9) (ix2 d e) = ((stR (gam 1) (head K 1) (head W 1) 256 d e : ℝ) : EReal) := by
  rw [state_1_1]; exact state_next (before_0_1 H) (ld_part H.k 0 1 _) (ld_part H.v 0 1 _) (gc_1 H) (kd_1 H) d e
theorem before_1_2 (H : Blk x0 x1 x2 x4 x5 x6 x7 x8 Q K W) (d e : Fin 128) :
    (k0_pay254 x0 x1 x2 x3 x4 x5 x6 x7 x8 x9) (ix2 d e) = ((stR (gam 2) (head K 2) (head W 2) 256 d e : ℝ) : EReal) := by
  rw [state_1_2]; exact state_next (before_0_2 H) (ld_part H.k 0 2 _) (ld_part H.v 0 2 _) (gc_2 H) (kd_2 H) d e
theorem before_1_3 (H : Blk x0 x1 x2 x4 x5 x6 x7 x8 Q K W) (d e : Fin 128) :
    (k0_pay256 x0 x1 x2 x3 x4 x5 x6 x7 x8 x9) (ix2 d e) = ((stR (gam 3) (head K 3) (head W 3) 256 d e : ℝ) : EReal) := by
  rw [state_1_3]; exact state_next (before_0_3 H) (ld_part H.k 0 3 _) (ld_part H.v 0 3 _) (gc_3 H) (kd_3 H) d e
theorem before_2_0 (H : Blk x0 x1 x2 x4 x5 x6 x7 x8 Q K W) (d e : Fin 128) :
    (k0_pay258 x0 x1 x2 x3 x4 x5 x6 x7 x8 x9) (ix2 d e) = ((stR (gam 0) (head K 0) (head W 0) 512 d e : ℝ) : EReal) := by
  rw [state_2_0]; exact state_next (before_1_0 H) (ld_part H.k 256 0 _) (ld_part H.v 256 0 _) (gc_0 H) (kd_0 H) d e
theorem before_2_1 (H : Blk x0 x1 x2 x4 x5 x6 x7 x8 Q K W) (d e : Fin 128) :
    (k0_pay259 x0 x1 x2 x3 x4 x5 x6 x7 x8 x9) (ix2 d e) = ((stR (gam 1) (head K 1) (head W 1) 512 d e : ℝ) : EReal) := by
  rw [state_2_1]; exact state_next (before_1_1 H) (ld_part H.k 256 1 _) (ld_part H.v 256 1 _) (gc_1 H) (kd_1 H) d e
theorem before_2_2 (H : Blk x0 x1 x2 x4 x5 x6 x7 x8 Q K W) (d e : Fin 128) :
    (k0_pay260 x0 x1 x2 x3 x4 x5 x6 x7 x8 x9) (ix2 d e) = ((stR (gam 2) (head K 2) (head W 2) 512 d e : ℝ) : EReal) := by
  rw [state_2_2]; exact state_next (before_1_2 H) (ld_part H.k 256 2 _) (ld_part H.v 256 2 _) (gc_2 H) (kd_2 H) d e
theorem before_2_3 (H : Blk x0 x1 x2 x4 x5 x6 x7 x8 Q K W) (d e : Fin 128) :
    (k0_pay261 x0 x1 x2 x3 x4 x5 x6 x7 x8 x9) (ix2 d e) = ((stR (gam 3) (head K 3) (head W 3) 512 d e : ℝ) : EReal) := by
  rw [state_2_3]; exact state_next (before_1_3 H) (ld_part H.k 256 3 _) (ld_part H.v 256 3 _) (gc_3 H) (kd_3 H) d e
theorem before_3_0 (H : Blk x0 x1 x2 x4 x5 x6 x7 x8 Q K W) (d e : Fin 128) :
    (k0_pay262 x0 x1 x2 x3 x4 x5 x6 x7 x8 x9) (ix2 d e) = ((stR (gam 0) (head K 0) (head W 0) 768 d e : ℝ) : EReal) := by
  rw [state_3_0]; exact state_next (before_2_0 H) (ld_part H.k 512 0 _) (ld_part H.v 512 0 _) (gc_0 H) (kd_0 H) d e
theorem before_3_1 (H : Blk x0 x1 x2 x4 x5 x6 x7 x8 Q K W) (d e : Fin 128) :
    (k0_pay265 x0 x1 x2 x3 x4 x5 x6 x7 x8 x9) (ix2 d e) = ((stR (gam 1) (head K 1) (head W 1) 768 d e : ℝ) : EReal) := by
  rw [state_3_1]; exact state_next (before_2_1 H) (ld_part H.k 512 1 _) (ld_part H.v 512 1 _) (gc_1 H) (kd_1 H) d e
theorem before_3_2 (H : Blk x0 x1 x2 x4 x5 x6 x7 x8 Q K W) (d e : Fin 128) :
    (k0_pay267 x0 x1 x2 x3 x4 x5 x6 x7 x8 x9) (ix2 d e) = ((stR (gam 2) (head K 2) (head W 2) 768 d e : ℝ) : EReal) := by
  rw [state_3_2]; exact state_next (before_2_2 H) (ld_part H.k 512 2 _) (ld_part H.v 512 2 _) (gc_2 H) (kd_2 H) d e
theorem before_3_3 (H : Blk x0 x1 x2 x4 x5 x6 x7 x8 Q K W) (d e : Fin 128) :
    (k0_pay268 x0 x1 x2 x3 x4 x5 x6 x7 x8 x9) (ix2 d e) = ((stR (gam 3) (head K 3) (head W 3) 768 d e : ℝ) : EReal) := by
  rw [state_3_3]; exact state_next (before_2_3 H) (ld_part H.k 512 3 _) (ld_part H.v 512 3 _) (gc_3 H) (kd_3 H) d e
theorem before_4_0 (H : Blk x0 x1 x2 x4 x5 x6 x7 x8 Q K W) (d e : Fin 128) :
    (k0_pay269 x0 x1 x2 x3 x4 x5 x6 x7 x8 x9) (ix2 d e) = ((stR (gam 0) (head K 0) (head W 0) 1024 d e : ℝ) : EReal) := by
  rw [state_4_0]; exact state_next (before_3_0 H) (ld_part H.k 768 0 _) (ld_part H.v 768 0 _) (gc_0 H) (kd_0 H) d e
theorem before_4_1 (H : Blk x0 x1 x2 x4 x5 x6 x7 x8 Q K W) (d e : Fin 128) :
    (k0_pay270 x0 x1 x2 x3 x4 x5 x6 x7 x8 x9) (ix2 d e) = ((stR (gam 1) (head K 1) (head W 1) 1024 d e : ℝ) : EReal) := by
  rw [state_4_1]; exact state_next (before_3_1 H) (ld_part H.k 768 1 _) (ld_part H.v 768 1 _) (gc_1 H) (kd_1 H) d e
theorem before_4_2 (H : Blk x0 x1 x2 x4 x5 x6 x7 x8 Q K W) (d e : Fin 128) :
    (k0_pay272 x0 x1 x2 x3 x4 x5 x6 x7 x8 x9) (ix2 d e) = ((stR (gam 2) (head K 2) (head W 2) 1024 d e : ℝ) : EReal) := by
  rw [state_4_2]; exact state_next (before_3_2 H) (ld_part H.k 768 2 _) (ld_part H.v 768 2 _) (gc_2 H) (kd_2 H) d e
theorem before_4_3 (H : Blk x0 x1 x2 x4 x5 x6 x7 x8 Q K W) (d e : Fin 128) :
    (k0_pay274 x0 x1 x2 x3 x4 x5 x6 x7 x8 x9) (ix2 d e) = ((stR (gam 3) (head K 3) (head W 3) 1024 d e : ℝ) : EReal) := by
  rw [state_4_3]; exact state_next (before_3_3 H) (ld_part H.k 768 3 _) (ld_part H.v 768 3 _) (gc_3 H) (kd_3 H) d e
theorem before_5_0 (H : Blk x0 x1 x2 x4 x5 x6 x7 x8 Q K W) (d e : Fin 128) :
    (k0_pay275 x0 x1 x2 x3 x4 x5 x6 x7 x8 x9) (ix2 d e) = ((stR (gam 0) (head K 0) (head W 0) 1280 d e : ℝ) : EReal) := by
  rw [state_5_0]; exact state_next (before_4_0 H) (ld_part H.k 1024 0 _) (ld_part H.v 1024 0 _) (gc_0 H) (kd_0 H) d e
theorem before_5_1 (H : Blk x0 x1 x2 x4 x5 x6 x7 x8 Q K W) (d e : Fin 128) :
    (k0_pay276 x0 x1 x2 x3 x4 x5 x6 x7 x8 x9) (ix2 d e) = ((stR (gam 1) (head K 1) (head W 1) 1280 d e : ℝ) : EReal) := by
  rw [state_5_1]; exact state_next (before_4_1 H) (ld_part H.k 1024 1 _) (ld_part H.v 1024 1 _) (gc_1 H) (kd_1 H) d e
theorem before_5_2 (H : Blk x0 x1 x2 x4 x5 x6 x7 x8 Q K W) (d e : Fin 128) :
    (k0_pay277 x0 x1 x2 x3 x4 x5 x6 x7 x8 x9) (ix2 d e) = ((stR (gam 2) (head K 2) (head W 2) 1280 d e : ℝ) : EReal) := by
  rw [state_5_2]; exact state_next (before_4_2 H) (ld_part H.k 1024 2 _) (ld_part H.v 1024 2 _) (gc_2 H) (kd_2 H) d e
theorem before_5_3 (H : Blk x0 x1 x2 x4 x5 x6 x7 x8 Q K W) (d e : Fin 128) :
    (k0_pay278 x0 x1 x2 x3 x4 x5 x6 x7 x8 x9) (ix2 d e) = ((stR (gam 3) (head K 3) (head W 3) 1280 d e : ℝ) : EReal) := by
  rw [state_5_3]; exact state_next (before_4_3 H) (ld_part H.k 1024 3 _) (ld_part H.v 1024 3 _) (gc_3 H) (kd_3 H) d e
theorem before_6_0 (H : Blk x0 x1 x2 x4 x5 x6 x7 x8 Q K W) (d e : Fin 128) :
    (k0_pay282 x0 x1 x2 x3 x4 x5 x6 x7 x8 x9) (ix2 d e) = ((stR (gam 0) (head K 0) (head W 0) 1536 d e : ℝ) : EReal) := by
  rw [state_6_0]; exact state_next (before_5_0 H) (ld_part H.k 1280 0 _) (ld_part H.v 1280 0 _) (gc_0 H) (kd_0 H) d e
theorem before_6_1 (H : Blk x0 x1 x2 x4 x5 x6 x7 x8 Q K W) (d e : Fin 128) :
    (k0_pay283 x0 x1 x2 x3 x4 x5 x6 x7 x8 x9) (ix2 d e) = ((stR (gam 1) (head K 1) (head W 1) 1536 d e : ℝ) : EReal) := by
  rw [state_6_1]; exact state_next (before_5_1 H) (ld_part H.k 1280 1 _) (ld_part H.v 1280 1 _) (gc_1 H) (kd_1 H) d e
theorem before_6_2 (H : Blk x0 x1 x2 x4 x5 x6 x7 x8 Q K W) (d e : Fin 128) :
    (k0_pay284 x0 x1 x2 x3 x4 x5 x6 x7 x8 x9) (ix2 d e) = ((stR (gam 2) (head K 2) (head W 2) 1536 d e : ℝ) : EReal) := by
  rw [state_6_2]; exact state_next (before_5_2 H) (ld_part H.k 1280 2 _) (ld_part H.v 1280 2 _) (gc_2 H) (kd_2 H) d e
theorem before_6_3 (H : Blk x0 x1 x2 x4 x5 x6 x7 x8 Q K W) (d e : Fin 128) :
    (k0_pay285 x0 x1 x2 x3 x4 x5 x6 x7 x8 x9) (ix2 d e) = ((stR (gam 3) (head K 3) (head W 3) 1536 d e : ℝ) : EReal) := by
  rw [state_6_3]; exact state_next (before_5_3 H) (ld_part H.k 1280 3 _) (ld_part H.v 1280 3 _) (gc_3 H) (kd_3 H) d e
theorem before_7_0 (H : Blk x0 x1 x2 x4 x5 x6 x7 x8 Q K W) (d e : Fin 128) :
    (k0_pay286 x0 x1 x2 x3 x4 x5 x6 x7 x8 x9) (ix2 d e) = ((stR (gam 0) (head K 0) (head W 0) 1792 d e : ℝ) : EReal) := by
  rw [state_7_0]; exact state_next (before_6_0 H) (ld_part H.k 1536 0 _) (ld_part H.v 1536 0 _) (gc_0 H) (kd_0 H) d e
theorem before_7_1 (H : Blk x0 x1 x2 x4 x5 x6 x7 x8 Q K W) (d e : Fin 128) :
    (k0_pay289 x0 x1 x2 x3 x4 x5 x6 x7 x8 x9) (ix2 d e) = ((stR (gam 1) (head K 1) (head W 1) 1792 d e : ℝ) : EReal) := by
  rw [state_7_1]; exact state_next (before_6_1 H) (ld_part H.k 1536 1 _) (ld_part H.v 1536 1 _) (gc_1 H) (kd_1 H) d e
theorem before_7_2 (H : Blk x0 x1 x2 x4 x5 x6 x7 x8 Q K W) (d e : Fin 128) :
    (k0_pay291 x0 x1 x2 x3 x4 x5 x6 x7 x8 x9) (ix2 d e) = ((stR (gam 2) (head K 2) (head W 2) 1792 d e : ℝ) : EReal) := by
  rw [state_7_2]; exact state_next (before_6_2 H) (ld_part H.k 1536 2 _) (ld_part H.v 1536 2 _) (gc_2 H) (kd_2 H) d e
theorem before_7_3 (H : Blk x0 x1 x2 x4 x5 x6 x7 x8 Q K W) (d e : Fin 128) :
    (k0_pay292 x0 x1 x2 x3 x4 x5 x6 x7 x8 x9) (ix2 d e) = ((stR (gam 3) (head K 3) (head W 3) 1792 d e : ℝ) : EReal) := by
  rw [state_7_3]; exact state_next (before_6_3 H) (ld_part H.k 1536 3 _) (ld_part H.v 1536 3 _) (gc_3 H) (kd_3 H) d e

/-! The two stored blocks. -/

/-- The output block of a sequence, read at an index. -/
def outBlk (Q K W : ℕ → ℕ → ℝ) (x9 : Vec Ideal S1x512 .f32) (x3 : Vec Ideal S1x2048x512 .bf16) (y : S1x2048x512.Idx) : EReal :=
  normGate (fun e => ((oR (gam ((y 2 : ℕ) / 128)) (head Q ((y 2 : ℕ) / 128)) (head K ((y 2 : ℕ) / 128)) (head W ((y 2 : ℕ) / 128))
    (y 1 : ℕ) e : ℝ) : EReal)) (x9 (ix2 0 (y 2))) (x3 (ix3 0 (y 1) (y 2))) ⟨(y 2 : ℕ) % 128, Nat.mod_lt _ (by norm_num)⟩

/-- The state block of a sequence, read at an index. -/
def stBlk (K W : ℕ → ℕ → ℝ) (y : S1x4x128x128.Idx) : EReal :=
  ((stR (gam (y 1 : ℕ)) (head K (y 1 : ℕ)) (head W (y 1 : ℕ)) 2048 (y 2) (y 3) : ℝ) : EReal)

/-- A stored tile is its part of the output block. -/
theorem tile_part (a h : ℕ) (inb : ∀ i, (![0, a, 128 * h] : Fin 3 → ℕ) i + S1x256x128.size i ≤ S1x2048x512.size i)
    (inb' : ∀ i, (![0, 128 * h] : Fin 2 → ℕ) i + S1x128.size i ≤ S1x512.size i) {o : FVec Ideal S256x128 .f32}
    (ho : ∀ l e, o (ix2 l e) = ((oR (gam h) (head Q h) (head K h) (head W h) (a + (l : ℕ)) e : ℝ) : EReal))
    (x : S1x256x128.Idx) :
    normO o (View.ld x9 (Rect.unit (s := S1x512) ![0, 128 * h] S1x128.size inb'))
        (View.ld x3 (Rect.unit (s := S1x2048x512) ![0, a, 128 * h] S1x256x128.size inb)) x
      = outBlk Q K W x9 x3 ((Rect.unit (s := S1x2048x512) ![0, a, 128 * h] S1x256x128.size inb).emb x) := by
  have h1 : a + 256 ≤ 2048 := inb 1
  have h2 : 128 * h + 128 ≤ 512 := inb 2
  obtain ⟨l, e, rfl⟩ : ∃ (l : Fin 256) (e : Fin 128), x = ix3 0 l e := ⟨x 1, x 2, by
    funext i
    match i with
    | 0 => exact Fin.ext (by have : (x 0 : ℕ) < 1 := (x 0).isLt; show (x 0 : ℕ) = 0; omega)
    | 1 => rfl
    | 2 => rfl⟩
  have hemb : (Rect.unit (s := S1x2048x512) ![0, a, 128 * h] S1x256x128.size inb).emb (ix3 0 l e)
      = (ix3 0 ⟨a + l, by omega⟩ ⟨128 * h + e, by omega⟩ : S1x2048x512.Idx) := by
    funext i
    match i with
    | 0 => exact Fin.ext (by show 0 + 1 * 0 = 0; rfl)
    | 1 => exact Fin.ext (by show a + 1 * (l : ℕ) = a + l; omega)
    | 2 => exact Fin.ext (by show 128 * h + 1 * (e : ℕ) = 128 * h + e; omega)
  have hgn : (Rect.unit (s := S1x512) ![0, 128 * h] S1x128.size inb').emb (ix2 0 e)
      = (ix2 0 ⟨128 * h + e, by omega⟩ : S1x512.Idx) := by
    funext i
    match i with
    | 0 => exact Fin.ext (by show 0 + 1 * 0 = 0; rfl)
    | 1 => exact Fin.ext (by show 128 * h + 1 * (e : ℕ) = 128 * h + e; omega)
  rw [normO_at, hemb]
  have hd : (128 * h + (e : ℕ)) / 128 = h := by omega
  have hm : (⟨(128 * h + (e : ℕ)) % 128, Nat.mod_lt _ (by norm_num)⟩ : Fin 128) = e := Fin.ext (by show (128 * h + (e : ℕ)) % 128 = e; omega)
  show _ = normGate (fun e' => ((oR (gam ((128 * h + (e : ℕ)) / 128)) (head Q ((128 * h + (e : ℕ)) / 128)) (head K ((128 * h + (e : ℕ)) / 128))
    (head W ((128 * h + (e : ℕ)) / 128)) (a + (l : ℕ)) e' : ℝ) : EReal)) (x9 (ix2 0 ⟨128 * h + e, _⟩)) (x3 (ix3 0 ⟨a + l, _⟩ ⟨128 * h + e, _⟩))
    (⟨(128 * h + (e : ℕ)) % 128, Nat.mod_lt _ (by norm_num)⟩ : Fin 128)
  rw [hd, hm]
  simp only [ho]
  show normGate _ (x9 ((Rect.unit (s := S1x512) ![0, 128 * h] S1x128.size inb').emb (ix2 0 e)))
    (x3 ((Rect.unit (s := S1x2048x512) ![0, a, 128 * h] S1x256x128.size inb).emb (ix3 0 l e))) e = _
  rw [hemb, hgn]

/-- The output block. -/
theorem out_blk (H : Blk x0 x1 x2 x4 x5 x6 x7 x8 Q K W) (y : S1x2048x512.Idx) :
    out0_10 x0 x1 x2 x3 x4 x5 x6 x7 x8 x9 y = outBlk Q K W x9 x3 y := by
  unfold out0_10
  refine View.canon_apply_of_pieces (Val := Elt Ideal) (e := .bf16) (outBlk Q K W x9 x3) _ ?_ y (cover0_10 _ _ _ _ _ _ _ _ _ _ _ _ _ _ _ _ _ _ _ _ _ _ _ _ _ _ _ _ _ _ _ _ y)
  simp only [List.forall_mem_cons, List.not_mem_nil, false_imp_iff, implies_true, and_true]
  refine ⟨fun x => (congrFun (tile_7_3 x0 x1 x2 x3 x4 x5 x6 x7 x8 x9) x).trans (tile_part 1792 3 _ _ (rows_at (before_7_3 H) (ld_part H.q 1792 3 _) (ld_part H.k 1792 3 _) (ld_part H.v 1792 3 _) (dec_3 H) (qd_3 H)) x),
    fun x => (congrFun (tile_7_2 x0 x1 x2 x3 x4 x5 x6 x7 x8 x9) x).trans (tile_part 1792 2 _ _ (rows_at (before_7_2 H) (ld_part H.q 1792 2 _) (ld_part H.k 1792 2 _) (ld_part H.v 1792 2 _) (dec_2 H) (qd_2 H)) x),
    fun x => (congrFun (tile_7_1 x0 x1 x2 x3 x4 x5 x6 x7 x8 x9) x).trans (tile_part 1792 1 _ _ (rows_at (before_7_1 H) (ld_part H.q 1792 1 _) (ld_part H.k 1792 1 _) (ld_part H.v 1792 1 _) (dec_1 H) (qd_1 H)) x),
    fun x => (congrFun (tile_7_0 x0 x1 x2 x3 x4 x5 x6 x7 x8 x9) x).trans (tile_part 1792 0 _ _ (rows_at (before_7_0 H) (ld_part H.q 1792 0 _) (ld_part H.k 1792 0 _) (ld_part H.v 1792 0 _) (dec_0 H) (qd_0 H)) x),
    fun x => (congrFun (tile_6_3 x0 x1 x2 x3 x4 x5 x6 x7 x8 x9) x).trans (tile_part 1536 3 _ _ (rows_at (before_6_3 H) (ld_part H.q 1536 3 _) (ld_part H.k 1536 3 _) (ld_part H.v 1536 3 _) (dec_3 H) (qd_3 H)) x),
    fun x => (congrFun (tile_6_2 x0 x1 x2 x3 x4 x5 x6 x7 x8 x9) x).trans (tile_part 1536 2 _ _ (rows_at (before_6_2 H) (ld_part H.q 1536 2 _) (ld_part H.k 1536 2 _) (ld_part H.v 1536 2 _) (dec_2 H) (qd_2 H)) x),
    fun x => (congrFun (tile_6_1 x0 x1 x2 x3 x4 x5 x6 x7 x8 x9) x).trans (tile_part 1536 1 _ _ (rows_at (before_6_1 H) (ld_part H.q 1536 1 _) (ld_part H.k 1536 1 _) (ld_part H.v 1536 1 _) (dec_1 H) (qd_1 H)) x),
    fun x => (congrFun (tile_6_0 x0 x1 x2 x3 x4 x5 x6 x7 x8 x9) x).trans (tile_part 1536 0 _ _ (rows_at (before_6_0 H) (ld_part H.q 1536 0 _) (ld_part H.k 1536 0 _) (ld_part H.v 1536 0 _) (dec_0 H) (qd_0 H)) x),
    fun x => (congrFun (tile_5_3 x0 x1 x2 x3 x4 x5 x6 x7 x8 x9) x).trans (tile_part 1280 3 _ _ (rows_at (before_5_3 H) (ld_part H.q 1280 3 _) (ld_part H.k 1280 3 _) (ld_part H.v 1280 3 _) (dec_3 H) (qd_3 H)) x),
    fun x => (congrFun (tile_5_2 x0 x1 x2 x3 x4 x5 x6 x7 x8 x9) x).trans (tile_part 1280 2 _ _ (rows_at (before_5_2 H) (ld_part H.q 1280 2 _) (ld_part H.k 1280 2 _) (ld_part H.v 1280 2 _) (dec_2 H) (qd_2 H)) x),
    fun x => (congrFun (tile_5_1 x0 x1 x2 x3 x4 x5 x6 x7 x8 x9) x).trans (tile_part 1280 1 _ _ (rows_at (before_5_1 H) (ld_part H.q 1280 1 _) (ld_part H.k 1280 1 _) (ld_part H.v 1280 1 _) (dec_1 H) (qd_1 H)) x),
    fun x => (congrFun (tile_5_0 x0 x1 x2 x3 x4 x5 x6 x7 x8 x9) x).trans (tile_part 1280 0 _ _ (rows_at (before_5_0 H) (ld_part H.q 1280 0 _) (ld_part H.k 1280 0 _) (ld_part H.v 1280 0 _) (dec_0 H) (qd_0 H)) x),
    fun x => (congrFun (tile_4_3 x0 x1 x2 x3 x4 x5 x6 x7 x8 x9) x).trans (tile_part 1024 3 _ _ (rows_at (before_4_3 H) (ld_part H.q 1024 3 _) (ld_part H.k 1024 3 _) (ld_part H.v 1024 3 _) (dec_3 H) (qd_3 H)) x),
    fun x => (congrFun (tile_4_2 x0 x1 x2 x3 x4 x5 x6 x7 x8 x9) x).trans (tile_part 1024 2 _ _ (rows_at (before_4_2 H) (ld_part H.q 1024 2 _) (ld_part H.k 1024 2 _) (ld_part H.v 1024 2 _) (dec_2 H) (qd_2 H)) x),
    fun x => (congrFun (tile_4_1 x0 x1 x2 x3 x4 x5 x6 x7 x8 x9) x).trans (tile_part 1024 1 _ _ (rows_at (before_4_1 H) (ld_part H.q 1024 1 _) (ld_part H.k 1024 1 _) (ld_part H.v 1024 1 _) (dec_1 H) (qd_1 H)) x),
    fun x => (congrFun (tile_4_0 x0 x1 x2 x3 x4 x5 x6 x7 x8 x9) x).trans (tile_part 1024 0 _ _ (rows_at (before_4_0 H) (ld_part H.q 1024 0 _) (ld_part H.k 1024 0 _) (ld_part H.v 1024 0 _) (dec_0 H) (qd_0 H)) x),
    fun x => (congrFun (tile_3_3 x0 x1 x2 x3 x4 x5 x6 x7 x8 x9) x).trans (tile_part 768 3 _ _ (rows_at (before_3_3 H) (ld_part H.q 768 3 _) (ld_part H.k 768 3 _) (ld_part H.v 768 3 _) (dec_3 H) (qd_3 H)) x),
    fun x => (congrFun (tile_3_2 x0 x1 x2 x3 x4 x5 x6 x7 x8 x9) x).trans (tile_part 768 2 _ _ (rows_at (before_3_2 H) (ld_part H.q 768 2 _) (ld_part H.k 768 2 _) (ld_part H.v 768 2 _) (dec_2 H) (qd_2 H)) x),
    fun x => (congrFun (tile_3_1 x0 x1 x2 x3 x4 x5 x6 x7 x8 x9) x).trans (tile_part 768 1 _ _ (rows_at (before_3_1 H) (ld_part H.q 768 1 _) (ld_part H.k 768 1 _) (ld_part H.v 768 1 _) (dec_1 H) (qd_1 H)) x),
    fun x => (congrFun (tile_3_0 x0 x1 x2 x3 x4 x5 x6 x7 x8 x9) x).trans (tile_part 768 0 _ _ (rows_at (before_3_0 H) (ld_part H.q 768 0 _) (ld_part H.k 768 0 _) (ld_part H.v 768 0 _) (dec_0 H) (qd_0 H)) x),
    fun x => (congrFun (tile_2_3 x0 x1 x2 x3 x4 x5 x6 x7 x8 x9) x).trans (tile_part 512 3 _ _ (rows_at (before_2_3 H) (ld_part H.q 512 3 _) (ld_part H.k 512 3 _) (ld_part H.v 512 3 _) (dec_3 H) (qd_3 H)) x),
    fun x => (congrFun (tile_2_2 x0 x1 x2 x3 x4 x5 x6 x7 x8 x9) x).trans (tile_part 512 2 _ _ (rows_at (before_2_2 H) (ld_part H.q 512 2 _) (ld_part H.k 512 2 _) (ld_part H.v 512 2 _) (dec_2 H) (qd_2 H)) x),
    fun x => (congrFun (tile_2_1 x0 x1 x2 x3 x4 x5 x6 x7 x8 x9) x).trans (tile_part 512 1 _ _ (rows_at (before_2_1 H) (ld_part H.q 512 1 _) (ld_part H.k 512 1 _) (ld_part H.v 512 1 _) (dec_1 H) (qd_1 H)) x),
    fun x => (congrFun (tile_2_0 x0 x1 x2 x3 x4 x5 x6 x7 x8 x9) x).trans (tile_part 512 0 _ _ (rows_at (before_2_0 H) (ld_part H.q 512 0 _) (ld_part H.k 512 0 _) (ld_part H.v 512 0 _) (dec_0 H) (qd_0 H)) x),
    fun x => (congrFun (tile_1_3 x0 x1 x2 x3 x4 x5 x6 x7 x8 x9) x).trans (tile_part 256 3 _ _ (rows_at (before_1_3 H) (ld_part H.q 256 3 _) (ld_part H.k 256 3 _) (ld_part H.v 256 3 _) (dec_3 H) (qd_3 H)) x),
    fun x => (congrFun (tile_1_2 x0 x1 x2 x3 x4 x5 x6 x7 x8 x9) x).trans (tile_part 256 2 _ _ (rows_at (before_1_2 H) (ld_part H.q 256 2 _) (ld_part H.k 256 2 _) (ld_part H.v 256 2 _) (dec_2 H) (qd_2 H)) x),
    fun x => (congrFun (tile_1_1 x0 x1 x2 x3 x4 x5 x6 x7 x8 x9) x).trans (tile_part 256 1 _ _ (rows_at (before_1_1 H) (ld_part H.q 256 1 _) (ld_part H.k 256 1 _) (ld_part H.v 256 1 _) (dec_1 H) (qd_1 H)) x),
    fun x => (congrFun (tile_1_0 x0 x1 x2 x3 x4 x5 x6 x7 x8 x9) x).trans (tile_part 256 0 _ _ (rows_at (before_1_0 H) (ld_part H.q 256 0 _) (ld_part H.k 256 0 _) (ld_part H.v 256 0 _) (dec_0 H) (qd_0 H)) x),
    fun x => (congrFun (tile_0_3 x0 x1 x2 x3 x4 x5 x6 x7 x8 x9) x).trans (tile_part 0 3 _ _ (rows_at (before_0_3 H) (ld_part H.q 0 3 _) (ld_part H.k 0 3 _) (ld_part H.v 0 3 _) (dec_3 H) (qd_3 H)) x),
    fun x => (congrFun (tile_0_2 x0 x1 x2 x3 x4 x5 x6 x7 x8 x9) x).trans (tile_part 0 2 _ _ (rows_at (before_0_2 H) (ld_part H.q 0 2 _) (ld_part H.k 0 2 _) (ld_part H.v 0 2 _) (dec_2 H) (qd_2 H)) x),
    fun x => (congrFun (tile_0_1 x0 x1 x2 x3 x4 x5 x6 x7 x8 x9) x).trans (tile_part 0 1 _ _ (rows_at (before_0_1 H) (ld_part H.q 0 1 _) (ld_part H.k 0 1 _) (ld_part H.v 0 1 _) (dec_1 H) (qd_1 H)) x),
    fun x => (congrFun (tile_0_0 x0 x1 x2 x3 x4 x5 x6 x9) x).trans (tile_part 0 0 _ _ (rows_at (before_0_0 H) (ld_part H.q 0 0 _) (ld_part H.k 0 0 _) (ld_part H.v 0 0 _) (dec_0 H) (qd_0 H)) x)⟩

/-- A state read through its two unit axes. -/
theorem st_part (h : ℕ) (hh : h < 4) (inb : ∀ i, (![0, h, 0, 0] : Fin 4 → ℕ) i + S1x1x128x128.size i ≤ S1x4x128x128.size i) {S : FVec Ideal S128x128 .f32}
    (hS : ∀ d e, S (ix2 d e) = ((stR (gam h) (head K h) (head W h) 2048 d e : ℝ) : EReal)) (x : S1x1x128x128.Idx) :
    shapeCast S1x1x128x128 S shapeCasts_S128x128_S1x1x128x128 x
      = stBlk K W ((Rect.unit (s := S1x4x128x128) ![0, h, 0, 0] S1x1x128x128.size inb).emb x) := by
  obtain ⟨d, e, rfl⟩ : ∃ (d e : Fin 128), x = ix4 0 0 d e := ⟨x 2, x 3, by
    funext i
    match i with
    | 0 => exact Fin.ext (by have : (x 0 : ℕ) < 1 := (x 0).isLt; show (x 0 : ℕ) = 0; omega)
    | 1 => exact Fin.ext (by have : (x 1 : ℕ) < 1 := (x 1).isLt; show (x 1 : ℕ) = 0; omega)
    | 2 => rfl
    | 3 => rfl⟩
  have hemb : (Rect.unit (s := S1x4x128x128) ![0, h, 0, 0] S1x1x128x128.size inb).emb (ix4 0 0 d e)
      = (ix4 0 ⟨h, hh⟩ d e : S1x4x128x128.Idx) := by
    funext i
    match i with
    | 0 => exact Fin.ext (by show 0 + 1 * 0 = 0; rfl)
    | 1 => exact Fin.ext (by show h + 1 * 0 = h; omega)
    | 2 => exact Fin.ext (by show 0 + 1 * (d : ℕ) = d; omega)
    | 3 => exact Fin.ext (by show 0 + 1 * (e : ℕ) = e; omega)
  rw [hemb]
  refine Eq.trans ?_ (hS d e)
  pointwise

/-- The state block. -/
theorem st_blk (H : Blk x0 x1 x2 x4 x5 x6 x7 x8 Q K W) (y : S1x4x128x128.Idx) :
    out0_11 x0 x1 x2 x3 x4 x5 x6 x7 x8 x9 y = stBlk K W y := by
  unfold out0_11
  refine View.canon_apply_of_pieces (Val := Elt Ideal) (e := .f32) (stBlk K W) _ ?_ y (cover0_11 _ _ _ _ y)
  simp only [List.forall_mem_cons, List.not_mem_nil, false_imp_iff, implies_true, and_true]
  refine ⟨fun x => (congrFun (last_3 x0 x1 x2 x3 x4 x5 x6 x7 x8 x9) x).trans (st_part 3 (by norm_num) _ (state_next (before_7_3 H) (ld_part H.k 1792 3 _) (ld_part H.v 1792 3 _) (gc_3 H) (kd_3 H)) x),
    fun x => (congrFun (last_2 x0 x1 x2 x3 x4 x5 x6 x7 x8 x9) x).trans (st_part 2 (by norm_num) _ (state_next (before_7_2 H) (ld_part H.k 1792 2 _) (ld_part H.v 1792 2 _) (gc_2 H) (kd_2 H)) x),
    fun x => (congrFun (last_1 x0 x1 x2 x3 x4 x5 x6 x7 x8 x9) x).trans (st_part 1 (by norm_num) _ (state_next (before_7_1 H) (ld_part H.k 1792 1 _) (ld_part H.v 1792 1 _) (gc_1 H) (kd_1 H)) x),
    fun x => (congrFun (last_0 x0 x1 x2 x3 x4 x5 x6 x7 x8 x9) x).trans (st_part 0 (by norm_num) _ (state_next (before_7_0 H) (ld_part H.k 1792 0 _) (ld_part H.v 1792 0 _) (gc_0 H) (kd_0 H)) x)⟩

end Cert.KernelIdeal.Ret

end
-- ==== Proof.RetTables.lean ====
/- The tables of decays the kernel is given, as powers of each head's decay per row. -/
module

public import proofs.«01_k».proof.Proof.RetRate
public import proofs.«01_k».proof.Proof.RetTile

@[expose] public section

set_option maxRecDepth 16384

noncomputable section

namespace Cert.KernelIdeal.Ret

open Cert.KernelIdeal Cert.KernelIdeal.Gen Idealize.ShloMosaic Idealize.SL.Sem Cert.Ret

variable (m : (ℓ : Loc nD τ sig) → Buf (Elt Ideal) ℓ) (c : Dev nD)

/-- The kernel starts from the zero state. -/
theorem tab_s0 (b : Fin 16) (h : Fin 4) (d e : Fin 128) :
    (V m c main_v0 : Vec Ideal S16x4x128x128 .f32) (ix4 b h d e) = ((0 : ℝ) : EReal) := by
  simp only [V, hostOps0, hostOps0_1, hostOps0_2, List.flatten_cons, List.flatten_nil, List.append_nil, List.cons_append, List.nil_append]
  entry_read
  pointwise
  simp

/-- The scale of the group norm, as the kernel is given it. -/
theorem tab_gn (e : Fin 512) :
    (V m c main_v54 : Vec Ideal S1x512 .f32) (ix2 0 e) = (m ((c.tc : Thread nD τ).loc main_arg1) : Vec Ideal S1x512 .f32) (ix2 0 e) := by
  simp only [V, hostOps0, hostOps0_1, hostOps0_2, List.flatten_cons, List.flatten_nil, List.append_nil, List.cons_append, List.nil_append]
  entry_read
  pointwise

/-- The decay over a whole chunk. -/
theorem tab_gc (h : Fin 4) (d : Fin 128) :
    (V m c main_v53 : Vec Ideal S4x1x128 .f32) (ix3 h 0 d) = ((gam h ^ 256 : ℝ) : EReal) := by
  simp only [V, hostOps0, hostOps0_1, hostOps0_2, List.flatten_cons, List.flatten_nil, List.append_nil, List.cons_append, List.nil_append]
  entry_read
  pointwise
  rw [rate_printed _ (by omega), lit_256, ← EReal.coe_mul, exp_rows _ 256 (by norm_num)]

/-- The decay from the chunk's start to row `l`. -/
theorem tab_qd (h : Fin 4) (l : Fin 256) (d : Fin 128) :
    (V m c main_v48 : Vec Ideal S4x256x128 .f32) (ix3 h l d) = ((gam h ^ ((l : ℕ) + 1) : ℝ) : EReal) := by
  simp only [V, hostOps0, hostOps0_1, hostOps0_2, List.flatten_cons, List.flatten_nil, List.append_nil, List.cons_append, List.nil_append]
  entry_read
  pointwise
  rw [rate_printed _ (by omega), word_real _ (by omega), ← EReal.coe_one, ← EReal.coe_add, ← EReal.coe_mul,
    exp_rows _ ((l : ℕ) + 1) (by push_cast; ring)]

/-- The decay from row `l` to the chunk's end. -/
theorem tab_kd (h : Fin 4) (l : Fin 256) (d : Fin 128) :
    (V m c main_v50 : Vec Ideal S4x256x128 .f32) (ix3 h l d) = ((gam h ^ (256 - 1 - (l : ℕ)) : ℝ) : EReal) := by
  simp only [V, hostOps0, hostOps0_1, hostOps0_2, List.flatten_cons, List.flatten_nil, List.append_nil, List.cons_append, List.nil_append]
  entry_read
  pointwise
  rw [rate_printed _ (by omega), word_real _ (by omega), lit_255, ← EReal.coe_sub, ← EReal.coe_mul,
    exp_rows _ (256 - 1 - (l : ℕ)) (by rw [Nat.cast_sub (by omega)]; norm_num)]

/-- The decay between two rows of a chunk, zero from a later row. -/
theorem tab_dec (h : Fin 4) (l j : Fin 256) :
    (V m c main_v27 : Vec Ideal S4x256x256 .f32) (ix3 h l j) = (((if (j : ℕ) ≤ l then gam h ^ ((l : ℕ) - j) else 0) : ℝ) : EReal) := by
  simp only [V, hostOps0, hostOps0_1, hostOps0_2, List.flatten_cons, List.flatten_nil, List.append_nil, List.cons_append, List.nil_append]
  entry_read
  simp only [StableHlo.TRef.ofBuf, StableHlo.TRef.toBuf, cast_cast, cast_eq]
  pointwise
  rw [rate_printed _ (by omega), word_real _ (by omega), word_real _ (by omega)]
  exact decay_printed h l j

end Cert.KernelIdeal.Ret

end
-- ==== Proof.RetValue.lean ====
/- The kernel's two results, read at an index. -/
module

public import proofs.«01_k».proof.Proof.RetBlock
public import proofs.«01_k».proof.Proof.RetTables

@[expose] public section

set_option maxRecDepth 16384

noncomputable section

namespace Cert.KernelIdeal.Ret

open Cert.KernelIdeal Cert.KernelIdeal.Gen Idealize.ShloMosaic Idealize.SL.Sem Cert.Ret

variable (m : (ℓ : Loc nD τ sig) → Buf (Elt Ideal) ℓ) (c : Dev nD)

/-- A sequence's rows of the input. -/
def seqOf (x : Vec Ideal S16x2048x3584 .bf16) (b : Fin 16) : Fin 2048 → Fin 3584 → EReal := fun t k => x (ix3 b t k)

theorem idx0 : ∀ t : Fin cfg0.N, win0_0.index t = ![(t : ℕ), 0, 0] := (by decide +kernel : ∀ t : Fin grid0.N, _)
theorem idx1 : ∀ t : Fin cfg0.N, win0_1.index t = ![(t : ℕ), 0, 1] := (by decide +kernel : ∀ t : Fin grid0.N, _)
theorem idx2 : ∀ t : Fin cfg0.N, win0_2.index t = ![(t : ℕ), 0, 2] := (by decide +kernel : ∀ t : Fin grid0.N, _)
theorem idx3 : ∀ t : Fin cfg0.N, win0_3.index t = ![(t : ℕ), 0, 3] := (by decide +kernel : ∀ t : Fin grid0.N, _)
theorem idx4 : ∀ t : Fin cfg0.N, win0_4.index t = ![(t : ℕ), 0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![(t : ℕ), 0, 0] := (by decide +kernel : ∀ t : Fin grid0.N, _)
theorem idx11 : ∀ t : Fin cfg0.N, win0_11.index t = ![(t : ℕ), 0, 0, 0] := (by decide +kernel : ∀ t : Fin grid0.N, _)

/-- The queries, keys and values of the input are real numbers. -/
def Real3 (x : Vec Ideal S16x2048x3584 .bf16) : Prop :=
  ∀ (b : Fin 16) (t : Fin 2048) (k : Fin 3584), (k : ℕ) < 1536 → ((seqOf x b t k).toReal : EReal) = seqOf x b t k

/-! What the kernel's blocks hold at sequence `t`. -/

theorem q_blk (t : Fin cfg0.N) (r : Fin 2048) (k : Fin 512) :
    (iblk m c 0 t : Vec Ideal S1x2048x512 .bf16) (ix3 0 r k) = seqOf (m ((c.tc : Thread nD τ).loc main_arg0)) t r ⟨k, by omega⟩ := by
  blk_simp [iblk]
  show _ = m ((c.tc : Thread nD τ).loc main_arg0) (ix3 t r ⟨k, _⟩)
  blk_ext [V, idx0 t]
theorem k_blk (t : Fin cfg0.N) (r : Fin 2048) (k : Fin 512) :
    (iblk m c 1 t : Vec Ideal S1x2048x512 .bf16) (ix3 0 r k) = seqOf (m ((c.tc : Thread nD τ).loc main_arg0)) t r ⟨512 + k, by omega⟩ := by
  blk_simp [iblk]
  show _ = m ((c.tc : Thread nD τ).loc main_arg0) (ix3 t r ⟨512 + k, _⟩)
  blk_ext [V, idx1 t]
theorem v_blk (t : Fin cfg0.N) (r : Fin 2048) (k : Fin 512) :
    (iblk m c 2 t : Vec Ideal S1x2048x512 .bf16) (ix3 0 r k) = seqOf (m ((c.tc : Thread nD τ).loc main_arg0)) t r ⟨1024 + k, by omega⟩ := by
  blk_simp [iblk]
  show _ = m ((c.tc : Thread nD τ).loc main_arg0) (ix3 t r ⟨1024 + k, _⟩)
  blk_ext [V, idx2 t]
theorem g_blk (t : Fin cfg0.N) (r : Fin 2048) (k : Fin 512) :
    (iblk m c 3 t : Vec Ideal S1x2048x512 .bf16) (ix3 0 r k) = seqOf (m ((c.tc : Thread nD τ).loc main_arg0)) t r ⟨1536 + k, by omega⟩ := by
  blk_simp [iblk]
  show _ = m ((c.tc : Thread nD τ).loc main_arg0) (ix3 t r ⟨1536 + k, _⟩)
  blk_ext [V, idx3 t]

theorem s0_blk (t : Fin cfg0.N) (h : Fin 4) (d e : Fin 128) :
    (iblk m c 4 t : Vec Ideal S1x4x128x128 .f32) (ix4 0 h d e) = ((0 : ℝ) : EReal) := by
  refine Eq.trans ?_ (tab_s0 m c t h d e)
  blk_simp [iblk]
  blk_ext [idx4 t]
theorem dec_blk (t : Fin cfg0.N) (h : Fin 4) (l j : Fin 256) :
    (iblk m c 5 t : Vec Ideal S4x256x256 .f32) (ix3 h l j) = (V m c main_v27 : Vec Ideal S4x256x256 .f32) (ix3 h l j) := by
  blk_simp [iblk]
  blk_ext [idx5 t]
theorem qd_blk (t : Fin cfg0.N) (h : Fin 4) (l : Fin 256) (d : Fin 128) :
    (iblk m c 6 t : Vec Ideal S4x256x128 .f32) (ix3 h l d) = (V m c main_v48 : Vec Ideal S4x256x128 .f32) (ix3 h l d) := by
  blk_simp [iblk]
  blk_ext [idx6 t]
theorem kd_blk (t : Fin cfg0.N) (h : Fin 4) (l : Fin 256) (d : Fin 128) :
    (iblk m c 7 t : Vec Ideal S4x256x128 .f32) (ix3 h l d) = (V m c main_v50 : Vec Ideal S4x256x128 .f32) (ix3 h l d) := by
  blk_simp [iblk]
  blk_ext [idx7 t]
theorem gc_blk (t : Fin cfg0.N) (h : Fin 4) (d : Fin 128) :
    (iblk m c 8 t : Vec Ideal S4x1x128 .f32) (ix3 h 0 d) = (V m c main_v53 : Vec Ideal S4x1x128 .f32) (ix3 h 0 d) := by
  blk_simp [iblk]
  blk_ext [idx8 t]
theorem gn_blk (t : Fin cfg0.N) (e : Fin 512) :
    (iblk m c 9 t : Vec Ideal S1x512 .f32) (ix2 0 e) = (m ((c.tc : Thread nD τ).loc main_arg1) : Vec Ideal S1x512 .f32) (ix2 0 e) := by
  refine Eq.trans ?_ (tab_gn m c e)
  blk_simp [iblk]
  blk_ext [idx9 t]

/-- All of them together. -/
theorem blk (hx : Real3 (m ((c.tc : Thread nD τ).loc main_arg0))) (t : Fin cfg0.N) :
    Blk (iblk m c 0 t) (iblk m c 1 t) (iblk m c 2 t) (iblk m c 4 t) (iblk m c 5 t) (iblk m c 6 t) (iblk m c 7 t) (iblk m c 8 t)
      (part (seqOf (m ((c.tc : Thread nD τ).loc main_arg0)) t) 0) (part (seqOf (m ((c.tc : Thread nD τ).loc main_arg0)) t) 512)
      (part (seqOf (m ((c.tc : Thread nD τ).loc main_arg0)) t) 1024) where
  q r k := by
    have h := part_real (hx t) 0 r k r.isLt (by omega)
    simp only [Nat.zero_add] at h
    exact (q_blk m c t r k).trans h
  k r k := (k_blk m c t r k).trans (part_real (hx t) 512 r k r.isLt (by omega))
  v r k := (v_blk m c t r k).trans (part_real (hx t) 1024 r k r.isLt (by omega))
  s0 h d e := s0_blk m c t h d e
  dec h l j := (dec_blk m c t h l j).trans (tab_dec m c h l j)
  qd h l d := (qd_blk m c t h l d).trans (tab_qd m c h l d)
  kd h l d := (kd_blk m c t h l d).trans (tab_kd m c h l d)
  gc h d := (gc_blk m c t h d).trans (tab_gc m c h d)

/-- An output block is its sequence's rows of the layer's output. -/
theorem out_point (t : Fin cfg0.N) (X : Fin 16 → Fin 2048 → Fin 3584 → EReal) (gn : Fin 512 → EReal)
    (x9 : Vec Ideal S1x512 .f32) (x3 : Vec Ideal S1x2048x512 .bf16) (h9 : ∀ e, x9 (ix2 0 e) = gn e)
    (h3 : ∀ (r : Fin 2048) (k : Fin 512), x3 (ix3 0 r k) = X t r ⟨1536 + k, by omega⟩) (y : S1x2048x512.Idx) :
    outBlk (part (X t) 0) (part (X t) 512) (part (X t) 1024) x9 x3 y = outAt (X t) (gn (y 2)) (y 1) (y 2) := by
  unfold outBlk outAt
  rw [h9 (y 2), h3 (y 1) (y 2)]

/-- The kernel's output array. -/
theorem arr10 (hx : Real3 (m ((c.tc : Thread nD τ).loc main_arg0))) : (dats m 0 c).arrAt 10 cfg0.N
    = (fun i : S16x2048x512.Idx => outAt (seqOf (m ((c.tc : Thread nD τ).loc main_arg0)) (i 0))
        ((m ((c.tc : Thread nD τ).loc main_arg1) : Vec Ideal S1x512 .f32) (ix2 0 (i 2))) (i 1) (i 2)) := by
  refine (dats m 0 c).arrAt_eq_of_covers 10 _ (by decide +kernel) fun t _ y => ?_
  blk_simp
  rw [after0_10]
  refine (out_blk (blk m c hx t) y).trans ?_
  refine (out_point t (seqOf (m ((c.tc : Thread nD τ).loc main_arg0))) (fun e => (m ((c.tc : Thread nD τ).loc main_arg1) : Vec Ideal S1x512 .f32) (ix2 0 e))
    _ _ (gn_blk m c t) (g_blk m c t) y).trans ?_
  have hy : (win0_10.blk t).view.emb y = (ix3 t (y 1) (y 2) : S16x2048x512.Idx) := by blk_ext [idx10 t]
  rw [hy]
  rfl

/-- The kernel's array of final states. -/
theorem arr11 (hx : Real3 (m ((c.tc : Thread nD τ).loc main_arg0))) : (dats m 0 c).arrAt 11 cfg0.N
    = (fun i : S16x4x128x128.Idx => stAt (seqOf (m ((c.tc : Thread nD τ).loc main_arg0)) (i 0)) (i 1) (i 2) (i 3)) := by
  refine (dats m 0 c).arrAt_eq_of_covers 11 _ (by decide +kernel) fun t _ y => ?_
  blk_simp
  rw [after0_11]
  refine (st_blk (blk m c hx t) y).trans ?_
  have hy : (win0_11.blk t).view.emb y = (ix4 t (y 1) (y 2) (y 3) : S16x4x128x128.Idx) := by blk_ext [idx11 t]
  rw [hy]
  rfl

end Cert.KernelIdeal.Ret

end
-- ==== Proof.RefStep.lean ====
/- One trip of the reference's loop on real contents. -/
module

public import proofs.«01_k».proof.Proof.RetRate
public import proofs.«01_k».proof.Proof.Gen.ReferenceIdeal.Step

@[expose] public section

set_option maxRecDepth 16384

noncomputable section

namespace Cert.ReferenceIdeal.Trip

open Idealize.ShloMosaic Idealize.ShloMosaic.StableHlo Cert.Ret
open Cert.ReferenceIdeal Cert.ReferenceIdeal.Gen Cert.ReferenceIdeal.Step

/-- Where trip `j` slices and writes: chunk `j`, nothing else moved. -/
theorem start_slice : ∀ (j : Fin 32) (a : Fin 5),
    Host.clampedStart S32x16x64x4x128 S1x16x64x4x128 rfl
      (fun k => ((![constantI S_ 32 (BitVec.ofNat 32 j), constantI S_ 32 0#32, constantI S_ 32 0#32, constantI S_ 32 0#32,
        constantI S_ 32 0#32] : Fin 5 → (⟨S_, .i32⟩ : BufTy).Contents (Elt Ideal)) k (Shape.Idx.first h_S_)).toInt) a
      = (![(j : ℕ), 0, 0, 0, 0] : Fin 5 → ℕ) a := by
  decide +kernel

/-- The trip's chunk of the queries. -/
theorem q_chunk (j : Fin 32) (s : State Ideal) (b : Fin 16) (l : Fin 64) (h : Fin 4) (d : Fin 128) :
    (b5 j s : Vec Ideal S16x64x4x128 .f32) (ix4 b l h d) = s.main_v23_0 (ix5 j b l h d) := by
  pointwise [b5, b4, b3, b2, b1, b0]
  simp only [start_slice]
  pointwise

/-- The trip's chunk of the keys. -/
theorem k_chunk (j : Fin 32) (s : State Ideal) (b : Fin 16) (l : Fin 64) (h : Fin 4) (d : Fin 128) :
    (b11 j s : Vec Ideal S16x64x4x128 .f32) (ix4 b l h d) = s.main_v23_1 (ix5 j b l h d) := by
  pointwise [b11, b10, b9, b8, b7, b6]
  simp only [start_slice]
  pointwise

/-- The trip's chunk of the values. -/
theorem v_chunk (j : Fin 32) (s : State Ideal) (b : Fin 16) (l : Fin 64) (h : Fin 4) (d : Fin 128) :
    (b17 j s : Vec Ideal S16x64x4x128 .f32) (ix4 b l h d) = s.main_v23_2 (ix5 j b l h d) := by
  pointwise [b17, b16, b15, b14, b13, b12]
  simp only [start_slice]
  pointwise

/-- The decays inside a chunk. -/
theorem decay_at (j : Fin 32) (s : State Ideal) (h : Fin 4) (l i : Fin 64) :
    (b41 j s : Vec Ideal S4x64x64 .f32) (ix3 h l i) = (((if (i : ℕ) ≤ l then gam h ^ ((l : ℕ) - i) else 0) : ℝ) : EReal) := by
  pointwise [b41, b40, b39, b38, b37, b36, b35, b34, b33, b32, b31, b30, b29, b28, b27, b26, b25, b24, b23, b22, b21, b20, b19, b18, K_main_v14, K_main_v13, K_main_v12, K_main_v11, K_main_v10, K_main_v9, K_main_v8, K_main_v7, K_main_cst, K_main_cst_0]
  rw [rate_printed _ (by omega), word_real _ (by omega), word_real _ (by omega)]
  exact decay_printed h l i

variable {γ : ℝ}

/-- The state a trip leaves. -/
theorem st_next (j : Fin 32) (s : State Ideal) (b : Fin 16) (h : Fin 4) {k v : ℕ → Fin 128 → ℝ} {t : ℕ}
    (hS : ∀ d e, s.main_v23_5 (ix4 b h d e) = ((stR (gam h) k v t d e : ℝ) : EReal))
    (hk : ∀ (l : Fin 64) d, s.main_v23_1 (ix5 j b l h d) = ((k (t + (l : ℕ)) d : ℝ) : EReal))
    (hv : ∀ (l : Fin 64) d, s.main_v23_2 (ix5 j b l h d) = ((v (t + (l : ℕ)) d : ℝ) : EReal)) (d e : Fin 128) :
    (b82 j s : Vec Ideal S16x4x128x128 .f32) (ix4 b h d e) = ((stR (gam h) k v (t + 64) d e : ℝ) : EReal) := by
  have hx : ∀ x : Fin 64, Ideal.exp ((((63 : ℝ) : EReal) - (((x : ℕ) : ℝ) : EReal)) * ((rate h : ℝ) : EReal))
      = ((gam h ^ (64 - 1 - (x : ℕ)) : ℝ) : EReal) := fun x => by
    rw [← EReal.coe_sub, ← EReal.coe_mul, exp_rows h (64 - 1 - (x : ℕ)) (by rw [Nat.cast_sub (by omega)]; norm_num)]
  have h64 : Ideal.exp ((64 * rate h : ℝ) : EReal) = ((gam h ^ 64 : ℝ) : EReal) := exp_rows h 64 (by norm_num)
  have hw : ∀ x : Fin 64, (FloatOps.sitofp .f32 (BitVec.ofNat 32 (x : ℕ)) : Ideal .f32) = (((x : ℕ) : ℝ) : EReal) :=
    fun x => word_real _ (by omega)
  pointwise [b82, b81, b80, b79, b78, b77, b76, b75, b74, b73, b72, b71, b70, b69, b68, b67, b66, b65, b64, b63, b62, b18, K_main_v14, K_main_v13, K_main_v12, K_main_v11, K_main_v10, K_main_v9, K_main_v8, K_main_v7, K_main_cst, K_main_cst_0]
  simp only [rate_printed h (by omega), lit_63, lit_64, k_chunk, v_chunk, hS, hk, hv, hx, h64, hw, ← EReal.coe_mul, ← coe_sum, ← EReal.coe_add]
  rw [stR_add]

/-- A row a trip computes. -/
theorem row_at (j : Fin 32) (s : State Ideal) (b : Fin 16) (h : Fin 4) {q k v : ℕ → Fin 128 → ℝ} {t : ℕ}
    (hS : ∀ d e, s.main_v23_5 (ix4 b h d e) = ((stR (gam h) k v t d e : ℝ) : EReal))
    (hq : ∀ (l : Fin 64) d, s.main_v23_0 (ix5 j b l h d) = ((q (t + (l : ℕ)) d : ℝ) : EReal))
    (hk : ∀ (l : Fin 64) d, s.main_v23_1 (ix5 j b l h d) = ((k (t + (l : ℕ)) d : ℝ) : EReal))
    (hv : ∀ (l : Fin 64) d, s.main_v23_2 (ix5 j b l h d) = ((v (t + (l : ℕ)) d : ℝ) : EReal)) (l : Fin 64) (e : Fin 128) :
    (b83 j s : Vec Ideal S16x64x4x128 .f32) (ix4 b l h e) = ((oR (gam h) q k v (t + (l : ℕ)) e : ℝ) : EReal) := by
  have hx : Ideal.exp (((((l : ℕ) : ℝ) : EReal) + 1) * ((rate h : ℝ) : EReal)) = ((gam h ^ ((l : ℕ) + 1) : ℝ) : EReal) := by
    rw [← EReal.coe_one, ← EReal.coe_add, ← EReal.coe_mul, exp_rows h ((l : ℕ) + 1) (by push_cast; ring)]
  have hw : (FloatOps.sitofp .f32 (BitVec.ofNat 32 (l : ℕ)) : Ideal .f32) = (((l : ℕ) : ℝ) : EReal) := word_real _ (by omega)
  pointwise [b83, b61, b60, b59, b58, b57, b56, b55, b54, b53, b52, b51, b50, b49, b48, b47, b46, b45, b44, b43, b42, b18, K_main_v14, K_main_v13, K_main_v12, K_main_v11, K_main_v10, K_main_v9, K_main_v8, K_main_v7, K_main_cst, K_main_cst_0]
  simp only [rate_printed h (by omega), q_chunk, k_chunk, v_chunk, decay_at, hS, hq, hk, hv, hw, hx, ← EReal.coe_mul, ← coe_sum, ← EReal.coe_add]
  rw [oR_add (gam h) q k v t 64 l l.isLt]
  congr 2
  · exact Finset.sum_congr rfl fun x _ => by ring
  · exact Finset.sum_congr rfl fun x _ => by ring

/-- The output array after a trip: its chunk replaced by the trip's rows. -/
theorem upd_at (j : Fin 32) (s : State Ideal) (n : Fin 32) (b : Fin 16) (l : Fin 64) (h : Fin 4) (e : Fin 128) :
    (b89 j s : Vec Ideal S32x16x64x4x128 .f32) (ix5 n b l h e)
      = if n = j then (b83 j s : Vec Ideal S16x64x4x128 .f32) (ix4 b l h e) else s.main_v23_6 (ix5 n b l h e) := by
  pointwise [b89, b88, b87, b86, b85, b84]
  simp only [start_slice]
  by_cases hn : n = j
  · subst hn
    rw [if_pos rfl, dif_pos (by simp)]
    rfl
  · have hn' : (n : ℕ) ≠ j := fun e => hn (Fin.ext e)
    rw [if_neg hn, dif_neg]
    rintro ⟨⟨h0, h1⟩, -⟩
    have h0' : (j : ℕ) ≤ n := h0
    have h1' : (n : ℕ) < j + 1 := h1
    omega

end Cert.ReferenceIdeal.Trip

end
-- ==== Proof.RefTrip.lean ====
/- The reference's loop, trip by trip: what its run leaves in the two results, as one step iterated over the
   carried arrays. -/
module

public import proofs.«01_k».proof.Proof.Gen.ReferenceIdeal.Run
public import proofs.«01_k».proof.Proof.Gen.ReferenceIdeal.Step

@[expose] public section

set_option maxRecDepth 16384

noncomputable section

namespace Cert.ReferenceIdeal.Trip

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The loop's buffers hold the carried arrays `s`, the decay rates, and the number `j` of the trip. -/
structure Carries (V : Valuation τ sig (Elt F)) (s : State F) (j : ℕ) : Prop where
  st : V (Proc.devRef .tc main_v23_5) = s.main_v23_5
  out : V (Proc.devRef .tc main_v23_6) = s.main_v23_6
  q : V (Proc.devRef .tc main_v23_0) = s.main_v23_0
  k : V (Proc.devRef .tc main_v23_1) = s.main_v23_1
  v : V (Proc.devRef .tc main_v23_2) = s.main_v23_2
  n : V (Proc.devRef .tc main_v23_4) = constantI S_ 32 (BitVec.ofNat 32 j)
  rate : V (Proc.devRef .tc main_v23_3) = Step.K_main_v14 (F := F)

variable {V : Valuation τ sig (Elt F)} {s : State F} {j : ℕ}

/-- A trip's new state is the step's. -/
theorem trip_st (h : Carries V s j) : step_main_v23_5 V = Step.b82 j s := by
  unfold step_main_v23_5 res_main_while0b_v55 res_main_while0b_v56 res_main_while0b_v57
  rw [h.st, h.k, h.v, h.n, h.rate]
  rfl

/-- A trip's output array is the step's. -/
theorem trip_out (h : Carries V s j) : step_main_v23_6 V = Step.b89 j s := by
  unfold step_main_v23_6 res_main_while0b_v54 res_main_while0b_v55 res_main_while0b_v56 res_main_while0b_v62 res_main_while0b_v57
  rw [h.out, h.st, h.q, h.k, h.v, h.n, h.rate]
  rfl

/-- The counter goes up by one. -/
theorem trip_n (h : Carries V s j) : step_main_v23_4 V = constantI S_ 32 (BitVec.ofNat 32 (j + 1)) := by
  unfold step_main_v23_4
  rw [h.n]
  funext i
  show BitVec.ofNat 32 j + 1#32 = BitVec.ofNat 32 (j + 1)
  simp only [BitVec.ofNat_add]

/-- One trip over the buffers is one step over the carried arrays. -/
theorem trip (h : Carries V s j) : Carries (STEP V) (step j s) (j + 1) where
  st := (STEP_main_v23_5 V).trans (trip_st h)
  out := (STEP_main_v23_6 V).trans (trip_out h)
  q := (STEP_main_v23_0 V).trans h.q
  k := (STEP_main_v23_1 V).trans h.k
  v := (STEP_main_v23_2 V).trans h.v
  n := (STEP_main_v23_4 V).trans (trip_n h)
  rate := (STEP_main_v23_3 V).trans h.rate

variable (m : (ℓ : Loc nD τ sig) → Buf (Elt F) ℓ) (c : Dev nD)

set_option maxRecDepth 65536 in
set_option maxHeartbeats 300000 in
/-- What the loop starts from. -/
theorem enter : Carries (entryContents preI m c) (init (m ((c.tc : Thread nD τ).loc main_arg0))) 0 := by
  constructor <;> (simp only [entryContents, afterL_cons, afterL_nil]; after_reads_simp) <;> rfl

/-- The carried arrays before trip `k`. -/
def carried (x : (⟨S16x2048x3584, .bf16⟩ : BufTy).Contents (Elt F)) : ℕ → State F
  | 0 => init x
  | k + 1 => step k (carried x k)

/-- The buffers before trip `k` hold them. -/
theorem carries (k : ℕ) :
    Carries (STEP^[k] (entryContents preI m c)) (carried (m ((c.tc : Thread nD τ).loc main_arg0)) k) k := by
  induction k with
  | zero => exact enter m c
  | succ k ih => rw [Function.iterate_succ_apply']; exact trip ih

/-- What follows the loop makes of the last carried arrays. -/
theorem tail_eq {x : (⟨S16x2048x3584, .bf16⟩ : BufTy).Contents (Elt F)} {g : (⟨S1x512, .f32⟩ : BufTy).Contents (Elt F)}
    (h : Carries V s j) (hx : V (Proc.devRef .tc main_arg0) = x) (hg : V (Proc.devRef .tc main_arg1) = g) :
    out_main_v53 V = Step.R_main_v53 s x g := by
  unfold out_main_v53
  rw [h.out, hx, hg]
  rfl

/-- The reference ends with its two results read off the arrays carried out of trip 31, its arguments unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v53)
        = Step.R_main_v53 (carried (m ((c.tc : Thread nD τ).loc main_arg0)) 32) (m ((c.tc : Thread nD τ).loc main_arg0))
            (m ((c.tc : Thread nD τ).loc main_arg1))
      ∧ r.2.mem ((c.tc : Thread nD τ).loc main_v23_5) = (carried (m ((c.tc : Thread nD τ).loc main_arg0)) 32).main_v23_5
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans (tail_eq (carries m c 32) (iter_main_arg0 m c 32) (iter_main_arg1 m c 32)),
      (h c).2.1.trans (carries m c 32).st, (h c).2.2.1, (h c).2.2.2⟩) (Value.run m ρ)

end Cert.ReferenceIdeal.Trip

end
-- ==== Proof.RefValue.lean ====
/- The reference's two results, read at an index. -/
module

public import proofs.«01_k».proof.Proof.RefStep
public import proofs.«01_k».proof.Proof.RefTrip

@[expose] public section

set_option maxRecDepth 16384

noncomputable section

namespace Cert.ReferenceIdeal.Trip

open Idealize.ShloMosaic Idealize.ShloMosaic.StableHlo Cert.Ret
open Cert.ReferenceIdeal Cert.ReferenceIdeal.Gen Cert.ReferenceIdeal.Step

variable (x : (⟨S16x2048x3584, .bf16⟩ : BufTy).Contents (Elt Ideal))

/-- A sequence's rows of the input. -/
def seqOf (b : Fin 16) : Fin 2048 → Fin 3584 → EReal := fun t k => (x : Vec Ideal S16x2048x3584 .bf16) (ix3 b t k)

/-- The queries, keys and values of the input are real numbers. -/
def Real3 : Prop := ∀ (b : Fin 16) (t : Fin 2048) (k : Fin 3584), (k : ℕ) < 1536 → ((seqOf x b t k).toReal : EReal) = seqOf x b t k

variable {x}

/-- A real entry by its row and column. -/
theorem part_at (hx : Real3 x) (b : Fin 16) (off t k : ℕ) (ht : t < 2048) (hk : off + k < 1536) :
    seqOf x b ⟨t, ht⟩ ⟨off + k, by omega⟩ = ((part (seqOf x b) off t k : ℝ) : EReal) :=
  part_real (hx b) off t k ht hk

theorem q_entry (hx : Real3 x) (n : Fin 32) (b : Fin 16) (l : Fin 64) (h : Fin 4) (d : Fin 128) :
    (A_main_v17 x : Vec Ideal S32x16x64x4x128 .f32) (ix5 n b l h d) = ((head (part (seqOf x b) 0) h (64 * (n : ℕ) + (l : ℕ)) d : ℝ) : EReal) := by
  refine Eq.trans ?_ (part_at hx b 0 (64 * (n : ℕ) + (l : ℕ)) (128 * (h : ℕ) + (d : ℕ)) (by omega) (by omega))
  pointwise [A_main_v17, A_main_v16, A_main_v2, A_main_v1, A_main_v0, seqOf]
  congr 2 <;> exact Fin.ext (by show _ = _; simp only []; omega)

theorem k_entry (hx : Real3 x) (n : Fin 32) (b : Fin 16) (l : Fin 64) (h : Fin 4) (d : Fin 128) :
    (A_main_v19 x : Vec Ideal S32x16x64x4x128 .f32) (ix5 n b l h d) = ((head (part (seqOf x b) 512) h (64 * (n : ℕ) + (l : ℕ)) d : ℝ) : EReal) := by
  refine Eq.trans ?_ (part_at hx b 512 (64 * (n : ℕ) + (l : ℕ)) (128 * (h : ℕ) + (d : ℕ)) (by omega) (by omega))
  pointwise [A_main_v19, A_main_v18, A_main_v4, A_main_v3, A_main_v0, seqOf]
  congr 2 <;> exact Fin.ext (by show _ = _; simp only []; omega)

theorem v_entry (hx : Real3 x) (n : Fin 32) (b : Fin 16) (l : Fin 64) (h : Fin 4) (d : Fin 128) :
    (A_main_v21 x : Vec Ideal S32x16x64x4x128 .f32) (ix5 n b l h d) = ((head (part (seqOf x b) 1024) h (64 * (n : ℕ) + (l : ℕ)) d : ℝ) : EReal) := by
  refine Eq.trans ?_ (part_at hx b 1024 (64 * (n : ℕ) + (l : ℕ)) (128 * (h : ℕ) + (d : ℕ)) (by omega) (by omega))
  pointwise [A_main_v21, A_main_v20, A_main_v6, A_main_v5, A_main_v0, seqOf]
  congr 2 <;> exact Fin.ext (by show _ = _; simp only []; omega)

/-- What the carried arrays hold before trip `n`, for one sequence and head. -/
structure Held (x : (⟨S16x2048x3584, .bf16⟩ : BufTy).Contents (Elt Ideal)) (b : Fin 16) (h : Fin 4) (n : ℕ) (s : State Ideal) : Prop where
  st : ∀ d e, s.main_v23_5 (ix4 b h d e)
    = ((stR (gam h) (head (part (seqOf x b) 512) h) (head (part (seqOf x b) 1024) h) (64 * n) d e : ℝ) : EReal)
  q : ∀ (i : Fin 32) (l : Fin 64) d, s.main_v23_0 (ix5 i b l h d) = ((head (part (seqOf x b) 0) h (64 * (i : ℕ) + (l : ℕ)) d : ℝ) : EReal)
  k : ∀ (i : Fin 32) (l : Fin 64) d, s.main_v23_1 (ix5 i b l h d) = ((head (part (seqOf x b) 512) h (64 * (i : ℕ) + (l : ℕ)) d : ℝ) : EReal)
  v : ∀ (i : Fin 32) (l : Fin 64) d, s.main_v23_2 (ix5 i b l h d) = ((head (part (seqOf x b) 1024) h (64 * (i : ℕ) + (l : ℕ)) d : ℝ) : EReal)
  out : ∀ (i : Fin 32) (l : Fin 64) e, (i : ℕ) < n → s.main_v23_6 (ix5 i b l h e)
    = ((oR (gam h) (head (part (seqOf x b) 0) h) (head (part (seqOf x b) 512) h) (head (part (seqOf x b) 1024) h)
        (64 * (i : ℕ) + (l : ℕ)) e : ℝ) : EReal)

/-- Every trip hands them on. -/
theorem held (hx : Real3 x) (b : Fin 16) (h : Fin 4) (n : ℕ) (hn : n ≤ 32) : Held x b h n (carried x n) := by
  induction n with
  | zero =>
    refine ⟨fun d e => ?_, fun i l d => q_entry hx i b l h d, fun i l d => k_entry hx i b l h d, fun i l d => v_entry hx i b l h d,
      fun i l e hi => absurd hi (Nat.not_lt_zero _)⟩
    rw [Nat.mul_zero, stR_zero]
    show (K_main_v15 (F := Ideal) : Vec Ideal S16x4x128x128 .f32) (ix4 b h d e) = _
    pointwise [K_main_v15, K_main_cst_1]
    simp
  | succ n ih =>
    have H := ih (by omega)
    refine ⟨fun d e => ?_, H.q, H.k, H.v, fun i l e hi => ?_⟩
    · exact st_next ⟨n, by omega⟩ (carried x n) b h H.st (H.k ⟨n, by omega⟩) (H.v ⟨n, by omega⟩) d e
    · refine (upd_at ⟨n, by omega⟩ (carried x n) i b l h e).trans ?_
      by_cases hin : i = ⟨n, by omega⟩
      · rw [if_pos hin, hin]
        exact row_at ⟨n, by omega⟩ (carried x n) b h H.st (H.q ⟨n, by omega⟩) (H.k ⟨n, by omega⟩) (H.v ⟨n, by omega⟩) l e
      · rw [if_neg hin]
        have hne : (i : ℕ) ≠ n := fun e => hin (Fin.ext e)
        exact H.out i l e (by omega)

/-- What follows the loop, of arrays that hold the whole sequence's rows. -/
theorem tail_value {s : State Ideal} (hs : ∀ b h, Held x b h 32 s) (g : (⟨S1x512, .f32⟩ : BufTy).Contents (Elt Ideal))
    (b : Fin 16) (t : Fin 2048) (k : Fin 512) :
    (R_main_v53 s x g : Vec Ideal S16x2048x512 .bf16) (ix3 b t k)
      = outAt (seqOf x b) ((g : Vec Ideal S1x512 .f32) (ix2 0 k)) t k := by
  have hO : ∀ e : Fin 128, s.main_v23_6 (ix5 ⟨(t : ℕ) / 64, by omega⟩ b ⟨(t : ℕ) % 64, Nat.mod_lt _ (by norm_num)⟩ ⟨(k : ℕ) / 128, by omega⟩ e)
      = ((oR (gam ((k : ℕ) / 128)) (head (part (seqOf x b) 0) ((k : ℕ) / 128)) (head (part (seqOf x b) 512) ((k : ℕ) / 128))
          (head (part (seqOf x b) 1024) ((k : ℕ) / 128)) t e : ℝ) : EReal) := fun e => by
    have ht : 64 * ((t : ℕ) / 64) + (t : ℕ) % 64 = t := Nat.div_add_mod _ _
    rw [(hs b ⟨(k : ℕ) / 128, by omega⟩).out ⟨(t : ℕ) / 64, by omega⟩ ⟨(t : ℕ) % 64, Nat.mod_lt _ (by norm_num)⟩ e
      (Nat.div_lt_of_lt_mul t.isLt)]
    simp only [ht]
  pointwise [R_main_v53]
  simp only [hO]
  rfl

/-- The final state. -/
theorem state_value (hx : Real3 x) {s : State Ideal} (hs : s = carried x 32) (b : Fin 16) (h : Fin 4) (d e : Fin 128) :
    s.main_v23_5 (ix4 b h d e) = stAt (seqOf x b) h d e := by
  have H : Held x b h 32 s := hs ▸ held hx b h 32 le_rfl
  exact H.st d e

/-- The output. -/
theorem out_value (hx : Real3 x) {s : State Ideal} (hs : s = carried x 32) (g : (⟨S1x512, .f32⟩ : BufTy).Contents (Elt Ideal))
    (b : Fin 16) (t : Fin 2048) (k : Fin 512) :
    (R_main_v53 s x g : Vec Ideal S16x2048x512 .bf16) (ix3 b t k)
      = outAt (seqOf x b) ((g : Vec Ideal S1x512 .f32) (ix2 0 k)) t k :=
  tail_value (fun b h => hs ▸ held hx b h 32 le_rfl) g b t k

end Cert.ReferenceIdeal.Trip

end
-- ==== Proof.Frames.lean ====
/- The reference's arguments and counters, and the two programs' results side by side. -/
module

public import proofs.«01_k».proof.Proof.RetValue
public import proofs.«01_k».proof.Proof.RefValue
public import Idealize.ShloMosaic.Lib.Claim
public import Idealize.ShloMosaic.Lib.Quiescent

@[expose] public section

set_option maxRecDepth 16384

noncomputable section

namespace Cert.ReferenceIdeal.Trip

open Idealize.ShloMosaic Idealize.SL.Sem Cert.ReferenceIdeal

/-- The reference leaves its arguments unchanged; it has no counters. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => ⟨(h c).2.2.1, (h c).2.2.2⟩, sem_eq_zero_of_no_sems (by decide) r.2⟩) (run m ρ)

/-- The reference's output array over an input `x` and gains `g`. -/
theorem out_array {x : Vec Ideal S16x2048x3584 .bf16} (hx : Real3 x) {s : Step.State Ideal} (hs : s = carried x 32)
    (g : Vec Ideal S1x512 .f32) :
    Step.R_main_v53 s x g
      = (fun i : S16x2048x512.Idx => Cert.Ret.outAt (seqOf x (i 0)) (g (ix2 0 (i 2))) (i 1) (i 2)) := by
  funext i
  have hi : i = (ix3 (i 0) (i 1) (i 2) : S16x2048x512.Idx) := by funext a; fin_cases a <;> rfl
  refine Eq.trans (congrArg (Step.R_main_v53 s x g) hi) ?_
  exact out_value hx hs g (i 0) (i 1) (i 2)

/-- The reference's array of final states. -/
theorem state_array {x : Vec Ideal S16x2048x3584 .bf16} (hx : Real3 x) {s : Step.State Ideal} (hs : s = carried x 32) :
    s.main_v23_5 = (fun i : S16x4x128x128.Idx => Cert.Ret.stAt (seqOf x (i 0)) (i 1) (i 2) (i 3)) := by
  funext i
  have hi : i = (ix4 (i 0) (i 1) (i 2) (i 3) : S16x4x128x128.Idx) := by funext a; fin_cases a <;> rfl
  refine Eq.trans (congrArg s.main_v23_5 hi) ?_
  exact state_value hx hs (i 0) (i 1) (i 2) (i 3)

end Cert.ReferenceIdeal.Trip

end
-- ==== Proof.Finite.lean ====
/- The precondition read back: the queries, keys and values of the input are real numbers. -/
module

public import proofs.«01_k».proof.Pre_finite_qkv
public import proofs.«01_k».proof.Proof.RetRate
public import Idealize.ShloMosaic.Lib.ReduceAll
public import Idealize.ShloMosaic.Lib.Pointwise

@[expose] public section

set_option maxRecDepth 16384

noncomputable section

namespace Cert.Pre_finite_qkv

open Idealize.ShloMosaic

/-- The side conditions the predicate states. -/
theorem pre_facts : Facts where
  slices_S16x2048x3584_S16x2048x1536_0_0_0 := by decide
  bitsLt_bf16_f32 := by decide
  bcast_S_S16x2048x1536 := by decide
  reducesTo_S16x2048x1536_S_d0_1_2 := by decide
  h_S_ := by decide

/-- An extended real below `⊤` in magnitude is a real. -/
theorem real_of_abs_lt {a : EReal} (h : max a (-a) < ⊤) : (a.toReal : EReal) = a := by
  have h1 : a ≠ ⊤ := fun e => by rw [e] at h; exact absurd (lt_of_le_of_lt (le_max_left _ _) h) (lt_irrefl _)
  have h2 : a ≠ ⊥ := fun e => by
    rw [e] at h
    exact absurd (lt_of_le_of_lt (le_max_right _ _) h) (by rw [EReal.neg_bot]; exact lt_irrefl _)
  exact EReal.coe_toReal h1 h2

instance : Subsingleton S_.Idx := ⟨fun a b => funext fun i => i.elim0⟩

/-- Every entry the predicate reads is a real. -/
theorem entry_real [Facts] (x : FVec Ideal S16x2048x3584 .bf16) (g : FVec Ideal S1x512 .f32)
    (h : fn (F := Ideal) x g = fun _ => 1#1) (b : Fin 16) (t : Fin 2048) (k : Fin 3584) (hk : (k : ℕ) < 1536) :
    ((x (ix3 b t k)).toReal : EReal) = x (ix3 b t k) := by
  have e := congrFun h (fun i => i.elim0)
  dsimp only [fn] at e
  have e1 := Host.reduce_andi_all _ _ _ _ _ e (ix3 b t ⟨k, hk⟩ : S16x2048x1536.Idx)
  have e2 : Ideal.cmp .olt (max (x (ix3 b t k)) (-(x (ix3 b t k)))) (Ideal.ofBits .f32 0x7F800000#32) = 1#1 := by
    refine Eq.trans ?_ e1
    pointwise
    rfl
  rw [Cert.Ret.lit_inf] at e2
  exact real_of_abs_lt ((Ideal.cmp_olt_eq_one _ _).1 e2)

end Cert.Pre_finite_qkv

end
-- ==== Proof.FfnGelu.lean ====
/- The feed-forward part's activation: the kernel's exponential form of gelu against the hyperbolic tangent form,
   equal at every extended real. -/
module

public import Idealize.ShloMosaic.Lib.Pipeline.ValueKit

@[expose] public section

noncomputable section

namespace Cert.Ffn

open Idealize.ShloMosaic

/-- The factor of the cube inside the activation's tangent. -/
def cubeR : ℝ := 12003091 / 268435456

/-- The factor in front of the activation's tangent's argument. -/
def rootR : ℝ := 6693141 / 8388608

/-- The kernel's first constant: minus twice `rootR`, in the unit of base two exponents. -/
def kOne : ℝ := (-2) * ((6693141 / 8388608) * (Real.log 2)⁻¹)

/-- The kernel's second constant: the first times `cubeR`. -/
def kThree : ℝ := ((-2) * ((6693141 / 8388608) * (Real.log 2)⁻¹)) * (12003091 / 268435456)

/-- The activation as the kernel computes it. -/
def geluK (v : EReal) : EReal :=
  v * Ideal.div ((1 : ℝ) : EReal) (((1 : ℝ) : EReal) + Ideal.exp2 (v * ((kOne : EReal) + (kThree : EReal) * (v * v))))

/-- The activation as the layer states it. -/
def gelu (v : EReal) : EReal :=
  v * (((1 / 2 : ℝ) : EReal) * (((1 : ℝ) : EReal) + Ideal.tanh ((rootR : EReal) * (v + (cubeR : EReal) * (v * v * v)))))

theorem kThree_neg : kThree < 0 := by
  have h : (0 : ℝ) < Real.log 2 := Real.log_pos (by norm_num)
  have h' := inv_pos.mpr h
  unfold kThree
  nlinarith

theorem rootR_pos : 0 < rootR := by norm_num [rootR]

theorem cubeR_pos : 0 < cubeR := by norm_num [cubeR]

/-- The real identity: one over one plus the exponential is half of one plus the tangent. -/
theorem half_tanh (z : ℝ) : 1 / (1 + Real.exp (-(2 * z))) = 1 / 2 * (1 + Real.tanh z) := by
  rw [Real.tanh_eq_sinh_div_cosh, Real.sinh_eq, Real.cosh_eq]
  have h1 : Real.exp (-(2 * z)) = Real.exp (-z) * Real.exp (-z) := by rw [← Real.exp_add]; congr 1; ring
  have h2 : Real.exp z * Real.exp (-z) = 1 := by rw [← Real.exp_add]; simp
  have p1 := Real.exp_pos z
  have p2 := Real.exp_pos (-z)
  rw [h1]
  have e1 : 1 + Real.exp (-z) * Real.exp (-z) ≠ 0 := by positivity
  have e2 : Real.exp z + Real.exp (-z) ≠ 0 := by positivity
  field_simp
  nlinarith [h2]

/-- The exponent of the kernel is the tangent's argument, doubled and negated. -/
theorem two_rpow (v : ℝ) :
    Real.rpow 2 (v * (kOne + kThree * (v * v))) = Real.exp (-(2 * (rootR * (v + cubeR * (v * v * v))))) := by
  have h : Real.log 2 ≠ 0 := (Real.log_pos (by norm_num)).ne'
  show (2 : ℝ) ^ (v * (kOne + kThree * (v * v))) = _
  rw [Real.rpow_def_of_pos (by norm_num)]
  congr 1
  unfold kOne kThree rootR cubeR
  field_simp
  ring

/-- The two forms of the activation are one function of the extended reals. -/
theorem geluK_eq (v : EReal) : geluK v = gelu v := by
  unfold geluK gelu
  induction v with
  | bot =>
    have e : ((rootR : EReal) * (⊥ + (cubeR : EReal) * (⊥ * ⊥ * ⊥))) = ⊥ := by
      simp [EReal.coe_mul_bot_of_pos cubeR_pos, EReal.coe_mul_bot_of_pos rootR_pos]
    have e' : (⊥ : EReal) * ((kOne : EReal) + (kThree : EReal) * (⊥ * ⊥)) = ⊤ := by
      simp [EReal.coe_mul_top_of_neg kThree_neg]
    have e3 : Ideal.div ((1 : ℝ) : EReal) (((1 : ℝ) : EReal) + Ideal.exp2 ⊤) = 0 := by
      rw [Ideal.exp2_top, EReal.coe_add_top]
      simp [Ideal.div]
    have e4 : ((1 / 2 : ℝ) : EReal) * (((1 : ℝ) : EReal) + Ideal.tanh ⊥) = 0 := by
      rw [Ideal.tanh_bot, ← EReal.coe_one, ← EReal.coe_neg, ← EReal.coe_add, ← EReal.coe_mul]; norm_num
    rw [e, e', e3, e4]
  | top =>
    have e : ((rootR : EReal) * (⊤ + (cubeR : EReal) * (⊤ * ⊤ * ⊤))) = ⊤ := by
      simp [EReal.coe_mul_top_of_pos cubeR_pos, EReal.coe_mul_top_of_pos rootR_pos]
    have e' : (⊤ : EReal) * ((kOne : EReal) + (kThree : EReal) * (⊤ * ⊤)) = ⊥ := by
      simp [EReal.coe_mul_top_of_neg kThree_neg]
    rw [e, e']
    have e3 : Ideal.div ((1 : ℝ) : EReal) (((1 : ℝ) : EReal) + Ideal.exp2 ⊥) = ((1 : ℝ) : EReal) := by
      rw [Ideal.exp2_bot, add_zero, Ideal.div_coe one_ne_zero, ← EReal.coe_mul]; norm_num
    have e4 : ((1 / 2 : ℝ) : EReal) * (((1 : ℝ) : EReal) + Ideal.tanh ⊤) = ((1 : ℝ) : EReal) := by
      rw [Ideal.tanh_top, ← EReal.coe_one, ← EReal.coe_add, ← EReal.coe_mul]; norm_num
    rw [e3, e4]
  | coe v =>
    have e : (rootR : EReal) * ((v : EReal) + (cubeR : EReal) * (v * v * v)) = ((rootR * (v + cubeR * (v * v * v)) : ℝ) : EReal) := by
      push_cast; rfl
    have e' : (v : EReal) * ((kOne : EReal) + (kThree : EReal) * (v * v)) = ((v * (kOne + kThree * (v * v)) : ℝ) : EReal) := by
      push_cast; rfl
    rw [e, e', Ideal.exp2_coe, Ideal.tanh_coe, two_rpow, ← EReal.coe_add, ← EReal.coe_add, ← EReal.coe_mul,
      Ideal.div_coe (by positivity), ← EReal.coe_mul, ← half_tanh, one_mul]

end Cert.Ffn

end
-- ==== Proof.FfnRow.lean ====
/- One row of the output projection with the feed-forward part after it, as plain functions of the row's own
   vectors, the weights, and the gate branch of the two rows before. -/
module

public import proofs.«01_k».proof.Proof.FfnGelu

@[expose] public section

noncomputable section

namespace Cert.Ffn

open Idealize.ShloMosaic

/-- The residual row: the input and the gated output projection of the two mixers' rows. -/
def xRow (x : Fin 1024 → EReal) (o1 o2 : Fin 512 → EReal) (W : Fin 1024 → Fin 1024 → EReal) (g : Fin 1024 → EReal)
    (c : Fin 1024) : EReal :=
  x c + g c * ((∑ k : Fin 512, o1 k * W ⟨k, by omega⟩ c) + ∑ k : Fin 512, o2 k * W ⟨512 + k, by omega⟩ c)

/-- The normalised and modulated row. -/
def hRow (x n sc sh : Fin 1024 → EReal) (c : Fin 1024) : EReal :=
  x c * Ideal.rsqrt (Ideal.div (∑ k : Fin 1024, x k * x k) (Ideal.ofBits .f32 0x44800000#32) + Ideal.ofBits .f32 0x358637BD#32) * n c
      * (1 + sc c) + sh c

/-- A column of the up projection of a row. -/
def upRow (h : Fin 1024 → EReal) (W : Fin 1024 → Fin 5632 → EReal) (j : Fin 5632) : EReal := ∑ k : Fin 1024, h k * W k j

/-- The value branch: the first half of the up projection. -/
def valRow (h : Fin 1024 → EReal) (W : Fin 1024 → Fin 5632 → EReal) (j : Fin 2816) : EReal := upRow h W ⟨j, by omega⟩

/-- The gate branch: the second half of the up projection. -/
def gateRow (h : Fin 1024 → EReal) (W : Fin 1024 → Fin 5632 → EReal) (j : Fin 2816) : EReal :=
  upRow h W ⟨2816 + j, by omega⟩

/-- The convolution of the gate branch over three rows: two rows back, one row back, the row itself. -/
def convRow (b2 b1 g w0 w1 w2 b : EReal) : EReal := b + b2 * w0 + b1 * w1 + g * w2

/-- The down projection of a row. -/
def downRow (a : Fin 2816 → EReal) (W : Fin 2816 → Fin 1024 → EReal) (c : Fin 1024) : EReal :=
  (∑ k : Fin 1536, a ⟨k, by omega⟩ * W ⟨k, by omega⟩ c) + ∑ k : Fin 1280, a ⟨1536 + k, by omega⟩ * W ⟨1536 + k, by omega⟩ c

/-- A sum over the 1024 columns of the two mixers is the sum over the first and the sum over the second. -/
theorem sum_1024 (f : Fin 1024 → EReal) :
    ∑ k, f k = (∑ k : Fin 512, f ⟨k, by omega⟩) + ∑ k : Fin 512, f ⟨512 + k, by omega⟩ :=
  Fin.sum_univ_add (a := 512) (b := 512) f

/-- A sum over the 2816 columns of the feed-forward part, split where the kernel splits it. -/
theorem sum_2816 (f : Fin 2816 → EReal) :
    ∑ k, f k = (∑ k : Fin 1536, f ⟨k, by omega⟩) + ∑ k : Fin 1280, f ⟨1536 + k, by omega⟩ :=
  Fin.sum_univ_add (a := 1536) (b := 1280) f

/-- The down projection is one sum over the columns. -/
theorem downRow_eq (a : Fin 2816 → EReal) (W : Fin 2816 → Fin 1024 → EReal) (c : Fin 1024) :
    downRow a W c = ∑ k, a k * W k c := (sum_2816 fun k => a k * W k c).symm

/-- The three taps summed in the other order, the offset last. -/
theorem convRow_eq (b2 b1 g w0 w1 w2 b : EReal) : convRow b2 b1 g w0 w1 w2 b = b2 * w0 + b1 * w1 + g * w2 + b := by
  unfold convRow
  rw [add_comm _ b, add_assoc, add_assoc, add_assoc]

end Cert.Ffn

end
-- ==== Proof.FfnTile.lean ====
/- The feed-forward kernel's payloads at an index: the residual row, the normalised row, the up projection, the
   activated product, the last sum; and the eleven column chunks' payloads, which are one function. -/
module

public import proofs.«01_k».proof.Proof.FfnRow
public import proofs.«01_k».proof.Proof.Gen.Kernel2Ideal.Skeleton
public import Idealize.ShloMosaic.Lib.Pipeline.ValueKit

@[expose] public section

set_option maxRecDepth 16384

noncomputable section

namespace Cert.Kernel2Ideal.Ffn

open Idealize.ShloMosaic Idealize.SL.Sem Cert.Ffn Cert.Kernel2Ideal.Gen

/-- The product of the normalised rows with a block of 256 columns of the up projection. -/
abbrev upV (h : Vec Ideal S512x1024 .bf16) (w : Vec Ideal S1024x256 .bf16) : FVec Ideal S512x256 .f32 := k0_pay6 h w

/-- The activated product of one column chunk. -/
abbrev actV (a g b2 b1 : Vec Ideal S512x256 .f32) (cb w0 w1 w2 : Vec Ideal S1x256 .f32) : FVec Ideal S512x256 .bf16 :=
  k0_pay13 a (k0_pay12 g b2 b1 cb w0 w1 w2)

/-- The residual row's payload at an index. -/
theorem pay2_at (o1 o2 : Vec Ideal S1x512x512 .bf16) (wa wb : Vec Ideal S512x1024 .bf16) (x : Vec Ideal S1x512x1024 .f32)
    (g : Vec Ideal S1x1x1024 .f32) (r : Fin 512) (c : Fin 1024) :
    k0_pay2 (F := Ideal) o1 wa o2 wb x g (ix2 r c)
      = x (ix3 (0 : Fin 1) r c) + g (ix3 (0 : Fin 1) (0 : Fin 1) c)
          * ((∑ k : Fin 512, o1 (ix3 (0 : Fin 1) r k) * wa (ix2 k c)) + ∑ k : Fin 512, o2 (ix3 (0 : Fin 1) r k) * wb (ix2 k c)) := by
  pointwise [k0_pay2]

/-- The normalised row's payload at an index. -/
theorem pay5_at (x : FVec Ideal S512x1024 .f32) (n : Vec Ideal S1x1024 .f32) (sc : Vec Ideal S1x1x1024 .f32)
    (sh : Vec Ideal S1x1x1024 .f32) (r : Fin 512) (c : Fin 1024) :
    k0_pay5 (F := Ideal) x n (k0_pay4 sc) sh (ix2 r c)
      = hRow (fun c => x (ix2 r c)) (fun c => n (ix2 (0 : Fin 1) c)) (fun c => sc (ix3 (0 : Fin 1) (0 : Fin 1) c))
          (fun c => sh (ix3 (0 : Fin 1) (0 : Fin 1) c)) c := by
  unfold hRow
  pointwise [k0_pay5, k0_pay4]

/-- The up projection's payload at an index. -/
theorem up_at (h : Vec Ideal S512x1024 .bf16) (w : Vec Ideal S1024x256 .bf16) (r : Fin 512) (k : Fin 256) :
    upV h w (ix2 r k) = ∑ c : Fin 1024, h (ix2 r c) * w (ix2 c k) := by
  pointwise [upV, k0_pay6]

/-- The activated product at an index. -/
theorem act_at (a g b2 b1 : Vec Ideal S512x256 .f32) (cb w0 w1 w2 : Vec Ideal S1x256 .f32) (r : Fin 512) (k : Fin 256) :
    actV a g b2 b1 cb w0 w1 w2 (ix2 r k)
      = a (ix2 r k) * gelu (convRow (b2 (ix2 r k)) (b1 (ix2 r k)) (g (ix2 r k)) (w0 (ix2 (0 : Fin 1) k))
          (w1 (ix2 (0 : Fin 1) k)) (w2 (ix2 (0 : Fin 1) k)) (cb (ix2 (0 : Fin 1) k))) := by
  rw [← geluK_eq]
  unfold geluK convRow
  simp only [EReal.coe_one]
  pointwise [actV, k0_pay12, k0_pay13]
  rfl

/-- The last sum's payload at an index. -/
theorem pay88_at (p : FVec Ideal S512x1024 .f32) (a : Vec Ideal S512x1280 .bf16) (w : Vec Ideal S1280x1024 .bf16)
    (x : Vec Ideal S1x512x1024 .f32) (g : Vec Ideal S1x1x1024 .f32) (r : Fin 512) (c : Fin 1024) :
    k0_pay88 (F := Ideal) p a w x g (ix3 (0 : Fin 1) r c)
      = x (ix3 (0 : Fin 1) r c) + g (ix3 (0 : Fin 1) (0 : Fin 1) c)
          * (p (ix2 r c) + ∑ k : Fin 1280, a (ix2 r k) * w (ix2 k c)) := by
  pointwise [k0_pay88]

/-- The first down product's payload at an index. -/
theorem pay51_at (a : Vec Ideal S512x1536 .bf16) (w : Vec Ideal S1536x1024 .bf16) (r : Fin 512) (c : Fin 1024) :
    k0_pay51 (F := Ideal) a w (ix2 r c) = ∑ k : Fin 1536, a (ix2 r k) * w (ix2 k c) := by
  pointwise [k0_pay51]

section Chunks

variable (h : Vec Ideal S512x1024 .bf16) (wg : Vec Ideal S1024x256 .bf16) (a g b2 b1 : Vec Ideal S512x256 .f32)
  (cb w0 w1 w2 : Vec Ideal S1x256 .f32)

theorem act1 : k0_pay19 (F := Ideal) a g b2 b1 cb w0 w1 w2 = actV a g b2 b1 cb w0 w1 w2 := rfl

theorem act2 (z : FVec Ideal S512x256 .f32) (hz : z = constant S512x256 .f32 0x00000000#32) :
    k0_pay29 (F := Ideal) a (k0_pay26 h (k0_pay21 wg) z b2 b1 cb w0 w1 w2) (k0_pay27 h (k0_pay21 wg) z b2 b1 cb w0 w1 w2)
      (k0_pay28 (F := Ideal)) = actV a (upV h wg) b2 b1 cb w0 w1 w2 := by subst hz; rfl

theorem act3 : k0_pay35 (F := Ideal) a g b2 b1 cb w0 w1 w2 = actV a g b2 b1 cb w0 w1 w2 := rfl

theorem act4 : k0_pay43 (F := Ideal) a g (k0_pay42 b2 b1 cb w0 w1) w2 = actV a g b2 b1 cb w0 w1 w2 := rfl

theorem act5 : k0_pay50 (F := Ideal) (k0_pay49 a g b2 b1 cb w0 w1 w2) = actV a g b2 b1 cb w0 w1 w2 := rfl

theorem act6 : k0_pay57 (F := Ideal) a g b2 b1 cb w0 w1 w2 = actV a g b2 b1 cb w0 w1 w2 := rfl

theorem act7 (z : Ideal .f32) (hz : z = Named.named κ "k_three" 0xBDD2D3E8#32) :
    k0_pay65 (F := Ideal) a (k0_pay63 h wg b2 b1 cb w0 w1 w2) (k0_pay64 h wg b2 b1 cb w0 w1 w2) z
      = actV a (upV h wg) b2 b1 cb w0 w1 w2 := by subst hz; rfl

theorem act8 : k0_pay72 (F := Ideal) a g b2 b1 cb w0 w1 w2 = actV a g b2 b1 cb w0 w1 w2 := rfl

theorem act9 : k0_pay80 (F := Ideal) a g b1 (k0_pay78 b2 cb w0) (k0_pay79 w1) w2 = actV a g b2 b1 cb w0 w1 w2 := rfl

theorem act10 : k0_pay87 (F := Ideal) (k0_pay86 a g b2 b1 cb w0 w1 w2) = actV a g b2 b1 cb w0 w1 w2 := rfl

end Chunks

end Cert.Kernel2Ideal.Ffn

end
-- ==== Proof.FfnSpec.lean ====
/- The layer's feed-forward part over a sequence, in the row functions: what both programs compute. -/
module

public import proofs.«01_k».proof.Proof.FfnRow
public import proofs.«01_k».proof.Proof.FfnGelu

@[expose] public section

noncomputable section

namespace Cert.Ffn

open Idealize.ShloMosaic

/-- The activated product of a row: the value branch times the activation of the convolved gate branch. -/
def actRow (h : Fin 1024 → EReal) (W : Fin 1024 → Fin 5632 → EReal) (b2 b1 w0 w1 w2 b : Fin 2816 → EReal) (j : Fin 2816) : EReal :=
  valRow h W j * gelu (convRow (b2 j) (b1 j) (gateRow h W j) (w0 j) (w1 j) (w2 j) (b j))

/-- The row `k` before row `t` of a sequence, zero before the sequence's start. -/
def backRow (G : Fin 2048 → Fin 2816 → EReal) (k : ℕ) (t : Fin 2048) (j : Fin 2816) : EReal :=
  if (t : ℕ) < k then 0 else G ⟨(t : ℕ) - k, by omega⟩ j

/-- The gate branch of a sequence's normalised rows. -/
def seqG (H : Fin 2048 → Fin 1024 → EReal) (W : Fin 1024 → Fin 5632 → EReal) (t : Fin 2048) (j : Fin 2816) : EReal :=
  gateRow (H t) W j

/-- The layer's row of a sequence, of the residual rows `X` and the normalised rows `H`. -/
def seqY (X H : Fin 2048 → Fin 1024 → EReal) (W : Fin 1024 → Fin 5632 → EReal) (w0 w1 w2 b : Fin 2816 → EReal)
    (g2 : Fin 1024 → EReal) (Wd : Fin 2816 → Fin 1024 → EReal) (t : Fin 2048) (c : Fin 1024) : EReal :=
  X t c + g2 c * downRow (actRow (H t) W (backRow (seqG H W) 2 t) (backRow (seqG H W) 1 t) w0 w1 w2 b) Wd c

end Cert.Ffn

end
-- ==== Proof.FfnChunk.lean ====
/- One column chunk of the feed-forward kernel's step, of the normalised rows `H` and the eight gate rows `T` before
   the step's first: the two rows read back, the activated product, the rows carried on. -/
module

public import proofs.«01_k».proof.Proof.FfnTile
public import proofs.«01_k».proof.Proof.FfnSpec
public import Idealize.ShloMosaic.Lib.Pipeline.ReadBack

@[expose] public section

set_option maxRecDepth 16384

noncomputable section

namespace Cert.Kernel2Ideal.Ffn

open Cert.Kernel2Ideal Cert.Kernel2Ideal.Gen Idealize.ShloMosaic Idealize.SL.Sem Cert.Ffn

/-- The gate row `k` before row `r` of a step: one of the step's own, or one of the eight before it. -/
def backT (H : Vec Ideal S512x1024 .bf16) (x9 : Vec Ideal S1024x5632 .bf16) (T : Vec Ideal S1x8x2816 .f32)
    (k : ℕ) (hk : k ≤ 8) (r : Fin 512) (j : Fin 2816) : EReal :=
  if h : (r : ℕ) < k then T (ix3 (0 : Fin 1) ⟨8 - k + r, by omega⟩ j)
  else gateRow (fun c => H (ix2 ⟨(r : ℕ) - k, by omega⟩ c)) (fun c j => x9 (ix2 c j)) j

/-- The activated product of a step's row. -/
def actT (H : Vec Ideal S512x1024 .bf16) (x9 : Vec Ideal S1024x5632 .bf16) (x10 : Vec Ideal S3x2816 .f32)
    (x11 : Vec Ideal S1x2816 .f32) (T : Vec Ideal S1x8x2816 .f32) (r : Fin 512) : Fin 2816 → EReal :=
  actRow (fun c => H (ix2 r c)) (fun c j => x9 (ix2 c j)) (backT H x9 T 2 (by omega) r) (backT H x9 T 1 (by omega) r)
    (fun j => x10 (ix2 (0 : Fin 3) j)) (fun j => x10 (ix2 (1 : Fin 3) j)) (fun j => x10 (ix2 (2 : Fin 3) j))
    (fun j => x11 (ix2 (0 : Fin 1) j))

section Back

variable {sig : RefSig} {κ : Kind} {sp : Space} (v : View sig κ sp S520x256 .f32)
  (i8 : ∀ a, (![8, 0] : Fin 2 → ℕ) a + S512x256.size a ≤ S520x256.size a)
  (i0 : ∀ a, (![0, 0] : Fin 2 → ℕ) a + S8x256.size a ≤ S520x256.size a)
  (G : Vec Ideal S512x256 .f32) (P : Vec Ideal S8x256 .f32) (L : List (View.Piece (Elt Ideal) S520x256 .f32))

/-- The rows stored eight rows down, read from `k` rows higher: the first `k` are the rows stored above them. -/
theorem back_read (o k : ℕ) (hok : o + k = 8)
    (io : ∀ a, (![o, 0] : Fin 2 → ℕ) a + S512x256.size a ≤ S520x256.size a) (r : Fin 512) (j : Fin 256) :
    v.readCov (Val := Elt Ideal) (⟨Rect.unit (s := S520x256) ![8, 0] S512x256.size i8, G⟩
        :: ⟨Rect.unit (s := S520x256) ![0, 0] S8x256.size i0, P⟩ :: L)
        (Rect.unit (s := S520x256) ![o, 0] S512x256.size io).toLoadRect (ix2 r j)
      = if h : (r : ℕ) < k then P (ix2 (⟨8 - k + r, by omega⟩ : Fin 8) j) else G (ix2 (⟨(r : ℕ) - k, by omega⟩ : Fin 512) j) := by
  rw [View.readCov_eq_canon']
  show View.canon _ ((Rect.unit (s := S520x256) ![o, 0] S512x256.size io).emb (ix2 r j)) = _
  split
  · rename_i h
    rw [View.canon_cons_of_not_mem]
    · have he : (Rect.unit (s := S520x256) ![o, 0] S512x256.size io).emb (ix2 r j)
          = (Rect.unit (s := S520x256) ![0, 0] S8x256.size i0).emb (ix2 (⟨8 - k + r, by omega⟩ : Fin 8) j) := by
        funext a
        match a with
        | 0 => exact Fin.ext (by show o + 1 * (r : ℕ) = 0 + 1 * (8 - k + (r : ℕ)); omega)
        | 1 => rfl
      rw [he]
      exact View.canon_cons_emb _ _ _ _
    · intro hm
      have h0 := ((Rect.mem_set_unit (inb := i8)).mp hm 0).1
      have h1 : 8 ≤ o + 1 * (r : ℕ) := h0
      omega
  · rename_i h
    have he : (Rect.unit (s := S520x256) ![o, 0] S512x256.size io).emb (ix2 r j)
        = (Rect.unit (s := S520x256) ![8, 0] S512x256.size i8).emb (ix2 (⟨(r : ℕ) - k, by omega⟩ : Fin 512) j) := by
      funext a
      match a with
      | 0 => exact Fin.ext (by show o + 1 * (r : ℕ) = 8 + 1 * ((r : ℕ) - k); omega)
      | 1 => rfl
    rw [he]
    exact View.canon_cons_emb _ _ _ _

end Back

/-- A block of columns of a two-axis array from row `a` and column `o`. -/
theorem ld2 {e : EltTy} {M N m n : ℕ} (x : Vec Ideal ⟨2, ![M, N]⟩ e) (a o : ℕ)
    (inb : ∀ i, (![a, o] : Fin 2 → ℕ) i + (![m, n] : Fin 2 → ℕ) i ≤ (![M, N] : Fin 2 → ℕ) i) (r : Fin m) (k : Fin n) :
    View.ld x (Rect.unit (s := ⟨2, ![M, N]⟩) ![a, o] ![m, n] inb) (ix2 r k)
      = x (ix2 (⟨a + r, by have := inb 0; have : a + m ≤ M := this; omega⟩ : Fin M)
          (⟨o + k, by have := inb 1; have : o + n ≤ N := this; omega⟩ : Fin N)) := by
  refine congrArg x ?_
  funext i
  match i with
  | 0 => exact Fin.ext (by show a + 1 * (r : ℕ) = a + r; omega)
  | 1 => exact Fin.ext (by show o + 1 * (k : ℕ) = o + k; omega)

section Chunk

variable (H : Vec Ideal S512x1024 .bf16) (x9 : Vec Ideal S1024x5632 .bf16) (x10 : Vec Ideal S3x2816 .f32)
  (x11 : Vec Ideal S1x2816 .f32) (T : Vec Ideal S1x8x2816 .f32)

omit H x9 x10 x11 T in
/-- The two casts of a chunk of the eight rows only drop the leading axis. -/
theorem castT (Z : Vec Ideal S1x8x256 .f32) (r : Fin 8) (k : Fin 256) :
    shapeCast S8x256 (shapeCast S8x256 Z shapeCasts_S1x8x256_S8x256) shapeCasts_S8x256_S8x256 (ix2 r k) = Z (ix3 (0 : Fin 1) r k) := by
  pointwise

/-- The eight rows before a step, a chunk's columns of them. -/
theorem ldT (o : ℕ) (inb : ∀ i, (![0, 0, o] : Fin 3 → ℕ) i + S1x8x256.size i ≤ S1x8x2816.size i) (r : Fin 8) (k : Fin 256)
    (ho : o + (k : ℕ) < 2816) :
    View.ld T (Rect.unit (s := S1x8x2816) ![0, 0, o] S1x8x256.size inb) (ix3 (0 : Fin 1) r k) = T (ix3 (0 : Fin 1) r ⟨o + k, ho⟩) := by
  refine congrArg T ?_
  funext i
  match i with
  | 0 => exact Fin.ext (by show 0 + 1 * 0 = 0; rfl)
  | 1 => exact Fin.ext (by show 0 + 1 * (r : ℕ) = r; omega)
  | 2 => exact Fin.ext (by show o + 1 * (k : ℕ) = o + k; omega)

/-- The gate branch's chunk at an index. -/
theorem gate_chunk (o p : ℕ) (hp : p = 2816 + o)
    (i9 : ∀ i, (![0, p] : Fin 2 → ℕ) i + S1024x256.size i ≤ S1024x5632.size i) (r : Fin 512) (k : Fin 256)
    (ho : o + (k : ℕ) < 2816) :
    upV H (View.ld x9 (Rect.unit (s := S1024x5632) ![0, p] S1024x256.size i9)) (ix2 r k)
      = gateRow (fun c => H (ix2 r c)) (fun c j => x9 (ix2 c j)) ⟨o + k, ho⟩ := by
  subst hp
  rw [up_at]
  unfold gateRow upRow
  refine Finset.sum_congr rfl fun c _ => ?_
  rw [show View.ld x9 (Rect.unit (s := S1024x5632) ![0, 2816 + o] S1024x256.size i9) (ix2 c k) = _ from ld2 x9 0 (2816 + o) i9 c k]
  congr 3 <;> exact Fin.ext (by simp <;> omega)

/-- The value branch's chunk at an index. -/
theorem val_chunk (o : ℕ)
    (i9 : ∀ i, (![0, o] : Fin 2 → ℕ) i + S1024x256.size i ≤ S1024x5632.size i) (r : Fin 512) (k : Fin 256)
    (ho : o + (k : ℕ) < 2816) :
    upV H (View.ld x9 (Rect.unit (s := S1024x5632) ![0, o] S1024x256.size i9)) (ix2 r k)
      = valRow (fun c => H (ix2 r c)) (fun c j => x9 (ix2 c j)) ⟨o + k, ho⟩ := by
  rw [up_at]
  unfold valRow upRow
  refine Finset.sum_congr rfl fun c _ => ?_
  rw [show View.ld x9 (Rect.unit (s := S1024x5632) ![0, o] S1024x256.size i9) (ix2 c k) = _ from ld2 x9 0 o i9 c k]
  congr 3 <;> exact Fin.ext (by simp <;> omega)

/-- The eight gate rows a step leaves for the next: its last eight. -/
def lastT (H : Vec Ideal S512x1024 .bf16) (x9 : Vec Ideal S1024x5632 .bf16) (r : Fin 8) (j : Fin 2816) : EReal :=
  gateRow (fun c => H (ix2 (⟨504 + r, by omega⟩ : Fin 512) c)) (fun c j => x9 (ix2 c j)) j

/-- The rows read `k` back in a chunk. -/
theorem back_chunk {sig : RefSig} {κ : Kind} {sp : Space} (v : View sig κ sp S520x256 .f32)
    (L : List (View.Piece (Elt Ideal) S520x256 .f32)) (b k o p : ℕ) (hbk : b + k = 8) (hp : p = 2816 + o)
    (i9 : ∀ i, (![0, p] : Fin 2 → ℕ) i + S1024x256.size i ≤ S1024x5632.size i)
    (iT : ∀ i, (![0, 0, o] : Fin 3 → ℕ) i + S1x8x256.size i ≤ S1x8x2816.size i)
    (i8 : ∀ a, (![8, 0] : Fin 2 → ℕ) a + S512x256.size a ≤ S520x256.size a)
    (i0 : ∀ a, (![0, 0] : Fin 2 → ℕ) a + S8x256.size a ≤ S520x256.size a)
    (ib : ∀ a, (![b, 0] : Fin 2 → ℕ) a + S512x256.size a ≤ S520x256.size a) (r : Fin 512) (j : Fin 256)
    (ho : o + (j : ℕ) < 2816) :
    v.readCov (Val := Elt Ideal) (⟨Rect.unit (s := S520x256) ![8, 0] S512x256.size i8,
          shapeCast S512x256 (upV H (View.ld x9 (Rect.unit (s := S1024x5632) ![0, p] S1024x256.size i9))) shapeCasts_S512x256_S512x256⟩
        :: ⟨Rect.unit (s := S520x256) ![0, 0] S8x256.size i0,
          shapeCast S8x256 (shapeCast S8x256 (View.ld T (Rect.unit (s := S1x8x2816) ![0, 0, o] S1x8x256.size iT))
            shapeCasts_S1x8x256_S8x256) shapeCasts_S8x256_S8x256⟩ :: L)
        (Rect.unit (s := S520x256) ![b, 0] S512x256.size ib).toLoadRect (ix2 r j)
      = backT H x9 T k (by omega) r ⟨o + j, ho⟩ := by
  rw [back_read v i8 i0 _ _ L b k hbk ib r j]
  unfold backT
  split
  · rw [castT]
    exact ldT T o iT _ j ho
  · rw [shapeCast_self]
    exact gate_chunk H x9 o p hp i9 _ j ho

/-- A chunk of the activated product, as a block of the step's. -/
theorem chunk {sig : RefSig} {κ : Kind} {sp : Space} (v : View sig κ sp S520x256 .f32)
    (L : List (View.Piece (Elt Ideal) S520x256 .f32)) (o p : ℕ) (hp : p = 2816 + o)
    (iv : ∀ i, (![0, o] : Fin 2 → ℕ) i + S1024x256.size i ≤ S1024x5632.size i)
    (i9 : ∀ i, (![0, p] : Fin 2 → ℕ) i + S1024x256.size i ≤ S1024x5632.size i)
    (iT : ∀ i, (![0, 0, o] : Fin 3 → ℕ) i + S1x8x256.size i ≤ S1x8x2816.size i)
    (i8 : ∀ a, (![8, 0] : Fin 2 → ℕ) a + S512x256.size a ≤ S520x256.size a)
    (i0 : ∀ a, (![0, 0] : Fin 2 → ℕ) a + S8x256.size a ≤ S520x256.size a)
    (i6 : ∀ a, (![6, 0] : Fin 2 → ℕ) a + S512x256.size a ≤ S520x256.size a)
    (i7 : ∀ a, (![7, 0] : Fin 2 → ℕ) a + S512x256.size a ≤ S520x256.size a)
    (ic : ∀ a, (![0, o] : Fin 2 → ℕ) a + S1x256.size a ≤ S1x2816.size a)
    (iw0 : ∀ a, (![0, o] : Fin 2 → ℕ) a + S1x256.size a ≤ S3x2816.size a)
    (iw1 : ∀ a, (![1, o] : Fin 2 → ℕ) a + S1x256.size a ≤ S3x2816.size a)
    (iw2 : ∀ a, (![2, o] : Fin 2 → ℕ) a + S1x256.size a ≤ S3x2816.size a)
    (io : ∀ a, (![0, o] : Fin 2 → ℕ) a + S512x256.size a ≤ S512x2816.size a)
    (x : (Rect.unit (s := S512x2816) ![0, o] S512x256.size io).shape.Idx) :
    actV (upV H (View.ld x9 (Rect.unit (s := S1024x5632) ![0, o] S1024x256.size iv)))
        (upV H (View.ld x9 (Rect.unit (s := S1024x5632) ![0, p] S1024x256.size i9)))
        (v.readCov (Val := Elt Ideal) (⟨Rect.unit (s := S520x256) ![8, 0] S512x256.size i8,
          shapeCast S512x256 (upV H (View.ld x9 (Rect.unit (s := S1024x5632) ![0, p] S1024x256.size i9))) shapeCasts_S512x256_S512x256⟩
        :: ⟨Rect.unit (s := S520x256) ![0, 0] S8x256.size i0,
          shapeCast S8x256 (shapeCast S8x256 (View.ld T (Rect.unit (s := S1x8x2816) ![0, 0, o] S1x8x256.size iT))
            shapeCasts_S1x8x256_S8x256) shapeCasts_S8x256_S8x256⟩ :: L)
        (Rect.unit (s := S520x256) ![6, 0] S512x256.size i6).toLoadRect)
        (v.readCov (Val := Elt Ideal) (⟨Rect.unit (s := S520x256) ![8, 0] S512x256.size i8,
          shapeCast S512x256 (upV H (View.ld x9 (Rect.unit (s := S1024x5632) ![0, p] S1024x256.size i9))) shapeCasts_S512x256_S512x256⟩
        :: ⟨Rect.unit (s := S520x256) ![0, 0] S8x256.size i0,
          shapeCast S8x256 (shapeCast S8x256 (View.ld T (Rect.unit (s := S1x8x2816) ![0, 0, o] S1x8x256.size iT))
            shapeCasts_S1x8x256_S8x256) shapeCasts_S8x256_S8x256⟩ :: L)
        (Rect.unit (s := S520x256) ![7, 0] S512x256.size i7).toLoadRect)
        (View.ld x11 (Rect.unit (s := S1x2816) ![0, o] S1x256.size ic))
        (View.ld x10 (Rect.unit (s := S3x2816) ![0, o] S1x256.size iw0))
        (View.ld x10 (Rect.unit (s := S3x2816) ![1, o] S1x256.size iw1))
        (View.ld x10 (Rect.unit (s := S3x2816) ![2, o] S1x256.size iw2)) x
      = (fun y : S512x2816.Idx => actT H x9 x10 x11 T (y 0) (y 1))
          ((Rect.unit (s := S512x2816) ![0, o] S512x256.size io).emb x) := by
  obtain ⟨r, k, rfl⟩ : ∃ (r : Fin 512) (k : Fin 256), x = ix2 r k := ⟨x 0, x 1, eq_ix2 x⟩
  have ho : o + (k : ℕ) < 2816 := by
    have h : o + 256 ≤ 2816 := ic 1
    omega
  have he : (Rect.unit (s := S512x2816) ![0, o] S512x256.size io).emb (ix2 r k) = ix2 r (⟨o + k, ho⟩ : Fin 2816) := by
    funext a
    match a with
    | 0 => exact Fin.ext (by show 0 + 1 * (r : ℕ) = r; omega)
    | 1 => exact Fin.ext (by show o + 1 * (k : ℕ) = o + k; omega)
  rw [he]
  refine (act_at _ _ _ _ _ _ _ _ r k).trans ?_
  rw [back_chunk H x9 T v L 6 2 o p rfl hp i9 iT i8 i0 i6 r k ho, back_chunk H x9 T v L 7 1 o p rfl hp i9 iT i8 i0 i7 r k ho,
    gate_chunk H x9 o p hp i9 r k ho, val_chunk H x9 o iv r k ho,
    show View.ld x11 (Rect.unit (s := S1x2816) ![0, o] S1x256.size ic) (ix2 (0 : Fin 1) k) = _ from ld2 x11 0 o ic 0 k,
    show View.ld x10 (Rect.unit (s := S3x2816) ![0, o] S1x256.size iw0) (ix2 (0 : Fin 1) k) = _ from ld2 x10 0 o iw0 0 k,
    show View.ld x10 (Rect.unit (s := S3x2816) ![1, o] S1x256.size iw1) (ix2 (0 : Fin 1) k) = _ from ld2 x10 1 o iw1 0 k,
    show View.ld x10 (Rect.unit (s := S3x2816) ![2, o] S1x256.size iw2) (ix2 (0 : Fin 1) k) = _ from ld2 x10 2 o iw2 0 k]
  rfl

/-- A chunk of the rows carried on, as a block of the step's. -/
theorem last_chunk (o p : ℕ) (hp : p = 2816 + o)
    (i9 : ∀ i, (![0, p] : Fin 2 → ℕ) i + S1024x256.size i ≤ S1024x5632.size i)
    (io : ∀ a, (![0, 0, o] : Fin 3 → ℕ) a + S1x8x256.size a ≤ S1x8x2816.size a)
    (x : (Rect.unit (s := S1x8x2816) ![0, 0, o] S1x8x256.size io).shape.Idx) :
    k0_pay11 (F := Ideal) (upV H (View.ld x9 (Rect.unit (s := S1024x5632) ![0, p] S1024x256.size i9))) x
      = (fun y : S1x8x2816.Idx => lastT H x9 (y 1) (y 2))
          ((Rect.unit (s := S1x8x2816) ![0, 0, o] S1x8x256.size io).emb x) := by
  obtain ⟨z, r, k, rfl⟩ : ∃ (z : Fin 1) (r : Fin 8) (k : Fin 256), x = ix3 z r k := ⟨x 0, x 1, x 2, eq_ix3 x⟩
  have ho : o + (k : ℕ) < 2816 := by
    have h : o + 256 ≤ 2816 := io 2
    omega
  have he : (Rect.unit (s := S1x8x2816) ![0, 0, o] S1x8x256.size io).emb (ix3 z r k) = ix3 (0 : Fin 1) r (⟨o + k, ho⟩ : Fin 2816) := by
    funext a
    match a with
    | 0 => exact Fin.ext (by show 0 + 1 * (z : ℕ) = 0; omega)
    | 1 => exact Fin.ext (by show 0 + 1 * (r : ℕ) = r; omega)
    | 2 => exact Fin.ext (by show o + 1 * (k : ℕ) = o + k; omega)
  rw [he]
  refine Eq.trans ?_ (gate_chunk H x9 o p hp i9 (⟨504 + r, by omega⟩ : Fin 512) k ho)
  generalize upV H (View.ld x9 (Rect.unit (s := S1024x5632) ![0, p] S1024x256.size i9)) = Z
  obtain rfl : z = 0 := by omega
  pointwise [k0_pay11]

end Chunk

end Cert.Kernel2Ideal.Ffn

end
-- ==== Proof.FfnStep.lean ====
/- What one step of the feed-forward kernel leaves, of its blocks: the residual rows, the normalised rows, the
   output's rows; and how the stored chunks are read back. -/
module

public import proofs.«01_k».proof.Proof.FfnChunk
public import Idealize.ShloMosaic.Lib.Pipeline.ValueKit

@[expose] public section

set_option maxRecDepth 16384

noncomputable section

namespace Cert.Kernel2Ideal.Ffn

open Cert.Kernel2Ideal Cert.Kernel2Ideal.Gen Idealize.ShloMosaic Idealize.SL.Sem Cert.Ffn

/-- The step's residual rows. -/
def xV (x0 : Vec Ideal S1x512x1024 .f32) (x1 x2 : Vec Ideal S1x512x512 .bf16) (x3 : Vec Ideal S1024x1024 .bf16)
    (x4 : Vec Ideal S1x1x1024 .f32) : FVec Ideal S512x1024 .f32 :=
  k0_pay2 (F := Ideal) x1 (View.ld x3 (Rect.unit (s := S1024x1024) ![0, 0] S512x1024.size inb_S1024x1024_S512x1024_0_0)) x2
    (View.ld x3 (Rect.unit (s := S1024x1024) ![512, 0] S512x1024.size inb_S1024x1024_S512x1024_512_0)) x0 x4

/-- The step's normalised rows. -/
def hV (x0 : Vec Ideal S1x512x1024 .f32) (x1 x2 : Vec Ideal S1x512x512 .bf16) (x3 : Vec Ideal S1024x1024 .bf16)
    (x4 : Vec Ideal S1x1x1024 .f32) (x5 : Vec Ideal S1x1024 .f32) (x6 x7 : Vec Ideal S1x1x1024 .f32) : Vec Ideal S512x1024 .bf16 :=
  k0_pay5 (F := Ideal) (xV x0 x1 x2 x3 x4) x5 (k0_pay4 x6) x7

/-- The step's output at a row, of the residual row's entry and the normalised rows. -/
def yV (X : EReal) (H : Vec Ideal S512x1024 .bf16) (x8 : Vec Ideal S1x1x1024 .f32) (x9 : Vec Ideal S1024x5632 .bf16)
    (x10 : Vec Ideal S3x2816 .f32) (x11 : Vec Ideal S1x2816 .f32) (x12 : Vec Ideal S2816x1024 .bf16)
    (T : Vec Ideal S1x8x2816 .f32) (r : Fin 512) (c : Fin 1024) : EReal :=
  X + x8 (ix3 (0 : Fin 1) (0 : Fin 1) c) * downRow (actT H x9 x10 x11 T r) (fun j c => x12 (ix2 j c)) c

/-- A residual row. -/
theorem xV_at (x0 : Vec Ideal S1x512x1024 .f32) (x1 x2 : Vec Ideal S1x512x512 .bf16) (x3 : Vec Ideal S1024x1024 .bf16)
    (x4 : Vec Ideal S1x1x1024 .f32) (r : Fin 512) (c : Fin 1024) :
    xV x0 x1 x2 x3 x4 (ix2 r c)
      = xRow (fun c => x0 (ix3 (0 : Fin 1) r c)) (fun k => x1 (ix3 (0 : Fin 1) r k)) (fun k => x2 (ix3 (0 : Fin 1) r k))
          (fun k c => x3 (ix2 k c)) (fun c => x4 (ix3 (0 : Fin 1) (0 : Fin 1) c)) c := by
  unfold xV xRow
  rw [pay2_at]
  refine congrArg₂ (· + ·) rfl (congrArg₂ (· * ·) rfl (congrArg₂ (· + ·) ?_ ?_))
  · refine Finset.sum_congr rfl fun k _ => congrArg₂ (· * ·) rfl ?_
    refine (ld2 x3 0 0 inb_S1024x1024_S512x1024_0_0 k c).trans (congrArg x3 ?_)
    congr 1 <;> exact Fin.ext (by simp)
  · refine Finset.sum_congr rfl fun k _ => congrArg₂ (· * ·) rfl ?_
    refine (ld2 x3 512 0 inb_S1024x1024_S512x1024_512_0 k c).trans (congrArg x3 ?_)
    congr 1 <;> exact Fin.ext (by simp)

/-- A normalised row. -/
theorem hV_at (x0 : Vec Ideal S1x512x1024 .f32) (x1 x2 : Vec Ideal S1x512x512 .bf16) (x3 : Vec Ideal S1024x1024 .bf16)
    (x4 : Vec Ideal S1x1x1024 .f32) (x5 : Vec Ideal S1x1024 .f32) (x6 x7 : Vec Ideal S1x1x1024 .f32) (r : Fin 512) (c : Fin 1024) :
    hV x0 x1 x2 x3 x4 x5 x6 x7 (ix2 r c)
      = hRow (xRow (fun c => x0 (ix3 (0 : Fin 1) r c)) (fun k => x1 (ix3 (0 : Fin 1) r k)) (fun k => x2 (ix3 (0 : Fin 1) r k))
          (fun k c => x3 (ix2 k c)) (fun c => x4 (ix3 (0 : Fin 1) (0 : Fin 1) c)))
          (fun c => x5 (ix2 (0 : Fin 1) c)) (fun c => x6 (ix3 (0 : Fin 1) (0 : Fin 1) c))
          (fun c => x7 (ix3 (0 : Fin 1) (0 : Fin 1) c)) c := by
  unfold hV
  rw [pay5_at, show (fun c => xV x0 x1 x2 x3 x4 (ix2 r c)) = _ from funext fun c => xV_at x0 x1 x2 x3 x4 r c]

/-- A row of a block kept in the output's buffer. -/
theorem cast_x (X : FVec Ideal S512x1024 .f32) (r : Fin 512) (c : Fin 1024) :
    shapeCast S1x512x1024 X shapeCasts_S512x1024_S1x512x1024 (ix3 (0 : Fin 1) r c) = X (ix2 r c) := by
  pointwise

/-- Two casts to the same shape change nothing. -/
theorem twice_cast (x : Vec Ideal S1x8x2816 .f32) (h h' : S1x8x2816.ShapeCasts S1x8x2816) :
    shapeCast S1x8x2816 (shapeCast S1x8x2816 x h) h' = x := by
  rw [shapeCast_self, shapeCast_self]

/-- The whole block's own indices. -/
theorem whole_emb (inb : ∀ a, (![0, 0, 0] : Fin 3 → ℕ) a + (![1, 8, 2816] : Fin 3 → ℕ) a ≤ S1x8x2816.size a) (r : Fin 8) (j : Fin 2816) :
    (Rect.unit (s := S1x8x2816) ![0, 0, 0] ![1, 8, 2816] inb).emb (ix3 (0 : Fin 1) r j) = ix3 (0 : Fin 1) r j := by
  funext a
  match a with
  | 0 => rfl
  | 1 => exact Fin.ext (by show 0 + 1 * (r : ℕ) = r; omega)
  | 2 => exact Fin.ext (by show 0 + 1 * (j : ℕ) = j; omega)

/-- Stored chunks of one array, read back as a block of columns. -/
theorem act_read {sig : RefSig} {κ : Kind} {sp : Space} (v : View sig κ sp S512x2816 .bf16)
    (G : S512x2816.Idx → EReal) (L : List (View.Piece (Elt Ideal) S512x2816 .bf16))
    (hL : View.PiecesOf (Val := Elt Ideal) (e := .bf16) G L) (o n : ℕ)
    (inb : ∀ a, (![0, o] : Fin 2 → ℕ) a + (![512, n] : Fin 2 → ℕ) a ≤ S512x2816.size a) (r : Fin 512) (k : Fin n)
    (ho : o + (k : ℕ) < 2816)
    (hc : ∃ p ∈ L, (ix2 r (⟨o + k, ho⟩ : Fin 2816) : S512x2816.Idx) ∈ p.1.set) :
    v.readCov (Val := Elt Ideal) L (Rect.unit (s := S512x2816) ![0, o] ![512, n] inb).toLoadRect (ix2 r k)
      = G (ix2 r (⟨o + k, ho⟩ : Fin 2816)) := by
  rw [View.readCov_eq_canon']
  have he : (Rect.unit (s := S512x2816) ![0, o] ![512, n] inb).emb (ix2 r k) = ix2 r (⟨o + k, ho⟩ : Fin 2816) := by
    funext a
    match a with
    | 0 => exact Fin.ext (by show 0 + 1 * (r : ℕ) = r; omega)
    | 1 => exact Fin.ext (by show o + 1 * (k : ℕ) = o + k; omega)
  show View.canon L ((Rect.unit (s := S512x2816) ![0, o] ![512, n] inb).emb (ix2 r k)) = _
  rw [he]
  exact View.canon_apply_of_pieces (Val := Elt Ideal) (e := .bf16) G L hL.mem _ hc

/-- A row's column lies in the block of 256 columns from `o`. -/
theorem col_mem (o : ℕ) (inb : ∀ a, (![0, o] : Fin 2 → ℕ) a + S512x256.size a ≤ S512x2816.size a) (r : Fin 512) (j : Fin 2816)
    (h1 : o ≤ (j : ℕ)) (h2 : (j : ℕ) < o + 256) :
    (ix2 r j : S512x2816.Idx) ∈ (Rect.unit (s := S512x2816) ![0, o] S512x256.size inb).set := by
  refine Rect.mem_set_unit.mpr fun a => ?_
  match a with
  | 0 => exact ⟨Nat.zero_le _, by show (r : ℕ) < 0 + 512; omega⟩
  | 1 => exact ⟨h1, h2⟩

/-- A carried row's column lies in the block of 256 columns from `o`. -/
theorem last_mem (o : ℕ) (inb : ∀ a, (![0, 0, o] : Fin 3 → ℕ) a + S1x8x256.size a ≤ S1x8x2816.size a) (r : Fin 8) (j : Fin 2816)
    (h1 : o ≤ (j : ℕ)) (h2 : (j : ℕ) < o + 256) :
    (ix3 (0 : Fin 1) r j : S1x8x2816.Idx) ∈ (Rect.unit (s := S1x8x2816) ![0, 0, o] S1x8x256.size inb).set := by
  refine Rect.mem_set_unit.mpr fun a => ?_
  match a with
  | 0 => exact ⟨Nat.zero_le _, by show 0 < 0 + 1; omega⟩
  | 1 => exact ⟨Nat.zero_le _, by show (r : ℕ) < 0 + 8; omega⟩
  | 2 => exact ⟨h1, h2⟩

end Cert.Kernel2Ideal.Ffn

end
-- ==== Proof.FfnStepA.lean ====
/- The kernel's step at the start of a sequence: the eight gate rows before it are the given ones. -/
module

public import proofs.«01_k».proof.Proof.FfnStep
public import proofs.«01_k».proof.Proof.Gen.Kernel2Ideal.Value

@[expose] public section

set_option maxRecDepth 16384

noncomputable section

namespace Cert.Kernel2Ideal.Ffn

open Cert.Kernel2Ideal Cert.Kernel2Ideal.Gen Idealize.ShloMosaic Idealize.SL.Sem Cert.Ffn Idealize.ShloMosaic.TcCoe

/-- The output's block of a step. -/
theorem out_A (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1024x1024 .bf16) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S1x2816 .f32) (harg13 : arg13.IsWhole) (arg14 : Memref sig .tc .vmem S2816x1024 .bf16) (harg14 : arg14.IsWhole) (arg15 : Memref sig .tc .vmem S1x8x2816 .f32) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S1x8x2816 .f32) (harg18 : arg18.IsWhole) (arg19 : Memref sig .tc .vmem S512x2816 .bf16) (harg19 : arg19.IsWhole) (arg20 : Memref sig .tc .vmem S520x256 .f32) (harg20 : arg20.IsWhole) (arg21 : Memref sig .tc .vmem S1x8x2816 .f32) (harg21 : arg21.IsWhole) (arg22 : Memref sig .tc .vmem S512x1024 .bf16) (harg22 : arg22.IsWhole) (hc0 : cond0_0 i)
    (x0 : Vec Ideal S1x512x1024 .f32) (x1 : Vec Ideal S1x512x512 .bf16) (x2 : Vec Ideal S1x512x512 .bf16) (x3 : Vec Ideal S1024x1024 .bf16) (x4 : Vec Ideal S1x1x1024 .f32) (x5 : Vec Ideal S1x1024 .f32) (x6 : Vec Ideal S1x1x1024 .f32) (x7 : Vec Ideal S1x1x1024 .f32) (x8 : Vec Ideal S1x1x1024 .f32) (x9 : Vec Ideal S1024x5632 .bf16) (x10 : Vec Ideal S3x2816 .f32) (x11 : Vec Ideal S1x2816 .f32) (x12 : Vec Ideal S2816x1024 .bf16) (x13 : Vec Ideal S1x8x2816 .f32) (x14 : Vec Ideal S1x1024 .f32) (r : Fin 512) (c' : Fin 1024) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 (ix3 (0 : Fin 1) r c')
      = yV (xV x0 x1 x2 x3 x4 (ix2 r c')) (hV x0 x1 x2 x3 x4 x5 x6 x7) x8 x9 x10 x11 x12 x13 r c' := by
  frame_open
  simp (disch := decide) only [↓ View.readCov_skip, ↓ View.readCov_cons_toLoadRect, ↓ View.readCov_fill]
  frame_out
  obtain ⟨H, h0⟩ : ∃ H, hV x0 x1 x2 x3 x4 x5 x6 x7 = H := ⟨_, rfl⟩
  have hH := h0
  rw [h0]
  simp only [hV, xV, k0_pay5, k0_pay4, k0_pay2] at hH
  simp only [hH]
  clear hH h0
  simp only [twice_cast x13]
  refine (pay88_at _ _ _ _ _ r c').trans ?_
  unfold yV downRow
  refine congrArg₂ (· + ·) (cast_x _ r c') (congrArg₂ (· * ·) rfl (congrArg₂ (· + ·) ((pay51_at _ _ r c').trans ?_) ?_))
  · refine Finset.sum_congr rfl fun k _ => congrArg₂ (· * ·) ?_ ((ld2 x12 0 0 _ k c').trans (congrArg x12 ?_))
    · refine (act_read _ (fun y : S512x2816.Idx => actT H x9 x10 x11 x13 (y 0) (y 1)) _ ?_ 0 1536 _ r k (by omega) ?_).trans ?_
      · exact ⟨fun x => chunk H x9 x10 x11 x13 _ _ 1280 4096 rfl _ _ _ _ _ _ _ _ _ _ _ inb_S512x2816_S512x256_0_1280 x,
        fun x => chunk H x9 x10 x11 x13 _ _ 1024 3840 rfl _ _ _ _ _ _ _ _ _ _ _ inb_S512x2816_S512x256_0_1024 x,
        fun x => chunk H x9 x10 x11 x13 _ _ 768 3584 rfl _ _ _ _ _ _ _ _ _ _ _ inb_S512x2816_S512x256_0_768 x,
        fun x => chunk H x9 x10 x11 x13 _ _ 512 3328 rfl _ _ _ _ _ _ _ _ _ _ _ inb_S512x2816_S512x256_0_512 x,
        fun x => chunk H x9 x10 x11 x13 _ _ 256 3072 rfl _ _ _ _ _ _ _ _ _ _ _ inb_S512x2816_S512x256_0_256 x,
        fun x => chunk H x9 x10 x11 x13 _ _ 0 2816 rfl _ _ _ _ _ _ _ _ _ _ _ inb_S512x2816_S512x256_0_0 x, trivial⟩
      · generalize hj : (⟨0 + (k : ℕ), _⟩ : Fin 2816) = j
        have hj' : (j : ℕ) < 1536 := by have := congrArg Fin.val hj; simp at this; omega
        by_cases h5 : 1280 ≤ (j : ℕ)
        · exact ⟨_, List.mem_cons_self, col_mem 1280 inb_S512x2816_S512x256_0_1280 r j (by omega) (by omega)⟩
        by_cases h4 : 1024 ≤ (j : ℕ)
        · exact ⟨_, (List.mem_cons_of_mem _ List.mem_cons_self), col_mem 1024 inb_S512x2816_S512x256_0_1024 r j (by omega) (by omega)⟩
        by_cases h3 : 768 ≤ (j : ℕ)
        · exact ⟨_, (List.mem_cons_of_mem _ (List.mem_cons_of_mem _ List.mem_cons_self)), col_mem 768 inb_S512x2816_S512x256_0_768 r j (by omega) (by omega)⟩
        by_cases h2 : 512 ≤ (j : ℕ)
        · exact ⟨_, (List.mem_cons_of_mem _ (List.mem_cons_of_mem _ (List.mem_cons_of_mem _ List.mem_cons_self))), col_mem 512 inb_S512x2816_S512x256_0_512 r j (by omega) (by omega)⟩
        by_cases h1 : 256 ≤ (j : ℕ)
        · exact ⟨_, (List.mem_cons_of_mem _ (List.mem_cons_of_mem _ (List.mem_cons_of_mem _ (List.mem_cons_of_mem _ List.mem_cons_self)))), col_mem 256 inb_S512x2816_S512x256_0_256 r j (by omega) (by omega)⟩
        exact ⟨_, (List.mem_cons_of_mem _ (List.mem_cons_of_mem _ (List.mem_cons_of_mem _ (List.mem_cons_of_mem _ (List.mem_cons_of_mem _ List.mem_cons_self))))), col_mem 0 inb_S512x2816_S512x256_0_0 r j (by omega) (by omega)⟩
      · exact congrArg (actT H x9 x10 x11 x13 r) (Fin.ext (by simp))
    · congr 1 <;> exact Fin.ext (by simp)
  · refine Finset.sum_congr rfl fun k _ => congrArg₂ (· * ·) ?_ ((ld2 x12 1536 0 _ k c').trans (congrArg x12 ?_))
    · refine (act_read _ (fun y : S512x2816.Idx => actT H x9 x10 x11 x13 (y 0) (y 1)) _ ?_ 1536 1280 _ r k (by omega) ?_).trans ?_
      · exact ⟨fun x => chunk H x9 x10 x11 x13 _ _ 2560 5376 rfl _ _ _ _ _ _ _ _ _ _ _ inb_S512x2816_S512x256_0_2560 x,
        fun x => chunk H x9 x10 x11 x13 _ _ 2304 5120 rfl _ _ _ _ _ _ _ _ _ _ _ inb_S512x2816_S512x256_0_2304 x,
        fun x => chunk H x9 x10 x11 x13 _ _ 2048 4864 rfl _ _ _ _ _ _ _ _ _ _ _ inb_S512x2816_S512x256_0_2048 x,
        fun x => chunk H x9 x10 x11 x13 _ _ 1792 4608 rfl _ _ _ _ _ _ _ _ _ _ _ inb_S512x2816_S512x256_0_1792 x,
        fun x => chunk H x9 x10 x11 x13 _ _ 1536 4352 rfl _ _ _ _ _ _ _ _ _ _ _ inb_S512x2816_S512x256_0_1536 x,
        fun x => chunk H x9 x10 x11 x13 _ _ 1280 4096 rfl _ _ _ _ _ _ _ _ _ _ _ inb_S512x2816_S512x256_0_1280 x,
        fun x => chunk H x9 x10 x11 x13 _ _ 1024 3840 rfl _ _ _ _ _ _ _ _ _ _ _ inb_S512x2816_S512x256_0_1024 x,
        fun x => chunk H x9 x10 x11 x13 _ _ 768 3584 rfl _ _ _ _ _ _ _ _ _ _ _ inb_S512x2816_S512x256_0_768 x,
        fun x => chunk H x9 x10 x11 x13 _ _ 512 3328 rfl _ _ _ _ _ _ _ _ _ _ _ inb_S512x2816_S512x256_0_512 x,
        fun x => chunk H x9 x10 x11 x13 _ _ 256 3072 rfl _ _ _ _ _ _ _ _ _ _ _ inb_S512x2816_S512x256_0_256 x,
        fun x => chunk H x9 x10 x11 x13 _ _ 0 2816 rfl _ _ _ _ _ _ _ _ _ _ _ inb_S512x2816_S512x256_0_0 x, trivial⟩
      · generalize hj : (⟨1536 + (k : ℕ), _⟩ : Fin 2816) = j
        have hj' : (j : ℕ) < 2816 := j.isLt
        by_cases h10 : 2560 ≤ (j : ℕ)
        · exact ⟨_, List.mem_cons_self, col_mem 2560 inb_S512x2816_S512x256_0_2560 r j (by omega) (by omega)⟩
        by_cases h9 : 2304 ≤ (j : ℕ)
        · exact ⟨_, (List.mem_cons_of_mem _ List.mem_cons_self), col_mem 2304 inb_S512x2816_S512x256_0_2304 r j (by omega) (by omega)⟩
        by_cases h8 : 2048 ≤ (j : ℕ)
        · exact ⟨_, (List.mem_cons_of_mem _ (List.mem_cons_of_mem _ List.mem_cons_self)), col_mem 2048 inb_S512x2816_S512x256_0_2048 r j (by omega) (by omega)⟩
        by_cases h7 : 1792 ≤ (j : ℕ)
        · exact ⟨_, (List.mem_cons_of_mem _ (List.mem_cons_of_mem _ (List.mem_cons_of_mem _ List.mem_cons_self))), col_mem 1792 inb_S512x2816_S512x256_0_1792 r j (by omega) (by omega)⟩
        by_cases h6 : 1536 ≤ (j : ℕ)
        · exact ⟨_, (List.mem_cons_of_mem _ (List.mem_cons_of_mem _ (List.mem_cons_of_mem _ (List.mem_cons_of_mem _ List.mem_cons_self)))), col_mem 1536 inb_S512x2816_S512x256_0_1536 r j (by omega) (by omega)⟩
        by_cases h5 : 1280 ≤ (j : ℕ)
        · exact ⟨_, (List.mem_cons_of_mem _ (List.mem_cons_of_mem _ (List.mem_cons_of_mem _ (List.mem_cons_of_mem _ (List.mem_cons_of_mem _ List.mem_cons_self))))), col_mem 1280 inb_S512x2816_S512x256_0_1280 r j (by omega) (by omega)⟩
        by_cases h4 : 1024 ≤ (j : ℕ)
        · exact ⟨_, (List.mem_cons_of_mem _ (List.mem_cons_of_mem _ (List.mem_cons_of_mem _ (List.mem_cons_of_mem _ (List.mem_cons_of_mem _ (List.mem_cons_of_mem _ List.mem_cons_self)))))), col_mem 1024 inb_S512x2816_S512x256_0_1024 r j (by omega) (by omega)⟩
        by_cases h3 : 768 ≤ (j : ℕ)
        · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), col_mem 768 inb_S512x2816_S512x256_0_768 r j (by omega) (by omega)⟩
        by_cases h2 : 512 ≤ (j : ℕ)
        · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), col_mem 512 inb_S512x2816_S512x256_0_512 r j (by omega) (by omega)⟩
        by_cases h1 : 256 ≤ (j : ℕ)
        · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), col_mem 256 inb_S512x2816_S512x256_0_256 r j (by omega) (by omega)⟩
        exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), col_mem 0 inb_S512x2816_S512x256_0_0 r j (by omega) (by omega)⟩
      · rfl
    · congr 1 <;> exact Fin.ext (by simp)

/-- The gate rows' block of a step. -/
theorem tail_A (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1024x1024 .bf16) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S1x2816 .f32) (harg13 : arg13.IsWhole) (arg14 : Memref sig .tc .vmem S2816x1024 .bf16) (harg14 : arg14.IsWhole) (arg15 : Memref sig .tc .vmem S1x8x2816 .f32) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S1x8x2816 .f32) (harg18 : arg18.IsWhole) (arg19 : Memref sig .tc .vmem S512x2816 .bf16) (harg19 : arg19.IsWhole) (arg20 : Memref sig .tc .vmem S520x256 .f32) (harg20 : arg20.IsWhole) (arg21 : Memref sig .tc .vmem S1x8x2816 .f32) (harg21 : arg21.IsWhole) (arg22 : Memref sig .tc .vmem S512x1024 .bf16) (harg22 : arg22.IsWhole) (hc0 : cond0_0 i)
    (x0 : Vec Ideal S1x512x1024 .f32) (x1 : Vec Ideal S1x512x512 .bf16) (x2 : Vec Ideal S1x512x512 .bf16) (x3 : Vec Ideal S1024x1024 .bf16) (x4 : Vec Ideal S1x1x1024 .f32) (x5 : Vec Ideal S1x1024 .f32) (x6 : Vec Ideal S1x1x1024 .f32) (x7 : Vec Ideal S1x1x1024 .f32) (x8 : Vec Ideal S1x1x1024 .f32) (x9 : Vec Ideal S1024x5632 .bf16) (x10 : Vec Ideal S3x2816 .f32) (x11 : Vec Ideal S1x2816 .f32) (x12 : Vec Ideal S2816x1024 .bf16) (x13 : Vec Ideal S1x8x2816 .f32) (x14 : Vec Ideal S1x1024 .f32) (r : Fin 8) (j : Fin 2816) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 (ix3 (0 : Fin 1) r j)
      = lastT (hV x0 x1 x2 x3 x4 x5 x6 x7) x9 r j := by
  frame_open
  simp (disch := decide) only [↓ View.readCov_skip, ↓ View.readCov_cons_toLoadRect, ↓ View.readCov_fill]
  frame_out
  obtain ⟨H, h0⟩ : ∃ H, hV x0 x1 x2 x3 x4 x5 x6 x7 = H := ⟨_, rfl⟩
  have hH := h0
  rw [h0]
  simp only [hV, xV, k0_pay5, k0_pay4, k0_pay2] at hH
  simp only [hH]
  clear hH h0
  rw [View.readCov_eq_canon']
  show View.canon _ ((Rect.unit (s := S1x8x2816) ![0, 0, 0] ![1, 8, 2816] inb_S1x8x2816_S1x8x2816_0_0_0).emb (ix3 (0 : Fin 1) r j)) = _
  rw [whole_emb]
  refine View.canon_append_of_piecesOf (Val := Elt Ideal) (e := .f32) (fun y : S1x8x2816.Idx => lastT H x9 (y 1) (y 2)) [_] [_, _, _, _, _, _, _, _, _, _, _] ?_ (ix3 (0 : Fin 1) r j) ?_
  · exact ⟨fun x => last_chunk H x9 2560 5376 rfl _ inb_S1x8x2816_S1x8x256_0_0_2560 x,
        fun x => last_chunk H x9 2304 5120 rfl _ inb_S1x8x2816_S1x8x256_0_0_2304 x,
        fun x => last_chunk H x9 2048 4864 rfl _ inb_S1x8x2816_S1x8x256_0_0_2048 x,
        fun x => last_chunk H x9 1792 4608 rfl _ inb_S1x8x2816_S1x8x256_0_0_1792 x,
        fun x => last_chunk H x9 1536 4352 rfl _ inb_S1x8x2816_S1x8x256_0_0_1536 x,
        fun x => last_chunk H x9 1280 4096 rfl _ inb_S1x8x2816_S1x8x256_0_0_1280 x,
        fun x => last_chunk H x9 1024 3840 rfl _ inb_S1x8x2816_S1x8x256_0_0_1024 x,
        fun x => last_chunk H x9 768 3584 rfl _ inb_S1x8x2816_S1x8x256_0_0_768 x,
        fun x => last_chunk H x9 512 3328 rfl _ inb_S1x8x2816_S1x8x256_0_0_512 x,
        fun x => last_chunk H x9 256 3072 rfl _ inb_S1x8x2816_S1x8x256_0_0_256 x,
        fun x => last_chunk H x9 0 2816 rfl _ inb_S1x8x2816_S1x8x256_0_0_0 x, trivial⟩
  · have hj' : (j : ℕ) < 2816 := j.isLt
    by_cases h10 : 2560 ≤ (j : ℕ)
    · exact ⟨_, List.mem_cons_self, last_mem 2560 inb_S1x8x2816_S1x8x256_0_0_2560 r j (by omega) (by omega)⟩
    by_cases h9 : 2304 ≤ (j : ℕ)
    · exact ⟨_, (List.mem_cons_of_mem _ List.mem_cons_self), last_mem 2304 inb_S1x8x2816_S1x8x256_0_0_2304 r j (by omega) (by omega)⟩
    by_cases h8 : 2048 ≤ (j : ℕ)
    · exact ⟨_, (List.mem_cons_of_mem _ (List.mem_cons_of_mem _ List.mem_cons_self)), last_mem 2048 inb_S1x8x2816_S1x8x256_0_0_2048 r j (by omega) (by omega)⟩
    by_cases h7 : 1792 ≤ (j : ℕ)
    · exact ⟨_, (List.mem_cons_of_mem _ (List.mem_cons_of_mem _ (List.mem_cons_of_mem _ List.mem_cons_self))), last_mem 1792 inb_S1x8x2816_S1x8x256_0_0_1792 r j (by omega) (by omega)⟩
    by_cases h6 : 1536 ≤ (j : ℕ)
    · exact ⟨_, (List.mem_cons_of_mem _ (List.mem_cons_of_mem _ (List.mem_cons_of_mem _ (List.mem_cons_of_mem _ List.mem_cons_self)))), last_mem 1536 inb_S1x8x2816_S1x8x256_0_0_1536 r j (by omega) (by omega)⟩
    by_cases h5 : 1280 ≤ (j : ℕ)
    · exact ⟨_, (List.mem_cons_of_mem _ (List.mem_cons_of_mem _ (List.mem_cons_of_mem _ (List.mem_cons_of_mem _ (List.mem_cons_of_mem _ List.mem_cons_self))))), last_mem 1280 inb_S1x8x2816_S1x8x256_0_0_1280 r j (by omega) (by omega)⟩
    by_cases h4 : 1024 ≤ (j : ℕ)
    · exact ⟨_, (List.mem_cons_of_mem _ (List.mem_cons_of_mem _ (List.mem_cons_of_mem _ (List.mem_cons_of_mem _ (List.mem_cons_of_mem _ (List.mem_cons_of_mem _ List.mem_cons_self)))))), last_mem 1024 inb_S1x8x2816_S1x8x256_0_0_1024 r j (by omega) (by omega)⟩
    by_cases h3 : 768 ≤ (j : ℕ)
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), last_mem 768 inb_S1x8x2816_S1x8x256_0_0_768 r j (by omega) (by omega)⟩
    by_cases h2 : 512 ≤ (j : ℕ)
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), last_mem 512 inb_S1x8x2816_S1x8x256_0_0_512 r j (by omega) (by omega)⟩
    by_cases h1 : 256 ≤ (j : ℕ)
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), last_mem 256 inb_S1x8x2816_S1x8x256_0_0_256 r j (by omega) (by omega)⟩
    exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), last_mem 0 inb_S1x8x2816_S1x8x256_0_0_0 r j (by omega) (by omega)⟩

/-- The gate rows carried on from a step. -/
theorem next_A (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1024x1024 .bf16) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S1x2816 .f32) (harg13 : arg13.IsWhole) (arg14 : Memref sig .tc .vmem S2816x1024 .bf16) (harg14 : arg14.IsWhole) (arg15 : Memref sig .tc .vmem S1x8x2816 .f32) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S1x8x2816 .f32) (harg18 : arg18.IsWhole) (arg19 : Memref sig .tc .vmem S512x2816 .bf16) (harg19 : arg19.IsWhole) (arg20 : Memref sig .tc .vmem S520x256 .f32) (harg20 : arg20.IsWhole) (arg21 : Memref sig .tc .vmem S1x8x2816 .f32) (harg21 : arg21.IsWhole) (arg22 : Memref sig .tc .vmem S512x1024 .bf16) (harg22 : arg22.IsWhole) (hc0 : cond0_0 i)
    (x0 : Vec Ideal S1x512x1024 .f32) (x1 : Vec Ideal S1x512x512 .bf16) (x2 : Vec Ideal S1x512x512 .bf16) (x3 : Vec Ideal S1024x1024 .bf16) (x4 : Vec Ideal S1x1x1024 .f32) (x5 : Vec Ideal S1x1024 .f32) (x6 : Vec Ideal S1x1x1024 .f32) (x7 : Vec Ideal S1x1x1024 .f32) (x8 : Vec Ideal S1x1x1024 .f32) (x9 : Vec Ideal S1024x5632 .bf16) (x10 : Vec Ideal S3x2816 .f32) (x11 : Vec Ideal S1x2816 .f32) (x12 : Vec Ideal S2816x1024 .bf16) (x13 : Vec Ideal S1x8x2816 .f32) (x14 : Vec Ideal S1x1024 .f32) (r : Fin 8) (j : Fin 2816) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 (ix3 (0 : Fin 1) r j)
      = lastT (hV x0 x1 x2 x3 x4 x5 x6 x7) x9 r j := by
  frame_open
  simp (disch := decide) only [↓ View.readCov_skip, ↓ View.readCov_cons_toLoadRect, ↓ View.readCov_fill]
  frame_out
  obtain ⟨H, h0⟩ : ∃ H, hV x0 x1 x2 x3 x4 x5 x6 x7 = H := ⟨_, rfl⟩
  have hH := h0
  rw [h0]
  simp only [hV, xV, k0_pay5, k0_pay4, k0_pay2] at hH
  simp only [hH]
  clear hH h0
  refine View.canon_append_of_piecesOf (Val := Elt Ideal) (e := .f32) (fun y : S1x8x2816.Idx => lastT H x9 (y 1) (y 2)) [_] [_, _, _, _, _, _, _, _, _, _, _] ?_ (ix3 (0 : Fin 1) r j) ?_
  · exact ⟨fun x => last_chunk H x9 2560 5376 rfl _ inb_S1x8x2816_S1x8x256_0_0_2560 x,
        fun x => last_chunk H x9 2304 5120 rfl _ inb_S1x8x2816_S1x8x256_0_0_2304 x,
        fun x => last_chunk H x9 2048 4864 rfl _ inb_S1x8x2816_S1x8x256_0_0_2048 x,
        fun x => last_chunk H x9 1792 4608 rfl _ inb_S1x8x2816_S1x8x256_0_0_1792 x,
        fun x => last_chunk H x9 1536 4352 rfl _ inb_S1x8x2816_S1x8x256_0_0_1536 x,
        fun x => last_chunk H x9 1280 4096 rfl _ inb_S1x8x2816_S1x8x256_0_0_1280 x,
        fun x => last_chunk H x9 1024 3840 rfl _ inb_S1x8x2816_S1x8x256_0_0_1024 x,
        fun x => last_chunk H x9 768 3584 rfl _ inb_S1x8x2816_S1x8x256_0_0_768 x,
        fun x => last_chunk H x9 512 3328 rfl _ inb_S1x8x2816_S1x8x256_0_0_512 x,
        fun x => last_chunk H x9 256 3072 rfl _ inb_S1x8x2816_S1x8x256_0_0_256 x,
        fun x => last_chunk H x9 0 2816 rfl _ inb_S1x8x2816_S1x8x256_0_0_0 x, trivial⟩
  · have hj' : (j : ℕ) < 2816 := j.isLt
    by_cases h10 : 2560 ≤ (j : ℕ)
    · exact ⟨_, List.mem_cons_self, last_mem 2560 inb_S1x8x2816_S1x8x256_0_0_2560 r j (by omega) (by omega)⟩
    by_cases h9 : 2304 ≤ (j : ℕ)
    · exact ⟨_, (List.mem_cons_of_mem _ List.mem_cons_self), last_mem 2304 inb_S1x8x2816_S1x8x256_0_0_2304 r j (by omega) (by omega)⟩
    by_cases h8 : 2048 ≤ (j : ℕ)
    · exact ⟨_, (List.mem_cons_of_mem _ (List.mem_cons_of_mem _ List.mem_cons_self)), last_mem 2048 inb_S1x8x2816_S1x8x256_0_0_2048 r j (by omega) (by omega)⟩
    by_cases h7 : 1792 ≤ (j : ℕ)
    · exact ⟨_, (List.mem_cons_of_mem _ (List.mem_cons_of_mem _ (List.mem_cons_of_mem _ List.mem_cons_self))), last_mem 1792 inb_S1x8x2816_S1x8x256_0_0_1792 r j (by omega) (by omega)⟩
    by_cases h6 : 1536 ≤ (j : ℕ)
    · exact ⟨_, (List.mem_cons_of_mem _ (List.mem_cons_of_mem _ (List.mem_cons_of_mem _ (List.mem_cons_of_mem _ List.mem_cons_self)))), last_mem 1536 inb_S1x8x2816_S1x8x256_0_0_1536 r j (by omega) (by omega)⟩
    by_cases h5 : 1280 ≤ (j : ℕ)
    · exact ⟨_, (List.mem_cons_of_mem _ (List.mem_cons_of_mem _ (List.mem_cons_of_mem _ (List.mem_cons_of_mem _ (List.mem_cons_of_mem _ List.mem_cons_self))))), last_mem 1280 inb_S1x8x2816_S1x8x256_0_0_1280 r j (by omega) (by omega)⟩
    by_cases h4 : 1024 ≤ (j : ℕ)
    · exact ⟨_, (List.mem_cons_of_mem _ (List.mem_cons_of_mem _ (List.mem_cons_of_mem _ (List.mem_cons_of_mem _ (List.mem_cons_of_mem _ (List.mem_cons_of_mem _ List.mem_cons_self)))))), last_mem 1024 inb_S1x8x2816_S1x8x256_0_0_1024 r j (by omega) (by omega)⟩
    by_cases h3 : 768 ≤ (j : ℕ)
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), last_mem 768 inb_S1x8x2816_S1x8x256_0_0_768 r j (by omega) (by omega)⟩
    by_cases h2 : 512 ≤ (j : ℕ)
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), last_mem 512 inb_S1x8x2816_S1x8x256_0_0_512 r j (by omega) (by omega)⟩
    by_cases h1 : 256 ≤ (j : ℕ)
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), last_mem 256 inb_S1x8x2816_S1x8x256_0_0_256 r j (by omega) (by omega)⟩
    exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), last_mem 0 inb_S1x8x2816_S1x8x256_0_0_0 r j (by omega) (by omega)⟩

end Cert.Kernel2Ideal.Ffn

end
-- ==== Proof.FfnStepB.lean ====
/- The kernel's step within a sequence: the eight gate rows before it are the ones carried on. -/
module

public import proofs.«01_k».proof.Proof.FfnStep
public import proofs.«01_k».proof.Proof.Gen.Kernel2Ideal.Value

@[expose] public section

set_option maxRecDepth 16384

noncomputable section

namespace Cert.Kernel2Ideal.Ffn

open Cert.Kernel2Ideal Cert.Kernel2Ideal.Gen Idealize.ShloMosaic Idealize.SL.Sem Cert.Ffn Idealize.ShloMosaic.TcCoe

/-- The output's block of a step. -/
theorem out_B (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1024x1024 .bf16) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S1x2816 .f32) (harg13 : arg13.IsWhole) (arg14 : Memref sig .tc .vmem S2816x1024 .bf16) (harg14 : arg14.IsWhole) (arg15 : Memref sig .tc .vmem S1x8x2816 .f32) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S1x8x2816 .f32) (harg18 : arg18.IsWhole) (arg19 : Memref sig .tc .vmem S512x2816 .bf16) (harg19 : arg19.IsWhole) (arg20 : Memref sig .tc .vmem S520x256 .f32) (harg20 : arg20.IsWhole) (arg21 : Memref sig .tc .vmem S1x8x2816 .f32) (harg21 : arg21.IsWhole) (arg22 : Memref sig .tc .vmem S512x1024 .bf16) (harg22 : arg22.IsWhole) (hc0 : ¬cond0_0 i)
    (x0 : Vec Ideal S1x512x1024 .f32) (x1 : Vec Ideal S1x512x512 .bf16) (x2 : Vec Ideal S1x512x512 .bf16) (x3 : Vec Ideal S1024x1024 .bf16) (x4 : Vec Ideal S1x1x1024 .f32) (x5 : Vec Ideal S1x1024 .f32) (x6 : Vec Ideal S1x1x1024 .f32) (x7 : Vec Ideal S1x1x1024 .f32) (x8 : Vec Ideal S1x1x1024 .f32) (x9 : Vec Ideal S1024x5632 .bf16) (x10 : Vec Ideal S3x2816 .f32) (x11 : Vec Ideal S1x2816 .f32) (x12 : Vec Ideal S2816x1024 .bf16) (x13 : Vec Ideal S1x8x2816 .f32) (x14 : Vec Ideal S1x1024 .f32) (xs2 : Vec Ideal S1x8x2816 .f32) (r : Fin 512) (c' : Fin 1024) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs2 (ix3 (0 : Fin 1) r c')
      = yV (xV x0 x1 x2 x3 x4 (ix2 r c')) (hV x0 x1 x2 x3 x4 x5 x6 x7) x8 x9 x10 x11 x12 xs2 r c' := by
  frame_open
  simp (disch := decide) only [↓ View.readCov_skip, ↓ View.readCov_cons_toLoadRect, ↓ View.readCov_fill]
  frame_out
  obtain ⟨H, h0⟩ : ∃ H, hV x0 x1 x2 x3 x4 x5 x6 x7 = H := ⟨_, rfl⟩
  have hH := h0
  rw [h0]
  simp only [hV, xV, k0_pay5, k0_pay4, k0_pay2] at hH
  simp only [hH]
  clear hH h0
  refine (pay88_at _ _ _ _ _ r c').trans ?_
  unfold yV downRow
  refine congrArg₂ (· + ·) (cast_x _ r c') (congrArg₂ (· * ·) rfl (congrArg₂ (· + ·) ((pay51_at _ _ r c').trans ?_) ?_))
  · refine Finset.sum_congr rfl fun k _ => congrArg₂ (· * ·) ?_ ((ld2 x12 0 0 _ k c').trans (congrArg x12 ?_))
    · refine (act_read _ (fun y : S512x2816.Idx => actT H x9 x10 x11 xs2 (y 0) (y 1)) _ ?_ 0 1536 _ r k (by omega) ?_).trans ?_
      · exact ⟨fun x => chunk H x9 x10 x11 xs2 _ _ 1280 4096 rfl _ _ _ _ _ _ _ _ _ _ _ inb_S512x2816_S512x256_0_1280 x,
        fun x => chunk H x9 x10 x11 xs2 _ _ 1024 3840 rfl _ _ _ _ _ _ _ _ _ _ _ inb_S512x2816_S512x256_0_1024 x,
        fun x => chunk H x9 x10 x11 xs2 _ _ 768 3584 rfl _ _ _ _ _ _ _ _ _ _ _ inb_S512x2816_S512x256_0_768 x,
        fun x => chunk H x9 x10 x11 xs2 _ _ 512 3328 rfl _ _ _ _ _ _ _ _ _ _ _ inb_S512x2816_S512x256_0_512 x,
        fun x => chunk H x9 x10 x11 xs2 _ _ 256 3072 rfl _ _ _ _ _ _ _ _ _ _ _ inb_S512x2816_S512x256_0_256 x,
        fun x => chunk H x9 x10 x11 xs2 _ _ 0 2816 rfl _ _ _ _ _ _ _ _ _ _ _ inb_S512x2816_S512x256_0_0 x, trivial⟩
      · generalize hj : (⟨0 + (k : ℕ), _⟩ : Fin 2816) = j
        have hj' : (j : ℕ) < 1536 := by have := congrArg Fin.val hj; simp at this; omega
        by_cases h5 : 1280 ≤ (j : ℕ)
        · exact ⟨_, List.mem_cons_self, col_mem 1280 inb_S512x2816_S512x256_0_1280 r j (by omega) (by omega)⟩
        by_cases h4 : 1024 ≤ (j : ℕ)
        · exact ⟨_, (List.mem_cons_of_mem _ List.mem_cons_self), col_mem 1024 inb_S512x2816_S512x256_0_1024 r j (by omega) (by omega)⟩
        by_cases h3 : 768 ≤ (j : ℕ)
        · exact ⟨_, (List.mem_cons_of_mem _ (List.mem_cons_of_mem _ List.mem_cons_self)), col_mem 768 inb_S512x2816_S512x256_0_768 r j (by omega) (by omega)⟩
        by_cases h2 : 512 ≤ (j : ℕ)
        · exact ⟨_, (List.mem_cons_of_mem _ (List.mem_cons_of_mem _ (List.mem_cons_of_mem _ List.mem_cons_self))), col_mem 512 inb_S512x2816_S512x256_0_512 r j (by omega) (by omega)⟩
        by_cases h1 : 256 ≤ (j : ℕ)
        · exact ⟨_, (List.mem_cons_of_mem _ (List.mem_cons_of_mem _ (List.mem_cons_of_mem _ (List.mem_cons_of_mem _ List.mem_cons_self)))), col_mem 256 inb_S512x2816_S512x256_0_256 r j (by omega) (by omega)⟩
        exact ⟨_, (List.mem_cons_of_mem _ (List.mem_cons_of_mem _ (List.mem_cons_of_mem _ (List.mem_cons_of_mem _ (List.mem_cons_of_mem _ List.mem_cons_self))))), col_mem 0 inb_S512x2816_S512x256_0_0 r j (by omega) (by omega)⟩
      · exact congrArg (actT H x9 x10 x11 xs2 r) (Fin.ext (by simp))
    · congr 1 <;> exact Fin.ext (by simp)
  · refine Finset.sum_congr rfl fun k _ => congrArg₂ (· * ·) ?_ ((ld2 x12 1536 0 _ k c').trans (congrArg x12 ?_))
    · refine (act_read _ (fun y : S512x2816.Idx => actT H x9 x10 x11 xs2 (y 0) (y 1)) _ ?_ 1536 1280 _ r k (by omega) ?_).trans ?_
      · exact ⟨fun x => chunk H x9 x10 x11 xs2 _ _ 2560 5376 rfl _ _ _ _ _ _ _ _ _ _ _ inb_S512x2816_S512x256_0_2560 x,
        fun x => chunk H x9 x10 x11 xs2 _ _ 2304 5120 rfl _ _ _ _ _ _ _ _ _ _ _ inb_S512x2816_S512x256_0_2304 x,
        fun x => chunk H x9 x10 x11 xs2 _ _ 2048 4864 rfl _ _ _ _ _ _ _ _ _ _ _ inb_S512x2816_S512x256_0_2048 x,
        fun x => chunk H x9 x10 x11 xs2 _ _ 1792 4608 rfl _ _ _ _ _ _ _ _ _ _ _ inb_S512x2816_S512x256_0_1792 x,
        fun x => chunk H x9 x10 x11 xs2 _ _ 1536 4352 rfl _ _ _ _ _ _ _ _ _ _ _ inb_S512x2816_S512x256_0_1536 x,
        fun x => chunk H x9 x10 x11 xs2 _ _ 1280 4096 rfl _ _ _ _ _ _ _ _ _ _ _ inb_S512x2816_S512x256_0_1280 x,
        fun x => chunk H x9 x10 x11 xs2 _ _ 1024 3840 rfl _ _ _ _ _ _ _ _ _ _ _ inb_S512x2816_S512x256_0_1024 x,
        fun x => chunk H x9 x10 x11 xs2 _ _ 768 3584 rfl _ _ _ _ _ _ _ _ _ _ _ inb_S512x2816_S512x256_0_768 x,
        fun x => chunk H x9 x10 x11 xs2 _ _ 512 3328 rfl _ _ _ _ _ _ _ _ _ _ _ inb_S512x2816_S512x256_0_512 x,
        fun x => chunk H x9 x10 x11 xs2 _ _ 256 3072 rfl _ _ _ _ _ _ _ _ _ _ _ inb_S512x2816_S512x256_0_256 x,
        fun x => chunk H x9 x10 x11 xs2 _ _ 0 2816 rfl _ _ _ _ _ _ _ _ _ _ _ inb_S512x2816_S512x256_0_0 x, trivial⟩
      · generalize hj : (⟨1536 + (k : ℕ), _⟩ : Fin 2816) = j
        have hj' : (j : ℕ) < 2816 := j.isLt
        by_cases h10 : 2560 ≤ (j : ℕ)
        · exact ⟨_, List.mem_cons_self, col_mem 2560 inb_S512x2816_S512x256_0_2560 r j (by omega) (by omega)⟩
        by_cases h9 : 2304 ≤ (j : ℕ)
        · exact ⟨_, (List.mem_cons_of_mem _ List.mem_cons_self), col_mem 2304 inb_S512x2816_S512x256_0_2304 r j (by omega) (by omega)⟩
        by_cases h8 : 2048 ≤ (j : ℕ)
        · exact ⟨_, (List.mem_cons_of_mem _ (List.mem_cons_of_mem _ List.mem_cons_self)), col_mem 2048 inb_S512x2816_S512x256_0_2048 r j (by omega) (by omega)⟩
        by_cases h7 : 1792 ≤ (j : ℕ)
        · exact ⟨_, (List.mem_cons_of_mem _ (List.mem_cons_of_mem _ (List.mem_cons_of_mem _ List.mem_cons_self))), col_mem 1792 inb_S512x2816_S512x256_0_1792 r j (by omega) (by omega)⟩
        by_cases h6 : 1536 ≤ (j : ℕ)
        · exact ⟨_, (List.mem_cons_of_mem _ (List.mem_cons_of_mem _ (List.mem_cons_of_mem _ (List.mem_cons_of_mem _ List.mem_cons_self)))), col_mem 1536 inb_S512x2816_S512x256_0_1536 r j (by omega) (by omega)⟩
        by_cases h5 : 1280 ≤ (j : ℕ)
        · exact ⟨_, (List.mem_cons_of_mem _ (List.mem_cons_of_mem _ (List.mem_cons_of_mem _ (List.mem_cons_of_mem _ (List.mem_cons_of_mem _ List.mem_cons_self))))), col_mem 1280 inb_S512x2816_S512x256_0_1280 r j (by omega) (by omega)⟩
        by_cases h4 : 1024 ≤ (j : ℕ)
        · exact ⟨_, (List.mem_cons_of_mem _ (List.mem_cons_of_mem _ (List.mem_cons_of_mem _ (List.mem_cons_of_mem _ (List.mem_cons_of_mem _ (List.mem_cons_of_mem _ List.mem_cons_self)))))), col_mem 1024 inb_S512x2816_S512x256_0_1024 r j (by omega) (by omega)⟩
        by_cases h3 : 768 ≤ (j : ℕ)
        · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), col_mem 768 inb_S512x2816_S512x256_0_768 r j (by omega) (by omega)⟩
        by_cases h2 : 512 ≤ (j : ℕ)
        · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), col_mem 512 inb_S512x2816_S512x256_0_512 r j (by omega) (by omega)⟩
        by_cases h1 : 256 ≤ (j : ℕ)
        · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), col_mem 256 inb_S512x2816_S512x256_0_256 r j (by omega) (by omega)⟩
        exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), col_mem 0 inb_S512x2816_S512x256_0_0 r j (by omega) (by omega)⟩
      · rfl
    · congr 1 <;> exact Fin.ext (by simp)

/-- The gate rows' block of a step. -/
theorem tail_B (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1024x1024 .bf16) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S1x2816 .f32) (harg13 : arg13.IsWhole) (arg14 : Memref sig .tc .vmem S2816x1024 .bf16) (harg14 : arg14.IsWhole) (arg15 : Memref sig .tc .vmem S1x8x2816 .f32) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S1x8x2816 .f32) (harg18 : arg18.IsWhole) (arg19 : Memref sig .tc .vmem S512x2816 .bf16) (harg19 : arg19.IsWhole) (arg20 : Memref sig .tc .vmem S520x256 .f32) (harg20 : arg20.IsWhole) (arg21 : Memref sig .tc .vmem S1x8x2816 .f32) (harg21 : arg21.IsWhole) (arg22 : Memref sig .tc .vmem S512x1024 .bf16) (harg22 : arg22.IsWhole) (hc0 : ¬cond0_0 i)
    (x0 : Vec Ideal S1x512x1024 .f32) (x1 : Vec Ideal S1x512x512 .bf16) (x2 : Vec Ideal S1x512x512 .bf16) (x3 : Vec Ideal S1024x1024 .bf16) (x4 : Vec Ideal S1x1x1024 .f32) (x5 : Vec Ideal S1x1024 .f32) (x6 : Vec Ideal S1x1x1024 .f32) (x7 : Vec Ideal S1x1x1024 .f32) (x8 : Vec Ideal S1x1x1024 .f32) (x9 : Vec Ideal S1024x5632 .bf16) (x10 : Vec Ideal S3x2816 .f32) (x11 : Vec Ideal S1x2816 .f32) (x12 : Vec Ideal S2816x1024 .bf16) (x13 : Vec Ideal S1x8x2816 .f32) (x14 : Vec Ideal S1x1024 .f32) (xs2 : Vec Ideal S1x8x2816 .f32) (r : Fin 8) (j : Fin 2816) :
    out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs2 (ix3 (0 : Fin 1) r j)
      = lastT (hV x0 x1 x2 x3 x4 x5 x6 x7) x9 r j := by
  frame_open
  simp (disch := decide) only [↓ View.readCov_skip, ↓ View.readCov_cons_toLoadRect, ↓ View.readCov_fill]
  frame_out
  obtain ⟨H, h0⟩ : ∃ H, hV x0 x1 x2 x3 x4 x5 x6 x7 = H := ⟨_, rfl⟩
  have hH := h0
  rw [h0]
  simp only [hV, xV, k0_pay5, k0_pay4, k0_pay2] at hH
  simp only [hH]
  clear hH h0
  rw [View.readCov_eq_canon']
  show View.canon _ ((Rect.unit (s := S1x8x2816) ![0, 0, 0] ![1, 8, 2816] inb_S1x8x2816_S1x8x2816_0_0_0).emb (ix3 (0 : Fin 1) r j)) = _
  rw [whole_emb]
  refine View.canon_append_of_piecesOf (Val := Elt Ideal) (e := .f32) (fun y : S1x8x2816.Idx => lastT H x9 (y 1) (y 2)) [] [_, _, _, _, _, _, _, _, _, _, _] ?_ (ix3 (0 : Fin 1) r j) ?_
  · exact ⟨fun x => last_chunk H x9 2560 5376 rfl _ inb_S1x8x2816_S1x8x256_0_0_2560 x,
        fun x => last_chunk H x9 2304 5120 rfl _ inb_S1x8x2816_S1x8x256_0_0_2304 x,
        fun x => last_chunk H x9 2048 4864 rfl _ inb_S1x8x2816_S1x8x256_0_0_2048 x,
        fun x => last_chunk H x9 1792 4608 rfl _ inb_S1x8x2816_S1x8x256_0_0_1792 x,
        fun x => last_chunk H x9 1536 4352 rfl _ inb_S1x8x2816_S1x8x256_0_0_1536 x,
        fun x => last_chunk H x9 1280 4096 rfl _ inb_S1x8x2816_S1x8x256_0_0_1280 x,
        fun x => last_chunk H x9 1024 3840 rfl _ inb_S1x8x2816_S1x8x256_0_0_1024 x,
        fun x => last_chunk H x9 768 3584 rfl _ inb_S1x8x2816_S1x8x256_0_0_768 x,
        fun x => last_chunk H x9 512 3328 rfl _ inb_S1x8x2816_S1x8x256_0_0_512 x,
        fun x => last_chunk H x9 256 3072 rfl _ inb_S1x8x2816_S1x8x256_0_0_256 x,
        fun x => last_chunk H x9 0 2816 rfl _ inb_S1x8x2816_S1x8x256_0_0_0 x, trivial⟩
  · have hj' : (j : ℕ) < 2816 := j.isLt
    by_cases h10 : 2560 ≤ (j : ℕ)
    · exact ⟨_, List.mem_cons_self, last_mem 2560 inb_S1x8x2816_S1x8x256_0_0_2560 r j (by omega) (by omega)⟩
    by_cases h9 : 2304 ≤ (j : ℕ)
    · exact ⟨_, (List.mem_cons_of_mem _ List.mem_cons_self), last_mem 2304 inb_S1x8x2816_S1x8x256_0_0_2304 r j (by omega) (by omega)⟩
    by_cases h8 : 2048 ≤ (j : ℕ)
    · exact ⟨_, (List.mem_cons_of_mem _ (List.mem_cons_of_mem _ List.mem_cons_self)), last_mem 2048 inb_S1x8x2816_S1x8x256_0_0_2048 r j (by omega) (by omega)⟩
    by_cases h7 : 1792 ≤ (j : ℕ)
    · exact ⟨_, (List.mem_cons_of_mem _ (List.mem_cons_of_mem _ (List.mem_cons_of_mem _ List.mem_cons_self))), last_mem 1792 inb_S1x8x2816_S1x8x256_0_0_1792 r j (by omega) (by omega)⟩
    by_cases h6 : 1536 ≤ (j : ℕ)
    · exact ⟨_, (List.mem_cons_of_mem _ (List.mem_cons_of_mem _ (List.mem_cons_of_mem _ (List.mem_cons_of_mem _ List.mem_cons_self)))), last_mem 1536 inb_S1x8x2816_S1x8x256_0_0_1536 r j (by omega) (by omega)⟩
    by_cases h5 : 1280 ≤ (j : ℕ)
    · exact ⟨_, (List.mem_cons_of_mem _ (List.mem_cons_of_mem _ (List.mem_cons_of_mem _ (List.mem_cons_of_mem _ (List.mem_cons_of_mem _ List.mem_cons_self))))), last_mem 1280 inb_S1x8x2816_S1x8x256_0_0_1280 r j (by omega) (by omega)⟩
    by_cases h4 : 1024 ≤ (j : ℕ)
    · exact ⟨_, (List.mem_cons_of_mem _ (List.mem_cons_of_mem _ (List.mem_cons_of_mem _ (List.mem_cons_of_mem _ (List.mem_cons_of_mem _ (List.mem_cons_of_mem _ List.mem_cons_self)))))), last_mem 1024 inb_S1x8x2816_S1x8x256_0_0_1024 r j (by omega) (by omega)⟩
    by_cases h3 : 768 ≤ (j : ℕ)
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), last_mem 768 inb_S1x8x2816_S1x8x256_0_0_768 r j (by omega) (by omega)⟩
    by_cases h2 : 512 ≤ (j : ℕ)
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), last_mem 512 inb_S1x8x2816_S1x8x256_0_0_512 r j (by omega) (by omega)⟩
    by_cases h1 : 256 ≤ (j : ℕ)
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), last_mem 256 inb_S1x8x2816_S1x8x256_0_0_256 r j (by omega) (by omega)⟩
    exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), last_mem 0 inb_S1x8x2816_S1x8x256_0_0_0 r j (by omega) (by omega)⟩

/-- The gate rows carried on from a step. -/
theorem next_B (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1024x1024 .bf16) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S1x2816 .f32) (harg13 : arg13.IsWhole) (arg14 : Memref sig .tc .vmem S2816x1024 .bf16) (harg14 : arg14.IsWhole) (arg15 : Memref sig .tc .vmem S1x8x2816 .f32) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S1x8x2816 .f32) (harg18 : arg18.IsWhole) (arg19 : Memref sig .tc .vmem S512x2816 .bf16) (harg19 : arg19.IsWhole) (arg20 : Memref sig .tc .vmem S520x256 .f32) (harg20 : arg20.IsWhole) (arg21 : Memref sig .tc .vmem S1x8x2816 .f32) (harg21 : arg21.IsWhole) (arg22 : Memref sig .tc .vmem S512x1024 .bf16) (harg22 : arg22.IsWhole) (hc0 : ¬cond0_0 i)
    (x0 : Vec Ideal S1x512x1024 .f32) (x1 : Vec Ideal S1x512x512 .bf16) (x2 : Vec Ideal S1x512x512 .bf16) (x3 : Vec Ideal S1024x1024 .bf16) (x4 : Vec Ideal S1x1x1024 .f32) (x5 : Vec Ideal S1x1024 .f32) (x6 : Vec Ideal S1x1x1024 .f32) (x7 : Vec Ideal S1x1x1024 .f32) (x8 : Vec Ideal S1x1x1024 .f32) (x9 : Vec Ideal S1024x5632 .bf16) (x10 : Vec Ideal S3x2816 .f32) (x11 : Vec Ideal S1x2816 .f32) (x12 : Vec Ideal S2816x1024 .bf16) (x13 : Vec Ideal S1x8x2816 .f32) (x14 : Vec Ideal S1x1024 .f32) (xs2 : Vec Ideal S1x8x2816 .f32) (r : Fin 8) (j : Fin 2816) :
    sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs2 (ix3 (0 : Fin 1) r j)
      = lastT (hV x0 x1 x2 x3 x4 x5 x6 x7) x9 r j := by
  frame_open
  simp (disch := decide) only [↓ View.readCov_skip, ↓ View.readCov_cons_toLoadRect, ↓ View.readCov_fill]
  frame_out
  obtain ⟨H, h0⟩ : ∃ H, hV x0 x1 x2 x3 x4 x5 x6 x7 = H := ⟨_, rfl⟩
  have hH := h0
  rw [h0]
  simp only [hV, xV, k0_pay5, k0_pay4, k0_pay2] at hH
  simp only [hH]
  clear hH h0
  refine View.canon_append_of_piecesOf (Val := Elt Ideal) (e := .f32) (fun y : S1x8x2816.Idx => lastT H x9 (y 1) (y 2)) [] [_, _, _, _, _, _, _, _, _, _, _] ?_ (ix3 (0 : Fin 1) r j) ?_
  · exact ⟨fun x => last_chunk H x9 2560 5376 rfl _ inb_S1x8x2816_S1x8x256_0_0_2560 x,
        fun x => last_chunk H x9 2304 5120 rfl _ inb_S1x8x2816_S1x8x256_0_0_2304 x,
        fun x => last_chunk H x9 2048 4864 rfl _ inb_S1x8x2816_S1x8x256_0_0_2048 x,
        fun x => last_chunk H x9 1792 4608 rfl _ inb_S1x8x2816_S1x8x256_0_0_1792 x,
        fun x => last_chunk H x9 1536 4352 rfl _ inb_S1x8x2816_S1x8x256_0_0_1536 x,
        fun x => last_chunk H x9 1280 4096 rfl _ inb_S1x8x2816_S1x8x256_0_0_1280 x,
        fun x => last_chunk H x9 1024 3840 rfl _ inb_S1x8x2816_S1x8x256_0_0_1024 x,
        fun x => last_chunk H x9 768 3584 rfl _ inb_S1x8x2816_S1x8x256_0_0_768 x,
        fun x => last_chunk H x9 512 3328 rfl _ inb_S1x8x2816_S1x8x256_0_0_512 x,
        fun x => last_chunk H x9 256 3072 rfl _ inb_S1x8x2816_S1x8x256_0_0_256 x,
        fun x => last_chunk H x9 0 2816 rfl _ inb_S1x8x2816_S1x8x256_0_0_0 x, trivial⟩
  · have hj' : (j : ℕ) < 2816 := j.isLt
    by_cases h10 : 2560 ≤ (j : ℕ)
    · exact ⟨_, List.mem_cons_self, last_mem 2560 inb_S1x8x2816_S1x8x256_0_0_2560 r j (by omega) (by omega)⟩
    by_cases h9 : 2304 ≤ (j : ℕ)
    · exact ⟨_, (List.mem_cons_of_mem _ List.mem_cons_self), last_mem 2304 inb_S1x8x2816_S1x8x256_0_0_2304 r j (by omega) (by omega)⟩
    by_cases h8 : 2048 ≤ (j : ℕ)
    · exact ⟨_, (List.mem_cons_of_mem _ (List.mem_cons_of_mem _ List.mem_cons_self)), last_mem 2048 inb_S1x8x2816_S1x8x256_0_0_2048 r j (by omega) (by omega)⟩
    by_cases h7 : 1792 ≤ (j : ℕ)
    · exact ⟨_, (List.mem_cons_of_mem _ (List.mem_cons_of_mem _ (List.mem_cons_of_mem _ List.mem_cons_self))), last_mem 1792 inb_S1x8x2816_S1x8x256_0_0_1792 r j (by omega) (by omega)⟩
    by_cases h6 : 1536 ≤ (j : ℕ)
    · exact ⟨_, (List.mem_cons_of_mem _ (List.mem_cons_of_mem _ (List.mem_cons_of_mem _ (List.mem_cons_of_mem _ List.mem_cons_self)))), last_mem 1536 inb_S1x8x2816_S1x8x256_0_0_1536 r j (by omega) (by omega)⟩
    by_cases h5 : 1280 ≤ (j : ℕ)
    · exact ⟨_, (List.mem_cons_of_mem _ (List.mem_cons_of_mem _ (List.mem_cons_of_mem _ (List.mem_cons_of_mem _ (List.mem_cons_of_mem _ List.mem_cons_self))))), last_mem 1280 inb_S1x8x2816_S1x8x256_0_0_1280 r j (by omega) (by omega)⟩
    by_cases h4 : 1024 ≤ (j : ℕ)
    · exact ⟨_, (List.mem_cons_of_mem _ (List.mem_cons_of_mem _ (List.mem_cons_of_mem _ (List.mem_cons_of_mem _ (List.mem_cons_of_mem _ (List.mem_cons_of_mem _ List.mem_cons_self)))))), last_mem 1024 inb_S1x8x2816_S1x8x256_0_0_1024 r j (by omega) (by omega)⟩
    by_cases h3 : 768 ≤ (j : ℕ)
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), last_mem 768 inb_S1x8x2816_S1x8x256_0_0_768 r j (by omega) (by omega)⟩
    by_cases h2 : 512 ≤ (j : ℕ)
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), last_mem 512 inb_S1x8x2816_S1x8x256_0_0_512 r j (by omega) (by omega)⟩
    by_cases h1 : 256 ≤ (j : ℕ)
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), last_mem 256 inb_S1x8x2816_S1x8x256_0_0_256 r j (by omega) (by omega)⟩
    exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), last_mem 0 inb_S1x8x2816_S1x8x256_0_0_0 r j (by omega) (by omega)⟩

end Cert.Kernel2Ideal.Ffn

end
-- ==== Proof.FfnValue.lean ====
/- The feed-forward kernel's blocks at a step, and what every step leaves: rows of the sequence's output and of its gate
   branch. -/
module

public import proofs.«01_k».proof.Proof.FfnStepA
public import proofs.«01_k».proof.Proof.FfnStepB

@[expose] public section

set_option maxRecDepth 16384

noncomputable section

namespace Cert.Kernel2Ideal.Ffn

open Cert.Kernel2Ideal Cert.Kernel2Ideal.Gen Idealize.ShloMosaic Idealize.SL.Sem Cert.Ffn Idealize.ShloMosaic.TcCoe

/-- The row `r` of step `l` of a sequence. -/
abbrev rowAt (l : ℕ) (hl : l < 4) (r : Fin 512) : Fin 2048 := ⟨512 * l + r, by omega⟩

section Seq

variable (X Hs : Fin 2048 → Fin 1024 → EReal) (H : Vec Ideal S512x1024 .bf16) (x8 : Vec Ideal S1x1x1024 .f32)
  (x9 : Vec Ideal S1024x5632 .bf16) (x10 : Vec Ideal S3x2816 .f32) (x11 : Vec Ideal S1x2816 .f32)
  (x12 : Vec Ideal S2816x1024 .bf16) (T : Vec Ideal S1x8x2816 .f32) (l : ℕ) (hl : l < 4)

/-- A step's gate rows back are the sequence's. -/
theorem backT_seq (hH : ∀ r c, H (ix2 r c) = Hs (rowAt l hl r) c)
    (hT : ∀ (i : Fin 8) j, T (ix3 (0 : Fin 1) i j)
      = if h : l = 0 then 0 else seqG Hs (fun c j => x9 (ix2 c j)) ⟨512 * l - 8 + i, by omega⟩ j)
    (k : ℕ) (hk : k ≤ 8) (r : Fin 512) (j : Fin 2816) :
    backT H x9 T k hk r j = backRow (seqG Hs fun c j => x9 (ix2 c j)) k (rowAt l hl r) j := by
  unfold backT backRow
  by_cases h : (r : ℕ) < k
  · rw [dif_pos h, hT]
    by_cases h0 : l = 0
    · rw [dif_pos h0, if_pos (by subst h0; show 512 * 0 + (r : ℕ) < k; omega)]
    · rw [dif_neg h0, if_neg (by show ¬ 512 * l + (r : ℕ) < k; omega)]
      refine congrArg (fun t => seqG Hs (fun c j => x9 (ix2 c j)) t j) (Fin.ext ?_)
      show 512 * l - 8 + (8 - k + (r : ℕ)) = 512 * l + r - k
      omega
  · rw [dif_neg h, if_neg (by show ¬ 512 * l + (r : ℕ) < k; omega)]
    unfold seqG
    refine congrArg (fun f => gateRow f (fun c j => x9 (ix2 c j)) j) (funext fun c => (hH _ c).trans ?_)
    refine congrArg (fun t => Hs t c) (Fin.ext ?_)
    show 512 * l + ((r : ℕ) - k) = 512 * l + r - k
    omega

/-- A step's output rows are the sequence's. -/
theorem yV_seq (hH : ∀ r c, H (ix2 r c) = Hs (rowAt l hl r) c)
    (hT : ∀ (i : Fin 8) j, T (ix3 (0 : Fin 1) i j)
      = if h : l = 0 then 0 else seqG Hs (fun c j => x9 (ix2 c j)) ⟨512 * l - 8 + i, by omega⟩ j)
    (r : Fin 512) (c : Fin 1024) :
    yV (X (rowAt l hl r) c) H x8 x9 x10 x11 x12 T r c
      = seqY X Hs (fun c j => x9 (ix2 c j)) (fun j => x10 (ix2 (0 : Fin 3) j)) (fun j => x10 (ix2 (1 : Fin 3) j))
          (fun j => x10 (ix2 (2 : Fin 3) j)) (fun j => x11 (ix2 (0 : Fin 1) j)) (fun c => x8 (ix3 (0 : Fin 1) (0 : Fin 1) c))
          (fun j c => x12 (ix2 j c)) (rowAt l hl r) c := by
  unfold yV seqY actT
  rw [show backT H x9 T 2 (by omega) r = _ from funext fun j => backT_seq Hs H x9 T l hl hH hT 2 (by omega) r j,
    show backT H x9 T 1 (by omega) r = _ from funext fun j => backT_seq Hs H x9 T l hl hH hT 1 (by omega) r j,
    show (fun c => H (ix2 r c)) = Hs (rowAt l hl r) from funext fun c => hH r c]

/-- The gate rows a step leaves are the sequence's. -/
theorem lastT_seq (hH : ∀ r c, H (ix2 r c) = Hs (rowAt l hl r) c) (i : Fin 8) (j : Fin 2816) :
    lastT H x9 i j = seqG Hs (fun c j => x9 (ix2 c j)) (rowAt l hl ⟨504 + i, by omega⟩) j := by
  unfold lastT seqG
  exact congrArg (fun f => gateRow f (fun c j => x9 (ix2 c j)) j) (funext fun c => hH _ c)

end Seq

variable (m : (ℓ : Loc nD τ sig) → Buf (Elt Ideal) ℓ) (c : Dev nD)

theorem idx0 : ∀ t : Fin cfg0.N, win0_0.index t = ![(t : ℕ) / 4, (t : ℕ) % 4, 0] := (by decide +kernel : ∀ t : Fin grid0.N, _)
theorem idx1 : ∀ t : Fin cfg0.N, win0_1.index t = ![(t : ℕ) / 4, (t : ℕ) % 4, 0] := (by decide +kernel : ∀ t : Fin grid0.N, _)
theorem idx2 : ∀ t : Fin cfg0.N, win0_2.index t = ![(t : ℕ) / 4, (t : ℕ) % 4, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![(t : ℕ) / 4, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![(t : ℕ) / 4, 0, 0] := (by decide +kernel : ∀ t : Fin grid0.N, _)
theorem idx7 : ∀ t : Fin cfg0.N, win0_7.index t = ![(t : ℕ) / 4, 0, 0] := (by decide +kernel : ∀ t : Fin grid0.N, _)
theorem idx8 : ∀ t : Fin cfg0.N, win0_8.index t = ![(t : ℕ) / 4, 0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![(t : ℕ) / 4, 0, 0] := (by decide +kernel : ∀ t : Fin grid0.N, _)
theorem idx15 : ∀ t : Fin cfg0.N, win0_15.index t = ![(t : ℕ) / 4, (t : ℕ) % 4, 0] := (by decide +kernel : ∀ t : Fin grid0.N, _)
theorem idx16 : ∀ t : Fin cfg0.N, win0_16.index t = ![(t : ℕ) / 4, 0, 0] := (by decide +kernel : ∀ t : Fin grid0.N, _)

/-- The sequence of a step. -/
abbrev seqAt (t : Fin cfg0.N) : Fin 16 := ⟨(t : ℕ) / 4, by have := (show (t : ℕ) < 64 from t.isLt); omega⟩

/-! The host's operands: the rounded weights, and the zero rows before a sequence. -/

theorem host_wo (k c' : Fin 1024) :
    (V m c main_v1 : Vec Ideal S1024x1024 .bf16) (ix2 k c') = (m ((c.tc : Thread nD τ).loc main_arg3) : Vec Ideal S1024x1024 .f32) (ix2 k c') := by
  simp only [V, hostOps0]
  entry_read
  pointwise
theorem host_wup (k : Fin 1024) (j : Fin 5632) :
    (V m c main_v2 : Vec Ideal S1024x5632 .bf16) (ix2 k j) = (m ((c.tc : Thread nD τ).loc main_arg9) : Vec Ideal S1024x5632 .f32) (ix2 k j) := by
  simp only [V, hostOps0]
  entry_read
  pointwise
theorem host_wdn (j : Fin 2816) (c' : Fin 1024) :
    (V m c main_v3 : Vec Ideal S2816x1024 .bf16) (ix2 j c') = (m ((c.tc : Thread nD τ).loc main_arg12) : Vec Ideal S2816x1024 .f32) (ix2 j c') := by
  simp only [V, hostOps0]
  entry_read
  pointwise
theorem host_past (b : Fin 16) (i : Fin 8) (j : Fin 2816) : (V m c main_v0 : Vec Ideal S16x8x2816 .f32) (ix3 b i j) = (0 : EReal) := by
  simp only [V, hostOps0]
  entry_read
  pointwise

/-! What the blocks hold at step `t`. -/

variable (t : Fin cfg0.N)

theorem x_blk (r : Fin 512) (c' : Fin 1024) :
    (iblk m c 0 t : Vec Ideal S1x512x1024 .f32) (ix3 0 r c')
      = (m ((c.tc : Thread nD τ).loc main_arg0) : Vec Ideal S16x2048x1024 .f32) (ix3 (seqAt t) (rowAt (t % 4) (Nat.mod_lt _ (by omega)) r) c') := by
  blk_simp [iblk]
  blk_ext [V, idx0 t]
theorem o1_blk (r : Fin 512) (k : Fin 512) :
    (iblk m c 1 t : Vec Ideal S1x512x512 .bf16) (ix3 0 r k)
      = (m ((c.tc : Thread nD τ).loc main_arg1) : Vec Ideal S16x2048x512 .bf16) (ix3 (seqAt t) (rowAt (t % 4) (Nat.mod_lt _ (by omega)) r) k) := by
  blk_simp [iblk]
  blk_ext [V, idx1 t]
theorem o2_blk (r : Fin 512) (k : Fin 512) :
    (iblk m c 2 t : Vec Ideal S1x512x512 .bf16) (ix3 0 r k)
      = (m ((c.tc : Thread nD τ).loc main_arg2) : Vec Ideal S16x2048x512 .bf16) (ix3 (seqAt t) (rowAt (t % 4) (Nat.mod_lt _ (by omega)) r) k) := by
  blk_simp [iblk]
  blk_ext [V, idx2 t]
theorem wo_blk (k c' : Fin 1024) :
    (iblk m c 3 t : Vec Ideal S1024x1024 .bf16) (ix2 k c') = (m ((c.tc : Thread nD τ).loc main_arg3) : Vec Ideal S1024x1024 .f32) (ix2 k c') := by
  refine Eq.trans ?_ (host_wo m c k c')
  blk_simp [iblk]
  blk_ext [idx3 t]
theorem g1_blk (c' : Fin 1024) :
    (iblk m c 4 t : Vec Ideal S1x1x1024 .f32) (ix3 0 0 c') = (m ((c.tc : Thread nD τ).loc main_arg4) : Vec Ideal S16x1x1024 .f32) (ix3 (seqAt t) 0 c') := by
  blk_simp [iblk]
  blk_ext [V, idx4 t]
theorem n_blk (c' : Fin 1024) :
    (iblk m c 5 t : Vec Ideal S1x1024 .f32) (ix2 0 c') = (m ((c.tc : Thread nD τ).loc main_arg8) : Vec Ideal S1x1024 .f32) (ix2 0 c') := by
  blk_simp [iblk]
  blk_ext [V, idx5 t]
theorem sc_blk (c' : Fin 1024) :
    (iblk m c 6 t : Vec Ideal S1x1x1024 .f32) (ix3 0 0 c') = (m ((c.tc : Thread nD τ).loc main_arg5) : Vec Ideal S16x1x1024 .f32) (ix3 (seqAt t) 0 c') := by
  blk_simp [iblk]
  blk_ext [V, idx6 t]
theorem sh_blk (c' : Fin 1024) :
    (iblk m c 7 t : Vec Ideal S1x1x1024 .f32) (ix3 0 0 c') = (m ((c.tc : Thread nD τ).loc main_arg6) : Vec Ideal S16x1x1024 .f32) (ix3 (seqAt t) 0 c') := by
  blk_simp [iblk]
  blk_ext [V, idx7 t]
theorem g2_blk (c' : Fin 1024) :
    (iblk m c 8 t : Vec Ideal S1x1x1024 .f32) (ix3 0 0 c') = (m ((c.tc : Thread nD τ).loc main_arg7) : Vec Ideal S16x1x1024 .f32) (ix3 (seqAt t) 0 c') := by
  blk_simp [iblk]
  blk_ext [V, idx8 t]
theorem wup_blk (k : Fin 1024) (j : Fin 5632) :
    (iblk m c 9 t : Vec Ideal S1024x5632 .bf16) (ix2 k j) = (m ((c.tc : Thread nD τ).loc main_arg9) : Vec Ideal S1024x5632 .f32) (ix2 k j) := by
  refine Eq.trans ?_ (host_wup m c k j)
  blk_simp [iblk]
  blk_ext [idx9 t]
theorem cw_blk (i : Fin 3) (j : Fin 2816) :
    (iblk m c 10 t : Vec Ideal S3x2816 .f32) (ix2 i j) = (m ((c.tc : Thread nD τ).loc main_arg10) : Vec Ideal S3x2816 .f32) (ix2 i j) := by
  blk_simp [iblk]
  blk_ext [V, idx10 t]
theorem cb_blk (j : Fin 2816) :
    (iblk m c 11 t : Vec Ideal S1x2816 .f32) (ix2 0 j) = (m ((c.tc : Thread nD τ).loc main_arg11) : Vec Ideal S1x2816 .f32) (ix2 0 j) := by
  blk_simp [iblk]
  blk_ext [V, idx11 t]
theorem wdn_blk (j : Fin 2816) (c' : Fin 1024) :
    (iblk m c 12 t : Vec Ideal S2816x1024 .bf16) (ix2 j c') = (m ((c.tc : Thread nD τ).loc main_arg12) : Vec Ideal S2816x1024 .f32) (ix2 j c') := by
  refine Eq.trans ?_ (host_wdn m c j c')
  blk_simp [iblk]
  blk_ext [idx12 t]
theorem past_blk (i : Fin 8) (j : Fin 2816) :
    (iblk m c 13 t : Vec Ideal S1x8x2816 .f32) (ix3 0 i j) = (0 : EReal) := by
  refine Eq.trans ?_ (host_past m c (seqAt t) i j)
  blk_simp [iblk]
  blk_ext [idx13 t]

end Cert.Kernel2Ideal.Ffn

end
-- ==== Proof.FfnArray.lean ====
/- The feed-forward kernel's two arrays: the sequences' output rows, and the last eight rows of their gate branch. -/
module

public import proofs.«01_k».proof.Proof.FfnValue

@[expose] public section

set_option maxRecDepth 16384

noncomputable section

namespace Cert.Kernel2Ideal.Ffn

open Cert.Kernel2Ideal Cert.Kernel2Ideal.Gen Idealize.ShloMosaic Idealize.SL.Sem Cert.Ffn Idealize.ShloMosaic.TcCoe

variable (m : (ℓ : Loc nD τ sig) → Buf (Elt Ideal) ℓ) (c : Dev nD)

/-! The arguments by name. -/
abbrev a0 : Vec Ideal S16x2048x1024 .f32 := m ((c.tc : Thread nD τ).loc main_arg0)
abbrev a1 : Vec Ideal S16x2048x512 .bf16 := m ((c.tc : Thread nD τ).loc main_arg1)
abbrev a2 : Vec Ideal S16x2048x512 .bf16 := m ((c.tc : Thread nD τ).loc main_arg2)
abbrev a3 : Vec Ideal S1024x1024 .f32 := m ((c.tc : Thread nD τ).loc main_arg3)
abbrev a4 : Vec Ideal S16x1x1024 .f32 := m ((c.tc : Thread nD τ).loc main_arg4)
abbrev a5 : Vec Ideal S16x1x1024 .f32 := m ((c.tc : Thread nD τ).loc main_arg5)
abbrev a6 : Vec Ideal S16x1x1024 .f32 := m ((c.tc : Thread nD τ).loc main_arg6)
abbrev a7 : Vec Ideal S16x1x1024 .f32 := m ((c.tc : Thread nD τ).loc main_arg7)
abbrev a8 : Vec Ideal S1x1024 .f32 := m ((c.tc : Thread nD τ).loc main_arg8)
abbrev a9 : Vec Ideal S1024x5632 .f32 := m ((c.tc : Thread nD τ).loc main_arg9)
abbrev a10 : Vec Ideal S3x2816 .f32 := m ((c.tc : Thread nD τ).loc main_arg10)
abbrev a11 : Vec Ideal S1x2816 .f32 := m ((c.tc : Thread nD τ).loc main_arg11)
abbrev a12 : Vec Ideal S2816x1024 .f32 := m ((c.tc : Thread nD τ).loc main_arg12)

/-- The residual rows of a sequence. -/
def kX (b : Fin 16) : Fin 2048 → Fin 1024 → EReal := fun t =>
  xRow (fun k => a0 m c (ix3 b t k)) (fun k => a1 m c (ix3 b t k)) (fun k => a2 m c (ix3 b t k)) (fun k j => a3 m c (ix2 k j))
    (fun k => a4 m c (ix3 b (0 : Fin 1) k))

/-- The normalised rows of a sequence. -/
def kH (b : Fin 16) : Fin 2048 → Fin 1024 → EReal := fun t =>
  hRow (kX m c b t) (fun k => a8 m c (ix2 (0 : Fin 1) k)) (fun k => a5 m c (ix3 b (0 : Fin 1) k))
    (fun k => a6 m c (ix3 b (0 : Fin 1) k))

/-- The gate branch of a sequence. -/
def kG (b : Fin 16) : Fin 2048 → Fin 2816 → EReal := seqG (kH m c b) fun k j => a9 m c (ix2 k j)

/-- The output rows of a sequence. -/
def kY (b : Fin 16) : Fin 2048 → Fin 1024 → EReal :=
  seqY (kX m c b) (kH m c b) (fun k j => a9 m c (ix2 k j)) (fun j => a10 m c (ix2 (0 : Fin 3) j)) (fun j => a10 m c (ix2 (1 : Fin 3) j))
    (fun j => a10 m c (ix2 (2 : Fin 3) j)) (fun j => a11 m c (ix2 (0 : Fin 1) j)) (fun k => a7 m c (ix3 b (0 : Fin 1) k))
    (fun j k => a12 m c (ix2 j k))

variable (t : Fin cfg0.N)

/-- The step's number within its sequence. -/
abbrev stepLt : (t : ℕ) % 4 < 4 := Nat.mod_lt _ (by omega)

/-- A step's residual rows. -/
theorem x_step (r : Fin 512) (k : Fin 1024) :
    xV (iblk m c 0 t) (iblk m c 1 t) (iblk m c 2 t) (iblk m c 3 t) (iblk m c 4 t) (ix2 r k)
      = kX m c (seqAt t) (rowAt (t % 4) (stepLt t) r) k := by
  refine (xV_at _ _ _ _ _ r k).trans ?_
  unfold kX
  rw [show (fun k => (iblk m c 0 t : Vec Ideal S1x512x1024 .f32) (ix3 (0 : Fin 1) r k)) = _ from funext fun k => x_blk m c t r k,
    show (fun k => (iblk m c 1 t : Vec Ideal S1x512x512 .bf16) (ix3 (0 : Fin 1) r k)) = _ from funext fun k => o1_blk m c t r k,
    show (fun k => (iblk m c 2 t : Vec Ideal S1x512x512 .bf16) (ix3 (0 : Fin 1) r k)) = _ from funext fun k => o2_blk m c t r k,
    show (fun k j => (iblk m c 3 t : Vec Ideal S1024x1024 .bf16) (ix2 k j)) = _ from funext fun k => funext fun j => wo_blk m c t k j,
    show (fun k => (iblk m c 4 t : Vec Ideal S1x1x1024 .f32) (ix3 (0 : Fin 1) (0 : Fin 1) k)) = _ from funext fun k => g1_blk m c t k]

/-- A step's normalised rows. -/
theorem h_step (r : Fin 512) (k : Fin 1024) :
    hV (iblk m c 0 t) (iblk m c 1 t) (iblk m c 2 t) (iblk m c 3 t) (iblk m c 4 t) (iblk m c 5 t) (iblk m c 6 t) (iblk m c 7 t) (ix2 r k)
      = kH m c (seqAt t) (rowAt (t % 4) (stepLt t) r) k := by
  refine (hV_at _ _ _ _ _ _ _ _ r k).trans ?_
  unfold kH kX
  rw [show (fun k => (iblk m c 0 t : Vec Ideal S1x512x1024 .f32) (ix3 (0 : Fin 1) r k)) = _ from funext fun k => x_blk m c t r k,
    show (fun k => (iblk m c 1 t : Vec Ideal S1x512x512 .bf16) (ix3 (0 : Fin 1) r k)) = _ from funext fun k => o1_blk m c t r k,
    show (fun k => (iblk m c 2 t : Vec Ideal S1x512x512 .bf16) (ix3 (0 : Fin 1) r k)) = _ from funext fun k => o2_blk m c t r k,
    show (fun k j => (iblk m c 3 t : Vec Ideal S1024x1024 .bf16) (ix2 k j)) = _ from funext fun k => funext fun j => wo_blk m c t k j,
    show (fun k => (iblk m c 4 t : Vec Ideal S1x1x1024 .f32) (ix3 (0 : Fin 1) (0 : Fin 1) k)) = _ from funext fun k => g1_blk m c t k,
    show (fun k => (iblk m c 5 t : Vec Ideal S1x1024 .f32) (ix2 (0 : Fin 1) k)) = _ from funext fun k => n_blk m c t k,
    show (fun k => (iblk m c 6 t : Vec Ideal S1x1x1024 .f32) (ix3 (0 : Fin 1) (0 : Fin 1) k)) = _ from funext fun k => sc_blk m c t k,
    show (fun k => (iblk m c 7 t : Vec Ideal S1x1x1024 .f32) (ix3 (0 : Fin 1) (0 : Fin 1) k)) = _ from funext fun k => sh_blk m c t k]

/-- The up projection's weights of a step. -/
theorem w_step : (fun k j => (iblk m c 9 t : Vec Ideal S1024x5632 .bf16) (ix2 k j)) = fun k j => a9 m c (ix2 k j) :=
  funext fun k => funext fun j => wup_blk m c t k j

/-- The gate rows a step leaves. -/
theorem last_step (i : Fin 8) (j : Fin 2816) :
    lastT (hV (iblk m c 0 t) (iblk m c 1 t) (iblk m c 2 t) (iblk m c 3 t) (iblk m c 4 t) (iblk m c 5 t) (iblk m c 6 t) (iblk m c 7 t))
        (iblk m c 9 t) i j
      = kG m c (seqAt t) (rowAt (t % 4) (stepLt t) ⟨504 + i, by omega⟩) j := by
  refine (lastT_seq (kH m c (seqAt t)) _ _ (t % 4) (stepLt t) (h_step m c t) i j).trans ?_
  unfold kG
  rw [← w_step m c t]

/-- What a step carries on. -/
theorem next_step (i : Fin 8) (j : Fin 2816) :
    (outsAt0 m c t.val t.isLt).2.2 (ix3 (0 : Fin 1) i j) = kG m c (seqAt t) (rowAt (t % 4) (stepLt t) ⟨504 + i, by omega⟩) j := by
  refine Eq.trans ?_ (last_step m c t i j)
  by_cases h0 : t.val % 4 = 0
  · refine (congrArg (fun p => p.2.2 (ix3 (0 : Fin 1) i j)) (outsAt0_A m c t h0)).trans ?_
    dsimp only
    rw [next_A]
  · refine (congrArg (fun p => p.2.2 (ix3 (0 : Fin 1) i j)) (outsAt0_B m c t h0)).trans ?_
    dsimp only
    rw [next_B]

/-- What a step writes to the gate rows' block. -/
theorem tail_step (i : Fin 8) (j : Fin 2816) :
    (outsAt0 m c t.val t.isLt).2.1 (ix3 (0 : Fin 1) i j) = kG m c (seqAt t) (rowAt (t % 4) (stepLt t) ⟨504 + i, by omega⟩) j := by
  refine Eq.trans ?_ (last_step m c t i j)
  by_cases h0 : t.val % 4 = 0
  · refine (congrArg (fun p => p.2.1 (ix3 (0 : Fin 1) i j)) (outsAt0_A m c t h0)).trans ?_
    dsimp only
    rw [tail_A]
  · refine (congrArg (fun p => p.2.1 (ix3 (0 : Fin 1) i j)) (outsAt0_B m c t h0)).trans ?_
    dsimp only
    rw [tail_B]

/-- The gate rows before a sequence's first step. -/
theorem first_rows (h0 : t.val % 4 = 0) (i : Fin 8) (j : Fin 2816) :
    (iblk m c 13 t : Vec Ideal S1x8x2816 .f32) (ix3 (0 : Fin 1) i j)
      = if h : t.val % 4 = 0 then (0 : EReal) else seqG (kH m c (seqAt t)) (fun k j => (iblk m c 9 t : Vec Ideal S1024x5632 .bf16) (ix2 k j))
          ⟨512 * (t.val % 4) - 8 + i, by omega⟩ j := by
  rw [dif_pos h0]
  exact past_blk m c t i j

/-- The gate rows before a later step. -/
theorem later_rows (h0 : ¬ t.val % 4 = 0) (i : Fin 8) (j : Fin 2816) :
    (outsAt0 m c (t.val - 1) (Nat.lt_of_le_of_lt (Nat.sub_le _ _) t.isLt)).2.2 (ix3 (0 : Fin 1) i j)
      = if h : t.val % 4 = 0 then (0 : EReal) else seqG (kH m c (seqAt t)) (fun k j => (iblk m c 9 t : Vec Ideal S1024x5632 .bf16) (ix2 k j))
          ⟨512 * (t.val % 4) - 8 + i, by omega⟩ j := by
  rw [dif_neg h0, w_step]
  refine (next_step m c ⟨t.val - 1, Nat.lt_of_le_of_lt (Nat.sub_le _ _) t.isLt⟩ i j).trans ?_
  have hs : seqAt ⟨t.val - 1, Nat.lt_of_le_of_lt (Nat.sub_le _ _) t.isLt⟩ = seqAt t :=
    Fin.ext (by show (t.val - 1) / 4 = t.val / 4; omega)
  rw [hs]
  unfold kG
  refine congrArg (fun r => seqG (kH m c (seqAt t)) (fun k j => a9 m c (ix2 k j)) r j) (Fin.ext ?_)
  show 512 * ((t.val - 1) % 4) + (504 + (i : ℕ)) = 512 * (t.val % 4) - 8 + i
  omega

/-- The output rows of a step, of the gate rows before it. -/
theorem y_step (T : Vec Ideal S1x8x2816 .f32)
    (hT : ∀ (i : Fin 8) (j : Fin 2816), T (ix3 (0 : Fin 1) i j)
      = if h : t.val % 4 = 0 then (0 : EReal) else seqG (kH m c (seqAt t)) (fun k j => (iblk m c 9 t : Vec Ideal S1024x5632 .bf16) (ix2 k j))
          ⟨512 * (t.val % 4) - 8 + i, by omega⟩ j) (r : Fin 512) (k : Fin 1024) :
    yV (xV (iblk m c 0 t) (iblk m c 1 t) (iblk m c 2 t) (iblk m c 3 t) (iblk m c 4 t) (ix2 r k))
        (hV (iblk m c 0 t) (iblk m c 1 t) (iblk m c 2 t) (iblk m c 3 t) (iblk m c 4 t) (iblk m c 5 t) (iblk m c 6 t) (iblk m c 7 t))
        (iblk m c 8 t) (iblk m c 9 t) (iblk m c 10 t) (iblk m c 11 t) (iblk m c 12 t) T r k
      = kY m c (seqAt t) (rowAt (t % 4) (stepLt t) r) k := by
  rw [x_step]
  refine (yV_seq (kX m c (seqAt t)) (kH m c (seqAt t)) _ _ _ _ _ _ T (t % 4) (stepLt t) (h_step m c t) hT r k).trans ?_
  unfold kY
  rw [w_step m c t,
    show (fun j => (iblk m c 10 t : Vec Ideal S3x2816 .f32) (ix2 (0 : Fin 3) j)) = _ from funext fun j => cw_blk m c t 0 j,
    show (fun j => (iblk m c 10 t : Vec Ideal S3x2816 .f32) (ix2 (1 : Fin 3) j)) = _ from funext fun j => cw_blk m c t 1 j,
    show (fun j => (iblk m c 10 t : Vec Ideal S3x2816 .f32) (ix2 (2 : Fin 3) j)) = _ from funext fun j => cw_blk m c t 2 j,
    show (fun j => (iblk m c 11 t : Vec Ideal S1x2816 .f32) (ix2 (0 : Fin 1) j)) = _ from funext fun j => cb_blk m c t j,
    show (fun k => (iblk m c 8 t : Vec Ideal S1x1x1024 .f32) (ix3 (0 : Fin 1) (0 : Fin 1) k)) = _ from funext fun k => g2_blk m c t k,
    show (fun j k => (iblk m c 12 t : Vec Ideal S2816x1024 .bf16) (ix2 j k)) = _ from funext fun j => funext fun k => wdn_blk m c t j k]

/-- What a step writes to the output's block. -/
theorem out_step (r : Fin 512) (k : Fin 1024) :
    (outsAt0 m c t.val t.isLt).1 (ix3 (0 : Fin 1) r k) = kY m c (seqAt t) (rowAt (t % 4) (stepLt t) r) k := by
  by_cases h0 : t.val % 4 = 0
  · refine (congrArg (fun p => p.1 (ix3 (0 : Fin 1) r k)) (outsAt0_A m c t h0)).trans ?_
    dsimp only
    rw [out_A]
    exact y_step m c t _ (first_rows m c t h0) r k
  · refine (congrArg (fun p => p.1 (ix3 (0 : Fin 1) r k)) (outsAt0_B m c t h0)).trans ?_
    dsimp only
    rw [out_B]
    exact y_step m c t _ (later_rows m c t h0) r k

/-- The sequences' output rows. -/
def outArr : S16x2048x1024.Idx → EReal := fun i => kY m c (i 0) (i 1) (i 2)

/-- The last eight rows of the sequences' gate branch. -/
def tailArr : S16x8x2816.Idx → EReal := fun i =>
  kG m c (i 0) (⟨2040 + (i 1).val, Nat.add_lt_add_left (m := 8) (i 1).isLt 2040⟩ : Fin 2048) (i 2)

/-- The kernel's output array. -/
theorem arr15 : (dats m 0 c).arrAt 15 cfg0.N = outArr m c := by
  refine (dats m 0 c).arrAt_eq_of_covers 15 _ (by decide +kernel) fun t _ y => ?_
  blk_simp
  rw [after0_15]
  obtain ⟨z, r, k, rfl⟩ : ∃ (z : Fin 1) (r : Fin 512) (k : Fin 1024), y = ix3 z r k := ⟨y 0, y 1, y 2, eq_ix3 y⟩
  obtain rfl : z = 0 := by omega
  have hy : (win0_15.blk t).view.emb (ix3 (0 : Fin 1) r k) = (ix3 (seqAt t) (rowAt (t % 4) (stepLt t) r) k : S16x2048x1024.Idx) := by
    blk_ext [idx15 t]
  rw [hy]
  exact out_step m c t r k

/-- The kernel's array of gate rows. -/
theorem arr16 : (dats m 0 c).arrAt 16 cfg0.N = tailArr m c := by
  refine (dats m 0 c).arrAt_eq_of_covers 16 _ (by decide +kernel) fun t hf y => ?_
  have ht : t.val % 4 = 3 := (flush0_16 t).mp hf
  blk_simp
  rw [after0_16]
  obtain ⟨z, i, j, rfl⟩ : ∃ (z : Fin 1) (i : Fin 8) (j : Fin 2816), y = ix3 z i j := ⟨y 0, y 1, y 2, eq_ix3 y⟩
  obtain rfl : z = 0 := by omega
  have hy : (win0_16.blk t).view.emb (ix3 (0 : Fin 1) i j) = (ix3 (seqAt t) i j : S16x8x2816.Idx) := by
    blk_ext [idx16 t]
  rw [hy]
  refine (tail_step m c t i j).trans ?_
  show kG m c (seqAt t) _ j = kG m c (seqAt t) _ j
  refine congrArg (fun r => kG m c (seqAt t) r j) (Fin.ext ?_)
  show 512 * (t.val % 4) + (504 + (i : ℕ)) = 2040 + i
  omega

end Cert.Kernel2Ideal.Ffn

end
-- ==== Proof.FfnRef.lean ====
/- The feed-forward reference's two results, read at an index in the row functions. -/
module

public import proofs.«01_k».proof.Proof.FfnSpec
public import proofs.«01_k».proof.Proof.Gen.Reference2Ideal.Run
public import Idealize.ShloMosaic.Lib.Pipeline.ValueKit

@[expose] public section

set_option maxRecDepth 16384

noncomputable section

namespace Cert.Reference2Ideal.Ffn

open Idealize.ShloMosaic Idealize.ShloMosaic.StableHlo Cert.Ffn
open Cert.Reference2Ideal Cert.Reference2Ideal.Gen

section Terms

variable {F : FTy → Type} [FloatOps F]

variable (A0 : Vec F S16x2048x1024 .f32) (A1 A2 : Vec F S16x2048x512 .bf16) (A3 : Vec F S1024x1024 .f32)
  (A4 A5 A6 A7 : Vec F S16x1x1024 .f32) (A8 : Vec F S1x1024 .f32) (A9 : Vec F S1024x5632 .f32)
  (A10 : Vec F S3x2816 .f32) (A11 : Vec F S1x2816 .f32) (A12 : Vec F S2816x1024 .f32)

/-- The mixers' rows side by side. -/
def rO : Vec F S16x2048x1024 .f32 :=
  concatenate S16x2048x1024 2 [⟨S16x2048x512, (extf .f32 A1 bitsLt_bf16_f32)⟩, ⟨S16x2048x512, (extf .f32 A2 bitsLt_bf16_f32)⟩] concatenates_S16x2048x512_S16x2048x512_S16x2048x1024_d2

/-- The residual rows. -/
def rX (O : Vec F S16x2048x1024 .f32) : Vec F S16x2048x1024 .f32 :=
  addf A0 (mulf (broadcastInDim S16x2048x1024 ![0, 1, 2] bcast_S16x1x1024_S16x2048x1024_0_1_2 A4) (Host.dotGeneral dot_S16x2048x1024_S1024x1024_S16x2048x1024_2_0_01_1_n_n none O A3))

/-- The normalised rows. -/
def rH (X : Vec F S16x2048x1024 .f32) : Vec F S16x2048x1024 .f32 :=
  addf (mulf (mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ A8 shapeCasts_S1x1024_S1024)))) (broadcastInDim S16x2048x1024 ![0, 1, 2] bcast_S16x1x1024_S16x2048x1024_0_1_2 (addf (broadcastInDim S16x1x1024 ![] bcast_S_S16x1x1024 (constant S_ .f32 0x3F800000#32)) A5))) (broadcastInDim S16x2048x1024 ![0, 1, 2] bcast_S16x1x1024_S16x2048x1024_0_1_2 A6)

/-- The up projection. -/
def rU (H : Vec F S16x2048x1024 .f32) : Vec F S16x2048x5632 .f32 :=
  Host.dotGeneral dot_S16x2048x1024_S1024x5632_S16x2048x5632_2_0_01_1_n_n none H A9

/-- The gate branch behind two rows of zeros. -/
def rB (U : Vec F S16x2048x5632 .f32) : Vec F S16x2050x2816 .f32 :=
  concatenate S16x2050x2816 1 [⟨S16x2x2816, (broadcastInDim S16x2x2816 ![] bcast_S_S16x2x2816 (constant S_ .f32 0x00000000#32))⟩, ⟨S16x2048x2816, (extractStridedSlice S16x2048x2816 ![0, 0, 2816] U slices_S16x2048x5632_S16x2048x2816_0_0_2816)⟩] concatenates_S16x2x2816_S16x2048x2816_S16x2050x2816_d1

/-- The convolution over three rows. -/
def rC (B : Vec F S16x2050x2816 .f32) : Vec F S16x2048x2816 .f32 :=
  addf (addf (addf (mulf (extractStridedSlice S16x2048x2816 ![0, 0, 0] B slices_S16x2050x2816_S16x2048x2816_0_0_0) (broadcastInDim S16x2048x2816 ![0, 1, 2] bcast_S1x1x2816_S16x2048x2816_0_1_2 (broadcastInDim S1x1x2816 ![2] bcast_S2816_S1x1x2816_2 (shapeCast _ (extractStridedSlice S1x2816 ![0, 0] A10 slices_S3x2816_S1x2816_0_0) shapeCasts_S1x2816_S2816)))) (mulf (extractStridedSlice S16x2048x2816 ![0, 1, 0] B slices_S16x2050x2816_S16x2048x2816_0_1_0) (broadcastInDim S16x2048x2816 ![0, 1, 2] bcast_S1x1x2816_S16x2048x2816_0_1_2 (broadcastInDim S1x1x2816 ![2] bcast_S2816_S1x1x2816_2 (shapeCast _ (extractStridedSlice S1x2816 ![1, 0] A10 slices_S3x2816_S1x2816_1_0) shapeCasts_S1x2816_S2816))))) (mulf (extractStridedSlice S16x2048x2816 ![0, 2, 0] B slices_S16x2050x2816_S16x2048x2816_0_2_0) (broadcastInDim S16x2048x2816 ![0, 1, 2] bcast_S1x1x2816_S16x2048x2816_0_1_2 (broadcastInDim S1x1x2816 ![2] bcast_S2816_S1x1x2816_2 (shapeCast _ (extractStridedSlice S1x2816 ![2, 0] A10 slices_S3x2816_S1x2816_2_0) shapeCasts_S1x2816_S2816))))) (broadcastInDim S16x2048x2816 ![0, 1, 2] bcast_S1x1x2816_S16x2048x2816_0_1_2 (broadcastInDim S1x1x2816 ![2] bcast_S2816_S1x1x2816_2 (shapeCast _ A11 shapeCasts_S1x2816_S2816)))

/-- The activated product. -/
def rA (U : Vec F S16x2048x5632 .f32) (C : Vec F S16x2048x2816 .f32) : Vec F S16x2048x2816 .f32 :=
  mulf (extractStridedSlice S16x2048x2816 ![0, 0, 0] U slices_S16x2048x5632_S16x2048x2816_0_0_0) (mulf C (mulf (broadcastInDim S16x2048x2816 ![] bcast_S_S16x2048x2816 (constant S_ .f32 0x3F000000#32)) (addf (broadcastInDim S16x2048x2816 ![] bcast_S_S16x2048x2816 (constant S_ .f32 0x3F800000#32)) (Host.tanh (mulf (broadcastInDim S16x2048x2816 ![] bcast_S_S16x2048x2816 (constant S_ .f32 0x3F4C422A#32)) (addf C (mulf (broadcastInDim S16x2048x2816 ![] bcast_S_S16x2048x2816 (constant S_ .f32 0x3D372713#32)) (mulf (mulf C C) C))))))))

/-- The layer's rows. -/
def rY (X : Vec F S16x2048x1024 .f32) (A : Vec F S16x2048x2816 .f32) : Vec F S16x2048x1024 .f32 :=
  addf X (mulf (broadcastInDim S16x2048x1024 ![0, 1, 2] bcast_S16x1x1024_S16x2048x1024_0_1_2 A7) (Host.dotGeneral dot_S16x2048x2816_S2816x1024_S16x2048x1024_2_0_01_1_n_n none A A12))

end Terms

variable (A0 : Vec Ideal S16x2048x1024 .f32) (A1 A2 : Vec Ideal S16x2048x512 .bf16) (A3 : Vec Ideal S1024x1024 .f32)
  (A4 A5 A6 A7 : Vec Ideal S16x1x1024 .f32) (A8 : Vec Ideal S1x1024 .f32) (A9 : Vec Ideal S1024x5632 .f32)
  (A10 : Vec Ideal S3x2816 .f32) (A11 : Vec Ideal S1x2816 .f32) (A12 : Vec Ideal S2816x1024 .f32)

theorem lit_half : Ideal.ofBits .f32 0x3F000000#32 = ((1 / 2 : ℝ) : EReal) := by
  simp [Ideal.ofBits, Ideal.ieee, -EReal.coe_mul]; norm_num
theorem lit_root : Ideal.ofBits .f32 0x3F4C422A#32 = ((rootR : ℝ) : EReal) := by
  simp [Ideal.ofBits, Ideal.ieee, -EReal.coe_mul]; norm_num [rootR]
theorem lit_cube : Ideal.ofBits .f32 0x3D372713#32 = ((cubeR : ℝ) : EReal) := by
  simp [Ideal.ofBits, Ideal.ieee, -EReal.coe_mul]; norm_num [cubeR]

theorem rO_left (b : Fin 16) (t : Fin 2048) (k : Fin 512) : rO A1 A2 (ix3 b t ⟨k, by omega⟩) = A1 (ix3 b t k) := by
  pointwise [rO]

theorem rO_right (b : Fin 16) (t : Fin 2048) (k : Fin 512) : rO A1 A2 (ix3 b t ⟨512 + k, by omega⟩) = A2 (ix3 b t k) := by
  pointwise [rO]

theorem rX_at (b : Fin 16) (t : Fin 2048) (c : Fin 1024) :
    rX A0 A3 A4 (rO A1 A2) (ix3 b t c)
      = xRow (fun c => A0 (ix3 b t c)) (fun k => A1 (ix3 b t k)) (fun k => A2 (ix3 b t k)) (fun k c => A3 (ix2 k c))
          (fun c => A4 (ix3 b (0 : Fin 1) c)) c := by
  unfold xRow
  have h : ∀ O : Vec Ideal S16x2048x1024 .f32, rX A0 A3 A4 O (ix3 b t c)
      = A0 (ix3 b t c) + A4 (ix3 b (0 : Fin 1) c) * ∑ k : Fin 1024, O (ix3 b t k) * A3 (ix2 k c) := by
    intro O
    pointwise [rX]
  rw [h, sum_1024]
  simp only [rO_left, rO_right]

theorem rH_at (X : Vec Ideal S16x2048x1024 .f32) (b : Fin 16) (t : Fin 2048) (c : Fin 1024) :
    rH A5 A6 A8 X (ix3 b t c)
      = hRow (fun c => X (ix3 b t c)) (fun c => A8 (ix2 (0 : Fin 1) c)) (fun c => A5 (ix3 b (0 : Fin 1) c))
          (fun c => A6 (ix3 b (0 : Fin 1) c)) c := by
  unfold hRow
  pointwise [rH]

theorem rU_at (H : Vec Ideal S16x2048x1024 .f32) (b : Fin 16) (t : Fin 2048) (j : Fin 5632) :
    rU A9 H (ix3 b t j) = upRow (fun c => H (ix3 b t c)) (fun k j => A9 (ix2 k j)) j := by
  unfold upRow
  pointwise [rU]

theorem rB_early (U : Vec Ideal S16x2048x5632 .f32) (b : Fin 16) (t : Fin 2) (j : Fin 2816) :
    rB U (ix3 b ⟨t, by omega⟩ j) = 0 := by
  pointwise [rB]

theorem rB_late (U : Vec Ideal S16x2048x5632 .f32) (b : Fin 16) (t : Fin 2048) (j : Fin 2816) :
    rB U (ix3 b ⟨2 + t, by omega⟩ j) = U (ix3 b t ⟨2816 + j, by omega⟩) := by
  pointwise [rB]

theorem rC_at (B : Vec Ideal S16x2050x2816 .f32) (b : Fin 16) (t : Fin 2048) (j : Fin 2816) :
    rC A10 A11 B (ix3 b t j)
      = convRow (B (ix3 b ⟨t, by omega⟩ j)) (B (ix3 b ⟨1 + t, by omega⟩ j)) (B (ix3 b ⟨2 + t, by omega⟩ j))
          (A10 (ix2 (0 : Fin 3) j)) (A10 (ix2 (1 : Fin 3) j)) (A10 (ix2 (2 : Fin 3) j)) (A11 (ix2 (0 : Fin 1) j)) := by
  rw [convRow_eq]
  pointwise [rC]

theorem rA_at (U : Vec Ideal S16x2048x5632 .f32) (C : Vec Ideal S16x2048x2816 .f32) (b : Fin 16) (t : Fin 2048) (j : Fin 2816) :
    rA U C (ix3 b t j) = U (ix3 b t ⟨j, by omega⟩) * gelu (C (ix3 b t j)) := by
  unfold gelu
  rw [← lit_half, ← lit_root, ← lit_cube, EReal.coe_one]
  pointwise [rA]

theorem rY_at (X : Vec Ideal S16x2048x1024 .f32) (A : Vec Ideal S16x2048x2816 .f32) (b : Fin 16) (t : Fin 2048) (c : Fin 1024) :
    rY A7 A12 X A (ix3 b t c)
      = X (ix3 b t c) + A7 (ix3 b (0 : Fin 1) c) * downRow (fun j => A (ix3 b t j)) (fun j c => A12 (ix2 j c)) c := by
  rw [downRow_eq]
  pointwise [rY]

/-- The residual rows of a sequence. -/
abbrev xS (b : Fin 16) : Fin 2048 → Fin 1024 → EReal := fun t =>
  xRow (fun c => A0 (ix3 b t c)) (fun k => A1 (ix3 b t k)) (fun k => A2 (ix3 b t k)) (fun k c => A3 (ix2 k c))
    (fun c => A4 (ix3 b (0 : Fin 1) c))

/-- The normalised rows of a sequence. -/
abbrev hS (b : Fin 16) : Fin 2048 → Fin 1024 → EReal := fun t =>
  hRow (xS A0 A1 A2 A3 A4 b t) (fun c => A8 (ix2 (0 : Fin 1) c)) (fun c => A5 (ix3 b (0 : Fin 1) c))
    (fun c => A6 (ix3 b (0 : Fin 1) c))

/-- The gate branch behind its two rows of zeros, `k` rows back. -/
theorem rB_back (H : Vec Ideal S16x2048x1024 .f32) (b : Fin 16) (t : Fin 2048) (k : ℕ) (hk : k ≤ 2) (j : Fin 2816) :
    rB (rU A9 H) (ix3 b ⟨2 - k + (t : ℕ), by omega⟩ j)
      = backRow (seqG (fun t c => H (ix3 b t c)) fun k j => A9 (ix2 k j)) k t j := by
  unfold backRow
  split
  · rename_i h
    have := rB_early (rU A9 H) b ⟨2 - k + (t : ℕ), by omega⟩ j
    exact this
  · rename_i h
    have := rB_late (rU A9 H) b ⟨(t : ℕ) - k, by omega⟩ j
    rw [rU_at] at this
    refine Eq.trans ?_ this
    congr 2
    exact Fin.ext (by show 2 - k + (t : ℕ) = 2 + ((t : ℕ) - k); omega)

/-- The layer's rows at an index. -/
theorem rY_seq (b : Fin 16) (t : Fin 2048) (c : Fin 1024) :
    rY A7 A12 (rX A0 A3 A4 (rO A1 A2)) (rA (rU A9 (rH A5 A6 A8 (rX A0 A3 A4 (rO A1 A2))))
        (rC A10 A11 (rB (rU A9 (rH A5 A6 A8 (rX A0 A3 A4 (rO A1 A2))))))) (ix3 b t c)
      = seqY (xS A0 A1 A2 A3 A4 b) (hS A0 A1 A2 A3 A4 A5 A6 A8 b) (fun k j => A9 (ix2 k j))
          (fun j => A10 (ix2 (0 : Fin 3) j)) (fun j => A10 (ix2 (1 : Fin 3) j)) (fun j => A10 (ix2 (2 : Fin 3) j))
          (fun j => A11 (ix2 (0 : Fin 1) j)) (fun c => A7 (ix3 b (0 : Fin 1) c)) (fun j c => A12 (ix2 j c)) t c := by
  have hX : ∀ t c, rX A0 A3 A4 (rO A1 A2) (ix3 b t c) = xS A0 A1 A2 A3 A4 b t c := fun t c => rX_at ..
  have hH : ∀ t c, rH A5 A6 A8 (rX A0 A3 A4 (rO A1 A2)) (ix3 b t c) = hS A0 A1 A2 A3 A4 A5 A6 A8 b t c := by
    intro t c
    rw [rH_at]
    simp only [hX]
  generalize rH A5 A6 A8 (rX A0 A3 A4 (rO A1 A2)) = H at hH ⊢
  rw [rY_at, hX]
  unfold seqY
  congr 2
  refine congrArg (fun a => downRow a (fun j c => A12 (ix2 j c)) c) (funext fun j => ?_)
  have hHf : (fun t c => H (ix3 b t c)) = hS A0 A1 A2 A3 A4 A5 A6 A8 b := funext fun t => funext fun c => hH t c
  have e0 := rB_back A9 H b t 2 (by omega) j
  have e1 := rB_back A9 H b t 1 (by omega) j
  have e2 := rB_late (rU A9 H) b t j
  rw [hHf] at e0 e1
  rw [rU_at] at e2
  have e0' : rB (rU A9 H) (ix3 b ⟨(t : ℕ), by omega⟩ j) = _ :=
    (congrArg (fun i => rB (rU A9 H) (ix3 b i j)) (Fin.ext (by show (t : ℕ) = 2 - 2 + (t : ℕ); omega))).trans e0
  rw [rA_at, rC_at, rU_at, e0', e1, e2]
  have hHt : (fun c => H (ix3 b t c)) = hS A0 A1 A2 A3 A4 A5 A6 A8 b t := funext fun c => hH t c
  rw [hHt]
  rfl

/-- The gate branch's last rows at an index. -/
theorem tail_seq (b : Fin 16) (i : Fin 8) (j : Fin 2816) :
    extractStridedSlice S16x8x2816 ![0, 2042, 0] (rB (rU A9 (rH A5 A6 A8 (rX A0 A3 A4 (rO A1 A2)))))
        slices_S16x2050x2816_S16x8x2816_0_2042_0 (ix3 b i j)
      = seqG (hS A0 A1 A2 A3 A4 A5 A6 A8 b) (fun k j => A9 (ix2 k j)) ⟨2040 + i, by omega⟩ j := by
  have hX : ∀ t c, rX A0 A3 A4 (rO A1 A2) (ix3 b t c) = xS A0 A1 A2 A3 A4 b t c := fun t c => rX_at ..
  have hH : ∀ t c, rH A5 A6 A8 (rX A0 A3 A4 (rO A1 A2)) (ix3 b t c) = hS A0 A1 A2 A3 A4 A5 A6 A8 b t c := by
    intro t c
    rw [rH_at]
    simp only [hX]
  generalize rH A5 A6 A8 (rX A0 A3 A4 (rO A1 A2)) = H at hH ⊢
  have hHt : (fun c => H (ix3 b (⟨2040 + i, by omega⟩ : Fin 2048) c)) = hS A0 A1 A2 A3 A4 A5 A6 A8 b ⟨2040 + i, by omega⟩ :=
    funext fun c => hH _ c
  have e2 := rB_late (rU A9 H) b ⟨2040 + i, by omega⟩ j
  rw [rU_at, hHt] at e2
  refine Eq.trans ?_ e2
  pointwise []
  congr 2
  exact Fin.ext (by show 2042 + (i : ℕ) = 2 + (2040 + (i : ℕ)); omega)

/-- The run's first result is the staged term. -/
theorem out_eq (m : (ℓ : Loc nD τ sig) → Buf (Elt Ideal) ℓ) (c : Dev nD) :
    Cert.Reference2Ideal.Value.res_main_v74 m c
      = rY (m ((c.tc : Thread nD τ).loc main_arg7)) (m ((c.tc : Thread nD τ).loc main_arg12))
          (rX (m ((c.tc : Thread nD τ).loc main_arg0)) (m ((c.tc : Thread nD τ).loc main_arg3)) (m ((c.tc : Thread nD τ).loc main_arg4))
            (rO (m ((c.tc : Thread nD τ).loc main_arg1)) (m ((c.tc : Thread nD τ).loc main_arg2))))
          (rA (rU (m ((c.tc : Thread nD τ).loc main_arg9)) (rH (m ((c.tc : Thread nD τ).loc main_arg5)) (m ((c.tc : Thread nD τ).loc main_arg6)) (m ((c.tc : Thread nD τ).loc main_arg8))
              (rX (m ((c.tc : Thread nD τ).loc main_arg0)) (m ((c.tc : Thread nD τ).loc main_arg3)) (m ((c.tc : Thread nD τ).loc main_arg4))
                (rO (m ((c.tc : Thread nD τ).loc main_arg1)) (m ((c.tc : Thread nD τ).loc main_arg2))))))
            (rC (m ((c.tc : Thread nD τ).loc main_arg10)) (m ((c.tc : Thread nD τ).loc main_arg11))
              (rB (rU (m ((c.tc : Thread nD τ).loc main_arg9)) (rH (m ((c.tc : Thread nD τ).loc main_arg5)) (m ((c.tc : Thread nD τ).loc main_arg6)) (m ((c.tc : Thread nD τ).loc main_arg8))
                (rX (m ((c.tc : Thread nD τ).loc main_arg0)) (m ((c.tc : Thread nD τ).loc main_arg3)) (m ((c.tc : Thread nD τ).loc main_arg4))
                  (rO (m ((c.tc : Thread nD τ).loc main_arg1)) (m ((c.tc : Thread nD τ).loc main_arg2))))))))) := by
  unfold Cert.Reference2Ideal.Value.res_main_v74
  rfl

end Cert.Reference2Ideal.Ffn

end
-- ==== Proof.FfnClaim.lean ====
/- The feed-forward kernel's arrays beside the reference's, and the reference's arguments and counters. -/
module

public import proofs.«01_k».proof.Proof.FfnArray
public import proofs.«01_k».proof.Proof.FfnRef
public import Idealize.ShloMosaic.Lib.Claim
public import Idealize.ShloMosaic.Lib.Quiescent

@[expose] public section

set_option maxRecDepth 16384

noncomputable section

namespace Cert.Reference2Ideal.Ffn

open Idealize.ShloMosaic Idealize.SL.Sem Cert.Reference2Ideal Cert.Ffn

/-- The reference leaves its arguments unchanged; it has no counters. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0 :=
  (θ_run defs _ _).mono (fun r h => ⟨fun c => (h c).2.2, sem_eq_zero_of_no_sems (by decide) r.2⟩) (Value.run m ρ)

end Cert.Reference2Ideal.Ffn

namespace Cert.Kernel2Ideal.Ffn

open Cert.Kernel2Ideal Cert.Kernel2Ideal.Gen Idealize.ShloMosaic Idealize.SL.Sem Cert.Ffn Idealize.ShloMosaic.TcCoe

open Cert.Reference2Ideal.Ffn (rO rX rH rU rB rC rA rY rY_seq tail_seq)

variable (m : (ℓ : Loc nD τ sig) → Buf (Elt Ideal) ℓ) (c : Dev nD)

/-- The reference's rows over the kernel's arguments. -/
theorem ref_out {A0 : Vec Ideal S16x2048x1024 .f32} {A1 A2 : Vec Ideal S16x2048x512 .bf16} {A3 : Vec Ideal S1024x1024 .f32}
    {A4 A5 A6 A7 : Vec Ideal S16x1x1024 .f32} {A8 : Vec Ideal S1x1024 .f32} {A9 : Vec Ideal S1024x5632 .f32}
    {A10 : Vec Ideal S3x2816 .f32} {A11 : Vec Ideal S1x2816 .f32} {A12 : Vec Ideal S2816x1024 .f32}
    (h0 : A0 = a0 m c) (h1 : A1 = a1 m c) (h2 : A2 = a2 m c) (h3 : A3 = a3 m c) (h4 : A4 = a4 m c) (h5 : A5 = a5 m c)
    (h6 : A6 = a6 m c) (h7 : A7 = a7 m c) (h8 : A8 = a8 m c) (h9 : A9 = a9 m c) (h10 : A10 = a10 m c) (h11 : A11 = a11 m c)
    (h12 : A12 = a12 m c) :
    rY A7 A12 (rX A0 A3 A4 (rO A1 A2)) (rA (rU A9 (rH A5 A6 A8 (rX A0 A3 A4 (rO A1 A2))))
        (rC A10 A11 (rB (rU A9 (rH A5 A6 A8 (rX A0 A3 A4 (rO A1 A2)))))))
      = outArr m c := by
  funext i
  obtain ⟨b, t, k, rfl⟩ : ∃ (b : Fin 16) (t : Fin 2048) (k : Fin 1024), i = ix3 b t k := ⟨i 0, i 1, i 2, eq_ix3 i⟩
  subst h0 h1 h2 h3 h4 h5 h6 h7 h8 h9 h10 h11 h12
  exact rY_seq _ _ _ _ _ _ _ _ _ _ _ _ _ b t k

/-- The reference's last eight gate rows over the kernel's arguments. -/
theorem ref_tail {A0 : Vec Ideal S16x2048x1024 .f32} {A1 A2 : Vec Ideal S16x2048x512 .bf16} {A3 : Vec Ideal S1024x1024 .f32}
    {A4 A5 A6 : Vec Ideal S16x1x1024 .f32} {A8 : Vec Ideal S1x1024 .f32} {A9 : Vec Ideal S1024x5632 .f32}
    (h0 : A0 = a0 m c) (h1 : A1 = a1 m c) (h2 : A2 = a2 m c) (h3 : A3 = a3 m c) (h4 : A4 = a4 m c) (h5 : A5 = a5 m c)
    (h6 : A6 = a6 m c) (h8 : A8 = a8 m c) (h9 : A9 = a9 m c) :
    extractStridedSlice Cert.Reference2Ideal.S16x8x2816 ![0, 2042, 0]
        (rB (rU A9 (rH A5 A6 A8 (rX A0 A3 A4 (rO A1 A2)))))
        Cert.Reference2Ideal.Facts₀.slices_S16x2050x2816_S16x8x2816_0_2042_0
      = tailArr m c := by
  funext i
  obtain ⟨b, t, k, rfl⟩ : ∃ (b : Fin 16) (t : Fin 8) (k : Fin 2816), i = ix3 b t k := ⟨i 0, i 1, i 2, eq_ix3 i⟩
  subst h0 h1 h2 h3 h4 h5 h6 h8 h9
  exact tail_seq _ _ _ _ _ _ _ _ _ b t k

end Cert.Kernel2Ideal.Ffn

end
-- ==== Proof.CdRow.lean ====
/- One row of the in projection of the attention and retention mixers, as plain functions of the normalised row and
   the weights. -/
module

public import proofs.«01_k».proof.Proof.FfnRow

@[expose] public section

noncomputable section

namespace Cert.Cd

open Idealize.ShloMosaic

/-- The queries' factor: the attention's scale over the logarithm of two. -/
def scaleR : ℝ := (1 / 8) * (Real.log 2)⁻¹

/-- The weights behind which 120 columns of zeros stand. -/
def padW (W : Fin 1024 → Fin 3080 → EReal) (k : Fin 1024) (j : Fin 3200) : EReal :=
  if h : (j : ℕ) < 3080 then W k ⟨j, h⟩ else 0

/-- A column of the projection of a row. -/
def inRow (h : Fin 1024 → EReal) (W : Fin 1024 → Fin 3200 → EReal) (j : Fin 3200) : EReal := ∑ k : Fin 1024, h k * W k j

/-- The first 3072 columns of a row, the first 512 of them scaled. -/
def mainRow (h : Fin 1024 → EReal) (W : Fin 1024 → Fin 3200 → EReal) (j : Fin 3072) : EReal :=
  if (j : ℕ) < 512 then inRow h W ⟨j, by omega⟩ * ((scaleR : ℝ) : EReal) else inRow h W ⟨j, by omega⟩

theorem mainRow_low (h : Fin 1024 → EReal) (W : Fin 1024 → Fin 3200 → EReal) (j : Fin 3072) (hj : (j : ℕ) < 512) :
    mainRow h W j = inRow h W ⟨j, by omega⟩ * ((scaleR : ℝ) : EReal) := if_pos hj

theorem mainRow_high (h : Fin 1024 → EReal) (W : Fin 1024 → Fin 3200 → EReal) (j : Fin 3072) (hj : ¬ (j : ℕ) < 512) :
    mainRow h W j = inRow h W ⟨j, by omega⟩ := if_neg hj

/-- A column of the weights proper. -/
theorem inRow_proper (h : Fin 1024 → EReal) (W : Fin 1024 → Fin 3080 → EReal) (j : Fin 3200) (hj : (j : ℕ) < 3080) :
    inRow h (padW W) j = ∑ k : Fin 1024, h k * W k ⟨j, hj⟩ :=
  Finset.sum_congr rfl fun k _ => congrArg (h k * ·) (dif_pos hj)

/-- A column of zeros. -/
theorem inRow_zero (h : Fin 1024 → EReal) (W : Fin 1024 → Fin 3080 → EReal) (j : Fin 3200) (hj : ¬ (j : ℕ) < 3080) :
    inRow h (padW W) j = 0 :=
  Finset.sum_eq_zero fun k _ => by rw [padW, dif_neg hj, mul_zero]

/-- Scaling by an eighth and dividing by the logarithm of two is scaling by the one factor. -/
theorem scale_eq (y : EReal) :
    Ideal.div (y * ((1 / 8 : ℝ) : EReal)) ((Real.log 2 : ℝ) : EReal) = y * ((scaleR : ℝ) : EReal) := by
  have h : Real.log 2 ≠ 0 := (Real.log_pos (by norm_num)).ne'
  rw [Ideal.div_coe h, mul_assoc, ← EReal.coe_mul]
  congr 2
  unfold scaleR
  simp

end Cert.Cd

end
-- ==== Proof.CdTile.lean ====
/- The in projection kernel's payloads at an index, and what one step leaves in its five blocks. -/
module

public import proofs.«01_k».proof.Proof.CdRow
public import proofs.«01_k».proof.Proof.Gen.Kernel3Ideal.Frame
public import Idealize.ShloMosaic.Lib.Pipeline.ValueKit

@[expose] public section

set_option maxRecDepth 16384

noncomputable section

namespace Cert.Kernel3Ideal.Cd

open Cert.Kernel3Ideal Cert.Kernel3Ideal.Gen Idealize.ShloMosaic Idealize.SL.Sem Cert.Ffn Cert.Cd

/-- The normalised row's payload at an index. -/
theorem pay8_at (x : Vec Ideal S1x1024x1024 .f32) (n : Vec Ideal S1x1024 .f32) (sc sh : Vec Ideal S1x1x1024 .f32)
    (r c : Fin 1024) :
    k0_pay8 (F := Ideal) x n sc sh (ix2 r c)
      = hRow (fun c => x (ix3 (0 : Fin 1) r c)) (fun c => n (ix2 (0 : Fin 1) c)) (fun c => sc (ix3 (0 : Fin 1) (0 : Fin 1) c))
          (fun c => sh (ix3 (0 : Fin 1) (0 : Fin 1) c)) c := by
  unfold hRow
  pointwise [k0_pay8]

section Products

variable (h : FVec Ideal S1024x1024 .bf16) (w : Vec Ideal S1024x512 .bf16) (r : Fin 1024) (j : Fin 512)

theorem pay2_at : k0_pay2 (F := Ideal) h w (ix3 (0 : Fin 1) r j) = ∑ k : Fin 1024, h (ix2 r k) * w (ix2 k j) := by
  pointwise [k0_pay2, k0_pay1]
theorem pay5_at : k0_pay5 (F := Ideal) h w (ix3 (0 : Fin 1) r j) = ∑ k : Fin 1024, h (ix2 r k) * w (ix2 k j) := by
  pointwise [k0_pay5, k0_pay4]
theorem pay11_at : k0_pay11 (F := Ideal) h w (ix3 (0 : Fin 1) r j) = ∑ k : Fin 1024, h (ix2 r k) * w (ix2 k j) := by
  pointwise [k0_pay11, k0_pay10]
theorem pay14_at : k0_pay14 (F := Ideal) h w (ix3 (0 : Fin 1) r j) = ∑ k : Fin 1024, h (ix2 r k) * w (ix2 k j) := by
  pointwise [k0_pay14, k0_pay13]
theorem pay16_at : k0_pay16 (F := Ideal) h w (ix3 (0 : Fin 1) r j) = ∑ k : Fin 1024, h (ix2 r k) * w (ix2 k j) := by
  pointwise [k0_pay16]

theorem pay3_at (i : Fin 8) :
    k0_pay3 (F := Ideal) h w (ix3 (0 : Fin 1) i j) = ∑ k : Fin 1024, h (ix2 ⟨1016 + i, by omega⟩ k) * w (ix2 k j) := by
  pointwise [k0_pay3, k0_pay1]
theorem pay6_at (i : Fin 8) :
    k0_pay6 (F := Ideal) h w (ix3 (0 : Fin 1) i j) = ∑ k : Fin 1024, h (ix2 ⟨1016 + i, by omega⟩ k) * w (ix2 k j) := by
  pointwise [k0_pay6, k0_pay4]
theorem pay12_at (i : Fin 512) :
    k0_pay12 (F := Ideal) h w (ix3 (0 : Fin 1) i j) = ∑ k : Fin 1024, h (ix2 ⟨512 + i, by omega⟩ k) * w (ix2 k j) := by
  pointwise [k0_pay12, k0_pay10]
theorem pay15_at (i : Fin 512) :
    k0_pay15 (F := Ideal) h w (ix3 (0 : Fin 1) i j) = ∑ k : Fin 1024, h (ix2 ⟨512 + i, by omega⟩ k) * w (ix2 k j) := by
  pointwise [k0_pay15, k0_pay13]

end Products

theorem pay7_at (h : FVec Ideal S1024x1024 .bf16) (w : Vec Ideal S1024x128 .bf16) (r : Fin 1024) (j : Fin 128) :
    k0_pay7 (F := Ideal) h w (ix3 (0 : Fin 1) r j) = ∑ k : Fin 1024, h (ix2 r k) * w (ix2 k j) := by
  pointwise [k0_pay7]

/-- The scaled queries' payload at an index. -/
theorem pay9_at (x : Vec Ideal S1x1024x1024 .f32) (n : Vec Ideal S1x1024 .f32) (sc sh : Vec Ideal S1x1x1024 .f32)
    (w : Vec Ideal S1024x512 .bf16) (r : Fin 1024) (j : Fin 512) :
    k0_pay9 (F := Ideal) x n sc sh w (ix3 (0 : Fin 1) r j)
      = (∑ k : Fin 1024, k0_pay8 (F := Ideal) x n sc sh (ix2 r k) * w (ix2 k j)) * ((scaleR : ℝ) : EReal) := by
  unfold k0_pay9
  generalize k0_pay8 (F := Ideal) x n sc sh = h
  have e : (Named.named κ "k_scale" 0x3E38AA3B#32 : Ideal .f32) = ((scaleR : ℝ) : EReal) := rfl
  rw [e]
  pointwise []

end Cert.Kernel3Ideal.Cd

end
-- ==== Proof.CdStep.lean ====
/- What one step of the in projection kernel leaves in its five blocks, of the step's normalised rows and the weights. -/
module

public import proofs.«01_k».proof.Proof.CdTile
public import Idealize.ShloMosaic.Lib.Pipeline.ReadBack

@[expose] public section

set_option maxRecDepth 16384

noncomputable section

namespace Cert.Kernel3Ideal.Cd

open Cert.Kernel3Ideal Cert.Kernel3Ideal.Gen Idealize.ShloMosaic Idealize.SL.Sem Cert.Ffn Cert.Cd

/-- A block of `n` columns of the weights, from column `o`. -/
theorem ldw (x : Vec Ideal S1024x3200 .bf16) (o n : ℕ)
    (inb : ∀ i, (![0, o] : Fin 2 → ℕ) i + (![1024, n] : Fin 2 → ℕ) i ≤ S1024x3200.size i) (k : Fin 1024) (j : Fin n)
    (h : o + (j : ℕ) < 3200) :
    View.ld x (Rect.unit (s := S1024x3200) ![0, o] ![1024, n] inb) (ix2 k j) = x (ix2 k (⟨o + j, h⟩ : Fin 3200)) := by
  refine congrArg x ?_
  funext i
  match i with
  | 0 => exact Fin.ext (by show 0 + 1 * (k : ℕ) = k; omega)
  | 1 => exact Fin.ext (by show o + 1 * (j : ℕ) = o + j; omega)

section Step

variable (x0 : Vec Ideal S1x1024x1024 .f32) (x1 : Vec Ideal S1x1024 .f32) (x2 x3 : Vec Ideal S1x1x1024 .f32)
  (x4 : Vec Ideal S1024x3200 .bf16)

/-- A step's normalised row. -/
def hT (r : Fin 1024) : Fin 1024 → EReal :=
  hRow (fun c => x0 (ix3 (0 : Fin 1) r c)) (fun c => x1 (ix2 (0 : Fin 1) c)) (fun c => x2 (ix3 (0 : Fin 1) (0 : Fin 1) c))
    (fun c => x3 (ix3 (0 : Fin 1) (0 : Fin 1) c))

/-- The weights of a step. -/
def wT (k : Fin 1024) (j : Fin 3200) : EReal := x4 (ix2 k j)

theorem ld0 : View.ld x0 r0_0 = x0 := by
  funext y
  refine congrArg x0 ?_
  funext i
  match i with
  | 0 => exact Fin.ext (by show 0 + 1 * (y 0 : ℕ) = y 0; omega)
  | 1 => exact Fin.ext (by show 0 + 1 * (y 1 : ℕ) = y 1; omega)
  | 2 => exact Fin.ext (by show 0 + 1 * (y 2 : ℕ) = y 2; omega)
theorem ld1 : View.ld x1 r0_1 = x1 := by
  funext y
  refine congrArg x1 ?_
  funext i
  match i with
  | 0 => exact Fin.ext (by show 0 + 1 * (y 0 : ℕ) = y 0; omega)
  | 1 => exact Fin.ext (by show 0 + 1 * (y 1 : ℕ) = y 1; omega)
theorem ld2 : View.ld x2 r0_2 = x2 := by
  funext y
  refine congrArg x2 ?_
  funext i
  match i with
  | 0 => exact Fin.ext (by show 0 + 1 * (y 0 : ℕ) = y 0; omega)
  | 1 => exact Fin.ext (by show 0 + 1 * (y 1 : ℕ) = y 1; omega)
  | 2 => exact Fin.ext (by show 0 + 1 * (y 2 : ℕ) = y 2; omega)

theorem pay8_row (r c : Fin 1024) :
    k0_pay8 (F := Ideal) (View.ld x0 r0_0) (View.ld x1 r0_1) (View.ld x2 r0_2) (View.ld x3 r0_2) (ix2 r c) = hT x0 x1 x2 x3 r c := by
  rw [ld0, ld1, ld2, ld2]
  exact pay8_at x0 x1 x2 x3 r c

theorem pay17_row (r c : Fin 1024) : k0_pay17 (F := Ideal) x0 x1 x2 x3 x4 (ix2 r c) = hT x0 x1 x2 x3 r c :=
  pay8_row x0 x1 x2 x3 r c

/-- A product over a row with a block of the weights' columns is the projection's column. -/
theorem sum_col (H : FVec Ideal S1024x1024 .bf16) (hH : ∀ r c, H (ix2 r c) = hT x0 x1 x2 x3 r c) (o n : ℕ)
    (inb : ∀ i, (![0, o] : Fin 2 → ℕ) i + (![1024, n] : Fin 2 → ℕ) i ≤ S1024x3200.size i) (r : Fin 1024) (j : Fin n)
    (h : o + (j : ℕ) < 3200) :
    (∑ k : Fin 1024, H (ix2 r k) * View.ld x4 (Rect.unit (s := S1024x3200) ![0, o] ![1024, n] inb) (ix2 k j))
      = inRow (hT x0 x1 x2 x3 r) (wT x4) ⟨o + j, h⟩ :=
  Finset.sum_congr rfl fun k _ => congrArg₂ (· * ·) (hH r k) (ldw x4 o n inb k j h)

/-- The first block, whole. -/
def mainT : S1x1024x3072.Idx → EReal := fun y => mainRow (hT x0 x1 x2 x3 (y 1)) (wT x4) (y 2)

/-- An index of the first block's columns from `o`. -/
theorem emb_main (o : ℕ) (inb : ∀ a, (![0, 0, o] : Fin 3 → ℕ) a + S1x1024x512.size a ≤ S1x1024x3072.size a)
    (r : Fin 1024) (j : Fin 512) (h : o + (j : ℕ) < 3072) :
    (Rect.unit (s := S1x1024x3072) ![0, 0, o] S1x1024x512.size inb).emb (ix3 (0 : Fin 1) r j)
      = (ix3 (0 : Fin 1) r (⟨o + j, h⟩ : Fin 3072) : S1x1024x3072.Idx) := by
  funext a
  match a with
  | 0 => rfl
  | 1 => exact Fin.ext (by show 0 + 1 * (r : ℕ) = r; omega)
  | 2 => exact Fin.ext (by show o + 1 * (j : ℕ) = o + j; omega)

/-- An unscaled piece of the first block. -/
theorem main_piece (o : ℕ) (ho : 512 ≤ o) (ho' : o + 512 ≤ 3072)
    (inb : ∀ a, (![0, 0, o] : Fin 3 → ℕ) a + S1x1024x512.size a ≤ S1x1024x3072.size a)
    (inw : ∀ i, (![0, o] : Fin 2 → ℕ) i + (![1024, 512] : Fin 2 → ℕ) i ≤ S1024x3200.size i)
    (P : FVec Ideal S1x1024x512 .bf16)
    (hP : ∀ (r : Fin 1024) (j : Fin 512), P (ix3 (0 : Fin 1) r j)
      = ∑ k : Fin 1024, k0_pay17 (F := Ideal) x0 x1 x2 x3 x4 (ix2 r k)
          * View.ld x4 (Rect.unit (s := S1024x3200) ![0, o] ![1024, 512] inw) (ix2 k j))
    (y : S1x1024x512.Idx) :
    P y = mainT x0 x1 x2 x3 x4 ((Rect.unit (s := S1x1024x3072) ![0, 0, o] S1x1024x512.size inb).emb y) := by
  obtain ⟨z, r, j, rfl⟩ : ∃ (z : Fin 1) (r : Fin 1024) (j : Fin 512), y = ix3 z r j := ⟨y 0, y 1, y 2, eq_ix3 y⟩
  obtain rfl : z = 0 := by omega
  rw [emb_main o inb r j (by omega), hP,
    sum_col x0 x1 x2 x3 x4 _ (pay17_row x0 x1 x2 x3 x4) o 512 inw r j (by omega)]
  exact (mainRow_high (hT x0 x1 x2 x3 r) (wT x4) ⟨o + j, by omega⟩ (by show ¬ o + (j : ℕ) < 512; omega)).symm

/-- The scaled piece of the first block. -/
theorem main_scaled (y : S1x1024x512.Idx) :
    k0_pay9 (F := Ideal) (View.ld x0 r0_0) (View.ld x1 r0_1) (View.ld x2 r0_2) (View.ld x3 r0_2) (View.ld x4 r0_3) y
      = mainT x0 x1 x2 x3 x4 (r0_4.emb y) := by
  obtain ⟨z, r, j, rfl⟩ : ∃ (z : Fin 1) (r : Fin 1024) (j : Fin 512), y = ix3 z r j := ⟨y 0, y 1, y 2, eq_ix3 y⟩
  obtain rfl : z = 0 := by omega
  rw [show r0_4.emb (ix3 (0 : Fin 1) r j) = _ from emb_main 0 inb_S1x1024x3072_S1x1024x512_0_0_0 r j (by omega), pay9_at,
    sum_col x0 x1 x2 x3 x4 _ (pay8_row x0 x1 x2 x3) 0 512 inb_S1024x3200_S1024x512_0_0 r j (by omega)]
  exact (mainRow_low (hT x0 x1 x2 x3 r) (wT x4) ⟨0 + j, by omega⟩ (by show 0 + (j : ℕ) < 512; omega)).symm

/-- The first block a step leaves: the projection's first 3072 columns. -/
theorem out5_at (y : S1x1024x3072.Idx) : out0_5 (F := Ideal) x0 x1 x2 x3 x4 y = mainT x0 x1 x2 x3 x4 y := by
  unfold out0_5
  refine View.canon_apply_of_pieces (Val := Elt Ideal) (e := .bf16) (mainT x0 x1 x2 x3 x4) _ ?_ y (cover0_5 _ _ _ _ _ _ y)
  refine View.PiecesOf.mem ⟨?_, ?_, ?_, ?_, ?_, ?_, trivial⟩
  · exact main_piece x0 x1 x2 x3 x4 2560 (by omega) (by omega) inb_S1x1024x3072_S1x1024x512_0_0_2560 inb_S1024x3200_S1024x512_0_2560 _ (pay5_at _ _)
  · exact main_piece x0 x1 x2 x3 x4 2048 (by omega) (by omega) inb_S1x1024x3072_S1x1024x512_0_0_2048 inb_S1024x3200_S1024x512_0_2048 _ (pay2_at _ _)
  · exact main_piece x0 x1 x2 x3 x4 1536 (by omega) (by omega) inb_S1x1024x3072_S1x1024x512_0_0_1536 inb_S1024x3200_S1024x512_0_1536 _ (pay16_at _ _)
  · exact main_piece x0 x1 x2 x3 x4 1024 (by omega) (by omega) inb_S1x1024x3072_S1x1024x512_0_0_1024 inb_S1024x3200_S1024x512_0_1024 _ (pay14_at _ _)
  · exact main_piece x0 x1 x2 x3 x4 512 (by omega) (by omega) inb_S1x1024x3072_S1x1024x512_0_0_512 inb_S1024x3200_S1024x512_0_512 _ (pay11_at _ _)
  · exact main_scaled x0 x1 x2 x3 x4

/-- The second block: the projection's last 128 columns. -/
def dtT : S1x1024x128.Idx → EReal := fun y =>
  inRow (hT x0 x1 x2 x3 (y 1)) (wT x4) (⟨3072 + (y 2).val, Nat.add_lt_add_left (m := 128) (y 2).isLt 3072⟩ : Fin 3200)

theorem out6_at (y : S1x1024x128.Idx) : out0_6 (F := Ideal) x0 x1 x2 x3 x4 y = dtT x0 x1 x2 x3 x4 y := by
  unfold out0_6
  refine View.canon_apply_of_pieces (Val := Elt Ideal) (e := .f32) (dtT x0 x1 x2 x3 x4) _ ?_ y (cover0_6 _ y)
  refine View.PiecesOf.mem ⟨fun y => ?_, trivial⟩
  obtain ⟨z, r, j, rfl⟩ : ∃ (z : Fin 1) (r : Fin 1024) (j : Fin 128), y = ix3 z r j := ⟨y 0, y 1, y 2, eq_ix3 y⟩
  obtain rfl : z = 0 := by omega
  have e : r0_19.emb (ix3 (0 : Fin 1) r j) = (ix3 (0 : Fin 1) r j : S1x1024x128.Idx) := by
    funext a
    match a with
    | 0 => rfl
    | 1 => exact Fin.ext (by show 0 + 1 * (r : ℕ) = r; omega)
    | 2 => exact Fin.ext (by show 0 + 1 * (j : ℕ) = j; omega)
  show k0_pay7 (F := Ideal) _ _ (ix3 (0 : Fin 1) r j) = dtT x0 x1 x2 x3 x4 (r0_19.emb (ix3 (0 : Fin 1) r j))
  rw [e, pay7_at]
  exact sum_col x0 x1 x2 x3 x4 _ (pay17_row x0 x1 x2 x3 x4) 3072 128 inb_S1024x3200_S1024x128_0_3072 r j (by omega)

/-- A block of the step's last 512 rows: 512 of the projection's columns from `o`. -/
def endT (o : ℕ) (ho : o + 512 ≤ 3200) : S1x512x512.Idx → EReal := fun y =>
  inRow (hT x0 x1 x2 x3 (⟨512 + (y 1).val, Nat.add_lt_add_left (m := 512) (y 1).isLt 512⟩ : Fin 1024)) (wT x4)
    (⟨o + (y 2).val, Nat.lt_of_lt_of_le (Nat.add_lt_add_left (m := 512) (y 2).isLt o) ho⟩ : Fin 3200)

theorem emb_end (r j : Fin 512) : r0_7.emb (ix3 (0 : Fin 1) r j) = (ix3 (0 : Fin 1) r j : S1x512x512.Idx) := by
  funext a
  match a with
  | 0 => rfl
  | 1 => exact Fin.ext (by show 0 + 1 * (r : ℕ) = r; omega)
  | 2 => exact Fin.ext (by show 0 + 1 * (j : ℕ) = j; omega)

/-- The third block: the keys of the step's last 512 rows. -/
theorem out7_at (y : S1x512x512.Idx) : out0_7 (F := Ideal) x0 x1 x2 x3 x4 y = endT x0 x1 x2 x3 x4 512 (by omega) y := by
  unfold out0_7
  refine View.canon_apply_of_pieces (Val := Elt Ideal) (e := .f32) (endT x0 x1 x2 x3 x4 512 (by omega)) _ ?_ y (cover0_7 _ y)
  refine View.PiecesOf.mem ⟨fun y => ?_, trivial⟩
  obtain ⟨z, r, j, rfl⟩ : ∃ (z : Fin 1) (r j : Fin 512), y = ix3 z r j := ⟨y 0, y 1, y 2, eq_ix3 y⟩
  obtain rfl : z = 0 := by omega
  show k0_pay12 (F := Ideal) _ _ (ix3 (0 : Fin 1) r j) = endT x0 x1 x2 x3 x4 512 (by omega) (r0_7.emb (ix3 (0 : Fin 1) r j))
  rw [emb_end, pay12_at]
  exact sum_col x0 x1 x2 x3 x4 _ (pay17_row x0 x1 x2 x3 x4) 512 512 inb_S1024x3200_S1024x512_0_512 _ j (by omega)

/-- The fourth block: the values of the step's last 512 rows. -/
theorem out8_at (y : S1x512x512.Idx) : out0_8 (F := Ideal) x0 x1 x2 x3 x4 y = endT x0 x1 x2 x3 x4 1024 (by omega) y := by
  unfold out0_8
  refine View.canon_apply_of_pieces (Val := Elt Ideal) (e := .f32) (endT x0 x1 x2 x3 x4 1024 (by omega)) _ ?_ y (cover0_8 _ y)
  refine View.PiecesOf.mem ⟨fun y => ?_, trivial⟩
  obtain ⟨z, r, j, rfl⟩ : ∃ (z : Fin 1) (r j : Fin 512), y = ix3 z r j := ⟨y 0, y 1, y 2, eq_ix3 y⟩
  obtain rfl : z = 0 := by omega
  show k0_pay15 (F := Ideal) _ _ (ix3 (0 : Fin 1) r j) = endT x0 x1 x2 x3 x4 1024 (by omega) (r0_7.emb (ix3 (0 : Fin 1) r j))
  rw [emb_end, pay15_at]
  exact sum_col x0 x1 x2 x3 x4 _ (pay17_row x0 x1 x2 x3 x4) 1024 512 inb_S1024x3200_S1024x512_0_1024 _ j (by omega)

/-- The fifth block: the convolved columns of the step's last eight rows. -/
def tailT : S1x8x1024.Idx → EReal := fun y =>
  inRow (hT x0 x1 x2 x3 (⟨1016 + (y 1).val, Nat.add_lt_add_left (m := 8) (y 1).isLt 1016⟩ : Fin 1024)) (wT x4)
    (⟨2048 + (y 2).val, Nat.lt_trans (Nat.add_lt_add_left (m := 1024) (y 2).isLt 2048) (by omega)⟩ : Fin 3200)

theorem tail_piece (o w : ℕ) (hw : w = 2048 + o) (ho : o + 512 ≤ 1024)
    (inb : ∀ a, (![0, 0, o] : Fin 3 → ℕ) a + S1x8x512.size a ≤ S1x8x1024.size a)
    (inw : ∀ i, (![0, w] : Fin 2 → ℕ) i + (![1024, 512] : Fin 2 → ℕ) i ≤ S1024x3200.size i)
    (P : FVec Ideal S1x8x512 .f32)
    (hP : ∀ (j : Fin 512) (i : Fin 8), P (ix3 (0 : Fin 1) i j)
      = ∑ k : Fin 1024, k0_pay17 (F := Ideal) x0 x1 x2 x3 x4 (ix2 ⟨1016 + i, by omega⟩ k)
          * View.ld x4 (Rect.unit (s := S1024x3200) ![0, w] ![1024, 512] inw) (ix2 k j))
    (y : S1x8x512.Idx) :
    P y = tailT x0 x1 x2 x3 x4 ((Rect.unit (s := S1x8x1024) ![0, 0, o] S1x8x512.size inb).emb y) := by
  obtain ⟨z, r, j, rfl⟩ : ∃ (z : Fin 1) (r : Fin 8) (j : Fin 512), y = ix3 z r j := ⟨y 0, y 1, y 2, eq_ix3 y⟩
  obtain rfl : z = 0 := by omega
  have e : (Rect.unit (s := S1x8x1024) ![0, 0, o] S1x8x512.size inb).emb (ix3 (0 : Fin 1) r j)
      = (ix3 (0 : Fin 1) r (⟨o + j, by omega⟩ : Fin 1024) : S1x8x1024.Idx) := by
    funext a
    match a with
    | 0 => rfl
    | 1 => exact Fin.ext (by show 0 + 1 * (r : ℕ) = r; omega)
    | 2 => exact Fin.ext (by show o + 1 * (j : ℕ) = o + j; omega)
  rw [e, hP, sum_col x0 x1 x2 x3 x4 _ (pay17_row x0 x1 x2 x3 x4) w 512 inw _ j (by omega)]
  refine congrArg (inRow _ (wT x4)) (Fin.ext ?_)
  show w + (j : ℕ) = 2048 + (o + (j : ℕ))
  omega

theorem out9_at (y : S1x8x1024.Idx) : out0_9 (F := Ideal) x0 x1 x2 x3 x4 y = tailT x0 x1 x2 x3 x4 y := by
  unfold out0_9
  refine View.canon_apply_of_pieces (Val := Elt Ideal) (e := .f32) (tailT x0 x1 x2 x3 x4) _ ?_ y (cover0_9 _ _ y)
  refine View.PiecesOf.mem ⟨?_, ?_, trivial⟩
  · exact tail_piece x0 x1 x2 x3 x4 512 2560 (by omega) (by omega) inb_S1x8x1024_S1x8x512_0_0_512 inb_S1024x3200_S1024x512_0_2560 _ (pay6_at _ _)
  · exact tail_piece x0 x1 x2 x3 x4 0 2048 (by omega) (by omega) inb_S1x8x1024_S1x8x512_0_0_0 inb_S1024x3200_S1024x512_0_2048 _ (pay3_at _ _)

end Step

end Cert.Kernel3Ideal.Cd

end
-- ==== Proof.CdValue.lean ====
/- The in projection kernel's blocks at a step. -/
module

public import proofs.«01_k».proof.Proof.CdStep
public import proofs.«01_k».proof.Proof.Gen.Kernel3Ideal.Value

@[expose] public section

set_option maxRecDepth 16384

noncomputable section

namespace Cert.Kernel3Ideal.Cd

open Cert.Kernel3Ideal Cert.Kernel3Ideal.Gen Idealize.ShloMosaic Idealize.SL.Sem Cert.Ffn Cert.Cd Idealize.ShloMosaic.TcCoe

variable (m : (ℓ : Loc nD τ sig) → Buf (Elt Ideal) ℓ) (c : Dev nD)

theorem idx0 : ∀ t : Fin cfg0.N, win0_0.index t = ![(t : ℕ) / 2, (t : ℕ) % 2, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(t : ℕ) / 2, 0, 0] := (by decide +kernel : ∀ t : Fin grid0.N, _)
theorem idx3 : ∀ t : Fin cfg0.N, win0_3.index t = ![(t : ℕ) / 2, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![(t : ℕ) / 2, (t : ℕ) % 2, 0] := (by decide +kernel : ∀ t : Fin grid0.N, _)
theorem idx6 : ∀ t : Fin cfg0.N, win0_6.index t = ![(t : ℕ) / 2, (t : ℕ) % 2, 0] := (by decide +kernel : ∀ t : Fin grid0.N, _)
theorem idx7 : ∀ t : Fin cfg0.N, win0_7.index t = ![(t : ℕ) / 2, 0, 0] := (by decide +kernel : ∀ t : Fin grid0.N, _)
theorem idx8 : ∀ t : Fin cfg0.N, win0_8.index t = ![(t : ℕ) / 2, 0, 0] := (by decide +kernel : ∀ t : Fin grid0.N, _)
theorem idx9 : ∀ t : Fin cfg0.N, win0_9.index t = ![(t : ℕ) / 2, 0, 0] := (by decide +kernel : ∀ t : Fin grid0.N, _)

/-- The sequence of a step. -/
abbrev seqAt (t : Fin cfg0.N) : Fin 16 := ⟨(t : ℕ) / 2, by have := (show (t : ℕ) < 32 from t.isLt); omega⟩

/-- The row `r` of a step's part of its sequence. -/
abbrev rowAt (t : Fin cfg0.N) (r : Fin 1024) : Fin 2048 := ⟨1024 * ((t : ℕ) % 2) + r, by omega⟩

/-! The arguments by name. -/
abbrev a0 : Vec Ideal S16x2048x1024 .f32 := m ((c.tc : Thread nD τ).loc main_arg0)
abbrev a1 : Vec Ideal S16x1x1024 .f32 := m ((c.tc : Thread nD τ).loc main_arg1)
abbrev a2 : Vec Ideal S16x1x1024 .f32 := m ((c.tc : Thread nD τ).loc main_arg2)
abbrev a3 : Vec Ideal S1x1024 .f32 := m ((c.tc : Thread nD τ).loc main_arg3)
abbrev a4 : Vec Ideal S1024x3080 .f32 := m ((c.tc : Thread nD τ).loc main_arg4)

/-! The host's operand: the weights behind 120 columns of zeros. -/

theorem host_proper (k : Fin 1024) (j : Fin 3080) :
    (V m c main_v1 : Vec Ideal S1024x3200 .bf16) (ix2 k (⟨j, by omega⟩ : Fin 3200)) = a4 m c (ix2 k j) := by
  simp only [V, hostOps0, hostOps0_1, hostOps0_2, List.flatten_cons, List.flatten_nil, List.cons_append, List.nil_append, List.append_nil]
  entry_read
  refine Eq.trans (b := pad S1024x3200 ![0, 0] ![0, 120] ![0, 0] (a4 m c) (sitofp (F := Ideal) .f32 (constantI S_ 32 0#32))
    pads_S1024x3080_S1024x3200_000_01200 h_S_ (ix2 k _)) rfl ?_
  pointwise

theorem host_zero (k : Fin 1024) (j : Fin 120) :
    (V m c main_v1 : Vec Ideal S1024x3200 .bf16) (ix2 k (⟨3080 + j, by omega⟩ : Fin 3200)) = (0 : EReal) := by
  simp only [V, hostOps0, hostOps0_1, hostOps0_2, List.flatten_cons, List.flatten_nil, List.cons_append, List.nil_append, List.append_nil]
  entry_read
  refine Eq.trans (b := pad S1024x3200 ![0, 0] ![0, 120] ![0, 0] (a4 m c) (sitofp (F := Ideal) .f32 (constantI S_ 32 0#32))
    pads_S1024x3080_S1024x3200_000_01200 h_S_ (ix2 k _)) rfl ?_
  pointwise
  show (((0#32 : BitVec 32).toInt : ℝ) : EReal) = 0
  simp

theorem host_w (k : Fin 1024) (j : Fin 3200) :
    (V m c main_v1 : Vec Ideal S1024x3200 .bf16) (ix2 k j) = padW (fun k j => a4 m c (ix2 k j)) k j := by
  unfold padW
  split
  · rename_i h
    exact host_proper m c k ⟨j, h⟩
  · rename_i h
    refine Eq.trans ?_ (host_zero m c k ⟨(j : ℕ) - 3080, by omega⟩)
    congr 2
    exact Fin.ext (by show (j : ℕ) = 3080 + ((j : ℕ) - 3080); omega)

/-! What the blocks hold at step `t`. -/

variable (t : Fin cfg0.N)

theorem x_blk (r k : Fin 1024) :
    (iblk m c 0 t : Vec Ideal S1x1024x1024 .f32) (ix3 0 r k) = a0 m c (ix3 (seqAt t) (rowAt t r) k) := by
  blk_simp [iblk]
  blk_ext [V, idx0 t]
theorem n_blk (k : Fin 1024) : (iblk m c 1 t : Vec Ideal S1x1024 .f32) (ix2 0 k) = a3 m c (ix2 0 k) := by
  blk_simp [iblk]
  blk_ext [V, idx1 t]
theorem sc_blk (k : Fin 1024) : (iblk m c 2 t : Vec Ideal S1x1x1024 .f32) (ix3 0 0 k) = a1 m c (ix3 (seqAt t) 0 k) := by
  blk_simp [iblk]
  blk_ext [V, idx2 t]
theorem sh_blk (k : Fin 1024) : (iblk m c 3 t : Vec Ideal S1x1x1024 .f32) (ix3 0 0 k) = a2 m c (ix3 (seqAt t) 0 k) := by
  blk_simp [iblk]
  blk_ext [V, idx3 t]
theorem w_blk (k : Fin 1024) (j : Fin 3200) :
    (iblk m c 4 t : Vec Ideal S1024x3200 .bf16) (ix2 k j) = padW (fun k j => a4 m c (ix2 k j)) k j := by
  refine Eq.trans ?_ (host_w m c k j)
  blk_simp [iblk]
  blk_ext [idx4 t]

/-- The normalised rows of a sequence. -/
def kH (b : Fin 16) (r : Fin 2048) : Fin 1024 → EReal :=
  hRow (fun k => a0 m c (ix3 b r k)) (fun k => a3 m c (ix2 (0 : Fin 1) k)) (fun k => a1 m c (ix3 b (0 : Fin 1) k))
    (fun k => a2 m c (ix3 b (0 : Fin 1) k))

/-- The weights behind their columns of zeros. -/
def kW : Fin 1024 → Fin 3200 → EReal := padW fun k j => a4 m c (ix2 k j)

/-- A step's normalised rows. -/
theorem h_step (r : Fin 1024) :
    hT (iblk m c 0 t) (iblk m c 1 t) (iblk m c 2 t) (iblk m c 3 t) r = kH m c (seqAt t) (rowAt t r) := by
  unfold hT kH
  rw [show (fun k => (iblk m c 0 t : Vec Ideal S1x1024x1024 .f32) (ix3 (0 : Fin 1) r k)) = _ from funext fun k => x_blk m c t r k,
    show (fun k => (iblk m c 1 t : Vec Ideal S1x1024 .f32) (ix2 (0 : Fin 1) k)) = _ from funext fun k => n_blk m c t k,
    show (fun k => (iblk m c 2 t : Vec Ideal S1x1x1024 .f32) (ix3 (0 : Fin 1) (0 : Fin 1) k)) = _ from funext fun k => sc_blk m c t k,
    show (fun k => (iblk m c 3 t : Vec Ideal S1x1x1024 .f32) (ix3 (0 : Fin 1) (0 : Fin 1) k)) = _ from funext fun k => sh_blk m c t k]

/-- A step's weights. -/
theorem w_step : wT (iblk m c 4 t) = kW m c := funext fun k => funext fun j => w_blk m c t k j

end Cert.Kernel3Ideal.Cd

end
-- ==== Proof.CdArray.lean ====
/- The in projection kernel's five arrays. -/
module

public import proofs.«01_k».proof.Proof.CdValue

@[expose] public section

set_option maxRecDepth 16384

noncomputable section

namespace Cert.Kernel3Ideal.Cd

open Cert.Kernel3Ideal Cert.Kernel3Ideal.Gen Idealize.ShloMosaic Idealize.SL.Sem Cert.Ffn Cert.Cd Idealize.ShloMosaic.TcCoe

variable (m : (ℓ : Loc nD τ sig) → Buf (Elt Ideal) ℓ) (c : Dev nD)

/-- The projection's first 3072 columns, the queries scaled. -/
def mainArr : S16x2048x3072.Idx → EReal := fun i => mainRow (kH m c (i 0) (i 1)) (kW m c) (i 2)

/-- The projection's last 128 columns. -/
def dtArr : S16x2048x128.Idx → EReal := fun i =>
  inRow (kH m c (i 0) (i 1)) (kW m c) (⟨3072 + (i 2).val, Nat.add_lt_add_left (m := 128) (i 2).isLt 3072⟩ : Fin 3200)

/-- 512 of the projection's columns from `o`, of the last 512 rows. -/
def endArr (o : ℕ) (ho : o + 512 ≤ 3200) : S16x512x512.Idx → EReal := fun i =>
  inRow (kH m c (i 0) (⟨1536 + (i 1).val, Nat.add_lt_add_left (m := 512) (i 1).isLt 1536⟩ : Fin 2048)) (kW m c)
    (⟨o + (i 2).val, Nat.lt_of_lt_of_le (Nat.add_lt_add_left (m := 512) (i 2).isLt o) ho⟩ : Fin 3200)

/-- The convolved columns of the last eight rows. -/
def tailArr : S16x8x1024.Idx → EReal := fun i =>
  inRow (kH m c (i 0) (⟨2040 + (i 1).val, Nat.add_lt_add_left (m := 8) (i 1).isLt 2040⟩ : Fin 2048)) (kW m c)
    (⟨2048 + (i 2).val, Nat.lt_trans (Nat.add_lt_add_left (m := 1024) (i 2).isLt 2048) (by omega)⟩ : Fin 3200)

theorem flush7 : ∀ t : Fin cfg0.N, (cfg0.win 7).flush t = true → (t : ℕ) % 2 = 1 :=
  (by decide +kernel : ∀ t : Fin grid0.N, _)
theorem flush8 : ∀ t : Fin cfg0.N, (cfg0.win 8).flush t = true → (t : ℕ) % 2 = 1 :=
  (by decide +kernel : ∀ t : Fin grid0.N, _)
theorem flush9 : ∀ t : Fin cfg0.N, (cfg0.win 9).flush t = true → (t : ℕ) % 2 = 1 :=
  (by decide +kernel : ∀ t : Fin grid0.N, _)

theorem arr5 : (dats m 0 c).arrAt 5 cfg0.N = mainArr m c := by
  refine (dats m 0 c).arrAt_eq_of_covers 5 _ (by decide +kernel) fun t _ y => ?_
  blk_simp
  rw [after0_5]
  obtain ⟨z, r, k, rfl⟩ : ∃ (z : Fin 1) (r : Fin 1024) (k : Fin 3072), y = ix3 z r k := ⟨y 0, y 1, y 2, eq_ix3 y⟩
  obtain rfl : z = 0 := by omega
  have hy : (win0_5.blk t).view.emb (ix3 (0 : Fin 1) r k) = (ix3 (seqAt t) (rowAt t r) k : S16x2048x3072.Idx) := by
    blk_ext [idx5 t]
  rw [hy]
  refine (out5_at _ _ _ _ _ _).trans ?_
  show mainRow (hT _ _ _ _ r) (wT _) k = mainRow (kH m c (seqAt t) (rowAt t r)) (kW m c) k
  rw [h_step, w_step]

theorem arr6 : (dats m 0 c).arrAt 6 cfg0.N = dtArr m c := by
  refine (dats m 0 c).arrAt_eq_of_covers 6 _ (by decide +kernel) fun t _ y => ?_
  blk_simp
  rw [after0_6]
  obtain ⟨z, r, k, rfl⟩ : ∃ (z : Fin 1) (r : Fin 1024) (k : Fin 128), y = ix3 z r k := ⟨y 0, y 1, y 2, eq_ix3 y⟩
  obtain rfl : z = 0 := by omega
  have hy : (win0_6.blk t).view.emb (ix3 (0 : Fin 1) r k) = (ix3 (seqAt t) (rowAt t r) k : S16x2048x128.Idx) := by
    blk_ext [idx6 t]
  rw [hy]
  refine (out6_at _ _ _ _ _ _).trans ?_
  show inRow (hT _ _ _ _ r) (wT _) _ = inRow (kH m c (seqAt t) (rowAt t r)) (kW m c) _
  rw [h_step, w_step]
  rfl

theorem arr7 : (dats m 0 c).arrAt 7 cfg0.N = endArr m c 512 (by omega) := by
  refine (dats m 0 c).arrAt_eq_of_covers 7 _ (by decide +kernel) fun t hf y => ?_
  have ht := flush7 t hf
  blk_simp
  rw [after0_7]
  obtain ⟨z, r, k, rfl⟩ : ∃ (z : Fin 1) (r k : Fin 512), y = ix3 z r k := ⟨y 0, y 1, y 2, eq_ix3 y⟩
  obtain rfl : z = 0 := by omega
  have hy : (win0_7.blk t).view.emb (ix3 (0 : Fin 1) r k) = (ix3 (seqAt t) r k : S16x512x512.Idx) := by
    blk_ext [idx7 t]
  rw [hy]
  refine (out7_at _ _ _ _ _ _).trans ?_
  show inRow (hT _ _ _ _ (⟨512 + r, _⟩ : Fin 1024)) (wT _) _ = inRow (kH m c (seqAt t) _) (kW m c) _
  rw [h_step, w_step]
  refine congrArg (fun r => inRow (kH m c (seqAt t) r) (kW m c) _) (Fin.ext ?_)
  show 1024 * ((t : ℕ) % 2) + (512 + (r : ℕ)) = 1536 + r
  omega

theorem arr8 : (dats m 0 c).arrAt 8 cfg0.N = endArr m c 1024 (by omega) := by
  refine (dats m 0 c).arrAt_eq_of_covers 8 _ (by decide +kernel) fun t hf y => ?_
  have ht := flush8 t hf
  blk_simp
  rw [after0_8]
  obtain ⟨z, r, k, rfl⟩ : ∃ (z : Fin 1) (r k : Fin 512), y = ix3 z r k := ⟨y 0, y 1, y 2, eq_ix3 y⟩
  obtain rfl : z = 0 := by omega
  have hy : (win0_8.blk t).view.emb (ix3 (0 : Fin 1) r k) = (ix3 (seqAt t) r k : S16x512x512.Idx) := by
    blk_ext [idx8 t]
  rw [hy]
  refine (out8_at _ _ _ _ _ _).trans ?_
  show inRow (hT _ _ _ _ (⟨512 + r, _⟩ : Fin 1024)) (wT _) _ = inRow (kH m c (seqAt t) _) (kW m c) _
  rw [h_step, w_step]
  refine congrArg (fun r => inRow (kH m c (seqAt t) r) (kW m c) _) (Fin.ext ?_)
  show 1024 * ((t : ℕ) % 2) + (512 + (r : ℕ)) = 1536 + r
  omega

theorem arr9 : (dats m 0 c).arrAt 9 cfg0.N = tailArr m c := by
  refine (dats m 0 c).arrAt_eq_of_covers 9 _ (by decide +kernel) fun t hf y => ?_
  have ht := flush9 t hf
  blk_simp
  rw [after0_9]
  obtain ⟨z, r, k, rfl⟩ : ∃ (z : Fin 1) (r : Fin 8) (k : Fin 1024), y = ix3 z r k := ⟨y 0, y 1, y 2, eq_ix3 y⟩
  obtain rfl : z = 0 := by omega
  have hy : (win0_9.blk t).view.emb (ix3 (0 : Fin 1) r k) = (ix3 (seqAt t) r k : S16x8x1024.Idx) := by
    blk_ext [idx9 t]
  rw [hy]
  refine (out9_at _ _ _ _ _ _).trans ?_
  show inRow (hT _ _ _ _ (⟨1016 + r, _⟩ : Fin 1024)) (wT _) _ = inRow (kH m c (seqAt t) _) (kW m c) _
  rw [h_step, w_step]
  refine congrArg (fun r => inRow (kH m c (seqAt t) r) (kW m c) _) (Fin.ext ?_)
  show 1024 * ((t : ℕ) % 2) + (1016 + (r : ℕ)) = 2040 + r
  omega

end Cert.Kernel3Ideal.Cd

end
-- ==== Proof.CdRef.lean ====
/- The in projection reference's five results, read at an index in the row functions. -/
module

public import proofs.«01_k».proof.Proof.CdRow
public import proofs.«01_k».proof.Proof.Gen.Reference3Ideal.Run
public import Idealize.ShloMosaic.Lib.Pipeline.ValueKit

@[expose] public section

set_option maxRecDepth 16384

noncomputable section

namespace Cert.Reference3Ideal.Cd

open Idealize.ShloMosaic Idealize.ShloMosaic.StableHlo Cert.Ffn Cert.Cd
open Cert.Reference3Ideal Cert.Reference3Ideal.Gen

section Terms

variable {F : FTy → Type} [FloatOps F]

variable (A0 : Vec F S16x2048x1024 .f32) (A1 A2 : Vec F S16x1x1024 .f32) (A3 : Vec F S1x1024 .f32) (A4 : Vec F S1024x3080 .f32)

/-- The normalised rows. -/
def rH : Vec F S16x2048x1024 .f32 :=
  addf (mulf (mulf (mulf A0 (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf A0 A0) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ A3 shapeCasts_S1x1024_S1024)))) (broadcastInDim S16x2048x1024 ![0, 1, 2] bcast_S16x1x1024_S16x2048x1024_0_1_2 (addf (broadcastInDim S16x1x1024 ![] bcast_S_S16x1x1024 (constant S_ .f32 0x3F800000#32)) A1))) (broadcastInDim S16x2048x1024 ![0, 1, 2] bcast_S16x1x1024_S16x2048x1024_0_1_2 A2)

/-- The projection. -/
def rY (H : Vec F S16x2048x1024 .f32) : Vec F S16x2048x3080 .f32 :=
  Host.dotGeneral dot_S16x2048x1024_S1024x3080_S16x2048x3080_2_0_01_1_n_n none H A4

/-- The queries, scaled. -/
def rQ (Y : Vec F S16x2048x3080 .f32) : Vec F S16x2048x512 .f32 :=
  Host.divf (mulf (extractStridedSlice S16x2048x512 ![0, 0, 0] Y slices_S16x2048x3080_S16x2048x512_0_0_0) (broadcastInDim S16x2048x512 ![] bcast_S_S16x2048x512 (constant S_ .f32 0x3E000000#32))) (broadcastInDim S16x2048x512 ![] bcast_S_S16x2048x512 (id (Host.log (constant S_ .f32 0x40000000#32))))

/-- The first 3072 columns. -/
def rM (Y : Vec F S16x2048x3080 .f32) : Vec F S16x2048x3072 .bf16 :=
  truncf .bf16 ((concatenate S16x2048x3072 2 [⟨S16x2048x512, rQ Y⟩, ⟨S16x2048x512, (extractStridedSlice S16x2048x512 ![0, 0, 512] Y slices_S16x2048x3080_S16x2048x512_0_0_512)⟩, ⟨S16x2048x512, (extractStridedSlice S16x2048x512 ![0, 0, 1024] Y slices_S16x2048x3080_S16x2048x512_0_0_1024)⟩, ⟨S16x2048x512, (extractStridedSlice S16x2048x512 ![0, 0, 1536] Y slices_S16x2048x3080_S16x2048x512_0_0_1536)⟩, ⟨S16x2048x1024, (extractStridedSlice S16x2048x1024 ![0, 0, 2048] Y slices_S16x2048x3080_S16x2048x1024_0_0_2048)⟩] concatenates_S16x2048x512_S16x2048x512_S16x2048x512_S16x2048x512_S16x2048x1024_S16x2048x3072_d2 : (⟨S16x2048x3072, .f32⟩ : BufTy).Contents (Elt F))) bitsLt_bf16_f32

/-- The last eight columns before 120 columns of zeros. -/
def rD (Y : Vec F S16x2048x3080 .f32) : Vec F S16x2048x128 .f32 :=
  concatenate S16x2048x128 2 [⟨S16x2048x8, (extractStridedSlice S16x2048x8 ![0, 0, 3072] Y slices_S16x2048x3080_S16x2048x8_0_0_3072)⟩, ⟨S16x2048x120, (broadcastInDim S16x2048x120 ![] bcast_S_S16x2048x120 (constant S_ .f32 0x00000000#32))⟩] concatenates_S16x2048x8_S16x2048x120_S16x2048x128_d2

/-- The keys' last 512 rows. -/
def rK (Y : Vec F S16x2048x3080 .f32) : Vec F S16x512x512 .f32 :=
  extractStridedSlice S16x512x512 ![0, 1536, 0] (extractStridedSlice S16x2048x512 ![0, 0, 512] Y slices_S16x2048x3080_S16x2048x512_0_0_512) slices_S16x2048x512_S16x512x512_0_1536_0

/-- The values' last 512 rows. -/
def rV (Y : Vec F S16x2048x3080 .f32) : Vec F S16x512x512 .f32 :=
  extractStridedSlice S16x512x512 ![0, 1536, 0] (extractStridedSlice S16x2048x512 ![0, 0, 1024] Y slices_S16x2048x3080_S16x2048x512_0_0_1024) slices_S16x2048x512_S16x512x512_0_1536_0

/-- The convolved columns' last eight rows. -/
def rT (Y : Vec F S16x2048x3080 .f32) : Vec F S16x8x1024 .f32 :=
  extractStridedSlice S16x8x1024 ![0, 2040, 0] (extractStridedSlice S16x2048x1024 ![0, 0, 2048] Y slices_S16x2048x3080_S16x2048x1024_0_0_2048) slices_S16x2048x1024_S16x8x1024_0_2040_0

end Terms

theorem lit_eighth : Ideal.ofBits .f32 0x3E000000#32 = ((1 / 8 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num

/-- The logarithm of the constant two. -/
theorem log_two : Ideal.log (Ideal.ofBits .f32 0x40000000#32) = ((Real.log 2 : ℝ) : EReal) := by
  rw [lit_two]
  show (if (2 : ℝ) ≤ 0 then ⊥ else ((Real.log 2 : ℝ) : EReal)) = _
  rw [if_neg (by norm_num)]

variable (A0 : Vec Ideal S16x2048x1024 .f32) (A1 A2 : Vec Ideal S16x1x1024 .f32) (A3 : Vec Ideal S1x1024 .f32)
  (A4 : Vec Ideal S1024x3080 .f32)

theorem rH_at (b : Fin 16) (t : Fin 2048) (c : Fin 1024) :
    rH A0 A1 A2 A3 (ix3 b t c)
      = hRow (fun c => A0 (ix3 b t c)) (fun c => A3 (ix2 (0 : Fin 1) c)) (fun c => A1 (ix3 b (0 : Fin 1) c))
          (fun c => A2 (ix3 b (0 : Fin 1) c)) c := by
  unfold hRow
  pointwise [rH]

theorem rY_at (H : Vec Ideal S16x2048x1024 .f32) (b : Fin 16) (t : Fin 2048) (j : Fin 3080) :
    rY A4 H (ix3 b t j) = ∑ k : Fin 1024, H (ix3 b t k) * A4 (ix2 k j) := by
  pointwise [rY]

section Parts

variable (Y : Vec Ideal S16x2048x3080 .f32) (b : Fin 16)

theorem rQ_at (t : Fin 2048) (j : Fin 512) :
    rQ Y (ix3 b t j) = Y (ix3 b t ⟨j, by omega⟩) * ((scaleR : ℝ) : EReal) := by
  rw [← scale_eq, ← lit_eighth, ← log_two]
  pointwise [rQ]
  rfl

theorem rM_q (t : Fin 2048) (j : Fin 512) : rM Y (ix3 b t (⟨j, by omega⟩ : Fin 3072)) = rQ Y (ix3 b t j) := by
  unfold rM
  generalize rQ Y = Q
  pointwise []
theorem rM_k (t : Fin 2048) (j : Fin 512) : rM Y (ix3 b t (⟨512 + j, by omega⟩ : Fin 3072)) = Y (ix3 b t ⟨512 + j, by omega⟩) := by
  pointwise [rM]
theorem rM_v (t : Fin 2048) (j : Fin 512) : rM Y (ix3 b t (⟨1024 + j, by omega⟩ : Fin 3072)) = Y (ix3 b t ⟨1024 + j, by omega⟩) := by
  pointwise [rM]
  rw [dif_neg (by omega), dif_neg (by omega), dif_pos (by omega)]
  refine congrArg (fun i : Fin 3080 => Y (ix3 b t i)) (Fin.ext ?_)
  show 1024 + (1024 + (j : ℕ) - 512 - 512) = 1024 + (j : ℕ)
  omega
theorem rM_z (t : Fin 2048) (j : Fin 512) : rM Y (ix3 b t (⟨1536 + j, by omega⟩ : Fin 3072)) = Y (ix3 b t ⟨1536 + j, by omega⟩) := by
  pointwise [rM]
  rw [dif_neg (by omega), dif_neg (by omega), dif_neg (by omega), dif_pos (by omega)]
  refine congrArg (fun i : Fin 3080 => Y (ix3 b t i)) (Fin.ext ?_)
  show 1536 + (1536 + (j : ℕ) - 512 - 512 - 512) = 1536 + (j : ℕ)
  omega
theorem rM_x (t : Fin 2048) (j : Fin 1024) : rM Y (ix3 b t (⟨2048 + j, by omega⟩ : Fin 3072)) = Y (ix3 b t ⟨2048 + j, by omega⟩) := by
  pointwise [rM]
  rw [dif_neg (by omega), dif_neg (by omega), dif_neg (by omega), dif_neg (by omega)]
  refine congrArg (fun i : Fin 3080 => Y (ix3 b t i)) (Fin.ext ?_)
  show 2048 + (2048 + (j : ℕ) - 512 - 512 - 512 - 512) = 2048 + (j : ℕ)
  omega

theorem rD_low (t : Fin 2048) (j : Fin 8) : rD Y (ix3 b t (⟨j, by omega⟩ : Fin 128)) = Y (ix3 b t ⟨3072 + j, by omega⟩) := by
  pointwise [rD]
theorem rD_high (t : Fin 2048) (j : Fin 120) : rD Y (ix3 b t (⟨8 + j, by omega⟩ : Fin 128)) = 0 := by
  pointwise [rD]

theorem rK_at (i j : Fin 512) : rK Y (ix3 b i j) = Y (ix3 b ⟨1536 + i, by omega⟩ ⟨512 + j, by omega⟩) := by
  pointwise [rK]
theorem rV_at (i j : Fin 512) : rV Y (ix3 b i j) = Y (ix3 b ⟨1536 + i, by omega⟩ ⟨1024 + j, by omega⟩) := by
  pointwise [rV]
theorem rT_at (i : Fin 8) (j : Fin 1024) : rT Y (ix3 b i j) = Y (ix3 b ⟨2040 + i, by omega⟩ ⟨2048 + j, by omega⟩) := by
  pointwise [rT]

/-- A column of the first 3072 past the queries. -/
theorem rM_high (t : Fin 2048) (j : Fin 3072) (hj : ¬ (j : ℕ) < 512) : rM Y (ix3 b t j) = Y (ix3 b t ⟨j, by omega⟩) := by
  have go : ∀ (o : ℕ) (i : ℕ) (h : o + i = j) (h1 : o + i < 3072),
      rM Y (ix3 b t (⟨o + i, h1⟩ : Fin 3072)) = Y (ix3 b t (⟨o + i, by omega⟩ : Fin 3080)) →
      rM Y (ix3 b t j) = Y (ix3 b t ⟨j, by omega⟩) := by
    intro o i h h1 e
    obtain rfl : j = ⟨o + i, h1⟩ := Fin.ext h.symm
    exact e
  by_cases h1 : (j : ℕ) < 1024
  · exact go 512 (j - 512) (by omega) (by omega) (rM_k Y b t ⟨j - 512, by omega⟩)
  by_cases h2 : (j : ℕ) < 1536
  · exact go 1024 (j - 1024) (by omega) (by omega) (rM_v Y b t ⟨j - 1024, by omega⟩)
  by_cases h3 : (j : ℕ) < 2048
  · exact go 1536 (j - 1536) (by omega) (by omega) (rM_z Y b t ⟨j - 1536, by omega⟩)
  · exact go 2048 (j - 2048) (by omega) (by omega) (rM_x Y b t ⟨j - 2048, by omega⟩)

end Parts

/-- The normalised rows of a sequence. -/
abbrev hS (b : Fin 16) (t : Fin 2048) : Fin 1024 → EReal :=
  hRow (fun c => A0 (ix3 b t c)) (fun c => A3 (ix2 (0 : Fin 1) c)) (fun c => A1 (ix3 b (0 : Fin 1) c))
    (fun c => A2 (ix3 b (0 : Fin 1) c))

/-- The projection at an index. -/
theorem proj_at (b : Fin 16) (t : Fin 2048) (j : Fin 3200) (hj : (j : ℕ) < 3080) :
    rY A4 (rH A0 A1 A2 A3) (ix3 b t (⟨j, hj⟩ : Fin 3080)) = inRow (hS A0 A1 A2 A3 b t) (padW fun k j => A4 (ix2 k j)) j := by
  rw [rY_at, inRow_proper _ _ j hj]
  exact Finset.sum_congr rfl fun k _ => congrArg (· * A4 (ix2 k ⟨j, hj⟩)) (rH_at A0 A1 A2 A3 b t k)

/-- The first result at an index. -/
theorem main_at (b : Fin 16) (t : Fin 2048) (j : Fin 3072) :
    rM (rY A4 (rH A0 A1 A2 A3)) (ix3 b t j) = mainRow (hS A0 A1 A2 A3 b t) (padW fun k j => A4 (ix2 k j)) j := by
  by_cases hj : (j : ℕ) < 512
  · rw [mainRow_low _ _ j hj]
    refine (rM_q _ b t ⟨j, hj⟩).trans ((rQ_at _ b t ⟨j, hj⟩).trans (congrArg (· * ((scaleR : ℝ) : EReal)) ?_))
    exact proj_at A0 A1 A2 A3 A4 b t ⟨j, by omega⟩ (by show (j : ℕ) < 3080; omega)
  · rw [mainRow_high _ _ j hj]
    refine (rM_high _ b t j hj).trans ?_
    exact proj_at A0 A1 A2 A3 A4 b t ⟨j, by omega⟩ (by show (j : ℕ) < 3080; omega)

/-- The second result at an index. -/
theorem dt_at (b : Fin 16) (t : Fin 2048) (j : Fin 128) :
    rD (rY A4 (rH A0 A1 A2 A3)) (ix3 b t j)
      = inRow (hS A0 A1 A2 A3 b t) (padW fun k j => A4 (ix2 k j)) (⟨3072 + j, by omega⟩ : Fin 3200) := by
  by_cases hj : (j : ℕ) < 8
  · refine (rD_low _ b t ⟨j, hj⟩).trans ?_
    exact proj_at A0 A1 A2 A3 A4 b t ⟨3072 + j, by omega⟩ (by show 3072 + (j : ℕ) < 3080; omega)
  · rw [inRow_zero _ _ _ (by show ¬ 3072 + (j : ℕ) < 3080; omega)]
    refine Eq.trans ?_ (rD_high (rY A4 (rH A0 A1 A2 A3)) b t ⟨(j : ℕ) - 8, by omega⟩)
    congr 2
    exact Fin.ext (by show (j : ℕ) = 8 + ((j : ℕ) - 8); omega)

/-- The run's first result is the staged term. -/
theorem main_eq (m : (ℓ : Loc nD τ sig) → Buf (Elt Ideal) ℓ) (c : Dev nD) :
    Cert.Reference3Ideal.Value.res_main_v34 m c
      = rM (rY (m ((c.tc : Thread nD τ).loc main_arg4)) (rH (m ((c.tc : Thread nD τ).loc main_arg0)) (m ((c.tc : Thread nD τ).loc main_arg1))
          (m ((c.tc : Thread nD τ).loc main_arg2)) (m ((c.tc : Thread nD τ).loc main_arg3)))) := by
  unfold Cert.Reference3Ideal.Value.res_main_v34
  rfl

end Cert.Reference3Ideal.Cd

end
-- ==== Proof.CdClaim.lean ====
/- The in projection kernel's arrays beside the reference's, and the reference's arguments and counters. -/
module

public import proofs.«01_k».proof.Proof.CdArray
public import proofs.«01_k».proof.Proof.CdRef
public import Idealize.ShloMosaic.Lib.Claim
public import Idealize.ShloMosaic.Lib.Quiescent

@[expose] public section

set_option maxRecDepth 16384

noncomputable section

namespace Cert.Reference3Ideal.Cd

open Idealize.ShloMosaic Idealize.SL.Sem Cert.Reference3Ideal

/-- The reference leaves its arguments unchanged; it has no counters. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2.2.2.2.2, sem_eq_zero_of_no_sems (by decide) r.2⟩) (Value.run m ρ)

end Cert.Reference3Ideal.Cd

namespace Cert.Kernel3Ideal.Cd

open Cert.Kernel3Ideal Cert.Kernel3Ideal.Gen Idealize.ShloMosaic Idealize.SL.Sem Cert.Ffn Cert.Cd Idealize.ShloMosaic.TcCoe

open Cert.Reference3Ideal.Cd (rH rY rM rD rK rV rT main_at dt_at rK_at rV_at rT_at proj_at)

variable (m : (ℓ : Loc nD τ sig) → Buf (Elt Ideal) ℓ) (c : Dev nD)

/-- The reference's first result over the kernel's arguments. -/
theorem ref_main {A0 : Vec Ideal S16x2048x1024 .f32} {A1 A2 : Vec Ideal S16x1x1024 .f32} {A3 : Vec Ideal S1x1024 .f32}
    {A4 : Vec Ideal S1024x3080 .f32} (h0 : A0 = a0 m c) (h1 : A1 = a1 m c) (h2 : A2 = a2 m c) (h3 : A3 = a3 m c) (h4 : A4 = a4 m c) :
    rM (rY A4 (rH A0 A1 A2 A3)) = mainArr m c := by
  funext i
  obtain ⟨b, t, k, rfl⟩ : ∃ (b : Fin 16) (t : Fin 2048) (k : Fin 3072), i = ix3 b t k := ⟨i 0, i 1, i 2, eq_ix3 i⟩
  subst h0 h1 h2 h3 h4
  exact main_at _ _ _ _ _ b t k

/-- The reference's second result over the kernel's arguments. -/
theorem ref_dt {A0 : Vec Ideal S16x2048x1024 .f32} {A1 A2 : Vec Ideal S16x1x1024 .f32} {A3 : Vec Ideal S1x1024 .f32}
    {A4 : Vec Ideal S1024x3080 .f32} (h0 : A0 = a0 m c) (h1 : A1 = a1 m c) (h2 : A2 = a2 m c) (h3 : A3 = a3 m c) (h4 : A4 = a4 m c) :
    rD (rY A4 (rH A0 A1 A2 A3)) = dtArr m c := by
  funext i
  obtain ⟨b, t, k, rfl⟩ : ∃ (b : Fin 16) (t : Fin 2048) (k : Fin 128), i = ix3 b t k := ⟨i 0, i 1, i 2, eq_ix3 i⟩
  subst h0 h1 h2 h3 h4
  exact dt_at _ _ _ _ _ b t k

/-- The reference's third result over the kernel's arguments. -/
theorem ref_keys {A0 : Vec Ideal S16x2048x1024 .f32} {A1 A2 : Vec Ideal S16x1x1024 .f32} {A3 : Vec Ideal S1x1024 .f32}
    {A4 : Vec Ideal S1024x3080 .f32} (h0 : A0 = a0 m c) (h1 : A1 = a1 m c) (h2 : A2 = a2 m c) (h3 : A3 = a3 m c) (h4 : A4 = a4 m c) :
    rK (rY A4 (rH A0 A1 A2 A3)) = endArr m c 512 (by omega) := by
  funext i
  obtain ⟨b, t, k, rfl⟩ : ∃ (b : Fin 16) (t : Fin 512) (k : Fin 512), i = ix3 b t k := ⟨i 0, i 1, i 2, eq_ix3 i⟩
  subst h0 h1 h2 h3 h4
  exact (rK_at _ b t k).trans (proj_at _ _ _ _ _ b ⟨1536 + t, by omega⟩ ⟨512 + k, by omega⟩ (by show 512 + (k : ℕ) < 3080; omega))

/-- The reference's fourth result over the kernel's arguments. -/
theorem ref_values {A0 : Vec Ideal S16x2048x1024 .f32} {A1 A2 : Vec Ideal S16x1x1024 .f32} {A3 : Vec Ideal S1x1024 .f32}
    {A4 : Vec Ideal S1024x3080 .f32} (h0 : A0 = a0 m c) (h1 : A1 = a1 m c) (h2 : A2 = a2 m c) (h3 : A3 = a3 m c) (h4 : A4 = a4 m c) :
    rV (rY A4 (rH A0 A1 A2 A3)) = endArr m c 1024 (by omega) := by
  funext i
  obtain ⟨b, t, k, rfl⟩ : ∃ (b : Fin 16) (t : Fin 512) (k : Fin 512), i = ix3 b t k := ⟨i 0, i 1, i 2, eq_ix3 i⟩
  subst h0 h1 h2 h3 h4
  exact (rV_at _ b t k).trans (proj_at _ _ _ _ _ b ⟨1536 + t, by omega⟩ ⟨1024 + k, by omega⟩ (by show 1024 + (k : ℕ) < 3080; omega))

/-- The reference's fifth result over the kernel's arguments. -/
theorem ref_tail {A0 : Vec Ideal S16x2048x1024 .f32} {A1 A2 : Vec Ideal S16x1x1024 .f32} {A3 : Vec Ideal S1x1024 .f32}
    {A4 : Vec Ideal S1024x3080 .f32} (h0 : A0 = a0 m c) (h1 : A1 = a1 m c) (h2 : A2 = a2 m c) (h3 : A3 = a3 m c) (h4 : A4 = a4 m c) :
    rT (rY A4 (rH A0 A1 A2 A3)) = tailArr m c := by
  funext i
  obtain ⟨b, t, k, rfl⟩ : ∃ (b : Fin 16) (t : Fin 8) (k : Fin 1024), i = ix3 b t k := ⟨i 0, i 1, i 2, eq_ix3 i⟩
  subst h0 h1 h2 h3 h4
  exact (rT_at _ b t k).trans (proj_at _ _ _ _ _ b ⟨2040 + t, by omega⟩ ⟨2048 + k, by omega⟩ (by show 2048 + (k : ℕ) < 3080; omega))

end Cert.Kernel3Ideal.Cd

end
-- ==== Proof.AbRun.lean ====
/- One step of the first layer's in projection kernel: its body's run on whole staging buffers. -/
module

public import proofs.«01_k».proof.Proof.Gen.Kernel4Ideal.Frame
public import proofs.«01_k».proof.Proof.Gen.Kernel4Ideal.Skeleton

@[expose] public section

set_option maxRecDepth 16384

noncomputable section

namespace Cert.Kernel4Ideal.Ab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

set_option maxHeartbeats 1000000 in
/-- What a step's stores leave in its three output buffers, as lists of pieces, the last first, with the proof that the
    body, on whole input buffers at `x0`, …, `x6` and on output buffers at anything, ends with the inputs as they were
    and each output with its pieces written. The second and the third output are stored one head at a time, at every
    fourth row. -/
noncomputable def stepRun (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3584 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1024x3584 .bf16) (harg9 : arg9.IsWhole) (arg10 : Memref sig .tc .vmem S1x4096x128 .f32) (harg10 : arg10.IsWhole) (arg11 : Memref sig .tc .vmem S1x4096x128 .f32) (harg11 : arg11.IsWhole)
    (x0 : Vec F S1x1024x1024 .f32) (x1 : Vec F S1x1024 .f32) (x2 : Vec F S1x1x1024 .f32) (x3 : Vec F S1x1x1024 .f32) (x4 : Vec F S1024x3584 .bf16) (x5 : Vec F S1024x128 .f32) (x6 : Vec F S1024x128 .f32) :
    Σ' (L7 : List (View.Piece (Elt F) S1x1024x3584 .bf16)), Σ' (L8 : List (View.Piece (Elt F) S1x4096x128 .f32)), { L9 : List (View.Piece (Elt F) S1x4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0_inproj_ab i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_inproj_ab_eq_skeleton]; unfold cc0_inproj_ab_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact H9

end Cert.Kernel4Ideal.Ab

end
-- ==== Proof.AbFrame.lean ====
/- The first layer's in projection: its steps and its whole run, at any number format. -/
module

public import proofs.«01_k».proof.Proof.AbRun
public import Idealize.ShloMosaic.Lib.Claim

@[expose] public section

set_option maxRecDepth 16384

noncomputable section

namespace Cert.Kernel4Ideal.Ab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A staging buffer of the projection's output, through which its contents are read. -/
abbrev VO_7 : View sig .tc .vmem S1x1024x3584 .bf16 := (Memref.whole cc0_stg7_0 : Memref sig .tc .vmem S1x1024x3584 .bf16).view
/-- A staging buffer of the keys. -/
abbrev VO_8 : View sig .tc .vmem S1x4096x128 .f32 := (Memref.whole cc0_stg8_0 : Memref sig .tc .vmem S1x4096x128 .f32).view
/-- A staging buffer of the values. -/
abbrev VO_9 : View sig .tc .vmem S1x4096x128 .f32 := (Memref.whole cc0_stg9_0 : Memref sig .tc .vmem S1x4096x128 .f32).view
/-- The staging buffers a step works on. -/
abbrev ms_0 (t : Fin cfg0.N) : Memref sig .tc .vmem S1x1024x1024 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x1024 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1x1024 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x1x1024 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1024x3584 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1024x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1024x128 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x1024x3584 .bf16 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1x4096x128 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x4096x128 .f32 := win0_9.stage (cfg0.slots t 9)
abbrev hs_9 (t : Fin cfg0.N) : (ms_9 t).IsWhole := hstage0_9 ((cfg0.slots t 9).cast nbuf0_9)

/-! ## A head's rows -/

/-- Every fourth row of a block of 4096, from row `h` on: where a step stores head `h`. -/
def headRows (h : Fin 4) : Rect S1x4096x128 :=
  ⟨⟨![0, h.val, 0], S1x1024x128.size, ![1, 4, 1],
    (by decide +kernel : ∀ h : Fin 4, ∀ a : Fin 3, S1x1024x128.size a = 0 ∨
      (![0, h.val, 0] : Fin 3 → ℕ) a + (![1, 4, 1] : Fin 3 → ℕ) a * (S1x1024x128.size a - 1) < S1x4096x128.size a) h⟩,
    (by decide : ∀ a : Fin 3, 0 < (![1, 4, 1] : Fin 3 → ℕ) a)⟩

/-- A row belongs to the head that its number leaves on division by four. -/
theorem mem_headRows (y : S1x4096x128.Idx) (h : Fin 4) (e : (y 1).val % 4 = h.val) : y ∈ (headRows h).set := by
  refine (LoadRect.mem_set _).2 fun a => ?_
  have h1 : (y 1).val < 4096 := (y 1).isLt
  have h2 : (y 2).val < 128 := (y 2).isLt
  have h0 : (y 0).val < 1 := (y 0).isLt
  match a with
  | ⟨0, _⟩ => exact ⟨0, (by decide : 0 < 1), by show (y 0).val = 0 + 1 * 0; omega⟩
  | ⟨1, _⟩ => exact ⟨(y 1).val / 4, by show (y 1).val / 4 < 1024; omega, by show (y 1).val = h.val + 4 * ((y 1).val / 4); omega⟩
  | ⟨2, _⟩ => exact ⟨(y 2).val, h2, by show (y 2).val = 0 + 1 * (y 2).val; omega⟩

/-- Four pieces, one per head. -/
abbrev headPieces (w0 w1 w2 w3 : Vec F S1x1024x128 .f32) : List (View.Piece (Elt F) S1x4096x128 .f32) :=
  [⟨headRows 3, w3⟩, ⟨headRows 2, w2⟩, ⟨headRows 1, w1⟩, ⟨headRows 0, w0⟩]

/-- The four heads' pieces cover the block. -/
theorem cover_headPieces (w0 w1 w2 w3 : Vec F S1x1024x128 .f32) (y : S1x4096x128.Idx) :
    ∃ pc ∈ headPieces w0 w1 w2 w3, y ∈ pc.1.set := by
  have h4 : (y 1).val % 4 < 4 := Nat.mod_lt _ (by decide)
  obtain h | h | h | h : (y 1).val % 4 = 0 ∨ (y 1).val % 4 = 1 ∨ (y 1).val % 4 = 2 ∨ (y 1).val % 4 = 3 := by omega
  · exact ⟨⟨headRows 0, w0⟩, by simp [headPieces], mem_headRows y 0 h⟩
  · exact ⟨⟨headRows 1, w1⟩, by simp [headPieces], mem_headRows y 1 h⟩
  · exact ⟨⟨headRows 2, w2⟩, by simp [headPieces], mem_headRows y 2 h⟩
  · exact ⟨⟨headRows 3, w3⟩, by simp [headPieces], mem_headRows y 3 h⟩

/-! ## One step -/

/-- The stores of the projection's output cover its block. -/
theorem cover_7 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3584 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1024x3584 .bf16) (harg9 : arg9.IsWhole) (arg10 : Memref sig .tc .vmem S1x4096x128 .f32) (harg10 : arg10.IsWhole) (arg11 : Memref sig .tc .vmem S1x4096x128 .f32) (harg11 : arg11.IsWhole)
    (x0 : Vec F S1x1024x1024 .f32) (x1 : Vec F S1x1024 .f32) (x2 : Vec F S1x1x1024 .f32) (x3 : Vec F S1x1x1024 .f32) (x4 : Vec F S1024x3584 .bf16) (x5 : Vec F S1024x128 .f32) (x6 : Vec F S1024x128 .f32) (y : S1x1024x3584.Idx) :
    ∃ pc ∈ (stepRun c i arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledBy (stepRun c i arg2 harg2 arg3 harg3 arg4 harg4 arg5 harg5 arg6 harg6 arg7 harg7 arg8 harg8 arg9 harg9 arg10 harg10 arg11 harg11 x0 x1 x2 x3 x4 x5 x6).1 ![1, 1024, 128] (by sl_kernel_rfl) y

/-- The projection's output after a step. -/
def out_7 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3584 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1024x3584 .bf16) (harg9 : arg9.IsWhole) (arg10 : Memref sig .tc .vmem S1x4096x128 .f32) (harg10 : arg10.IsWhole) (arg11 : Memref sig .tc .vmem S1x4096x128 .f32) (harg11 : arg11.IsWhole)
    (x0 : Vec F S1x1024x1024 .f32) (x1 : Vec F S1x1024 .f32) (x2 : Vec F S1x1x1024 .f32) (x3 : Vec F S1x1x1024 .f32) (x4 : Vec F S1024x3584 .bf16) (x5 : Vec F S1024x128 .f32) (x6 : Vec F S1024x128 .f32) : Vec F S1x1024x3584 .bf16 :=
  VO_7.read (Elt F) (VO_7.writes (Elt F) VO_7.junk (stepRun c i arg2 harg2 arg3 harg3 arg4 harg4 arg5 harg5 arg6 harg6 arg7 harg7 arg8 harg8 arg9 harg9 arg10 harg10 arg11 harg11 x0 x1 x2 x3 x4 x5 x6).1)

/-- The stores of the keys cover their block. -/
theorem cover_8 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3584 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1024x3584 .bf16) (harg9 : arg9.IsWhole) (arg10 : Memref sig .tc .vmem S1x4096x128 .f32) (harg10 : arg10.IsWhole) (arg11 : Memref sig .tc .vmem S1x4096x128 .f32) (harg11 : arg11.IsWhole)
    (x0 : Vec F S1x1024x1024 .f32) (x1 : Vec F S1x1024 .f32) (x2 : Vec F S1x1x1024 .f32) (x3 : Vec F S1x1x1024 .f32) (x4 : Vec F S1024x3584 .bf16) (x5 : Vec F S1024x128 .f32) (x6 : Vec F S1024x128 .f32) (y : S1x4096x128.Idx) :
    ∃ pc ∈ (stepRun c i arg2 harg2 arg3 harg3 arg4 harg4 arg5 harg5 arg6 harg6 arg7 harg7 arg8 harg8 arg9 harg9 arg10 harg10 arg11 harg11 x0 x1 x2 x3 x4 x5 x6).2.1, y ∈ pc.1.set :=
  cover_headPieces _ _ _ _ y

/-- The keys after a step. -/
def out_8 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3584 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1024x3584 .bf16) (harg9 : arg9.IsWhole) (arg10 : Memref sig .tc .vmem S1x4096x128 .f32) (harg10 : arg10.IsWhole) (arg11 : Memref sig .tc .vmem S1x4096x128 .f32) (harg11 : arg11.IsWhole)
    (x0 : Vec F S1x1024x1024 .f32) (x1 : Vec F S1x1024 .f32) (x2 : Vec F S1x1x1024 .f32) (x3 : Vec F S1x1x1024 .f32) (x4 : Vec F S1024x3584 .bf16) (x5 : Vec F S1024x128 .f32) (x6 : Vec F S1024x128 .f32) : Vec F S1x4096x128 .f32 :=
  VO_8.read (Elt F) (VO_8.writes (Elt F) VO_8.junk (stepRun c i arg2 harg2 arg3 harg3 arg4 harg4 arg5 harg5 arg6 harg6 arg7 harg7 arg8 harg8 arg9 harg9 arg10 harg10 arg11 harg11 x0 x1 x2 x3 x4 x5 x6).2.1)

/-- The stores of the values cover their block. -/
theorem cover_9 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3584 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1024x3584 .bf16) (harg9 : arg9.IsWhole) (arg10 : Memref sig .tc .vmem S1x4096x128 .f32) (harg10 : arg10.IsWhole) (arg11 : Memref sig .tc .vmem S1x4096x128 .f32) (harg11 : arg11.IsWhole)
    (x0 : Vec F S1x1024x1024 .f32) (x1 : Vec F S1x1024 .f32) (x2 : Vec F S1x1x1024 .f32) (x3 : Vec F S1x1x1024 .f32) (x4 : Vec F S1024x3584 .bf16) (x5 : Vec F S1024x128 .f32) (x6 : Vec F S1024x128 .f32) (y : S1x4096x128.Idx) :
    ∃ pc ∈ (stepRun c i arg2 harg2 arg3 harg3 arg4 harg4 arg5 harg5 arg6 harg6 arg7 harg7 arg8 harg8 arg9 harg9 arg10 harg10 arg11 harg11 x0 x1 x2 x3 x4 x5 x6).2.2.1, y ∈ pc.1.set :=
  cover_headPieces _ _ _ _ y

/-- The values after a step. -/
def out_9 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3584 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1024x3584 .bf16) (harg9 : arg9.IsWhole) (arg10 : Memref sig .tc .vmem S1x4096x128 .f32) (harg10 : arg10.IsWhole) (arg11 : Memref sig .tc .vmem S1x4096x128 .f32) (harg11 : arg11.IsWhole)
    (x0 : Vec F S1x1024x1024 .f32) (x1 : Vec F S1x1024 .f32) (x2 : Vec F S1x1x1024 .f32) (x3 : Vec F S1x1x1024 .f32) (x4 : Vec F S1024x3584 .bf16) (x5 : Vec F S1024x128 .f32) (x6 : Vec F S1024x128 .f32) : Vec F S1x4096x128 .f32 :=
  VO_9.read (Elt F) (VO_9.writes (Elt F) VO_9.junk (stepRun c i arg2 harg2 arg3 harg3 arg4 harg4 arg5 harg5 arg6 harg6 arg7 harg7 arg8 harg8 arg9 harg9 arg10 harg10 arg11 harg11 x0 x1 x2 x3 x4 x5 x6).2.2.1)

/-! ## What the outputs hold after each point -/

/-- What the three output buffers hold after the step at point `t`. -/
def outsAt (c : Dev nD) (t : Fin cfg0.N) : Vec F S1x1024x3584 .bf16 × Vec F S1x4096x128 .f32 × Vec F S1x4096x128 .f32 :=
  (out_7 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (iblk m c 0 t) (iblk m c 1 t) (iblk m c 2 t) (iblk m c 3 t) (iblk m c 4 t) (iblk m c 5 t) (iblk m c 6 t), out_8 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (iblk m c 0 t) (iblk m c 1 t) (iblk m c 2 t) (iblk m c 3 t) (iblk m c 4 t) (iblk m c 5 t) (iblk m c 6 t), out_9 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (iblk m c 0 t) (iblk m c 1 t) (iblk m c 2 t) (iblk m c 3 t) (iblk m c 4 t) (iblk m c 5 t) (iblk m c 6 t))

/-! ## The pipeline's proof data -/

/-- The pipeline's data: its arrays as the host leaves them, each input's buffer at its block, each output's at what the step leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t).1
    | ⟨8, _⟩ => (outsAt m c t).2.1
    | ⟨9, _⟩ => (outsAt m c t).2.2
  Φ _ := Pipeline.ΦA spec0 c
  q _ := fullShare
  owed _ := 0

/-- The arrays the pipeline starts from. -/
theorem A_eq (c : Dev nD) (w : Fin cfg0.W) : (dats m 0 c).A w = V m c (Pipeline.arrRef spec0 w) := by
  dsimp only [dats]

/-- What each window's buffer holds after a step. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (outsAt m c t).1 := by dsimp only [dats]
theorem after_8 (c : Dev nD) (t : Fin cfg0.N) : (dats m 0 c).after 8 t = (outsAt m c t).2.1 := by dsimp only [dats]
theorem after_9 (c : Dev nD) (t : Fin cfg0.N) : (dats m 0 c).after 9 t = (outsAt m c t).2.2 := by dsimp only [dats]

/-- Each input's buffer holds its block before a step. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body obligation, at a generic point -/

/-- What a step is given. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d)))

/-- What a step leaves. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t))

set_option maxHeartbeats 800000 in
/-- Every step takes what it is given to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  unfold outsAt
  unfold out_7 out_8 out_9; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((stepRun c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover_7 c _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover_8 c _ _ _ _ _ _ _ _ _ _ _ _ _ _ _ _ _ _ _ _ _ _ _ _ _ _ _ _)
  unfold owns; iexists _; isplitr
  swap; · iexact H9
  ipureintro; exact View.read_writes_of_cover _ _ _ _ _ (cover_9 c _ _ _ _ _ _ _ _ _ _ _ _ _ _ _ _ _ _ _ _ _ _ _ _ _ _ _ _)

/-- The step as the pipeline calls it. -/
theorem defs₀_row (t : Fin cfg0.N) :
    defs₀ (F := F) .tc cfg0.body (cfg0.bodyArgs t (cfg0.slots t)) = bodyAt0 t := by
  unfold defs₀; rw [Defs.onTc_tc]

/-- Every step is as the pipeline asks. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole program runs, and ends with no semaphore held. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole program runs. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The arguments end as they were, with no semaphore held. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- After the run each output array is what the pipeline writes, and the arguments are as they were. -/
theorem run_blocks : θ_run defs (onTc (τ := τ) (main (F := F))) ⟨m, fun _ => 0, ρ⟩ fun r => ∀ c : Dev nD,
      r.2.mem ((c : Thread nD τ).loc main_v19_0) = (dats m 0 c).arrAt 7 cfg0.N
      ∧ r.2.mem ((c : Thread nD τ).loc main_v19_1) = (dats m 0 c).arrAt 8 cfg0.N
      ∧ r.2.mem ((c : Thread nD τ).loc main_v19_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1 7, (h c).1 8, (h c).1 9,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c)⟩)
    (run_main m ρ)

end Cert.Kernel4Ideal.Ab

end
-- ==== Proof.AbTile.lean ====
/- The first layer's in projection: its payloads at an index, and the keys and values a step leaves. -/
module

public import proofs.«01_k».proof.Proof.AbFrame
public import proofs.«01_k».proof.Proof.FfnRow
public import Idealize.ShloMosaic.Lib.Pipeline.ValueKit
public import Idealize.ShloMosaic.Lib.Pipeline.ReadBack

@[expose] public section

set_option maxRecDepth 16384

noncomputable section

namespace Cert.Kernel4Ideal.Ab

open Cert.Kernel4Ideal Cert.Kernel4Ideal.Gen Idealize.ShloMosaic Idealize.SL.Sem Cert.Ffn

/-- The normalised row's payload at an index. -/
theorem pay4_at (x : Vec Ideal S1x1024x1024 .f32) (n : Vec Ideal S1x1024 .f32) (sc sh : Vec Ideal S1x1x1024 .f32)
    (r c : Fin 1024) :
    k0_pay4 (F := Ideal) x n sc sh (ix2 r c)
      = hRow (fun c => x (ix3 (0 : Fin 1) r c)) (fun c => n (ix2 (0 : Fin 1) c)) (fun c => sc (ix3 (0 : Fin 1) (0 : Fin 1) c))
          (fun c => sh (ix3 (0 : Fin 1) (0 : Fin 1) c)) c := by
  unfold hRow
  pointwise [k0_pay4]

section Products

variable (h : FVec Ideal S1024x1024 .bf16) (w : Vec Ideal S1024x512 .bf16) (r : Fin 1024) (j : Fin 128)

theorem pay26_at : k0_pay26 (F := Ideal) (k0_pay25 h w) (ix3 (0 : Fin 1) r j)
    = ∑ k : Fin 1024, h (ix2 r k) * w (ix2 k (⟨128 * 0 + j, by omega⟩ : Fin 512)) := by
  pointwise [k0_pay26, k0_pay25, k0_pay24]
theorem pay27_at : k0_pay27 (F := Ideal) (k0_pay24 h w) (ix3 (0 : Fin 1) r j)
    = ∑ k : Fin 1024, h (ix2 r k) * w (ix2 k (⟨128 * 1 + j, by omega⟩ : Fin 512)) := by
  pointwise [k0_pay27, k0_pay24]
theorem pay28_at : k0_pay28 (F := Ideal) (k0_pay24 h w) (ix3 (0 : Fin 1) r j)
    = ∑ k : Fin 1024, h (ix2 r k) * w (ix2 k (⟨128 * 2 + j, by omega⟩ : Fin 512)) := by
  pointwise [k0_pay28, k0_pay24]
theorem pay29_at : k0_pay29 (F := Ideal) (k0_pay24 h w) (ix3 (0 : Fin 1) r j)
    = ∑ k : Fin 1024, h (ix2 r k) * w (ix2 k (⟨128 * 3 + j, by omega⟩ : Fin 512)) := by
  pointwise [k0_pay29, k0_pay24]
theorem pay32_at : k0_pay32 (F := Ideal) h w (ix3 (0 : Fin 1) r j)
    = ∑ k : Fin 1024, h (ix2 r k) * w (ix2 k (⟨128 * 0 + j, by omega⟩ : Fin 512)) := by
  pointwise [k0_pay32, k0_pay31]
theorem pay33_at : k0_pay33 (F := Ideal) h w (ix3 (0 : Fin 1) r j)
    = ∑ k : Fin 1024, h (ix2 r k) * w (ix2 k (⟨128 * 1 + j, by omega⟩ : Fin 512)) := by
  pointwise [k0_pay33, k0_pay31]
theorem pay1_at : k0_pay1 (F := Ideal) (k0_pay31 h w) (ix3 (0 : Fin 1) r j)
    = ∑ k : Fin 1024, h (ix2 r k) * w (ix2 k (⟨128 * 2 + j, by omega⟩ : Fin 512)) := by
  pointwise [k0_pay1, k0_pay31]
theorem pay2_at : k0_pay2 (F := Ideal) (k0_pay31 h w) (ix3 (0 : Fin 1) r j)
    = ∑ k : Fin 1024, h (ix2 r k) * w (ix2 k (⟨128 * 3 + j, by omega⟩ : Fin 512)) := by
  pointwise [k0_pay2, k0_pay31]

end Products

/-- A block of 512 columns of the weights, from column `o`. -/
theorem ldw (x : Vec Ideal S1024x3584 .bf16) (o : ℕ)
    (inb : ∀ i, (![0, o] : Fin 2 → ℕ) i + (![1024, 512] : Fin 2 → ℕ) i ≤ S1024x3584.size i) (k : Fin 1024) (j : Fin 512)
    (h : o + (j : ℕ) < 3584) :
    View.ld x (Rect.unit (s := S1024x3584) ![0, o] ![1024, 512] inb) (ix2 k j) = x (ix2 k (⟨o + j, h⟩ : Fin 3584)) := by
  refine congrArg x ?_
  funext i
  match i with
  | 0 => exact Fin.ext (by show 0 + 1 * (k : ℕ) = k; omega)
  | 1 => exact Fin.ext (by show o + 1 * (j : ℕ) = o + j; omega)

/-- A column of the projection of a row. -/
def prRow (h : Fin 1024 → EReal) (W : Fin 1024 → Fin 3584 → EReal) (j : Fin 3584) : EReal := ∑ k : Fin 1024, h k * W k j

section Step

variable (x0 : Vec Ideal S1x1024x1024 .f32) (x1 : Vec Ideal S1x1024 .f32) (x2 x3 : Vec Ideal S1x1x1024 .f32)
  (x4 : Vec Ideal S1024x3584 .bf16)

/-- A step's normalised row. -/
def hT (r : Fin 1024) : Fin 1024 → EReal :=
  hRow (fun c => x0 (ix3 (0 : Fin 1) r c)) (fun c => x1 (ix2 (0 : Fin 1) c)) (fun c => x2 (ix3 (0 : Fin 1) (0 : Fin 1) c))
    (fun c => x3 (ix3 (0 : Fin 1) (0 : Fin 1) c))

/-- The weights of a step. -/
def wT (k : Fin 1024) (j : Fin 3584) : EReal := x4 (ix2 k j)

/-- Four heads' columns from `o` on, a sequence row's heads one after the other. -/
def headT (o : ℕ) (ho : o + 512 ≤ 3584) : S1x4096x128.Idx → EReal := fun y =>
  prRow (hT x0 x1 x2 x3 (⟨(y 1).val / 4, by have h : (y 1).val < 4096 := (y 1).isLt; omega⟩ : Fin 1024)) (wT x4)
    (⟨o + (128 * ((y 1).val % 4) + (y 2).val), by have h : (y 2).val < 128 := (y 2).isLt; omega⟩ : Fin 3584)

/-- One head's stored rows. -/
theorem head_piece (o : ℕ) (ho : o + 512 ≤ 3584)
    (inw : ∀ i, (![0, o] : Fin 2 → ℕ) i + (![1024, 512] : Fin 2 → ℕ) i ≤ S1024x3584.size i)
    (h : Fin 4) (P : FVec Ideal S1x1024x128 .f32)
    (hP : ∀ (r : Fin 1024) (j : Fin 128), P (ix3 (0 : Fin 1) r j)
      = ∑ k : Fin 1024, k0_pay4 (F := Ideal) x0 x1 x2 x3 (ix2 r k)
          * View.ld x4 (Rect.unit (s := S1024x3584) ![0, o] ![1024, 512] inw) (ix2 k (⟨128 * h.val + j, by omega⟩ : Fin 512)))
    (y : S1x1024x128.Idx) : P y = headT x0 x1 x2 x3 x4 o ho ((headRows h).emb y) := by
  obtain ⟨z, r, j, rfl⟩ : ∃ (z : Fin 1) (r : Fin 1024) (j : Fin 128), y = ix3 z r j := ⟨y 0, y 1, y 2, eq_ix3 y⟩
  obtain rfl : z = 0 := by omega
  rw [hP]
  have e : (headRows h).emb (ix3 (0 : Fin 1) r j)
      = (ix3 (0 : Fin 1) (⟨h.val + 4 * r, by omega⟩ : Fin 4096) j : S1x4096x128.Idx) := by
    funext a
    match a with
    | 0 => rfl
    | 1 => rfl
    | 2 => exact Fin.ext (by show 0 + 1 * (j : ℕ) = j; omega)
  rw [e]
  unfold headT prRow
  refine Finset.sum_congr rfl fun k _ => congrArg₂ (· * ·) ((pay4_at x0 x1 x2 x3 r k).trans ?_)
    ((ldw x4 o inw k _ (by show o + (128 * h.val + (j : ℕ)) < 3584; omega)).trans ?_)
  · refine congrArg (fun r => hT x0 x1 x2 x3 r k) (Fin.ext ?_)
    show (r : ℕ) = (h.val + 4 * (r : ℕ)) / 4
    omega
  · refine congrArg (wT x4 k) (Fin.ext ?_)
    show o + (128 * h.val + (j : ℕ)) = o + (128 * ((h.val + 4 * (r : ℕ)) % 4) + (j : ℕ))
    omega

variable (x5 x6 : Vec Ideal S1024x128 .f32)

/-- The keys a step leaves. -/
theorem out8_at (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3584 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1024x3584 .bf16) (harg9 : arg9.IsWhole) (arg10 : Memref sig .tc .vmem S1x4096x128 .f32) (harg10 : arg10.IsWhole) (arg11 : Memref sig .tc .vmem S1x4096x128 .f32) (harg11 : arg11.IsWhole)
    (y : S1x4096x128.Idx) :
    out_8 (F := Ideal) c i arg2 harg2 arg3 harg3 arg4 harg4 arg5 harg5 arg6 harg6 arg7 harg7 arg8 harg8 arg9 harg9 arg10 harg10 arg11 harg11 x0 x1 x2 x3 x4 x5 x6 y
      = headT x0 x1 x2 x3 x4 2560 (by omega) y := by
  have hc := cover_8 (F := Ideal) c i arg2 harg2 arg3 harg3 arg4 harg4 arg5 harg5 arg6 harg6 arg7 harg7 arg8 harg8 arg9 harg9 arg10 harg10 arg11 harg11 x0 x1 x2 x3 x4 x5 x6 y
  unfold out_8
  rw [View.read_writes_junk_eq_canon]
  refine View.canon_apply_of_pieces (Val := Elt Ideal) (e := .f32) (headT x0 x1 x2 x3 x4 2560 (by omega)) _ ?_ y hc
  clear hc
  frame_out
  refine View.PiecesOf.mem ⟨?_, ?_, ?_, ?_, trivial⟩
  · exact head_piece x0 x1 x2 x3 x4 2560 (by omega) inb_S1024x3584_S1024x512_0_2560 3 _ (pay29_at _ _)
  · exact head_piece x0 x1 x2 x3 x4 2560 (by omega) inb_S1024x3584_S1024x512_0_2560 2 _ (pay28_at _ _)
  · exact head_piece x0 x1 x2 x3 x4 2560 (by omega) inb_S1024x3584_S1024x512_0_2560 1 _ (pay27_at _ _)
  · exact head_piece x0 x1 x2 x3 x4 2560 (by omega) inb_S1024x3584_S1024x512_0_2560 0 _ (pay26_at _ _)

/-- The values a step leaves. -/
theorem out9_at (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3584 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1024x3584 .bf16) (harg9 : arg9.IsWhole) (arg10 : Memref sig .tc .vmem S1x4096x128 .f32) (harg10 : arg10.IsWhole) (arg11 : Memref sig .tc .vmem S1x4096x128 .f32) (harg11 : arg11.IsWhole)
    (y : S1x4096x128.Idx) :
    out_9 (F := Ideal) c i arg2 harg2 arg3 harg3 arg4 harg4 arg5 harg5 arg6 harg6 arg7 harg7 arg8 harg8 arg9 harg9 arg10 harg10 arg11 harg11 x0 x1 x2 x3 x4 x5 x6 y
      = headT x0 x1 x2 x3 x4 3072 (by omega) y := by
  have hc := cover_9 (F := Ideal) c i arg2 harg2 arg3 harg3 arg4 harg4 arg5 harg5 arg6 harg6 arg7 harg7 arg8 harg8 arg9 harg9 arg10 harg10 arg11 harg11 x0 x1 x2 x3 x4 x5 x6 y
  unfold out_9
  rw [View.read_writes_junk_eq_canon]
  refine View.canon_apply_of_pieces (Val := Elt Ideal) (e := .f32) (headT x0 x1 x2 x3 x4 3072 (by omega)) _ ?_ y hc
  clear hc
  frame_out
  refine View.PiecesOf.mem ⟨?_, ?_, ?_, ?_, trivial⟩
  · exact head_piece x0 x1 x2 x3 x4 3072 (by omega) inb_S1024x3584_S1024x512_0_3072 3 _ (pay2_at _ _)
  · exact head_piece x0 x1 x2 x3 x4 3072 (by omega) inb_S1024x3584_S1024x512_0_3072 2 _ (pay1_at _ _)
  · exact head_piece x0 x1 x2 x3 x4 3072 (by omega) inb_S1024x3584_S1024x512_0_3072 1 _ (pay33_at _ _)
  · exact head_piece x0 x1 x2 x3 x4 3072 (by omega) inb_S1024x3584_S1024x512_0_3072 0 _ (pay32_at _ _)

end Step

end Cert.Kernel4Ideal.Ab

end
-- ==== Proof.AbValue.lean ====
/- The first layer's in projection: its blocks at a step, and its arrays of keys and values. -/
module

public import proofs.«01_k».proof.Proof.AbTile

@[expose] public section

set_option maxRecDepth 16384

noncomputable section

namespace Cert.Kernel4Ideal.Ab

open Cert.Kernel4Ideal Cert.Kernel4Ideal.Gen Idealize.ShloMosaic Idealize.SL.Sem Cert.Ffn Idealize.ShloMosaic.TcCoe

variable (m : (ℓ : Loc nD τ sig) → Buf (Elt Ideal) ℓ) (c : Dev nD)

theorem idx0 : ∀ t : Fin cfg0.N, win0_0.index t = ![(t : ℕ) / 2, (t : ℕ) % 2, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(t : ℕ) / 2, 0, 0] := (by decide +kernel : ∀ t : Fin grid0.N, _)
theorem idx3 : ∀ t : Fin cfg0.N, win0_3.index t = ![(t : ℕ) / 2, 0, 0] := (by decide +kernel : ∀ t : Fin grid0.N, _)
theorem idx4 : ∀ t : Fin cfg0.N, win0_4.index t = ![0, 0] := (by decide +kernel : ∀ t : Fin grid0.N, _)
theorem idx8 : ∀ t : Fin cfg0.N, win0_8.index t = ![(t : ℕ) / 2, (t : ℕ) % 2, 0] := (by decide +kernel : ∀ t : Fin grid0.N, _)
theorem idx9 : ∀ t : Fin cfg0.N, win0_9.index t = ![(t : ℕ) / 2, (t : ℕ) % 2, 0] := (by decide +kernel : ∀ t : Fin grid0.N, _)

/-- The sequence of a step. -/
abbrev seqAt (t : Fin cfg0.N) : Fin 16 := ⟨(t : ℕ) / 2, by have := (show (t : ℕ) < 32 from t.isLt); omega⟩

/-- The row `r` of a step's part of its sequence. -/
abbrev rowAt (t : Fin cfg0.N) (r : Fin 1024) : Fin 2048 := ⟨1024 * ((t : ℕ) % 2) + r, by omega⟩

/-! The arguments by name. -/
abbrev a0 : Vec Ideal S16x2048x1024 .f32 := m ((c.tc : Thread nD τ).loc main_arg0)
abbrev a1 : Vec Ideal S16x1x1024 .f32 := m ((c.tc : Thread nD τ).loc main_arg1)
abbrev a2 : Vec Ideal S16x1x1024 .f32 := m ((c.tc : Thread nD τ).loc main_arg2)
abbrev a3 : Vec Ideal S1x1024 .f32 := m ((c.tc : Thread nD τ).loc main_arg3)
abbrev a4 : Vec Ideal S1024x3584 .f32 := m ((c.tc : Thread nD τ).loc main_arg4)

/-- The host's operand: the weights, rounded. -/
theorem host_w (k : Fin 1024) (j : Fin 3584) : (V m c main_v18 : Vec Ideal S1024x3584 .bf16) (ix2 k j) = a4 m c (ix2 k j) := by
  simp only [V, hostOps0, List.flatten_cons, List.flatten_nil, List.cons_append, List.nil_append, List.append_nil]
  entry_read
  rfl

/-! What the blocks hold at step `t`. -/

variable (t : Fin cfg0.N)

theorem x_blk (r k : Fin 1024) :
    (iblk m c 0 t : Vec Ideal S1x1024x1024 .f32) (ix3 0 r k) = a0 m c (ix3 (seqAt t) (rowAt t r) k) := by
  blk_simp [iblk]
  blk_ext [V, idx0 t]
theorem n_blk (k : Fin 1024) : (iblk m c 1 t : Vec Ideal S1x1024 .f32) (ix2 0 k) = a3 m c (ix2 0 k) := by
  blk_simp [iblk]
  blk_ext [V, idx1 t]
theorem sc_blk (k : Fin 1024) : (iblk m c 2 t : Vec Ideal S1x1x1024 .f32) (ix3 0 0 k) = a1 m c (ix3 (seqAt t) 0 k) := by
  blk_simp [iblk]
  blk_ext [V, idx2 t]
theorem sh_blk (k : Fin 1024) : (iblk m c 3 t : Vec Ideal S1x1x1024 .f32) (ix3 0 0 k) = a2 m c (ix3 (seqAt t) 0 k) := by
  blk_simp [iblk]
  blk_ext [V, idx3 t]
theorem w_blk (k : Fin 1024) (j : Fin 3584) :
    (iblk m c 4 t : Vec Ideal S1024x3584 .bf16) (ix2 k j) = a4 m c (ix2 k j) := by
  refine Eq.trans ?_ (host_w m c k j)
  blk_simp [iblk]
  blk_ext [idx4 t]

/-- The normalised rows of a sequence. -/
def kH (b : Fin 16) (r : Fin 2048) : Fin 1024 → EReal :=
  hRow (fun k => a0 m c (ix3 b r k)) (fun k => a3 m c (ix2 (0 : Fin 1) k)) (fun k => a1 m c (ix3 b (0 : Fin 1) k))
    (fun k => a2 m c (ix3 b (0 : Fin 1) k))

/-- The weights. -/
def kW : Fin 1024 → Fin 3584 → EReal := fun k j => a4 m c (ix2 k j)

/-- A step's normalised rows. -/
theorem h_step (r : Fin 1024) :
    hT (iblk m c 0 t) (iblk m c 1 t) (iblk m c 2 t) (iblk m c 3 t) r = kH m c (seqAt t) (rowAt t r) := by
  unfold hT kH
  rw [show (fun k => (iblk m c 0 t : Vec Ideal S1x1024x1024 .f32) (ix3 (0 : Fin 1) r k)) = _ from funext fun k => x_blk m c t r k,
    show (fun k => (iblk m c 1 t : Vec Ideal S1x1024 .f32) (ix2 (0 : Fin 1) k)) = _ from funext fun k => n_blk m c t k,
    show (fun k => (iblk m c 2 t : Vec Ideal S1x1x1024 .f32) (ix3 (0 : Fin 1) (0 : Fin 1) k)) = _ from funext fun k => sc_blk m c t k,
    show (fun k => (iblk m c 3 t : Vec Ideal S1x1x1024 .f32) (ix3 (0 : Fin 1) (0 : Fin 1) k)) = _ from funext fun k => sh_blk m c t k]

/-- A step's weights. -/
theorem w_step : wT (iblk m c 4 t) = kW m c := funext fun k => funext fun j => w_blk m c t k j

/-- Four heads' columns from `o` on of every sequence row, a row's heads one after the other. -/
def headArr (o : ℕ) (ho : o + 512 ≤ 3584) : S16x8192x128.Idx → EReal := fun i =>
  prRow (kH m c (i 0) (⟨(i 1).val / 4, by have h : (i 1).val < 8192 := (i 1).isLt; omega⟩ : Fin 2048)) (kW m c)
    (⟨o + (128 * ((i 1).val % 4) + (i 2).val), by have h : (i 2).val < 128 := (i 2).isLt; omega⟩ : Fin 3584)

/-- A step's heads are its part of every sequence row's. -/
theorem head_step (o : ℕ) (ho : o + 512 ≤ 3584) (R : Fin 4096) (k : Fin 128) :
    headT (iblk m c 0 t) (iblk m c 1 t) (iblk m c 2 t) (iblk m c 3 t) (iblk m c 4 t) o ho (ix3 (0 : Fin 1) R k)
      = headArr m c o ho (ix3 (seqAt t) (⟨4096 * ((t : ℕ) % 2) + R, by omega⟩ : Fin 8192) k) := by
  show prRow (hT _ _ _ _ (⟨(R : ℕ) / 4, _⟩ : Fin 1024)) (wT _) (⟨o + (128 * ((R : ℕ) % 4) + (k : ℕ)), _⟩ : Fin 3584)
    = prRow (kH m c (seqAt t) (⟨(4096 * ((t : ℕ) % 2) + (R : ℕ)) / 4, _⟩ : Fin 2048)) (kW m c)
        (⟨o + (128 * ((4096 * ((t : ℕ) % 2) + (R : ℕ)) % 4) + (k : ℕ)), _⟩ : Fin 3584)
  rw [h_step, w_step]
  refine congrArg₂ (fun r j => prRow (kH m c (seqAt t) r) (kW m c) j) (Fin.ext ?_) (Fin.ext ?_)
  · show 1024 * ((t : ℕ) % 2) + (R : ℕ) / 4 = (4096 * ((t : ℕ) % 2) + (R : ℕ)) / 4
    omega
  · show o + (128 * ((R : ℕ) % 4) + (k : ℕ)) = o + (128 * ((4096 * ((t : ℕ) % 2) + (R : ℕ)) % 4) + (k : ℕ))
    omega

/-- The keys a step leaves. -/
theorem after8_at (y : S1x4096x128.Idx) :
    ((dats m 0 c).after 8 t : S1x4096x128.Idx → EReal) y
      = headT (iblk m c 0 t) (iblk m c 1 t) (iblk m c 2 t) (iblk m c 3 t) (iblk m c 4 t) 2560 (by omega) y := by
  rw [after_8]
  unfold outsAt
  dsimp only
  exact out8_at (iblk m c 0 t) (iblk m c 1 t) (iblk m c 2 t) (iblk m c 3 t) (iblk m c 4 t) (iblk m c 5 t) (iblk m c 6 t)
    c _ _ _ _ _ _ _ _ _ _ _ _ _ _ _ _ _ _ _ _ _ y

/-- The values a step leaves. -/
theorem after9_at (y : S1x4096x128.Idx) :
    ((dats m 0 c).after 9 t : S1x4096x128.Idx → EReal) y
      = headT (iblk m c 0 t) (iblk m c 1 t) (iblk m c 2 t) (iblk m c 3 t) (iblk m c 4 t) 3072 (by omega) y := by
  rw [after_9]
  unfold outsAt
  dsimp only
  exact out9_at (iblk m c 0 t) (iblk m c 1 t) (iblk m c 2 t) (iblk m c 3 t) (iblk m c 4 t) (iblk m c 5 t) (iblk m c 6 t)
    c _ _ _ _ _ _ _ _ _ _ _ _ _ _ _ _ _ _ _ _ _ y

end Cert.Kernel4Ideal.Ab

end
-- ==== Proof.AbArray.lean ====
/- The first layer's in projection: its arrays of keys and values. -/
module

public import proofs.«01_k».proof.Proof.AbValue

@[expose] public section

set_option maxRecDepth 16384

noncomputable section

namespace Cert.Kernel4Ideal.Ab

open Cert.Kernel4Ideal Cert.Kernel4Ideal.Gen Idealize.ShloMosaic Idealize.SL.Sem Cert.Ffn Idealize.ShloMosaic.TcCoe

variable (m : (ℓ : Loc nD τ sig) → Buf (Elt Ideal) ℓ) (c : Dev nD)

/-- The array of keys. -/
theorem arr8 : (dats m 0 c).arrAt 8 cfg0.N = headArr m c 2560 (by omega) := by
  refine (dats m 0 c).arrAt_eq_of_covers 8 _ (by decide +kernel) fun t _ y => ?_
  blk_simp
  obtain ⟨z, R, k, rfl⟩ : ∃ (z : Fin 1) (R : Fin 4096) (k : Fin 128), y = ix3 z R k := ⟨y 0, y 1, y 2, eq_ix3 y⟩
  obtain rfl : z = 0 := by omega
  have hy : (win0_8.blk t).view.emb (ix3 (0 : Fin 1) R k)
      = (ix3 (seqAt t) (⟨4096 * ((t : ℕ) % 2) + R, by omega⟩ : Fin 8192) k : S16x8192x128.Idx) := by
    blk_ext [idx8 t]
  rw [hy]
  exact (after8_at m c t _).trans (head_step m c t 2560 (by omega) R k)

/-- The array of values. -/
theorem arr9 : (dats m 0 c).arrAt 9 cfg0.N = headArr m c 3072 (by omega) := by
  refine (dats m 0 c).arrAt_eq_of_covers 9 _ (by decide +kernel) fun t _ y => ?_
  blk_simp
  obtain ⟨z, R, k, rfl⟩ : ∃ (z : Fin 1) (R : Fin 4096) (k : Fin 128), y = ix3 z R k := ⟨y 0, y 1, y 2, eq_ix3 y⟩
  obtain rfl : z = 0 := by omega
  have hy : (win0_9.blk t).view.emb (ix3 (0 : Fin 1) R k)
      = (ix3 (seqAt t) (⟨4096 * ((t : ℕ) % 2) + R, by omega⟩ : Fin 8192) k : S16x8192x128.Idx) := by
    blk_ext [idx9 t]
  rw [hy]
  exact (after9_at m c t _).trans (head_step m c t 3072 (by omega) R k)

end Cert.Kernel4Ideal.Ab

end
-- ==== Proof.AbClaim.lean ====
/- The first layer's in projection reference: its keys and values, read at an index in the row functions; and the
   kernel's arrays beside them. -/
module

public import proofs.«01_k».proof.Proof.AbArray
public import proofs.«01_k».proof.Proof.Gen.Reference4Ideal.Run
public import Idealize.ShloMosaic.Lib.Pipeline.ValueKit
public import Idealize.ShloMosaic.Lib.Claim
public import Idealize.ShloMosaic.Lib.Quiescent

@[expose] public section

set_option maxRecDepth 16384

noncomputable section

namespace Cert.Reference4Ideal.Ab

open Idealize.ShloMosaic Idealize.ShloMosaic.StableHlo Cert.Ffn
open Cert.Reference4Ideal Cert.Reference4Ideal.Gen

section Terms

variable {F : FTy → Type} [FloatOps F]

variable (A0 : Vec F S16x2048x1024 .f32) (A1 A2 : Vec F S16x1x1024 .f32) (A3 : Vec F S1x1024 .f32) (A4 : Vec F S1024x3584 .f32)

/-- The normalised rows. -/
def rH : Vec F S16x2048x1024 .f32 :=
  addf (mulf (mulf (mulf A0 (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf A0 A0) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ A3 shapeCasts_S1x1024_S1024)))) (broadcastInDim S16x2048x1024 ![0, 1, 2] bcast_S16x1x1024_S16x2048x1024_0_1_2 (addf (broadcastInDim S16x1x1024 ![] bcast_S_S16x1x1024 (constant S_ .f32 0x3F800000#32)) A1))) (broadcastInDim S16x2048x1024 ![0, 1, 2] bcast_S16x1x1024_S16x2048x1024_0_1_2 A2)

/-- The projection. -/
def rY (H : Vec F S16x2048x1024 .f32) : Vec F S16x2048x3584 .f32 :=
  Host.dotGeneral dot_S16x2048x1024_S1024x3584_S16x2048x3584_2_0_01_1_n_n none H A4

/-- The keys. -/
def rK (Y : Vec F S16x2048x3584 .f32) : Vec F S16x8192x128 .f32 :=
  shapeCast _ (extractStridedSlice S16x2048x512 ![0, 0, 2560] Y slices_S16x2048x3584_S16x2048x512_0_0_2560) shapeCasts_S16x2048x512_S16x8192x128

/-- The values. -/
def rV (Y : Vec F S16x2048x3584 .f32) : Vec F S16x8192x128 .f32 :=
  shapeCast _ (extractStridedSlice S16x2048x512 ![0, 0, 3072] Y slices_S16x2048x3584_S16x2048x512_0_0_3072) shapeCasts_S16x2048x512_S16x8192x128

end Terms

variable (A0 : Vec Ideal S16x2048x1024 .f32) (A1 A2 : Vec Ideal S16x1x1024 .f32) (A3 : Vec Ideal S1x1024 .f32)
  (A4 : Vec Ideal S1024x3584 .f32)

theorem rH_at (b : Fin 16) (t : Fin 2048) (c : Fin 1024) :
    rH A0 A1 A2 A3 (ix3 b t c)
      = hRow (fun c => A0 (ix3 b t c)) (fun c => A3 (ix2 (0 : Fin 1) c)) (fun c => A1 (ix3 b (0 : Fin 1) c))
          (fun c => A2 (ix3 b (0 : Fin 1) c)) c := by
  unfold hRow
  pointwise [rH]

theorem rY_at (H : Vec Ideal S16x2048x1024 .f32) (b : Fin 16) (t : Fin 2048) (j : Fin 3584) :
    rY A4 H (ix3 b t j) = ∑ k : Fin 1024, H (ix3 b t k) * A4 (ix2 k j) := by
  pointwise [rY]

/-- The columns of a sequence row, 128 at a time. -/
theorem cast_at (Z : Vec Ideal S16x2048x512 .f32) (b : Fin 16) (R : Fin 8192) (l : Fin 128) :
    shapeCast S16x8192x128 Z shapeCasts_S16x2048x512_S16x8192x128 (ix3 b R l)
      = Z (ix3 b (⟨(R : ℕ) / 4, by omega⟩ : Fin 2048) (⟨128 * ((R : ℕ) % 4) + l, by omega⟩ : Fin 512)) := by
  refine shapeCast_apply _ _ _ _ ?_
  refine (Shape.rowMajor_val_three _).trans (Eq.trans ?_ (Shape.rowMajor_val_three _).symm)
  show ((b : ℕ) * 2048 + (R : ℕ) / 4) * 512 + (128 * ((R : ℕ) % 4) + (l : ℕ)) = ((b : ℕ) * 8192 + (R : ℕ)) * 128 + (l : ℕ)
  omega

section Parts

variable (Y : Vec Ideal S16x2048x3584 .f32) (b : Fin 16) (R : Fin 8192) (l : Fin 128)

theorem rK_at : rK Y (ix3 b R l)
    = Y (ix3 b (⟨(R : ℕ) / 4, by omega⟩ : Fin 2048) (⟨2560 + (128 * ((R : ℕ) % 4) + l), by omega⟩ : Fin 3584)) := by
  refine (cast_at _ b R l).trans ?_
  generalize (⟨(R : ℕ) / 4, _⟩ : Fin 2048) = r
  pointwise []
theorem rV_at : rV Y (ix3 b R l)
    = Y (ix3 b (⟨(R : ℕ) / 4, by omega⟩ : Fin 2048) (⟨3072 + (128 * ((R : ℕ) % 4) + l), by omega⟩ : Fin 3584)) := by
  refine (cast_at _ b R l).trans ?_
  generalize (⟨(R : ℕ) / 4, _⟩ : Fin 2048) = r
  pointwise []

end Parts

/-- The normalised rows of a sequence. -/
abbrev hS (b : Fin 16) (t : Fin 2048) : Fin 1024 → EReal :=
  hRow (fun c => A0 (ix3 b t c)) (fun c => A3 (ix2 (0 : Fin 1) c)) (fun c => A1 (ix3 b (0 : Fin 1) c))
    (fun c => A2 (ix3 b (0 : Fin 1) c))

/-- The projection at an index. -/
theorem proj_at (b : Fin 16) (t : Fin 2048) (j : Fin 3584) :
    rY A4 (rH A0 A1 A2 A3) (ix3 b t j) = ∑ k : Fin 1024, hS A0 A1 A2 A3 b t k * A4 (ix2 k j) := by
  rw [rY_at]
  exact Finset.sum_congr rfl fun k _ => congrArg (· * A4 (ix2 k j)) (rH_at A0 A1 A2 A3 b t k)

open Idealize.SL.Sem

/-- The reference leaves its arguments unchanged; it has no counters. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2.2.2, sem_eq_zero_of_no_sems (by decide) r.2⟩) (Value.run m ρ)

end Cert.Reference4Ideal.Ab

namespace Cert.Kernel4Ideal.Ab

open Cert.Kernel4Ideal Cert.Kernel4Ideal.Gen Idealize.ShloMosaic Idealize.SL.Sem Cert.Ffn Idealize.ShloMosaic.TcCoe

open Cert.Reference4Ideal.Ab (rH rY rK rV rK_at rV_at proj_at)

variable (m : (ℓ : Loc nD τ sig) → Buf (Elt Ideal) ℓ) (c : Dev nD)

/-- The reference's keys over the kernel's arguments. -/
theorem ref_keys {A0 : Vec Ideal S16x2048x1024 .f32} {A1 A2 : Vec Ideal S16x1x1024 .f32} {A3 : Vec Ideal S1x1024 .f32}
    {A4 : Vec Ideal S1024x3584 .f32} (h0 : A0 = a0 m c) (h1 : A1 = a1 m c) (h2 : A2 = a2 m c) (h3 : A3 = a3 m c) (h4 : A4 = a4 m c) :
    rK (rY A4 (rH A0 A1 A2 A3)) = headArr m c 2560 (by omega) := by
  funext i
  obtain ⟨b, R, l, rfl⟩ : ∃ (b : Fin 16) (R : Fin 8192) (l : Fin 128), i = ix3 b R l := ⟨i 0, i 1, i 2, eq_ix3 i⟩
  subst h0 h1 h2 h3 h4
  exact (rK_at _ b R l).trans (proj_at _ _ _ _ _ b _ _)

/-- The reference's values over the kernel's arguments. -/
theorem ref_values {A0 : Vec Ideal S16x2048x1024 .f32} {A1 A2 : Vec Ideal S16x1x1024 .f32} {A3 : Vec Ideal S1x1024 .f32}
    {A4 : Vec Ideal S1024x3584 .f32} (h0 : A0 = a0 m c) (h1 : A1 = a1 m c) (h2 : A2 = a2 m c) (h3 : A3 = a3 m c) (h4 : A4 = a4 m c) :
    rV (rY A4 (rH A0 A1 A2 A3)) = headArr m c 3072 (by omega) := by
  funext i
  obtain ⟨b, R, l, rfl⟩ : ∃ (b : Fin 16) (R : Fin 8192) (l : Fin 128), i = ix3 b R l := ⟨i 0, i 1, i 2, eq_ix3 i⟩
  subst h0 h1 h2 h3 h4
  exact (rV_at _ b R l).trans (proj_at _ _ _ _ _ b _ _)

end Cert.Kernel4Ideal.Ab

end
-- ==== Proof.AbRot.lean ====
/- The first layer's in projection: the rotated heads' payloads at an index, and the columns a step leaves. -/
module

public import proofs.«01_k».proof.Proof.AbTile

@[expose] public section

set_option maxRecDepth 16384

noncomputable section

namespace Cert.Kernel4Ideal.Ab

open Cert.Kernel4Ideal Cert.Kernel4Ideal.Gen Idealize.ShloMosaic Idealize.SL.Sem Cert.Ffn

/-- A head's lane after a turn by half a head. -/
abbrev turn (j : Fin 128) : Fin 128 := ⟨((j : ℕ) + 128 - 64) % 128, by omega⟩

/-- The scale of the retention's keys, and that of the differential attention's queries: the program's words. -/
def kS : EReal := (Scalar.ofBits .f32 0x3DB504F3#32 : Ideal .f32)
def qS : EReal := (Scalar.ofBits .f32 0x3E38AA3B#32 : Ideal .f32)

/-- A head's lane after the rotary step. -/
def rotL (y c s : Fin 128 → EReal) (j : Fin 128) : EReal := y j * c j + y (turn j) * s j

section Payloads

variable (C S : FVec Ideal S1024x128 .f32) (Y : FVec Ideal S1024x512 .f32) (h : FVec Ideal S1024x1024 .bf16)
  (w : Vec Ideal S1024x512 .bf16) (x : Vec Ideal S1x1024x1024 .f32) (n : Vec Ideal S1x1024 .f32) (sc sh : Vec Ideal S1x1x1024 .f32)
  (r : Fin 1024) (j : Fin 128) (l : Fin 512)

/-- A head of the product after the rotary step. -/
abbrev rotP (q : ℕ) (hq : q < 4) : EReal :=
  rotL (fun j => Y (ix2 r (⟨128 * q + j, by omega⟩ : Fin 512))) (fun j => C (ix2 r j)) (fun j => S (ix2 r j)) j

theorem pay5_eq : k0_pay5 (F := Ideal) C = C := by
  funext i
  obtain ⟨a, b, rfl⟩ : ∃ (a : Fin 1024) (b : Fin 128), i = ix2 a b := ⟨i 0, i 1, eq_ix2 i⟩
  pointwise [k0_pay5]
theorem pay6_eq : k0_pay6 (F := Ideal) C = C := by
  funext i
  obtain ⟨a, b, rfl⟩ : ∃ (a : Fin 1024) (b : Fin 128), i = ix2 a b := ⟨i 0, i 1, eq_ix2 i⟩
  pointwise [k0_pay6]
theorem pay10_at : k0_pay10 (F := Ideal) S (k0_pay8 x n sc sh w) (k0_pay9 x n sc sh C w) 64#32 (ix3 (0 : Fin 1) r j)
    = rotP (k0_pay5 C) S (k0_pay7 x n sc sh w) r j 0 (by omega) := by
  unfold rotP rotL
  pointwise [k0_pay10, k0_pay9, k0_pay8]
theorem pay11_at : k0_pay11 (F := Ideal) C S Y (ix3 (0 : Fin 1) r j) = rotP C S Y r j 1 (by omega) := by
  unfold rotP rotL
  pointwise [k0_pay11]
theorem pay12_at : k0_pay12 (F := Ideal) C S Y (ix3 (0 : Fin 1) r j) = rotP C S Y r j 2 (by omega) := by
  unfold rotP rotL
  pointwise [k0_pay12]
theorem pay13_at : k0_pay13 (F := Ideal) C S Y (ix3 (0 : Fin 1) r j) = rotP C S Y r j 3 (by omega) := by
  unfold rotP rotL
  pointwise [k0_pay13]
theorem pay16_at : k0_pay16 (F := Ideal) C S (k0_pay15 h w) (ix3 (0 : Fin 1) r j)
    = rotP C S (k0_pay14 h w) r j 0 (by omega) * kS := by
  unfold rotP rotL kS
  pointwise [k0_pay16, k0_pay15]
theorem pay17_at : k0_pay17 (F := Ideal) C S Y (ix3 (0 : Fin 1) r j) = rotP C S Y r j 1 (by omega) * kS := by
  unfold rotP rotL kS
  pointwise [k0_pay17]
theorem pay18_at : k0_pay18 (F := Ideal) C S Y (ix3 (0 : Fin 1) r j) = rotP C S Y r j 2 (by omega) * kS := by
  unfold rotP rotL kS
  pointwise [k0_pay18]
theorem pay20_at : k0_pay20 (F := Ideal) (k0_pay19 C S Y) (ix3 (0 : Fin 1) r j) = rotP C S Y r j 3 (by omega) * kS := by
  unfold rotP rotL kS
  pointwise [k0_pay20, k0_pay19]
theorem pay7_at : k0_pay7 (F := Ideal) x n sc sh w (ix2 r l) = ∑ k : Fin 1024, k0_pay4 (F := Ideal) x n sc sh (ix2 r k) * w (ix2 k l) := by
  pointwise [k0_pay7]
theorem pay14_at : k0_pay14 (F := Ideal) h w (ix2 r l) = ∑ k : Fin 1024, h (ix2 r k) * w (ix2 k l) := by
  pointwise [k0_pay14]
theorem pay21_at : k0_pay21 (F := Ideal) h w (ix3 (0 : Fin 1) r l) = ∑ k : Fin 1024, h (ix2 r k) * w (ix2 k l) := by
  pointwise [k0_pay21]
theorem pay22_at : k0_pay22 (F := Ideal) h w (ix3 (0 : Fin 1) r l) = ∑ k : Fin 1024, h (ix2 r k) * w (ix2 k l) := by
  pointwise [k0_pay22]
theorem pay23_at : k0_pay23 (F := Ideal) h w (ix3 (0 : Fin 1) r l) = (∑ k : Fin 1024, h (ix2 r k) * w (ix2 k l)) * qS := by
  unfold qS
  pointwise [k0_pay23]
theorem pay30_at : k0_pay30 (F := Ideal) (k0_pay24 h w) (ix3 (0 : Fin 1) r l) = ∑ k : Fin 1024, h (ix2 r k) * w (ix2 k l) := by
  pointwise [k0_pay30, k0_pay24]
theorem pay3_at : k0_pay3 (F := Ideal) (k0_pay31 h w) (ix3 (0 : Fin 1) r l) = ∑ k : Fin 1024, h (ix2 r k) * w (ix2 k l) := by
  pointwise [k0_pay3, k0_pay31]

end Payloads

/-- A column of a row's output from the row's projection `P` and its cosines and sines. -/
def colR (P : Fin 3584 → EReal) (c s : Fin 128 → EReal) (j : Fin 3584) : EReal :=
  if h : (j : ℕ) < 1024 then
    (if (j : ℕ) < 512 then
      rotL (fun l => P (⟨128 * ((j : ℕ) / 128) + l, by omega⟩ : Fin 3584)) c s (⟨(j : ℕ) % 128, by omega⟩ : Fin 128)
    else
      rotL (fun l => P (⟨128 * ((j : ℕ) / 128) + l, by omega⟩ : Fin 3584)) c s (⟨(j : ℕ) % 128, by omega⟩ : Fin 128) * kS)
  else if 2048 ≤ (j : ℕ) ∧ (j : ℕ) < 2560 then P j * qS
  else P j

section Cols

variable (P : Fin 3584 → EReal) (c s : Fin 128 → EReal)

theorem colR_q (q : ℕ) (hq : q < 4) (j : Fin 128) :
    colR P c s (⟨128 * q + j, by omega⟩ : Fin 3584) = rotL (fun l => P (⟨128 * q + l, by omega⟩ : Fin 3584)) c s j := by
  unfold colR
  rw [dif_pos (show 128 * q + (j : ℕ) < 1024 by omega), if_pos (show 128 * q + (j : ℕ) < 512 by omega)]
  have e1 : (128 * q + (j : ℕ)) / 128 = q := by omega
  have e2 : (⟨(128 * q + (j : ℕ)) % 128, by omega⟩ : Fin 128) = j := Fin.ext (by show (128 * q + (j : ℕ)) % 128 = j; omega)
  simp only [e1, e2]

theorem colR_k (q : ℕ) (hq : q < 4) (j : Fin 128) :
    colR P c s (⟨512 + (128 * q + j), by omega⟩ : Fin 3584)
      = rotL (fun l => P (⟨512 + (128 * q + l), by omega⟩ : Fin 3584)) c s j * kS := by
  unfold colR
  rw [dif_pos (show 512 + (128 * q + (j : ℕ)) < 1024 by omega), if_neg (show ¬ 512 + (128 * q + (j : ℕ)) < 512 by omega)]
  have e1 : (512 + (128 * q + (j : ℕ))) / 128 = q + 4 := by omega
  have e2 : (⟨(512 + (128 * q + (j : ℕ))) % 128, by omega⟩ : Fin 128) = j :=
    Fin.ext (by show (512 + (128 * q + (j : ℕ))) % 128 = j; omega)
  have e3 : ∀ l : ℕ, 128 * (q + 4) + l = 512 + (128 * q + l) := fun l => by omega
  simp only [e1, e2, e3]

theorem colR_qb (j : Fin 3584) (h : 2048 ≤ (j : ℕ) ∧ (j : ℕ) < 2560) : colR P c s j = P j * qS := by
  unfold colR
  rw [dif_neg (by omega), if_pos h]

theorem colR_p (j : Fin 3584) (h : 1024 ≤ (j : ℕ)) (h' : ¬ (2048 ≤ (j : ℕ) ∧ (j : ℕ) < 2560)) : colR P c s j = P j := by
  unfold colR
  rw [dif_neg (by omega), if_neg h']

end Cols

section Step

variable (x0 : Vec Ideal S1x1024x1024 .f32) (x1 : Vec Ideal S1x1024 .f32) (x2 x3 : Vec Ideal S1x1x1024 .f32)
  (x4 : Vec Ideal S1024x3584 .bf16) (x5 x6 : Vec Ideal S1024x128 .f32)

/-- A step's projected row. -/
abbrev pT (r : Fin 1024) : Fin 3584 → EReal := prRow (hT x0 x1 x2 x3 r) (wT x4)

/-- A step's columns. -/
def colsT : S1x1024x3584.Idx → EReal := fun y =>
  colR (pT x0 x1 x2 x3 x4 (y 1)) (fun l => x5 (ix2 (y 1 : Fin 1024) l)) (fun l => x6 (ix2 (y 1 : Fin 1024) l)) (y 2)

/-- A product with a block of the weights is a part of the projected row. -/
theorem prod_at (o : ℕ) (ho : o + 512 ≤ 3584)
    (inw : ∀ i, (![0, o] : Fin 2 → ℕ) i + (![1024, 512] : Fin 2 → ℕ) i ≤ S1024x3584.size i) (r : Fin 1024) (l : Fin 512) :
    ∑ k : Fin 1024, k0_pay4 (F := Ideal) x0 x1 x2 x3 (ix2 r k)
        * View.ld x4 (Rect.unit (s := S1024x3584) ![0, o] ![1024, 512] inw) (ix2 k l)
      = pT x0 x1 x2 x3 x4 r (⟨o + l, by omega⟩ : Fin 3584) := by
  unfold pT prRow
  exact Finset.sum_congr rfl fun k _ => congrArg₂ (· * ·) (pay4_at x0 x1 x2 x3 r k) (ldw x4 o inw k l (by omega))

/-- A stored range of columns, from what it holds at an index. -/
theorem cols_piece (o w : ℕ) (hw : o + w ≤ 3584)
    (inb : ∀ i, (![0, 0, o] : Fin 3 → ℕ) i + (![1, 1024, w] : Fin 3 → ℕ) i ≤ S1x1024x3584.size i)
    (Q : (⟨3, ![1, 1024, w]⟩ : Shape).Idx → EReal)
    (hQ : ∀ (r : Fin 1024) (j : Fin w), Q (ix3 (0 : Fin 1) r j)
      = colR (pT x0 x1 x2 x3 x4 r) (fun l => x5 (ix2 r l)) (fun l => x6 (ix2 r l)) (⟨o + j, by omega⟩ : Fin 3584))
    (y : (⟨3, ![1, 1024, w]⟩ : Shape).Idx) :
    Q y = colsT x0 x1 x2 x3 x4 x5 x6 ((Rect.unit (s := S1x1024x3584) ![0, 0, o] ![1, 1024, w] inb).emb y) := by
  obtain ⟨z, r, j, rfl⟩ : ∃ (z : Fin 1) (r : Fin 1024) (j : Fin w), y = ix3 z r j := ⟨y 0, y 1, y 2, eq_ix3 y⟩
  obtain rfl : z = 0 := by omega
  rw [hQ]
  have e : (Rect.unit (s := S1x1024x3584) ![0, 0, o] ![1, 1024, w] inb).emb (ix3 (0 : Fin 1) r j)
      = (ix3 (0 : Fin 1) r (⟨o + j, by omega⟩ : Fin 3584) : S1x1024x3584.Idx) := by
    funext a
    match a with
    | 0 => rfl
    | 1 => exact Fin.ext (by show 0 + 1 * (r : ℕ) = r; omega)
    | 2 => exact Fin.ext (by show o + 1 * (j : ℕ) = o + j; omega)
  rw [e]
  rfl

/-- A rotated head of the product is a head of the rotated row. -/
theorem rotP_eq (Y : FVec Ideal S1024x512 .f32) (o : ℕ) (ho : o + 512 ≤ 3584)
    (hY : ∀ (r : Fin 1024) (l : Fin 512), Y (ix2 r l) = pT x0 x1 x2 x3 x4 r (⟨o + l, by omega⟩ : Fin 3584))
    (r : Fin 1024) (j : Fin 128) (q : ℕ) (hq : q < 4) :
    rotP (k0_pay5 x5) (k0_pay6 x6) Y r j q hq
      = rotL (fun l => pT x0 x1 x2 x3 x4 r (⟨o + (128 * q + l), by omega⟩ : Fin 3584)) (fun l => x5 (ix2 r l)) (fun l => x6 (ix2 r l)) j := by
  rw [pay5_eq, pay6_eq]
  exact congrArg₂ (· + ·) (congrArg (· * x5 (ix2 r j)) (hY r _)) (congrArg (· * x6 (ix2 r j)) (hY r _))

variable (Q : (⟨3, ![1, 1024, 512]⟩ : Shape).Idx → EReal) (Q' : (⟨3, ![1, 1024, 128]⟩ : Shape).Idx → EReal)

/-- A range that is stored as it is. -/
theorem plain_at (o : ℕ) (ho : o + 512 ≤ 3584) (h1 : 1024 ≤ o) (h2 : o + 512 ≤ 2048 ∨ 2560 ≤ o)
    (inw : ∀ i, (![0, o] : Fin 2 → ℕ) i + (![1024, 512] : Fin 2 → ℕ) i ≤ S1024x3584.size i)
    (hQ : ∀ (r : Fin 1024) (l : Fin 512), Q (ix3 (0 : Fin 1) r l)
      = ∑ k : Fin 1024, k0_pay4 (F := Ideal) x0 x1 x2 x3 (ix2 r k)
          * View.ld x4 (Rect.unit (s := S1024x3584) ![0, o] ![1024, 512] inw) (ix2 k l)) (r : Fin 1024) (l : Fin 512) :
    Q (ix3 (0 : Fin 1) r l)
      = colR (pT x0 x1 x2 x3 x4 r) (fun l => x5 (ix2 r l)) (fun l => x6 (ix2 r l)) (⟨o + l, by omega⟩ : Fin 3584) :=
  (hQ r l).trans ((prod_at x0 x1 x2 x3 x4 o ho inw r l).trans
    (colR_p _ _ _ _ (by show 1024 ≤ o + (l : ℕ); omega) (by show ¬ (2048 ≤ o + (l : ℕ) ∧ o + (l : ℕ) < 2560); omega)).symm)

/-- The range that is stored scaled. -/
theorem scaled_at (inw : ∀ i, (![0, 2048] : Fin 2 → ℕ) i + (![1024, 512] : Fin 2 → ℕ) i ≤ S1024x3584.size i)
    (hQ : ∀ (r : Fin 1024) (l : Fin 512), Q (ix3 (0 : Fin 1) r l)
      = (∑ k : Fin 1024, k0_pay4 (F := Ideal) x0 x1 x2 x3 (ix2 r k)
          * View.ld x4 (Rect.unit (s := S1024x3584) ![0, 2048] ![1024, 512] inw) (ix2 k l)) * qS) (r : Fin 1024) (l : Fin 512) :
    Q (ix3 (0 : Fin 1) r l)
      = colR (pT x0 x1 x2 x3 x4 r) (fun l => x5 (ix2 r l)) (fun l => x6 (ix2 r l)) (⟨2048 + l, by omega⟩ : Fin 3584) :=
  (hQ r l).trans ((congrArg (· * qS) (prod_at x0 x1 x2 x3 x4 2048 (by omega) inw r l)).trans
    (colR_qb _ _ _ _ (by show 2048 ≤ 2048 + (l : ℕ) ∧ 2048 + (l : ℕ) < 2560; omega)).symm)

/-- A head of the queries. -/
theorem head_q (Y : FVec Ideal S1024x512 .f32) (q : ℕ) (hq : q < 4)
    (inw : ∀ i, (![0, 0] : Fin 2 → ℕ) i + (![1024, 512] : Fin 2 → ℕ) i ≤ S1024x3584.size i)
    (hY : ∀ (r : Fin 1024) (l : Fin 512), Y (ix2 r l)
      = ∑ k : Fin 1024, k0_pay4 (F := Ideal) x0 x1 x2 x3 (ix2 r k)
          * View.ld x4 (Rect.unit (s := S1024x3584) ![0, 0] ![1024, 512] inw) (ix2 k l))
    (hQ : ∀ (r : Fin 1024) (j : Fin 128), Q' (ix3 (0 : Fin 1) r j) = rotP (k0_pay5 x5) (k0_pay6 x6) Y r j q hq)
    (r : Fin 1024) (j : Fin 128) :
    Q' (ix3 (0 : Fin 1) r j)
      = colR (pT x0 x1 x2 x3 x4 r) (fun l => x5 (ix2 r l)) (fun l => x6 (ix2 r l)) (⟨128 * q + j, by omega⟩ : Fin 3584) := by
  rw [hQ, rotP_eq x0 x1 x2 x3 x4 x5 x6 Y 0 (by omega) (fun r l => (hY r l).trans (prod_at x0 x1 x2 x3 x4 0 (by omega) inw r l)),
    colR_q _ _ _ q hq]
  simp only [Nat.zero_add]

/-- A head of the keys. -/
theorem head_k (Y : FVec Ideal S1024x512 .f32) (q : ℕ) (hq : q < 4)
    (inw : ∀ i, (![0, 512] : Fin 2 → ℕ) i + (![1024, 512] : Fin 2 → ℕ) i ≤ S1024x3584.size i)
    (hY : ∀ (r : Fin 1024) (l : Fin 512), Y (ix2 r l)
      = ∑ k : Fin 1024, k0_pay4 (F := Ideal) x0 x1 x2 x3 (ix2 r k)
          * View.ld x4 (Rect.unit (s := S1024x3584) ![0, 512] ![1024, 512] inw) (ix2 k l))
    (hQ : ∀ (r : Fin 1024) (j : Fin 128), Q' (ix3 (0 : Fin 1) r j) = rotP (k0_pay5 x5) (k0_pay6 x6) Y r j q hq * kS)
    (r : Fin 1024) (j : Fin 128) :
    Q' (ix3 (0 : Fin 1) r j)
      = colR (pT x0 x1 x2 x3 x4 r) (fun l => x5 (ix2 r l)) (fun l => x6 (ix2 r l)) (⟨512 + 128 * q + j, by omega⟩ : Fin 3584) := by
  rw [hQ, rotP_eq x0 x1 x2 x3 x4 x5 x6 Y 512 (by omega) (fun r l => (hY r l).trans (prod_at x0 x1 x2 x3 x4 512 (by omega) inw r l)),
    ← colR_k _ _ _ q hq]
  exact congrArg (colR _ _ _) (Fin.ext (by show 512 + (128 * q + (j : ℕ)) = 512 + 128 * q + (j : ℕ); omega))

end Step

end Cert.Kernel4Ideal.Ab

end
-- ==== Proof.AbCols.lean ====
/- The first layer's in projection: the columns a step leaves. -/
module

public import proofs.«01_k».proof.Proof.AbRot
public import Idealize.ShloMosaic.Lib.Pipeline.ReadBack

@[expose] public section

set_option maxRecDepth 16384

noncomputable section

namespace Cert.Kernel4Ideal.Ab

open Cert.Kernel4Ideal Cert.Kernel4Ideal.Gen Idealize.ShloMosaic Idealize.SL.Sem Cert.Ffn

variable (x0 : Vec Ideal S1x1024x1024 .f32) (x1 : Vec Ideal S1x1024 .f32) (x2 x3 : Vec Ideal S1x1x1024 .f32)
  (x4 : Vec Ideal S1024x3584 .bf16) (x5 x6 : Vec Ideal S1024x128 .f32)

/-- The columns a step leaves. -/
theorem out7_at (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3584 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1024x3584 .bf16) (harg9 : arg9.IsWhole) (arg10 : Memref sig .tc .vmem S1x4096x128 .f32) (harg10 : arg10.IsWhole) (arg11 : Memref sig .tc .vmem S1x4096x128 .f32) (harg11 : arg11.IsWhole)
    (y : S1x1024x3584.Idx) :
    out_7 (F := Ideal) c i arg2 harg2 arg3 harg3 arg4 harg4 arg5 harg5 arg6 harg6 arg7 harg7 arg8 harg8 arg9 harg9 arg10 harg10 arg11 harg11 x0 x1 x2 x3 x4 x5 x6 y
      = colsT x0 x1 x2 x3 x4 x5 x6 y := by
  have hc := cover_7 (F := Ideal) c i arg2 harg2 arg3 harg3 arg4 harg4 arg5 harg5 arg6 harg6 arg7 harg7 arg8 harg8 arg9 harg9 arg10 harg10 arg11 harg11 x0 x1 x2 x3 x4 x5 x6 y
  unfold out_7
  rw [View.read_writes_junk_eq_canon]
  refine View.canon_apply_of_pieces (Val := Elt Ideal) (e := .bf16) (colsT x0 x1 x2 x3 x4 x5 x6) _ ?_ y hc
  clear hc
  frame_out
  refine View.PiecesOf.mem ⟨?_, ?_, ?_, ?_, ?_, ?_, ?_, ?_, ?_, ?_, ?_, ?_, ?_, trivial⟩
  · exact cols_piece x0 x1 x2 x3 x4 x5 x6 3072 512 (by omega) inb_S1x1024x3584_S1x1024x512_0_0_3072 _ (plain_at x0 x1 x2 x3 x4 x5 x6 _ 3072 (by omega) (by omega) (by omega) inb_S1024x3584_S1024x512_0_3072 fun r l => pay3_at _ _ r l)
  · exact cols_piece x0 x1 x2 x3 x4 x5 x6 2560 512 (by omega) inb_S1x1024x3584_S1x1024x512_0_0_2560 _ (plain_at x0 x1 x2 x3 x4 x5 x6 _ 2560 (by omega) (by omega) (by omega) inb_S1024x3584_S1024x512_0_2560 fun r l => pay30_at _ _ r l)
  · exact cols_piece x0 x1 x2 x3 x4 x5 x6 2048 512 (by omega) inb_S1x1024x3584_S1x1024x512_0_0_2048 _ (scaled_at x0 x1 x2 x3 x4 x5 x6 _ inb_S1024x3584_S1024x512_0_2048 fun r l => pay23_at _ _ r l)
  · exact cols_piece x0 x1 x2 x3 x4 x5 x6 1536 512 (by omega) inb_S1x1024x3584_S1x1024x512_0_0_1536 _ (plain_at x0 x1 x2 x3 x4 x5 x6 _ 1536 (by omega) (by omega) (by omega) inb_S1024x3584_S1024x512_0_1536 fun r l => pay22_at _ _ r l)
  · exact cols_piece x0 x1 x2 x3 x4 x5 x6 1024 512 (by omega) inb_S1x1024x3584_S1x1024x512_0_0_1024 _ (plain_at x0 x1 x2 x3 x4 x5 x6 _ 1024 (by omega) (by omega) (by omega) inb_S1024x3584_S1024x512_0_1024 fun r l => pay21_at _ _ r l)
  · exact cols_piece x0 x1 x2 x3 x4 x5 x6 896 128 (by omega) inb_S1x1024x3584_S1x1024x128_0_0_896 _ (head_k x0 x1 x2 x3 x4 x5 x6 _ _ 3 (by omega) inb_S1024x3584_S1024x512_0_512 (fun r l => pay14_at _ _ r l) fun r j => pay20_at _ _ _ r j)
  · exact cols_piece x0 x1 x2 x3 x4 x5 x6 768 128 (by omega) inb_S1x1024x3584_S1x1024x128_0_0_768 _ (head_k x0 x1 x2 x3 x4 x5 x6 _ _ 2 (by omega) inb_S1024x3584_S1024x512_0_512 (fun r l => pay14_at _ _ r l) fun r j => pay18_at _ _ _ r j)
  · exact cols_piece x0 x1 x2 x3 x4 x5 x6 640 128 (by omega) inb_S1x1024x3584_S1x1024x128_0_0_640 _ (head_k x0 x1 x2 x3 x4 x5 x6 _ _ 1 (by omega) inb_S1024x3584_S1024x512_0_512 (fun r l => pay14_at _ _ r l) fun r j => pay17_at _ _ _ r j)
  · exact cols_piece x0 x1 x2 x3 x4 x5 x6 512 128 (by omega) inb_S1x1024x3584_S1x1024x128_0_0_512 _ (head_k x0 x1 x2 x3 x4 x5 x6 _ _ 0 (by omega) inb_S1024x3584_S1024x512_0_512 (fun r l => pay14_at _ _ r l) fun r j => pay16_at _ _ _ _ r j)
  · exact cols_piece x0 x1 x2 x3 x4 x5 x6 384 128 (by omega) inb_S1x1024x3584_S1x1024x128_0_0_384 _ (head_q x0 x1 x2 x3 x4 x5 x6 _ _ 3 (by omega) inb_S1024x3584_S1024x512_0_0 (fun r l => pay7_at _ _ _ _ _ r l) fun r j => pay13_at _ _ _ r j)
  · exact cols_piece x0 x1 x2 x3 x4 x5 x6 256 128 (by omega) inb_S1x1024x3584_S1x1024x128_0_0_256 _ (head_q x0 x1 x2 x3 x4 x5 x6 _ _ 2 (by omega) inb_S1024x3584_S1024x512_0_0 (fun r l => pay7_at _ _ _ _ _ r l) fun r j => pay12_at _ _ _ r j)
  · exact cols_piece x0 x1 x2 x3 x4 x5 x6 128 128 (by omega) inb_S1x1024x3584_S1x1024x128_0_0_128 _ (head_q x0 x1 x2 x3 x4 x5 x6 _ _ 1 (by omega) inb_S1024x3584_S1024x512_0_0 (fun r l => pay7_at _ _ _ _ _ r l) fun r j => pay11_at _ _ _ r j)
  · exact cols_piece x0 x1 x2 x3 x4 x5 x6 0 128 (by omega) inb_S1x1024x3584_S1x1024x128_0_0_0 _ (head_q x0 x1 x2 x3 x4 x5 x6 _ _ 0 (by omega) inb_S1024x3584_S1024x512_0_0 (fun r l => pay7_at _ _ _ _ _ r l) fun r j => pay10_at _ _ _ _ _ _ _ r j)

end Cert.Kernel4Ideal.Ab

end
-- ==== Proof.AbTable.lean ====
/- The first layer's in projection: its rotary tables, and its array of columns. -/
module

public import proofs.«01_k».proof.Proof.AbValue
public import proofs.«01_k».proof.Proof.AbCols

@[expose] public section

set_option maxRecDepth 16384

noncomputable section

namespace Cert.Kernel4Ideal.Ab

open Cert.Kernel4Ideal Cert.Kernel4Ideal.Gen Idealize.ShloMosaic Idealize.SL.Sem Cert.Ffn Idealize.ShloMosaic.TcCoe

variable (m : (ℓ : Loc nD τ sig) → Buf (Elt Ideal) ℓ) (c : Dev nD)

/-- The angle of a position and a pair of lanes. -/
def ang : FVec Ideal S2048x64 .f32 :=
  mulf
    (broadcastInDim S2048x64 ![0, 1] bcast_S2048x1_S2048x64_0_1
      (broadcastInDim S2048x1 ![0] bcast_S2048_S2048x1_0 (sitofp .f32 (iotaInDim S2048 32 0))))
    (broadcastInDim S2048x64 ![0, 1] bcast_S1x64_S2048x64_0_1
      (broadcastInDim S1x64 ![1] bcast_S64_S1x64_1
        (Host.powf (broadcastInDim S64 ![] bcast_S_S64 (constant S_ .f32 0x461C4000#32))
          (Host.divf (Host.negf (sitofp .f32 (iotaInDim S64 32 0)))
            (broadcastInDim S64 ![] bcast_S_S64 (constant S_ .f32 0x42800000#32))))))

/-- The cosines and the sines. -/
def cosA : FVec Ideal S2048x64 .f32 := Host.cos ang
def sinA : FVec Ideal S2048x64 .f32 := Host.sin ang

/-- A row's cosines, and its sines with the first half negated, lane by lane. -/
def cosL (t : Fin 2048) (j : Fin 128) : EReal :=
  if h : (j : ℕ) < 64 then cosA (ix2 t (⟨j, h⟩ : Fin 64)) else cosA (ix2 t (⟨(j : ℕ) - 64, by omega⟩ : Fin 64))
def sinL (t : Fin 2048) (j : Fin 128) : EReal :=
  if h : (j : ℕ) < 64 then -sinA (ix2 t (⟨j, h⟩ : Fin 64)) else sinA (ix2 t (⟨(j : ℕ) - 64, by omega⟩ : Fin 64))

/-- Two halves side by side. -/
theorem cat_at (A B : FVec Ideal S2048x64 .f32) (k : Fin 2048) (j : Fin 128) :
    concatenate S2048x128 1 [⟨S2048x64, A⟩, ⟨S2048x64, B⟩] concatenates_S2048x64_S2048x64_S2048x128_d1 (ix2 k j)
      = if h : (j : ℕ) < 64 then A (ix2 k (⟨j, h⟩ : Fin 64)) else B (ix2 k (⟨(j : ℕ) - 64, by omega⟩ : Fin 64)) := by
  pointwise []

theorem host_cos (k : Fin 2048) (j : Fin 128) : (V m c main_v15 : Vec Ideal S2048x128 .f32) (ix2 k j) = cosL k j := by
  simp only [V, hostOps0, List.flatten_cons, List.flatten_nil, List.cons_append, List.nil_append, List.append_nil]
  entry_read
  exact cat_at cosA cosA k j

theorem host_sin (k : Fin 2048) (j : Fin 128) : (V m c main_v17 : Vec Ideal S2048x128 .f32) (ix2 k j) = sinL k j := by
  simp only [V, hostOps0, List.flatten_cons, List.flatten_nil, List.cons_append, List.nil_append, List.append_nil]
  entry_read
  exact cat_at (Host.negf sinA) sinA k j

theorem idx5 : ∀ t : Fin cfg0.N, win0_5.index t = ![(t : ℕ) % 2, 0] := (by decide +kernel : ∀ t : Fin grid0.N, _)
theorem idx6 : ∀ t : Fin cfg0.N, win0_6.index t = ![(t : ℕ) % 2, 0] := (by decide +kernel : ∀ t : Fin grid0.N, _)
theorem idx7 : ∀ t : Fin cfg0.N, win0_7.index t = ![(t : ℕ) / 2, (t : ℕ) % 2, 0] := (by decide +kernel : ∀ t : Fin grid0.N, _)

variable (t : Fin cfg0.N)

theorem cos_blk (r : Fin 1024) (j : Fin 128) : (iblk m c 5 t : Vec Ideal S1024x128 .f32) (ix2 r j) = cosL (rowAt t r) j := by
  refine Eq.trans ?_ (host_cos m c (rowAt t r) j)
  blk_simp [iblk]
  blk_ext [idx5 t]
theorem sin_blk (r : Fin 1024) (j : Fin 128) : (iblk m c 6 t : Vec Ideal S1024x128 .f32) (ix2 r j) = sinL (rowAt t r) j := by
  refine Eq.trans ?_ (host_sin m c (rowAt t r) j)
  blk_simp [iblk]
  blk_ext [idx6 t]

/-- The columns of every sequence row. -/
def colsArr : S16x2048x3584.Idx → EReal := fun i =>
  colR (prRow (kH m c (i 0) (i 1)) (kW m c)) (cosL (i 1)) (sinL (i 1)) (i 2)

/-- A step's columns are its part of every sequence row's. -/
theorem cols_step (r : Fin 1024) (j : Fin 3584) :
    colsT (iblk m c 0 t) (iblk m c 1 t) (iblk m c 2 t) (iblk m c 3 t) (iblk m c 4 t) (iblk m c 5 t) (iblk m c 6 t) (ix3 (0 : Fin 1) r j)
      = colsArr m c (ix3 (seqAt t) (rowAt t r) j) := by
  show colR (prRow (hT (iblk m c 0 t) (iblk m c 1 t) (iblk m c 2 t) (iblk m c 3 t) r) (wT (iblk m c 4 t)))
      (fun l => (iblk m c 5 t : Vec Ideal S1024x128 .f32) (ix2 r l)) (fun l => (iblk m c 6 t : Vec Ideal S1024x128 .f32) (ix2 r l)) j
    = colR (prRow (kH m c (seqAt t) (rowAt t r)) (kW m c)) (cosL (rowAt t r)) (sinL (rowAt t r)) j
  rw [h_step, w_step,
    show (fun l => (iblk m c 5 t : Vec Ideal S1024x128 .f32) (ix2 r l)) = cosL (rowAt t r) from funext fun l => cos_blk m c t r l,
    show (fun l => (iblk m c 6 t : Vec Ideal S1024x128 .f32) (ix2 r l)) = sinL (rowAt t r) from funext fun l => sin_blk m c t r l]

/-- The columns a step leaves. -/
theorem after7_at (y : S1x1024x3584.Idx) :
    ((dats m 0 c).after 7 t : S1x1024x3584.Idx → EReal) y
      = colsT (iblk m c 0 t) (iblk m c 1 t) (iblk m c 2 t) (iblk m c 3 t) (iblk m c 4 t) (iblk m c 5 t) (iblk m c 6 t) y := by
  rw [after_7]
  unfold outsAt
  dsimp only
  exact out7_at (iblk m c 0 t) (iblk m c 1 t) (iblk m c 2 t) (iblk m c 3 t) (iblk m c 4 t) (iblk m c 5 t) (iblk m c 6 t)
    c _ _ _ _ _ _ _ _ _ _ _ _ _ _ _ _ _ _ _ _ _ y

end Cert.Kernel4Ideal.Ab

end
-- ==== Proof.AbWide.lean ====
/- The first layer's in projection: its array of columns. -/
module

public import proofs.«01_k».proof.Proof.AbTable

@[expose] public section

set_option maxRecDepth 16384

noncomputable section

namespace Cert.Kernel4Ideal.Ab

open Cert.Kernel4Ideal Cert.Kernel4Ideal.Gen Idealize.ShloMosaic Idealize.SL.Sem Cert.Ffn Idealize.ShloMosaic.TcCoe

variable (m : (ℓ : Loc nD τ sig) → Buf (Elt Ideal) ℓ) (c : Dev nD)

/-- The array of columns. -/
theorem arr7 : (dats m 0 c).arrAt 7 cfg0.N = colsArr m c := by
  refine (dats m 0 c).arrAt_eq_of_covers 7 _ (by decide +kernel) fun t _ y => ?_
  blk_simp
  obtain ⟨z, R, k, rfl⟩ : ∃ (z : Fin 1) (R : Fin 1024) (k : Fin 3584), y = ix3 z R k := ⟨y 0, y 1, y 2, eq_ix3 y⟩
  obtain rfl : z = 0 := by omega
  have hy : (win0_7.blk t).view.emb (ix3 (0 : Fin 1) R k) = (ix3 (seqAt t) (rowAt t R) k : S16x2048x3584.Idx) := by
    blk_ext [idx7 t]
  rw [hy]
  exact (after7_at m c t _).trans (cols_step m c t R k)

end Cert.Kernel4Ideal.Ab

end
-- ==== Proof.AbRef.lean ====
/- The first layer's in projection reference: its rotary step and its array of columns at an index; and the kernel's
   array beside it. -/
module

public import proofs.«01_k».proof.Proof.AbClaim
public import proofs.«01_k».proof.Proof.AbTable

@[expose] public section

set_option maxRecDepth 16384

noncomputable section

namespace Cert.Reference4Ideal.Ab

open Idealize.ShloMosaic Idealize.ShloMosaic.StableHlo Cert.Ffn
open Cert.Reference4Ideal Cert.Reference4Ideal.Gen

section Terms

variable {F : FTy → Type} [FloatOps F]

/-- The angle of a position and a pair of lanes. -/
def rAng : FVec F S2048x64 .f32 :=
  mulf
    (broadcastInDim S2048x64 ![0, 1] bcast_S2048x1_S2048x64_0_1
      (broadcastInDim S2048x1 ![0] bcast_S2048_S2048x1_0 (sitofp .f32 (iotaInDim S2048 32 0))))
    (broadcastInDim S2048x64 ![0, 1] bcast_S1x64_S2048x64_0_1
      (broadcastInDim S1x64 ![1] bcast_S64_S1x64_1
        (Host.powf (broadcastInDim S64 ![] bcast_S_S64 (constant S_ .f32 0x461C4000#32))
          (Host.divf (Host.negf (sitofp .f32 (iotaInDim S64 32 0)))
            (broadcastInDim S64 ![] bcast_S_S64 (constant S_ .f32 0x42800000#32))))))

/-- A table of the angles' cosines or sines, the same for every sequence and head. -/
def rTab (A : FVec F S2048x64 .f32) : FVec F S16x2048x4x64 .f32 :=
  broadcastInDim S16x2048x4x64 ![0, 1, 2, 3] bcast_S1x2048x1x64_S16x2048x4x64_0_1_2_3
    (broadcastInDim S1x2048x1x64 ![1, 2, 3] bcast_S2048x1x64_S1x2048x1x64_1_2_3
      (broadcastInDim S2048x1x64 ![0, 2] bcast_S2048x64_S2048x1x64_0_2 A))

/-- The rotary step on a row's heads. -/
def rRot (X : FVec F S16x2048x4x128 .f32) (A B : FVec F S2048x64 .f32) : FVec F S16x2048x4x128 .f32 :=
  concatenate S16x2048x4x128 3
    [⟨S16x2048x4x64, subf (mulf (extractStridedSlice S16x2048x4x64 ![0, 0, 0, 0] X slices_S16x2048x4x128_S16x2048x4x64_0_0_0_0) (rTab A))
        (mulf (extractStridedSlice S16x2048x4x64 ![0, 0, 0, 64] X slices_S16x2048x4x128_S16x2048x4x64_0_0_0_64) (rTab B))⟩,
      ⟨S16x2048x4x64, addf (mulf (extractStridedSlice S16x2048x4x64 ![0, 0, 0, 0] X slices_S16x2048x4x128_S16x2048x4x64_0_0_0_0) (rTab B))
        (mulf (extractStridedSlice S16x2048x4x64 ![0, 0, 0, 64] X slices_S16x2048x4x128_S16x2048x4x64_0_0_0_64) (rTab A))⟩]
    concatenates_S16x2048x4x64_S16x2048x4x64_S16x2048x4x128_d3

/-- The columns of a row as heads. -/
def rHeads (Z : FVec F S16x2048x512 .f32) : FVec F S16x2048x4x128 .f32 := shapeCast _ Z shapeCasts_S16x2048x512_S16x2048x4x128

/-- The heads of a row as columns. -/
def rFlat (X : FVec F S16x2048x4x128 .f32) : FVec F S16x2048x512 .f32 := shapeCast _ X shapeCasts_S16x2048x4x128_S16x2048x512

/-- The array of columns from the projection. -/
def rC (Y : FVec F S16x2048x3584 .f32) : FVec F S16x2048x3584 .bf16 :=
  truncf .bf16 (concatenate S16x2048x3584 2
    [⟨S16x2048x512, rFlat (rRot (rHeads (extractStridedSlice S16x2048x512 ![0, 0, 0] Y slices_S16x2048x3584_S16x2048x512_0_0_0)) (Host.cos rAng) (Host.sin rAng))⟩,
      ⟨S16x2048x512, rFlat (mulf (rRot (rHeads (extractStridedSlice S16x2048x512 ![0, 0, 512] Y slices_S16x2048x3584_S16x2048x512_0_0_512)) (Host.cos rAng) (Host.sin rAng))
          (broadcastInDim S16x2048x4x128 ![] bcast_S_S16x2048x4x128 (constant S_ .f32 0x3DB504F3#32)))⟩,
      ⟨S16x2048x1024, extractStridedSlice S16x2048x1024 ![0, 0, 1024] Y slices_S16x2048x3584_S16x2048x1024_0_0_1024⟩,
      ⟨S16x2048x512, mulf (extractStridedSlice S16x2048x512 ![0, 0, 2048] Y slices_S16x2048x3584_S16x2048x512_0_0_2048)
          (broadcastInDim S16x2048x512 ![] bcast_S_S16x2048x512 (constant S_ .f32 0x3E38AA3B#32))⟩,
      ⟨S16x2048x512, extractStridedSlice S16x2048x512 ![0, 0, 2560] Y slices_S16x2048x3584_S16x2048x512_0_0_2560⟩,
      ⟨S16x2048x512, extractStridedSlice S16x2048x512 ![0, 0, 3072] Y slices_S16x2048x3584_S16x2048x512_0_0_3072⟩]
    concatenates_S16x2048x512_S16x2048x512_S16x2048x1024_S16x2048x512_S16x2048x512_S16x2048x512_S16x2048x3584_d2) bitsLt_bf16_f32

end Terms

theorem rHeads_at (Z : FVec Ideal S16x2048x512 .f32) (b : Fin 16) (t : Fin 2048) (q : Fin 4) (l : Fin 128) :
    rHeads Z (ix4 b t q l) = Z (ix3 b t (⟨128 * (q : ℕ) + l, by omega⟩ : Fin 512)) := by
  refine shapeCast_apply _ _ _ _ ?_
  refine (Shape.rowMajor_val_three _).trans (Eq.trans ?_ (Shape.rowMajor_val_four _).symm)
  show ((b : ℕ) * 2048 + (t : ℕ)) * 512 + (128 * (q : ℕ) + (l : ℕ)) = (((b : ℕ) * 2048 + (t : ℕ)) * 4 + (q : ℕ)) * 128 + (l : ℕ)
  omega

theorem rFlat_at (X : FVec Ideal S16x2048x4x128 .f32) (b : Fin 16) (t : Fin 2048) (q : Fin 4) (l : Fin 128) :
    rFlat X (ix3 b t (⟨128 * (q : ℕ) + l, by omega⟩ : Fin 512)) = X (ix4 b t q l) := by
  refine shapeCast_apply _ _ _ _ ?_
  refine (Shape.rowMajor_val_four _).trans (Eq.trans ?_ (Shape.rowMajor_val_three _).symm)
  show (((b : ℕ) * 2048 + (t : ℕ)) * 4 + (q : ℕ)) * 128 + (l : ℕ) = ((b : ℕ) * 2048 + (t : ℕ)) * 512 + (128 * (q : ℕ) + (l : ℕ))
  omega

theorem rTab_at (A : FVec Ideal S2048x64 .f32) (b : Fin 16) (t : Fin 2048) (q : Fin 4) (l : Fin 64) :
    rTab A (ix4 b t q l) = A (ix2 t l) := by
  pointwise [rTab]

theorem rRot_at (X : FVec Ideal S16x2048x4x128 .f32) (A B : FVec Ideal S2048x64 .f32) (b : Fin 16) (t : Fin 2048) (q : Fin 4) (l : Fin 128) :
    rRot X A B (ix4 b t q l)
      = if h : (l : ℕ) < 64 then
          X (ix4 b t q l) * A (ix2 t (⟨l, h⟩ : Fin 64)) - X (ix4 b t q (⟨64 + (l : ℕ), by omega⟩ : Fin 128)) * B (ix2 t (⟨l, h⟩ : Fin 64))
        else
          X (ix4 b t q (⟨(l : ℕ) - 64, by omega⟩ : Fin 128)) * B (ix2 t (⟨(l : ℕ) - 64, by omega⟩ : Fin 64))
            + X (ix4 b t q (⟨64 + ((l : ℕ) - 64), by omega⟩ : Fin 128)) * A (ix2 t (⟨(l : ℕ) - 64, by omega⟩ : Fin 64)) := by
  pointwise [rRot, rTab]

section Pieces

variable (A B : FVec Ideal S16x2048x512 .f32) (C : FVec Ideal S16x2048x1024 .f32) (D E G : FVec Ideal S16x2048x512 .f32)
  (b : Fin 16) (t : Fin 2048)

/-- Six pieces side by side. -/
abbrev cat6 : FVec Ideal S16x2048x3584 .f32 :=
  concatenate S16x2048x3584 2 [⟨S16x2048x512, A⟩, ⟨S16x2048x512, B⟩, ⟨S16x2048x1024, C⟩, ⟨S16x2048x512, D⟩, ⟨S16x2048x512, E⟩, ⟨S16x2048x512, G⟩]
    concatenates_S16x2048x512_S16x2048x512_S16x2048x1024_S16x2048x512_S16x2048x512_S16x2048x512_S16x2048x3584_d2

theorem cat6_0 (l : Fin 512) : cat6 A B C D E G (ix3 b t (⟨l, by omega⟩ : Fin 3584)) = A (ix3 b t l) := by
  pointwise [cat6]
theorem cat6_1 (l : Fin 512) : cat6 A B C D E G (ix3 b t (⟨512 + l, by omega⟩ : Fin 3584)) = B (ix3 b t l) := by
  pointwise [cat6]
theorem cat6_2 (l : Fin 1024) : cat6 A B C D E G (ix3 b t (⟨1024 + l, by omega⟩ : Fin 3584)) = C (ix3 b t l) := by
  pointwise [cat6]
  rw [dif_neg (by omega), dif_neg (by omega), dif_pos (by omega)]
  exact congrArg (fun z => C (ix3 b t z)) (Fin.ext (by show 1024 + (l : ℕ) - 512 - 512 = (l : ℕ); omega))
theorem cat6_3 (l : Fin 512) : cat6 A B C D E G (ix3 b t (⟨2048 + l, by omega⟩ : Fin 3584)) = D (ix3 b t l) := by
  pointwise [cat6]
  rw [dif_neg (by omega), dif_neg (by omega), dif_neg (by omega), dif_pos (by omega)]
  exact congrArg (fun z => D (ix3 b t z)) (Fin.ext (by show 2048 + (l : ℕ) - 512 - 512 - 1024 = (l : ℕ); omega))
theorem cat6_4 (l : Fin 512) : cat6 A B C D E G (ix3 b t (⟨2560 + l, by omega⟩ : Fin 3584)) = E (ix3 b t l) := by
  pointwise [cat6]
  rw [dif_neg (by omega), dif_neg (by omega), dif_neg (by omega), dif_neg (by omega), dif_pos (by omega)]
  exact congrArg (fun z => E (ix3 b t z)) (Fin.ext (by show 2560 + (l : ℕ) - 512 - 512 - 1024 - 512 = (l : ℕ); omega))
theorem cat6_5 (l : Fin 512) : cat6 A B C D E G (ix3 b t (⟨3072 + l, by omega⟩ : Fin 3584)) = G (ix3 b t l) := by
  pointwise [cat6]
  rw [dif_neg (by omega), dif_neg (by omega), dif_neg (by omega), dif_neg (by omega), dif_neg (by omega)]
  exact congrArg (fun z => G (ix3 b t z)) (Fin.ext (by show 3072 + (l : ℕ) - 512 - 512 - 1024 - 512 - 512 = (l : ℕ); omega))

end Pieces

section Rows

open Cert.Kernel4Ideal.Ab (turn kS qS rotL colR colR_q colR_k colR_qb colR_p cosL sinL cosA sinA ang)

/-- The rotary step on a head is the turned sum over the signed sines. -/
theorem rot_row (X : FVec Ideal S16x2048x4x128 .f32) (b : Fin 16) (t : Fin 2048) (q : Fin 4) (l : Fin 128) :
    rRot X (Host.cos rAng) (Host.sin rAng) (ix4 b t q l) = rotL (fun l => X (ix4 b t q l)) (cosL t) (sinL t) l := by
  rw [rRot_at]
  unfold rotL cosL sinL
  by_cases h : (l : ℕ) < 64
  · rw [dif_pos h, dif_pos h, dif_pos h, sub_eq_add_neg, ← mul_neg]
    have e : turn l = (⟨64 + (l : ℕ), by omega⟩ : Fin 128) := Fin.ext (by show ((l : ℕ) + 128 - 64) % 128 = 64 + (l : ℕ); omega)
    rw [e]
    rfl
  · rw [dif_neg h, dif_neg h, dif_neg h, add_comm]
    have e : turn l = (⟨(l : ℕ) - 64, by omega⟩ : Fin 128) := Fin.ext (by show ((l : ℕ) + 128 - 64) % 128 = (l : ℕ) - 64; omega)
    have e' : (⟨64 + ((l : ℕ) - 64), by omega⟩ : Fin 128) = l := Fin.ext (by show 64 + ((l : ℕ) - 64) = (l : ℕ); omega)
    rw [e, e']
    rfl

variable (Y : FVec Ideal S16x2048x3584 .f32) (b : Fin 16) (t : Fin 2048)

theorem slice_q (l : Fin 512) :
    extractStridedSlice S16x2048x512 ![0, 0, 0] Y slices_S16x2048x3584_S16x2048x512_0_0_0 (ix3 b t l) = Y (ix3 b t (⟨l, by omega⟩ : Fin 3584)) := by
  pointwise []
theorem slice_k (l : Fin 512) :
    extractStridedSlice S16x2048x512 ![0, 0, 512] Y slices_S16x2048x3584_S16x2048x512_0_0_512 (ix3 b t l) = Y (ix3 b t (⟨512 + l, by omega⟩ : Fin 3584)) := by
  pointwise []
theorem slice_v (l : Fin 1024) :
    extractStridedSlice S16x2048x1024 ![0, 0, 1024] Y slices_S16x2048x3584_S16x2048x1024_0_0_1024 (ix3 b t l) = Y (ix3 b t (⟨1024 + l, by omega⟩ : Fin 3584)) := by
  pointwise []
theorem slice_qb (l : Fin 512) :
    mulf (extractStridedSlice S16x2048x512 ![0, 0, 2048] Y slices_S16x2048x3584_S16x2048x512_0_0_2048)
        (broadcastInDim S16x2048x512 ![] bcast_S_S16x2048x512 (constant S_ .f32 0x3E38AA3B#32)) (ix3 b t l)
      = Y (ix3 b t (⟨2048 + l, by omega⟩ : Fin 3584)) * qS := by
  unfold qS
  pointwise []
theorem slice_kb (l : Fin 512) :
    extractStridedSlice S16x2048x512 ![0, 0, 2560] Y slices_S16x2048x3584_S16x2048x512_0_0_2560 (ix3 b t l) = Y (ix3 b t (⟨2560 + l, by omega⟩ : Fin 3584)) := by
  pointwise []
theorem slice_vb (l : Fin 512) :
    extractStridedSlice S16x2048x512 ![0, 0, 3072] Y slices_S16x2048x3584_S16x2048x512_0_0_3072 (ix3 b t l) = Y (ix3 b t (⟨3072 + l, by omega⟩ : Fin 3584)) := by
  pointwise []
theorem scale_k (X : FVec Ideal S16x2048x4x128 .f32) (q : Fin 4) (l : Fin 128) :
    mulf X (broadcastInDim S16x2048x4x128 ![] bcast_S_S16x2048x4x128 (constant S_ .f32 0x3DB504F3#32)) (ix4 b t q l) = X (ix4 b t q l) * kS := by
  unfold kS
  pointwise []

/-- The array of columns at an index. -/
theorem rC_at (j : Fin 3584) : rC Y (ix3 b t j) = colR (fun j => Y (ix3 b t j)) (cosL t) (sinL t) j := by
  unfold rC
  show cat6 _ _ _ _ _ _ (ix3 b t j) = _
  by_cases h0 : (j : ℕ) < 512
  · obtain ⟨q, l, rfl⟩ : ∃ (q : Fin 4) (l : Fin 128), j = ⟨128 * (q : ℕ) + l, by clear h0; omega⟩ :=
      ⟨⟨(j : ℕ) / 128, by omega⟩, ⟨(j : ℕ) % 128, by omega⟩, Fin.ext (by show (j : ℕ) = 128 * ((j : ℕ) / 128) + (j : ℕ) % 128; omega)⟩
    refine (cat6_0 _ _ _ _ _ _ b t (⟨128 * (q : ℕ) + l, by omega⟩ : Fin 512)).trans ?_
    rw [rFlat_at, rot_row, colR_q _ _ _ q (by omega)]
    exact congrArg (fun f => rotL f (cosL t) (sinL t) l) (funext fun l => (rHeads_at _ b t q l).trans (slice_q Y b t _))
  by_cases h1 : (j : ℕ) < 1024
  · obtain ⟨q, l, rfl⟩ : ∃ (q : Fin 4) (l : Fin 128), j = ⟨512 + (128 * (q : ℕ) + l), by clear h0 h1; omega⟩ :=
      ⟨⟨((j : ℕ) - 512) / 128, by omega⟩, ⟨((j : ℕ) - 512) % 128, by omega⟩,
        Fin.ext (by show (j : ℕ) = 512 + (128 * (((j : ℕ) - 512) / 128) + ((j : ℕ) - 512) % 128); omega)⟩
    refine (cat6_1 _ _ _ _ _ _ b t (⟨128 * (q : ℕ) + l, by omega⟩ : Fin 512)).trans ?_
    rw [rFlat_at, scale_k, rot_row, colR_k _ _ _ q (by omega)]
    exact congrArg (fun f => rotL f (cosL t) (sinL t) l * kS) (funext fun l => (rHeads_at _ b t q l).trans (slice_k Y b t _))
  by_cases h2 : (j : ℕ) < 2048
  · rw [colR_p _ _ _ _ (by omega) (by omega)]
    obtain ⟨l, rfl⟩ : ∃ l : Fin 1024, j = ⟨1024 + (l : ℕ), by clear h0 h1 h2; omega⟩ :=
      ⟨⟨(j : ℕ) - 1024, by omega⟩, Fin.ext (by show (j : ℕ) = 1024 + ((j : ℕ) - 1024); omega)⟩
    exact (cat6_2 _ _ _ _ _ _ b t l).trans (slice_v Y b t l)
  by_cases h3 : (j : ℕ) < 2560
  · rw [colR_qb _ _ _ _ (by omega)]
    obtain ⟨l, rfl⟩ : ∃ l : Fin 512, j = ⟨2048 + (l : ℕ), by clear h0 h1 h2 h3; omega⟩ :=
      ⟨⟨(j : ℕ) - 2048, by omega⟩, Fin.ext (by show (j : ℕ) = 2048 + ((j : ℕ) - 2048); omega)⟩
    exact (cat6_3 _ _ _ _ _ _ b t l).trans (slice_qb Y b t l)
  rw [colR_p _ _ _ _ (by omega) (by omega)]
  by_cases h4 : (j : ℕ) < 3072
  · obtain ⟨l, rfl⟩ : ∃ l : Fin 512, j = ⟨2560 + (l : ℕ), by clear h0 h1 h2 h3 h4; omega⟩ :=
      ⟨⟨(j : ℕ) - 2560, by omega⟩, Fin.ext (by show (j : ℕ) = 2560 + ((j : ℕ) - 2560); omega)⟩
    exact (cat6_4 _ _ _ _ _ _ b t l).trans (slice_kb Y b t l)
  · obtain ⟨l, rfl⟩ : ∃ l : Fin 512, j = ⟨3072 + (l : ℕ), by clear h0 h1 h2 h3 h4; omega⟩ :=
      ⟨⟨(j : ℕ) - 3072, by omega⟩, Fin.ext (by show (j : ℕ) = 3072 + ((j : ℕ) - 3072); omega)⟩
    exact (cat6_5 _ _ _ _ _ _ b t l).trans (slice_vb Y b t l)

end Rows

set_option maxHeartbeats 4000000 in
/-- The reference's first array as the parts above. -/
theorem res_cols (m : (ℓ : Loc nD τ sig) → Buf (Elt Ideal) ℓ) (c : Dev nD) :
    Value.res_main_v103 m c
      = rC (rY (m ((c.tc : Thread nD τ).loc main_arg4))
          (rH (m ((c.tc : Thread nD τ).loc main_arg0)) (m ((c.tc : Thread nD τ).loc main_arg1))
            (m ((c.tc : Thread nD τ).loc main_arg2)) (m ((c.tc : Thread nD τ).loc main_arg3)))) := by
  unfold Value.res_main_v103 rC rRot rTab rHeads rFlat rAng rY rH
  rfl

end Cert.Reference4Ideal.Ab

namespace Cert.Kernel4Ideal.Ab

open Cert.Kernel4Ideal Cert.Kernel4Ideal.Gen Idealize.ShloMosaic Idealize.SL.Sem Cert.Ffn Idealize.ShloMosaic.TcCoe

open Cert.Reference4Ideal.Ab (rH rY rC rC_at proj_at)

variable (m : (ℓ : Loc nD τ sig) → Buf (Elt Ideal) ℓ) (c : Dev nD)

/-- The reference's columns over the kernel's arguments. -/
theorem ref_cols {A0 : Vec Ideal S16x2048x1024 .f32} {A1 A2 : Vec Ideal S16x1x1024 .f32} {A3 : Vec Ideal S1x1024 .f32}
    {A4 : Vec Ideal S1024x3584 .f32} (h0 : A0 = a0 m c) (h1 : A1 = a1 m c) (h2 : A2 = a2 m c) (h3 : A3 = a3 m c) (h4 : A4 = a4 m c) :
    rC (rY A4 (rH A0 A1 A2 A3)) = colsArr m c := by
  funext i
  obtain ⟨b, t, j, rfl⟩ : ∃ (b : Fin 16) (t : Fin 2048) (j : Fin 3584), i = ix3 b t j := ⟨i 0, i 1, i 2, eq_ix3 i⟩
  subst h0 h1 h2 h3 h4
  exact (rC_at _ b t j).trans (congrArg (fun P => colR P (cosL t) (sinL t) j) (funext fun j => proj_at _ _ _ _ _ b t j))

end Cert.Kernel4Ideal.Ab

end
-- ==== Proof.AbBits.lean ====
/- The first layer's in projection on bits: the two programs printed for it have the same text, so the run over any
   number format is a run of both. -/
module

public import proofs.«01_k».proof.Defs
public import proofs.«01_k».proof.Proof.AbFrame
public import proofs.«01_k».proof.Proof.Gen.Kernel4

@[expose] public section

set_option maxRecDepth 16384

namespace Cert.Kernel4.Ab

open Idealize.ShloMosaic Idealize.ShloMosaic.TcCoe
open Cert.Kernel4.Gen Cert.Kernel4Ideal.Gen

variable {F : FTy → Type} [FloatOps F]

/-- The body's first window is the same in both programs. -/
theorem part1_eq : @Cert.Kernel4.k0_part1 F _ _ = @Cert.Kernel4Ideal.k0_part1 F _ _ := rfl

/-- The body's second window is the same in both programs. -/
theorem part2_eq : @Cert.Kernel4.k0_part2 F _ _ = @Cert.Kernel4Ideal.k0_part2 F _ _ := rfl

/-- The body's third window is the same in both programs. -/
theorem part3_eq : @Cert.Kernel4.k0_part3 F _ _ = @Cert.Kernel4Ideal.k0_part3 F _ _ := rfl

/-- The body's fourth window is the same in both programs. -/
theorem part4_eq : @Cert.Kernel4.k0_part4 F _ _ = @Cert.Kernel4Ideal.k0_part4 F _ _ := rfl

/-- The body's fifth window is the same in both programs. -/
theorem part5_eq : @Cert.Kernel4.k0_part5 F _ _ = @Cert.Kernel4Ideal.k0_part5 F _ _ := rfl

/-- The whole body is the same in both programs. -/
theorem body_eq : @Cert.Kernel4.cc0_inproj_ab F _ _ = @Cert.Kernel4Ideal.cc0_inproj_ab F _ _ := rfl

/-- The kernels' tables are the same. -/
theorem defs₀_eq : Cert.Kernel4.defs₀ (F := F) = Cert.Kernel4Ideal.defs₀ (F := F) := by
  unfold Cert.Kernel4.defs₀ Cert.Kernel4Ideal.defs₀
  refine congrArg Defs.onTc ?_
  funext l a
  match l, a with
  | 0, (t, s) => rfl

/-- The programs' tables are the same. -/
theorem defs_eq : Cert.Kernel4.defs (F := F) = Cert.Kernel4Ideal.defs (F := F) :=
  congrArg (Pipeline.defs (Cert.Kernel4Ideal.pcfgs (F := F))) defs₀_eq

/-- On bits the kernel runs to its end, its arguments unchanged and every counter at zero. -/
theorem frame : Cert.quiescent_Kernel4 := fun m ρ _ => by
  rw [defs_eq]
  exact Cert.Kernel4Ideal.Ab.frame (F := Bits) m ρ

end Cert.Kernel4.Ab
-- ==== Proof.lean ====
/- The claims about retention, about the layer's second half (output projection and feed-forward) and about the two
   layers' in projections: each kernel runs to its end, on bits and on extended reals, its arguments unchanged and every
   counter at zero; so does each reference; and the two give equal results, for retention over finite queries, keys and
   values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Frames
public import proofs.«01_k».proof.Proof.Finite
public import proofs.«01_k».proof.Proof.FfnClaim
public import proofs.«01_k».proof.Proof.CdClaim
public import proofs.«01_k».proof.Proof.AbClaim
public import proofs.«01_k».proof.Proof.AbWide
public import proofs.«01_k».proof.Proof.AbRef
public import proofs.«01_k».proof.Proof.AbBits
public import Idealize.ShloMosaic.Adequacy
public import Idealize.ShloMosaic.Init

@[expose] public section

noncomputable section

set_option maxRecDepth 16384

namespace Cert.Proof

open Idealize.ShloMosaic Idealize.SL.Sem Cert.Kernel

attribute [local instance] Cert.Pre_finite_qkv.pre_facts

/-- The kernel's two arrays are the reference's two arrays. -/
theorem algebraic : Cert.algebraic_KernelIdeal_ReferenceIdeal_pre_finite_qkv := by
  pair_intro
  · run_from Cert.KernelIdeal.Value.run_blocks m g
  · run_from Cert.ReferenceIdeal.Trip.run m' g'
    · have hx := Cert.Pre_finite_qkv.entry_real _ _ (hpre c)
      exact (Cert.ReferenceIdeal.Trip.out_array hx rfl _).trans (Cert.KernelIdeal.Ret.arr10 m c hx).symm
    · have hx := Cert.Pre_finite_qkv.entry_real _ _ (hpre c)
      exact (Cert.ReferenceIdeal.Trip.state_array hx rfl).trans (Cert.KernelIdeal.Ret.arr11 m c hx).symm

/-- The layer's second half: the kernel's two arrays are the reference's two arrays. -/
theorem algebraic2 : Cert.algebraic_Kernel2Ideal_Reference2Ideal := by
  pair_intro
  · run_from Cert.Kernel2Ideal.Value.run_blocks m g
  · run_from Cert.Reference2Ideal.Value.run m' g'
    · obtain ⟨h0, h1, h2, h3, h4, h5, h6, h7, h8, h9, h10, h11, h12, h13⟩ := hagree c
      refine (Cert.Reference2Ideal.Ffn.out_eq m' c).trans ((Cert.Kernel2Ideal.Ffn.ref_out m c h0 h1 h2 h3 h4 h5 h6 h7 h8 h9 h10 h11 h12).trans ?_)
      exact (Cert.Kernel2Ideal.Ffn.arr15 m c).symm
    · obtain ⟨h0, h1, h2, h3, h4, h5, h6, h7, h8, h9, h10, h11, h12, h13⟩ := hagree c
      exact (Cert.Kernel2Ideal.Ffn.ref_tail m c rfl rfl rfl rfl h4 h5 h6 h8 h9).trans (Cert.Kernel2Ideal.Ffn.arr16 m c).symm

/-- The in projection: the kernel's five arrays are the reference's five arrays. -/
theorem algebraic3 : Cert.algebraic_Kernel3Ideal_Reference3Ideal := by
  pair_intro
  · run_from Cert.Kernel3Ideal.Value.run_blocks m g
  · run_from Cert.Reference3Ideal.Value.run m' g'
    · obtain ⟨h0, h1, h2, h3, h4⟩ := hagree c
      exact (Cert.Reference3Ideal.Cd.main_eq m' c).trans
        ((Cert.Kernel3Ideal.Cd.ref_main m c h0 h1 h2 h3 h4).trans (Cert.Kernel3Ideal.Cd.arr5 m c).symm)
    · obtain ⟨h0, h1, h2, h3, h4⟩ := hagree c
      exact (Cert.Kernel3Ideal.Cd.ref_dt m c rfl rfl rfl rfl h4).trans (Cert.Kernel3Ideal.Cd.arr6 m c).symm
    · obtain ⟨h0, h1, h2, h3, h4⟩ := hagree c
      exact (Cert.Kernel3Ideal.Cd.ref_keys m c rfl rfl rfl rfl rfl).trans (Cert.Kernel3Ideal.Cd.arr7 m c).symm
    · obtain ⟨h0, h1, h2, h3, h4⟩ := hagree c
      exact (Cert.Kernel3Ideal.Cd.ref_values m c rfl rfl rfl rfl rfl).trans (Cert.Kernel3Ideal.Cd.arr8 m c).symm
    · obtain ⟨h0, h1, h2, h3, h4⟩ := hagree c
      exact (Cert.Kernel3Ideal.Cd.ref_tail m c rfl rfl rfl rfl rfl).trans (Cert.Kernel3Ideal.Cd.arr9 m c).symm

/-- The first layer's in projection: the kernel's columns, keys and values are the reference's. -/
theorem algebraic4 : Cert.algebraic_Kernel4Ideal_Reference4Ideal := by
  pair_intro
  · run_from Cert.Kernel4Ideal.Ab.run_blocks m g
  · run_from Cert.Reference4Ideal.Value.run m' g'
    · obtain ⟨h0, h1, h2, h3, h4⟩ := hagree c
      exact (Cert.Reference4Ideal.Ab.res_cols m' c).trans
        ((Cert.Kernel4Ideal.Ab.ref_cols m c h0 h1 h2 h3 h4).trans (Cert.Kernel4Ideal.Ab.arr7 m c).symm)
    · obtain ⟨h0, h1, h2, h3, h4⟩ := hagree c
      exact (Cert.Kernel4Ideal.Ab.ref_keys m c rfl rfl rfl rfl rfl).trans (Cert.Kernel4Ideal.Ab.arr8 m c).symm
    · obtain ⟨h0, h1, h2, h3, h4⟩ := hagree c
      exact (Cert.Kernel4Ideal.Ab.ref_values m c rfl rfl rfl rfl rfl).trans (Cert.Kernel4Ideal.Ab.arr9 m c).symm

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Pre_finite_qkv.pre_facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Trip.frame m ρ,
    fun m ρ _ => Cert.ReferenceIdeal.Trip.frame m ρ,
    fun m ρ _ => Cert.Kernel2.Gen.frame m ρ,
    fun m ρ _ => Cert.Kernel2Ideal.Gen.frame m ρ,
    fun m ρ _ => Cert.Reference2Ideal.Ffn.frame m ρ,
    fun m ρ _ => Cert.Kernel3.Gen.frame m ρ,
    fun m ρ _ => Cert.Kernel3Ideal.Gen.frame m ρ,
    fun m ρ _ => Cert.Reference3Ideal.Cd.frame m ρ,
    Cert.Kernel4.Ab.frame,
    fun m ρ _ => Cert.Kernel4Ideal.Ab.frame m ρ,
    fun m ρ _ => Cert.Reference4Ideal.Ab.frame m ρ,
    trivial, algebraic,
    ⟨IdealRules.named_const.statement _ _ _ _ _ rfl, IdealRules.named_const.statement _ _ _ _ _ rfl⟩, algebraic2,
    IdealRules.named_const.statement _ _ _ _ _ rfl, algebraic3, trivial, algebraic4⟩

end Cert.Proof

end
